-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Dproj (m : (ℓ : Loc Cert.Dproj.nD Cert.Dproj.τ Cert.Dproj.sig) → Buf (Elt Bits) ℓ) : Prop :=
  True

def Pre_DprojIdeal (m : (ℓ : Loc Cert.DprojIdeal.nD Cert.DprojIdeal.τ Cert.DprojIdeal.sig) → Buf (Elt Ideal) ℓ) : Prop :=
  True

def Pre_DprojIdeal_dproj_finite [hPre_dproj_finite : Cert.Pre_dproj_finite.Facts] (m : (ℓ : Loc Cert.DprojIdeal.nD Cert.DprojIdeal.τ Cert.DprojIdeal.sig) → Buf (Elt Ideal) ℓ) : Prop :=
  ∀ c : Dev Cert.DprojIdeal.nD,
    (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.2.2.2.2.1 = (fun _ => 1#1)
    ∧ (Cert.Pre_dproj_finite.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9))).2.2.2.2.2.2.2.2.2 = (fun _ => 1#1)

def Pre_DprojRefIdeal (m : (ℓ : Loc Cert.DprojRefIdeal.nD Cert.DprojRefIdeal.τ Cert.DprojRefIdeal.sig) → Buf (Elt Ideal) ℓ) : Prop :=
  True

def Pre_DprojRefIdeal_dproj_finite [hPre_dproj_finite : Cert.Pre_dproj_finite.Facts] (m : (ℓ : Loc Cert.DprojRefIdeal.nD Cert.DprojRefIdeal.τ Cert.DprojRefIdeal.sig) → Buf (Elt Ideal) ℓ) : Prop :=
  ∀ c : Dev Cert.DprojRefIdeal.nD,
    (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.2.2.2.2.1 = (fun _ => 1#1)
    ∧ (Cert.Pre_dproj_finite.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9))).2.2.2.2.2.2.2.2.2 = (fun _ => 1#1)

def Pre_Dw1024 (m : (ℓ : Loc Cert.Dw1024.nD Cert.Dw1024.τ Cert.Dw1024.sig) → Buf (Elt Bits) ℓ) : Prop :=
  True

def Pre_Dw1024Ideal (m : (ℓ : Loc Cert.Dw1024Ideal.nD Cert.Dw1024Ideal.τ Cert.Dw1024Ideal.sig) → Buf (Elt Ideal) ℓ) : Prop :=
  True

def Pre_Dw1024RefIdeal (m : (ℓ : Loc Cert.Dw1024RefIdeal.nD Cert.Dw1024RefIdeal.τ Cert.Dw1024RefIdeal.sig) → Buf (Elt Ideal) ℓ) : Prop :=
  True

def Pre_DwSsm (m : (ℓ : Loc Cert.DwSsm.nD Cert.DwSsm.τ Cert.DwSsm.sig) → Buf (Elt Bits) ℓ) : Prop :=
  True

def Pre_DwSsmIdeal (m : (ℓ : Loc Cert.DwSsmIdeal.nD Cert.DwSsmIdeal.τ Cert.DwSsmIdeal.sig) → Buf (Elt Ideal) ℓ) : Prop :=
  True

def Pre_DwSsmRefIdeal (m : (ℓ : Loc Cert.DwSsmRefIdeal.nD Cert.DwSsmRefIdeal.τ Cert.DwSsmRefIdeal.sig) → Buf (Elt Ideal) ℓ) : Prop :=
  True

def Pre_Dw5120 (m : (ℓ : Loc Cert.Dw5120.nD Cert.Dw5120.τ Cert.Dw5120.sig) → Buf (Elt Bits) ℓ) : Prop :=
  True

def Pre_Dw5120Ideal (m : (ℓ : Loc Cert.Dw5120Ideal.nD Cert.Dw5120Ideal.τ Cert.Dw5120Ideal.sig) → Buf (Elt Ideal) ℓ) : Prop :=
  True

def Pre_Dw5120RefIdeal (m : (ℓ : Loc Cert.Dw5120RefIdeal.nD Cert.Dw5120RefIdeal.τ Cert.Dw5120RefIdeal.sig) → Buf (Elt Ideal) ℓ) : Prop :=
  True

def Pre_Dw3072 (m : (ℓ : Loc Cert.Dw3072.nD Cert.Dw3072.τ Cert.Dw3072.sig) → Buf (Elt Bits) ℓ) : Prop :=
  True

def Pre_Dw3072Ideal (m : (ℓ : Loc Cert.Dw3072Ideal.nD Cert.Dw3072Ideal.τ Cert.Dw3072Ideal.sig) → Buf (Elt Ideal) ℓ) : Prop :=
  True

def Pre_Dw3072RefIdeal (m : (ℓ : Loc Cert.Dw3072RefIdeal.nD Cert.Dw3072RefIdeal.τ Cert.Dw3072RefIdeal.sig) → Buf (Elt Ideal) ℓ) : Prop :=
  True

def Pre_Dw512 (m : (ℓ : Loc Cert.Dw512.nD Cert.Dw512.τ Cert.Dw512.sig) → Buf (Elt Bits) ℓ) : Prop :=
  True

def Pre_Dw512Ideal (m : (ℓ : Loc Cert.Dw512Ideal.nD Cert.Dw512Ideal.τ Cert.Dw512Ideal.sig) → Buf (Elt Ideal) ℓ) : Prop :=
  True

def Pre_Dw512RefIdeal (m : (ℓ : Loc Cert.Dw512RefIdeal.nD Cert.Dw512RefIdeal.τ Cert.Dw512RefIdeal.sig) → Buf (Elt Ideal) ℓ) : Prop :=
  True

def Pre_Dw128 (m : (ℓ : Loc Cert.Dw128.nD Cert.Dw128.τ Cert.Dw128.sig) → Buf (Elt Bits) ℓ) : Prop :=
  True

def Pre_Dw128Ideal (m : (ℓ : Loc Cert.Dw128Ideal.nD Cert.Dw128Ideal.τ Cert.Dw128Ideal.sig) → Buf (Elt Ideal) ℓ) : Prop :=
  True

def Pre_Dw128RefIdeal (m : (ℓ : Loc Cert.Dw128RefIdeal.nD Cert.Dw128RefIdeal.τ Cert.Dw128RefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSsm (m : (ℓ : Loc Cert.AdamSsm.nD Cert.AdamSsm.τ Cert.AdamSsm.sig) → Buf (Elt Bits) ℓ) : Prop :=
  True

def Pre_AdamSsmIdeal (m : (ℓ : Loc Cert.AdamSsmIdeal.nD Cert.AdamSsmIdeal.τ Cert.AdamSsmIdeal.sig) → Buf (Elt Ideal) ℓ) : Prop :=
  True

def Pre_AdamSsmRefIdeal (m : (ℓ : Loc Cert.AdamSsmRefIdeal.nD Cert.AdamSsmRefIdeal.τ Cert.AdamSsmRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_masked [hPre_attn_masked : Cert.Pre_attn_masked.Facts] (m : (ℓ : Loc Cert.AttnIdeal.nD Cert.AttnIdeal.τ Cert.AttnIdeal.sig) → Buf (Elt Ideal) ℓ) : Prop :=
  ∀ c : Dev Cert.AttnIdeal.nD,
    (Cert.Pre_attn_masked.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_masked.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_masked.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_masked.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.1 = (fun _ => 1#1)
    ∧ (Cert.Pre_attn_masked.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_masked [hPre_attn_masked : Cert.Pre_attn_masked.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_masked.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_masked.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_masked.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_masked.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.1 = (fun _ => 1#1)
    ∧ (Cert.Pre_attn_masked.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Dproj [hDproj : Cert.Dproj.Facts] : Prop :=
  ∀ (m : (ℓ : Loc Cert.Dproj.nD Cert.Dproj.τ Cert.Dproj.sig) → Buf (Elt Bits) ℓ) (g : Dev Cert.Dproj.nD → PrngReg), Pre_Dproj m →
    θ_run (Cert.Dproj.defs (F := Bits)) (onTc (τ := Cert.Dproj.τ) (Cert.Dproj.main (F := Bits))) ⟨m, fun _ => 0, g⟩ (fun r => (∀ c : Dev Cert.Dproj.nD,
      r.2.mem ((c.tc : Thread Cert.Dproj.nD Cert.Dproj.τ).loc Cert.Dproj.main_arg0) = m ((c.tc : Thread Cert.Dproj.nD Cert.Dproj.τ).loc Cert.Dproj.main_arg0)
      ∧ r.2.mem ((c.tc : Thread Cert.Dproj.nD Cert.Dproj.τ).loc Cert.Dproj.main_arg1) = m ((c.tc : Thread Cert.Dproj.nD Cert.Dproj.τ).loc Cert.Dproj.main_arg1)
      ∧ r.2.mem ((c.tc : Thread Cert.Dproj.nD Cert.Dproj.τ).loc Cert.Dproj.main_arg2) = m ((c.tc : Thread Cert.Dproj.nD Cert.Dproj.τ).loc Cert.Dproj.main_arg2)
      ∧ r.2.mem ((c.tc : Thread Cert.Dproj.nD Cert.Dproj.τ).loc Cert.Dproj.main_arg3) = m ((c.tc : Thread Cert.Dproj.nD Cert.Dproj.τ).loc Cert.Dproj.main_arg3)
      ∧ r.2.mem ((c.tc : Thread Cert.Dproj.nD Cert.Dproj.τ).loc Cert.Dproj.main_arg4) = m ((c.tc : Thread Cert.Dproj.nD Cert.Dproj.τ).loc Cert.Dproj.main_arg4)
      ∧ r.2.mem ((c.tc : Thread Cert.Dproj.nD Cert.Dproj.τ).loc Cert.Dproj.main_arg5) = m ((c.tc : Thread Cert.Dproj.nD Cert.Dproj.τ).loc Cert.Dproj.main_arg5)
      ∧ r.2.mem ((c.tc : Thread Cert.Dproj.nD Cert.Dproj.τ).loc Cert.Dproj.main_arg6) = m ((c.tc : Thread Cert.Dproj.nD Cert.Dproj.τ).loc Cert.Dproj.main_arg6)
      ∧ r.2.mem ((c.tc : Thread Cert.Dproj.nD Cert.Dproj.τ).loc Cert.Dproj.main_arg7) = m ((c.tc : Thread Cert.Dproj.nD Cert.Dproj.τ).loc Cert.Dproj.main_arg7)
      ∧ r.2.mem ((c.tc : Thread Cert.Dproj.nD Cert.Dproj.τ).loc Cert.Dproj.main_arg8) = m ((c.tc : Thread Cert.Dproj.nD Cert.Dproj.τ).loc Cert.Dproj.main_arg8)
      ∧ r.2.mem ((c.tc : Thread Cert.Dproj.nD Cert.Dproj.τ).loc Cert.Dproj.main_arg9) = m ((c.tc : Thread Cert.Dproj.nD Cert.Dproj.τ).loc Cert.Dproj.main_arg9))
      ∧ r.2.sem = fun _ => 0)

def quiescent_DprojIdeal [hDprojIdeal : Cert.DprojIdeal.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
      ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
      ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
      ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
      ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
      ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
      ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
      ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9))
      ∧ r.2.sem = fun _ => 0)

def quiescent_DprojIdeal_pre_dproj_finite [hDprojIdeal : Cert.DprojIdeal.Facts] [hPre_dproj_finite : Cert.Pre_dproj_finite.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal_dproj_finite m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
      ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
      ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
      ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
      ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
      ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
      ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
      ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9))
      ∧ r.2.sem = fun _ => 0)

def quiescent_DprojRefIdeal [hDprojRefIdeal : Cert.DprojRefIdeal.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1)
      ∧ r.2.mem ((c.tc : Thread Cert.DprojRefIdeal.nD Cert.DprojRefIdeal.τ).loc Cert.DprojRefIdeal.main_arg2) = m ((c.tc : Thread Cert.DprojRefIdeal.nD Cert.DprojRefIdeal.τ).loc Cert.DprojRefIdeal.main_arg2)
      ∧ r.2.mem ((c.tc : Thread Cert.DprojRefIdeal.nD Cert.DprojRefIdeal.τ).loc Cert.DprojRefIdeal.main_arg3) = m ((c.tc : Thread Cert.DprojRefIdeal.nD Cert.DprojRefIdeal.τ).loc Cert.DprojRefIdeal.main_arg3)
      ∧ r.2.mem ((c.tc : Thread Cert.DprojRefIdeal.nD Cert.DprojRefIdeal.τ).loc Cert.DprojRefIdeal.main_arg4) = m ((c.tc : Thread Cert.DprojRefIdeal.nD Cert.DprojRefIdeal.τ).loc Cert.DprojRefIdeal.main_arg4)
      ∧ r.2.mem ((c.tc : Thread Cert.DprojRefIdeal.nD Cert.DprojRefIdeal.τ).loc Cert.DprojRefIdeal.main_arg5) = m ((c.tc : Thread Cert.DprojRefIdeal.nD Cert.DprojRefIdeal.τ).loc Cert.DprojRefIdeal.main_arg5)
      ∧ r.2.mem ((c.tc : Thread Cert.DprojRefIdeal.nD Cert.DprojRefIdeal.τ).loc Cert.DprojRefIdeal.main_arg6) = m ((c.tc : Thread Cert.DprojRefIdeal.nD Cert.DprojRefIdeal.τ).loc Cert.DprojRefIdeal.main_arg6)
      ∧ r.2.mem ((c.tc : Thread Cert.DprojRefIdeal.nD Cert.DprojRefIdeal.τ).loc Cert.DprojRefIdeal.main_arg7) = m ((c.tc : Thread Cert.DprojRefIdeal.nD Cert.DprojRefIdeal.τ).loc Cert.DprojRefIdeal.main_arg7)
      ∧ r.2.mem ((c.tc : Thread Cert.DprojRefIdeal.nD Cert.DprojRefIdeal.τ).loc Cert.DprojRefIdeal.main_arg8) = m ((c.tc : Thread Cert.DprojRefIdeal.nD Cert.DprojRefIdeal.τ).loc Cert.DprojRefIdeal.main_arg8)
      ∧ r.2.mem ((c.tc : Thread Cert.DprojRefIdeal.nD Cert.DprojRefIdeal.τ).loc Cert.DprojRefIdeal.main_arg9) = m ((c.tc : Thread Cert.DprojRefIdeal.nD Cert.DprojRefIdeal.τ).loc Cert.DprojRefIdeal.main_arg9))
      ∧ r.2.sem = fun _ => 0)

def quiescent_DprojRefIdeal_pre_dproj_finite [hDprojRefIdeal : Cert.DprojRefIdeal.Facts] [hPre_dproj_finite : Cert.Pre_dproj_finite.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal_dproj_finite m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1)
      ∧ r.2.mem ((c.tc : Thread Cert.DprojRefIdeal.nD Cert.DprojRefIdeal.τ).loc Cert.DprojRefIdeal.main_arg2) = m ((c.tc : Thread Cert.DprojRefIdeal.nD Cert.DprojRefIdeal.τ).loc Cert.DprojRefIdeal.main_arg2)
      ∧ r.2.mem ((c.tc : Thread Cert.DprojRefIdeal.nD Cert.DprojRefIdeal.τ).loc Cert.DprojRefIdeal.main_arg3) = m ((c.tc : Thread Cert.DprojRefIdeal.nD Cert.DprojRefIdeal.τ).loc Cert.DprojRefIdeal.main_arg3)
      ∧ r.2.mem ((c.tc : Thread Cert.DprojRefIdeal.nD Cert.DprojRefIdeal.τ).loc Cert.DprojRefIdeal.main_arg4) = m ((c.tc : Thread Cert.DprojRefIdeal.nD Cert.DprojRefIdeal.τ).loc Cert.DprojRefIdeal.main_arg4)
      ∧ r.2.mem ((c.tc : Thread Cert.DprojRefIdeal.nD Cert.DprojRefIdeal.τ).loc Cert.DprojRefIdeal.main_arg5) = m ((c.tc : Thread Cert.DprojRefIdeal.nD Cert.DprojRefIdeal.τ).loc Cert.DprojRefIdeal.main_arg5)
      ∧ r.2.mem ((c.tc : Thread Cert.DprojRefIdeal.nD Cert.DprojRefIdeal.τ).loc Cert.DprojRefIdeal.main_arg6) = m ((c.tc : Thread Cert.DprojRefIdeal.nD Cert.DprojRefIdeal.τ).loc Cert.DprojRefIdeal.main_arg6)
      ∧ r.2.mem ((c.tc : Thread Cert.DprojRefIdeal.nD Cert.DprojRefIdeal.τ).loc Cert.DprojRefIdeal.main_arg7) = m ((c.tc : Thread Cert.DprojRefIdeal.nD Cert.DprojRefIdeal.τ).loc Cert.DprojRefIdeal.main_arg7)
      ∧ r.2.mem ((c.tc : Thread Cert.DprojRefIdeal.nD Cert.DprojRefIdeal.τ).loc Cert.DprojRefIdeal.main_arg8) = m ((c.tc : Thread Cert.DprojRefIdeal.nD Cert.DprojRefIdeal.τ).loc Cert.DprojRefIdeal.main_arg8)
      ∧ r.2.mem ((c.tc : Thread Cert.DprojRefIdeal.nD Cert.DprojRefIdeal.τ).loc Cert.DprojRefIdeal.main_arg9) = m ((c.tc : Thread Cert.DprojRefIdeal.nD Cert.DprojRefIdeal.τ).loc Cert.DprojRefIdeal.main_arg9))
      ∧ r.2.sem = fun _ => 0)

def quiescent_Dw1024 [hDw1024 : Cert.Dw1024.Facts] : Prop :=
  ∀ (m : (ℓ : Loc Cert.Dw1024.nD Cert.Dw1024.τ Cert.Dw1024.sig) → Buf (Elt Bits) ℓ) (g : Dev Cert.Dw1024.nD → PrngReg), Pre_Dw1024 m →
    θ_run (Cert.Dw1024.defs (F := Bits)) (onTc (τ := Cert.Dw1024.τ) (Cert.Dw1024.main (F := Bits))) ⟨m, fun _ => 0, g⟩ (fun r => (∀ c : Dev Cert.Dw1024.nD,
      r.2.mem ((c.tc : Thread Cert.Dw1024.nD Cert.Dw1024.τ).loc Cert.Dw1024.main_arg0) = m ((c.tc : Thread Cert.Dw1024.nD Cert.Dw1024.τ).loc Cert.Dw1024.main_arg0)
      ∧ r.2.mem ((c.tc : Thread Cert.Dw1024.nD Cert.Dw1024.τ).loc Cert.Dw1024.main_arg1) = m ((c.tc : Thread Cert.Dw1024.nD Cert.Dw1024.τ).loc Cert.Dw1024.main_arg1)
      ∧ r.2.mem ((c.tc : Thread Cert.Dw1024.nD Cert.Dw1024.τ).loc Cert.Dw1024.main_arg2) = m ((c.tc : Thread Cert.Dw1024.nD Cert.Dw1024.τ).loc Cert.Dw1024.main_arg2))
      ∧ r.2.sem = fun _ => 0)

def quiescent_Dw1024Ideal [hDw1024Ideal : Cert.Dw1024Ideal.Facts] : Prop :=
  ∀ (m : (ℓ : Loc Cert.Dw1024Ideal.nD Cert.Dw1024Ideal.τ Cert.Dw1024Ideal.sig) → Buf (Elt Ideal) ℓ) (g : Dev Cert.Dw1024Ideal.nD → PrngReg), Pre_Dw1024Ideal m →
    θ_run (Cert.Dw1024Ideal.defs (F := Ideal)) (onTc (τ := Cert.Dw1024Ideal.τ) (Cert.Dw1024Ideal.main (F := Ideal))) ⟨m, fun _ => 0, g⟩ (fun r => (∀ c : Dev Cert.Dw1024Ideal.nD,
      r.2.mem ((c.tc : Thread Cert.Dw1024Ideal.nD Cert.Dw1024Ideal.τ).loc Cert.Dw1024Ideal.main_arg0) = m ((c.tc : Thread Cert.Dw1024Ideal.nD Cert.Dw1024Ideal.τ).loc Cert.Dw1024Ideal.main_arg0)
      ∧ r.2.mem ((c.tc : Thread Cert.Dw1024Ideal.nD Cert.Dw1024Ideal.τ).loc Cert.Dw1024Ideal.main_arg1) = m ((c.tc : Thread Cert.Dw1024Ideal.nD Cert.Dw1024Ideal.τ).loc Cert.Dw1024Ideal.main_arg1)
      ∧ r.2.mem ((c.tc : Thread Cert.Dw1024Ideal.nD Cert.Dw1024Ideal.τ).loc Cert.Dw1024Ideal.main_arg2) = m ((c.tc : Thread Cert.Dw1024Ideal.nD Cert.Dw1024Ideal.τ).loc Cert.Dw1024Ideal.main_arg2))
      ∧ r.2.sem = fun _ => 0)

def quiescent_Dw1024RefIdeal [hDw1024RefIdeal : Cert.Dw1024RefIdeal.Facts] : Prop :=
  ∀ (m : (ℓ : Loc Cert.Dw1024RefIdeal.nD Cert.Dw1024RefIdeal.τ Cert.Dw1024RefIdeal.sig) → Buf (Elt Ideal) ℓ) (g : Dev Cert.Dw1024RefIdeal.nD → PrngReg), Pre_Dw1024RefIdeal m →
    θ_run (Cert.Dw1024RefIdeal.defs (F := Ideal)) (onTc (τ := Cert.Dw1024RefIdeal.τ) (Cert.Dw1024RefIdeal.main (F := Ideal))) ⟨m, fun _ => 0, g⟩ (fun r => (∀ c : Dev Cert.Dw1024RefIdeal.nD,
      r.2.mem ((c.tc : Thread Cert.Dw1024RefIdeal.nD Cert.Dw1024RefIdeal.τ).loc Cert.Dw1024RefIdeal.main_arg0) = m ((c.tc : Thread Cert.Dw1024RefIdeal.nD Cert.Dw1024RefIdeal.τ).loc Cert.Dw1024RefIdeal.main_arg0)
      ∧ r.2.mem ((c.tc : Thread Cert.Dw1024RefIdeal.nD Cert.Dw1024RefIdeal.τ).loc Cert.Dw1024RefIdeal.main_arg1) = m ((c.tc : Thread Cert.Dw1024RefIdeal.nD Cert.Dw1024RefIdeal.τ).loc Cert.Dw1024RefIdeal.main_arg1)
      ∧ r.2.mem ((c.tc : Thread Cert.Dw1024RefIdeal.nD Cert.Dw1024RefIdeal.τ).loc Cert.Dw1024RefIdeal.main_arg2) = m ((c.tc : Thread Cert.Dw1024RefIdeal.nD Cert.Dw1024RefIdeal.τ).loc Cert.Dw1024RefIdeal.main_arg2))
      ∧ r.2.sem = fun _ => 0)

def quiescent_DwSsm [hDwSsm : Cert.DwSsm.Facts] : Prop :=
  ∀ (m : (ℓ : Loc Cert.DwSsm.nD Cert.DwSsm.τ Cert.DwSsm.sig) → Buf (Elt Bits) ℓ) (g : Dev Cert.DwSsm.nD → PrngReg), Pre_DwSsm m →
    θ_run (Cert.DwSsm.defs (F := Bits)) (onTc (τ := Cert.DwSsm.τ) (Cert.DwSsm.main (F := Bits))) ⟨m, fun _ => 0, g⟩ (fun r => (∀ c : Dev Cert.DwSsm.nD,
      r.2.mem ((c.tc : Thread Cert.DwSsm.nD Cert.DwSsm.τ).loc Cert.DwSsm.main_arg0) = m ((c.tc : Thread Cert.DwSsm.nD Cert.DwSsm.τ).loc Cert.DwSsm.main_arg0)
      ∧ r.2.mem ((c.tc : Thread Cert.DwSsm.nD Cert.DwSsm.τ).loc Cert.DwSsm.main_arg1) = m ((c.tc : Thread Cert.DwSsm.nD Cert.DwSsm.τ).loc Cert.DwSsm.main_arg1)
      ∧ r.2.mem ((c.tc : Thread Cert.DwSsm.nD Cert.DwSsm.τ).loc Cert.DwSsm.main_arg2) = m ((c.tc : Thread Cert.DwSsm.nD Cert.DwSsm.τ).loc Cert.DwSsm.main_arg2))
      ∧ r.2.sem = fun _ => 0)

def quiescent_DwSsmIdeal [hDwSsmIdeal : Cert.DwSsmIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg), Pre_DwSsmIdeal m →
    θ_run (Cert.DwSsmIdeal.defs (F := Ideal)) (onTc (τ := Cert.DwSsmIdeal.τ) (Cert.DwSsmIdeal.main (F := Ideal))) ⟨m, fun _ => 0, g⟩ (fun r => (∀ c : Dev Cert.DwSsmIdeal.nD,
      r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
      ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1)
      ∧ r.2.mem ((c.tc : Thread Cert.DwSsmIdeal.nD Cert.DwSsmIdeal.τ).loc Cert.DwSsmIdeal.main_arg2) = m ((c.tc : Thread Cert.DwSsmIdeal.nD Cert.DwSsmIdeal.τ).loc Cert.DwSsmIdeal.main_arg2))
      ∧ r.2.sem = fun _ => 0)

def quiescent_DwSsmRefIdeal [hDwSsmRefIdeal : Cert.DwSsmRefIdeal.Facts] : Prop :=
  ∀ (m : (ℓ : Loc Cert.DwSsmRefIdeal.nD Cert.DwSsmRefIdeal.τ Cert.DwSsmRefIdeal.sig) → Buf (Elt Ideal) ℓ) (g : Dev Cert.DwSsmRefIdeal.nD → PrngReg), Pre_DwSsmRefIdeal m →
    θ_run (Cert.DwSsmRefIdeal.defs (F := Ideal)) (onTc (τ := Cert.DwSsmRefIdeal.τ) (Cert.DwSsmRefIdeal.main (F := Ideal))) ⟨m, fun _ => 0, g⟩ (fun r => (∀ c : Dev Cert.DwSsmRefIdeal.nD,
      r.2.mem ((c.tc : Thread Cert.DwSsmRefIdeal.nD Cert.DwSsmRefIdeal.τ).loc Cert.DwSsmRefIdeal.main_arg0) = m ((c.tc : Thread Cert.DwSsmRefIdeal.nD Cert.DwSsmRefIdeal.τ).loc Cert.DwSsmRefIdeal.main_arg0)
      ∧ r.2.mem ((c.tc : Thread Cert.DwSsmRefIdeal.nD Cert.DwSsmRefIdeal.τ).loc Cert.DwSsmRefIdeal.main_arg1) = m ((c.tc : Thread Cert.DwSsmRefIdeal.nD Cert.DwSsmRefIdeal.τ).loc Cert.DwSsmRefIdeal.main_arg1)
      ∧ r.2.mem ((c.tc : Thread Cert.DwSsmRefIdeal.nD Cert.DwSsmRefIdeal.τ).loc Cert.DwSsmRefIdeal.main_arg2) = m ((c.tc : Thread Cert.DwSsmRefIdeal.nD Cert.DwSsmRefIdeal.τ).loc Cert.DwSsmRefIdeal.main_arg2))
      ∧ r.2.sem = fun _ => 0)

def quiescent_Dw5120 [hDw5120 : Cert.Dw5120.Facts] : Prop :=
  ∀ (m : (ℓ : Loc Cert.Dw5120.nD Cert.Dw5120.τ Cert.Dw5120.sig) → Buf (Elt Bits) ℓ) (g : Dev Cert.Dw5120.nD → PrngReg), Pre_Dw5120 m →
    θ_run (Cert.Dw5120.defs (F := Bits)) (onTc (τ := Cert.Dw5120.τ) (Cert.Dw5120.main (F := Bits))) ⟨m, fun _ => 0, g⟩ (fun r => (∀ c : Dev Cert.Dw5120.nD,
      r.2.mem ((c.tc : Thread Cert.Dw5120.nD Cert.Dw5120.τ).loc Cert.Dw5120.main_arg0) = m ((c.tc : Thread Cert.Dw5120.nD Cert.Dw5120.τ).loc Cert.Dw5120.main_arg0)
      ∧ r.2.mem ((c.tc : Thread Cert.Dw5120.nD Cert.Dw5120.τ).loc Cert.Dw5120.main_arg1) = m ((c.tc : Thread Cert.Dw5120.nD Cert.Dw5120.τ).loc Cert.Dw5120.main_arg1)
      ∧ r.2.mem ((c.tc : Thread Cert.Dw5120.nD Cert.Dw5120.τ).loc Cert.Dw5120.main_arg2) = m ((c.tc : Thread Cert.Dw5120.nD Cert.Dw5120.τ).loc Cert.Dw5120.main_arg2))
      ∧ r.2.sem = fun _ => 0)

def quiescent_Dw5120Ideal [hDw5120Ideal : Cert.Dw5120Ideal.Facts] : Prop :=
  ∀ (m : (ℓ : Loc Cert.Dw5120Ideal.nD Cert.Dw5120Ideal.τ Cert.Dw5120Ideal.sig) → Buf (Elt Ideal) ℓ) (g : Dev Cert.Dw5120Ideal.nD → PrngReg), Pre_Dw5120Ideal m →
    θ_run (Cert.Dw5120Ideal.defs (F := Ideal)) (onTc (τ := Cert.Dw5120Ideal.τ) (Cert.Dw5120Ideal.main (F := Ideal))) ⟨m, fun _ => 0, g⟩ (fun r => (∀ c : Dev Cert.Dw5120Ideal.nD,
      r.2.mem ((c.tc : Thread Cert.Dw5120Ideal.nD Cert.Dw5120Ideal.τ).loc Cert.Dw5120Ideal.main_arg0) = m ((c.tc : Thread Cert.Dw5120Ideal.nD Cert.Dw5120Ideal.τ).loc Cert.Dw5120Ideal.main_arg0)
      ∧ r.2.mem ((c.tc : Thread Cert.Dw5120Ideal.nD Cert.Dw5120Ideal.τ).loc Cert.Dw5120Ideal.main_arg1) = m ((c.tc : Thread Cert.Dw5120Ideal.nD Cert.Dw5120Ideal.τ).loc Cert.Dw5120Ideal.main_arg1)
      ∧ r.2.mem ((c.tc : Thread Cert.Dw5120Ideal.nD Cert.Dw5120Ideal.τ).loc Cert.Dw5120Ideal.main_arg2) = m ((c.tc : Thread Cert.Dw5120Ideal.nD Cert.Dw5120Ideal.τ).loc Cert.Dw5120Ideal.main_arg2))
      ∧ r.2.sem = fun _ => 0)

def quiescent_Dw5120RefIdeal [hDw5120RefIdeal : Cert.Dw5120RefIdeal.Facts] : Prop :=
  ∀ (m : (ℓ : Loc Cert.Dw5120RefIdeal.nD Cert.Dw5120RefIdeal.τ Cert.Dw5120RefIdeal.sig) → Buf (Elt Ideal) ℓ) (g : Dev Cert.Dw5120RefIdeal.nD → PrngReg), Pre_Dw5120RefIdeal m →
    θ_run (Cert.Dw5120RefIdeal.defs (F := Ideal)) (onTc (τ := Cert.Dw5120RefIdeal.τ) (Cert.Dw5120RefIdeal.main (F := Ideal))) ⟨m, fun _ => 0, g⟩ (fun r => (∀ c : Dev Cert.Dw5120RefIdeal.nD,
      r.2.mem ((c.tc : Thread Cert.Dw5120RefIdeal.nD Cert.Dw5120RefIdeal.τ).loc Cert.Dw5120RefIdeal.main_arg0) = m ((c.tc : Thread Cert.Dw5120RefIdeal.nD Cert.Dw5120RefIdeal.τ).loc Cert.Dw5120RefIdeal.main_arg0)
      ∧ r.2.mem ((c.tc : Thread Cert.Dw5120RefIdeal.nD Cert.Dw5120RefIdeal.τ).loc Cert.Dw5120RefIdeal.main_arg1) = m ((c.tc : Thread Cert.Dw5120RefIdeal.nD Cert.Dw5120RefIdeal.τ).loc Cert.Dw5120RefIdeal.main_arg1)
      ∧ r.2.mem ((c.tc : Thread Cert.Dw5120RefIdeal.nD Cert.Dw5120RefIdeal.τ).loc Cert.Dw5120RefIdeal.main_arg2) = m ((c.tc : Thread Cert.Dw5120RefIdeal.nD Cert.Dw5120RefIdeal.τ).loc Cert.Dw5120RefIdeal.main_arg2))
      ∧ r.2.sem = fun _ => 0)

def quiescent_Dw3072 [hDw3072 : Cert.Dw3072.Facts] : Prop :=
  ∀ (m : (ℓ : Loc Cert.Dw3072.nD Cert.Dw3072.τ Cert.Dw3072.sig) → Buf (Elt Bits) ℓ) (g : Dev Cert.Dw3072.nD → PrngReg), Pre_Dw3072 m →
    θ_run (Cert.Dw3072.defs (F := Bits)) (onTc (τ := Cert.Dw3072.τ) (Cert.Dw3072.main (F := Bits))) ⟨m, fun _ => 0, g⟩ (fun r => (∀ c : Dev Cert.Dw3072.nD,
      r.2.mem ((c.tc : Thread Cert.Dw3072.nD Cert.Dw3072.τ).loc Cert.Dw3072.main_arg0) = m ((c.tc : Thread Cert.Dw3072.nD Cert.Dw3072.τ).loc Cert.Dw3072.main_arg0)
      ∧ r.2.mem ((c.tc : Thread Cert.Dw3072.nD Cert.Dw3072.τ).loc Cert.Dw3072.main_arg1) = m ((c.tc : Thread Cert.Dw3072.nD Cert.Dw3072.τ).loc Cert.Dw3072.main_arg1)
      ∧ r.2.mem ((c.tc : Thread Cert.Dw3072.nD Cert.Dw3072.τ).loc Cert.Dw3072.main_arg2) = m ((c.tc : Thread Cert.Dw3072.nD Cert.Dw3072.τ).loc Cert.Dw3072.main_arg2))
      ∧ r.2.sem = fun _ => 0)

def quiescent_Dw3072Ideal [hDw3072Ideal : Cert.Dw3072Ideal.Facts] : Prop :=
  ∀ (m : (ℓ : Loc Cert.Dw3072Ideal.nD Cert.Dw3072Ideal.τ Cert.Dw3072Ideal.sig) → Buf (Elt Ideal) ℓ) (g : Dev Cert.Dw3072Ideal.nD → PrngReg), Pre_Dw3072Ideal m →
    θ_run (Cert.Dw3072Ideal.defs (F := Ideal)) (onTc (τ := Cert.Dw3072Ideal.τ) (Cert.Dw3072Ideal.main (F := Ideal))) ⟨m, fun _ => 0, g⟩ (fun r => (∀ c : Dev Cert.Dw3072Ideal.nD,
      r.2.mem ((c.tc : Thread Cert.Dw3072Ideal.nD Cert.Dw3072Ideal.τ).loc Cert.Dw3072Ideal.main_arg0) = m ((c.tc : Thread Cert.Dw3072Ideal.nD Cert.Dw3072Ideal.τ).loc Cert.Dw3072Ideal.main_arg0)
      ∧ r.2.mem ((c.tc : Thread Cert.Dw3072Ideal.nD Cert.Dw3072Ideal.τ).loc Cert.Dw3072Ideal.main_arg1) = m ((c.tc : Thread Cert.Dw3072Ideal.nD Cert.Dw3072Ideal.τ).loc Cert.Dw3072Ideal.main_arg1)
      ∧ r.2.mem ((c.tc : Thread Cert.Dw3072Ideal.nD Cert.Dw3072Ideal.τ).loc Cert.Dw3072Ideal.main_arg2) = m ((c.tc : Thread Cert.Dw3072Ideal.nD Cert.Dw3072Ideal.τ).loc Cert.Dw3072Ideal.main_arg2))
      ∧ r.2.sem = fun _ => 0)

def quiescent_Dw3072RefIdeal [hDw3072RefIdeal : Cert.Dw3072RefIdeal.Facts] : Prop :=
  ∀ (m : (ℓ : Loc Cert.Dw3072RefIdeal.nD Cert.Dw3072RefIdeal.τ Cert.Dw3072RefIdeal.sig) → Buf (Elt Ideal) ℓ) (g : Dev Cert.Dw3072RefIdeal.nD → PrngReg), Pre_Dw3072RefIdeal m →
    θ_run (Cert.Dw3072RefIdeal.defs (F := Ideal)) (onTc (τ := Cert.Dw3072RefIdeal.τ) (Cert.Dw3072RefIdeal.main (F := Ideal))) ⟨m, fun _ => 0, g⟩ (fun r => (∀ c : Dev Cert.Dw3072RefIdeal.nD,
      r.2.mem ((c.tc : Thread Cert.Dw3072RefIdeal.nD Cert.Dw3072RefIdeal.τ).loc Cert.Dw3072RefIdeal.main_arg0) = m ((c.tc : Thread Cert.Dw3072RefIdeal.nD Cert.Dw3072RefIdeal.τ).loc Cert.Dw3072RefIdeal.main_arg0)
      ∧ r.2.mem ((c.tc : Thread Cert.Dw3072RefIdeal.nD Cert.Dw3072RefIdeal.τ).loc Cert.Dw3072RefIdeal.main_arg1) = m ((c.tc : Thread Cert.Dw3072RefIdeal.nD Cert.Dw3072RefIdeal.τ).loc Cert.Dw3072RefIdeal.main_arg1)
      ∧ r.2.mem ((c.tc : Thread Cert.Dw3072RefIdeal.nD Cert.Dw3072RefIdeal.τ).loc Cert.Dw3072RefIdeal.main_arg2) = m ((c.tc : Thread Cert.Dw3072RefIdeal.nD Cert.Dw3072RefIdeal.τ).loc Cert.Dw3072RefIdeal.main_arg2))
      ∧ r.2.sem = fun _ => 0)

def quiescent_Dw512 [hDw512 : Cert.Dw512.Facts] : Prop :=
  ∀ (m : (ℓ : Loc Cert.Dw512.nD Cert.Dw512.τ Cert.Dw512.sig) → Buf (Elt Bits) ℓ) (g : Dev Cert.Dw512.nD → PrngReg), Pre_Dw512 m →
    θ_run (Cert.Dw512.defs (F := Bits)) (onTc (τ := Cert.Dw512.τ) (Cert.Dw512.main (F := Bits))) ⟨m, fun _ => 0, g⟩ (fun r => (∀ c : Dev Cert.Dw512.nD,
      r.2.mem ((c.tc : Thread Cert.Dw512.nD Cert.Dw512.τ).loc Cert.Dw512.main_arg0) = m ((c.tc : Thread Cert.Dw512.nD Cert.Dw512.τ).loc Cert.Dw512.main_arg0)
      ∧ r.2.mem ((c.tc : Thread Cert.Dw512.nD Cert.Dw512.τ).loc Cert.Dw512.main_arg1) = m ((c.tc : Thread Cert.Dw512.nD Cert.Dw512.τ).loc Cert.Dw512.main_arg1)
      ∧ r.2.mem ((c.tc : Thread Cert.Dw512.nD Cert.Dw512.τ).loc Cert.Dw512.main_arg2) = m ((c.tc : Thread Cert.Dw512.nD Cert.Dw512.τ).loc Cert.Dw512.main_arg2))
      ∧ r.2.sem = fun _ => 0)

def quiescent_Dw512Ideal [hDw512Ideal : Cert.Dw512Ideal.Facts] : Prop :=
  ∀ (m : (ℓ : Loc Cert.Dw512Ideal.nD Cert.Dw512Ideal.τ Cert.Dw512Ideal.sig) → Buf (Elt Ideal) ℓ) (g : Dev Cert.Dw512Ideal.nD → PrngReg), Pre_Dw512Ideal m →
    θ_run (Cert.Dw512Ideal.defs (F := Ideal)) (onTc (τ := Cert.Dw512Ideal.τ) (Cert.Dw512Ideal.main (F := Ideal))) ⟨m, fun _ => 0, g⟩ (fun r => (∀ c : Dev Cert.Dw512Ideal.nD,
      r.2.mem ((c.tc : Thread Cert.Dw512Ideal.nD Cert.Dw512Ideal.τ).loc Cert.Dw512Ideal.main_arg0) = m ((c.tc : Thread Cert.Dw512Ideal.nD Cert.Dw512Ideal.τ).loc Cert.Dw512Ideal.main_arg0)
      ∧ r.2.mem ((c.tc : Thread Cert.Dw512Ideal.nD Cert.Dw512Ideal.τ).loc Cert.Dw512Ideal.main_arg1) = m ((c.tc : Thread Cert.Dw512Ideal.nD Cert.Dw512Ideal.τ).loc Cert.Dw512Ideal.main_arg1)
      ∧ r.2.mem ((c.tc : Thread Cert.Dw512Ideal.nD Cert.Dw512Ideal.τ).loc Cert.Dw512Ideal.main_arg2) = m ((c.tc : Thread Cert.Dw512Ideal.nD Cert.Dw512Ideal.τ).loc Cert.Dw512Ideal.main_arg2))
      ∧ r.2.sem = fun _ => 0)

def quiescent_Dw512RefIdeal [hDw512RefIdeal : Cert.Dw512RefIdeal.Facts] : Prop :=
  ∀ (m : (ℓ : Loc Cert.Dw512RefIdeal.nD Cert.Dw512RefIdeal.τ Cert.Dw512RefIdeal.sig) → Buf (Elt Ideal) ℓ) (g : Dev Cert.Dw512RefIdeal.nD → PrngReg), Pre_Dw512RefIdeal m →
    θ_run (Cert.Dw512RefIdeal.defs (F := Ideal)) (onTc (τ := Cert.Dw512RefIdeal.τ) (Cert.Dw512RefIdeal.main (F := Ideal))) ⟨m, fun _ => 0, g⟩ (fun r => (∀ c : Dev Cert.Dw512RefIdeal.nD,
      r.2.mem ((c.tc : Thread Cert.Dw512RefIdeal.nD Cert.Dw512RefIdeal.τ).loc Cert.Dw512RefIdeal.main_arg0) = m ((c.tc : Thread Cert.Dw512RefIdeal.nD Cert.Dw512RefIdeal.τ).loc Cert.Dw512RefIdeal.main_arg0)
      ∧ r.2.mem ((c.tc : Thread Cert.Dw512RefIdeal.nD Cert.Dw512RefIdeal.τ).loc Cert.Dw512RefIdeal.main_arg1) = m ((c.tc : Thread Cert.Dw512RefIdeal.nD Cert.Dw512RefIdeal.τ).loc Cert.Dw512RefIdeal.main_arg1)
      ∧ r.2.mem ((c.tc : Thread Cert.Dw512RefIdeal.nD Cert.Dw512RefIdeal.τ).loc Cert.Dw512RefIdeal.main_arg2) = m ((c.tc : Thread Cert.Dw512RefIdeal.nD Cert.Dw512RefIdeal.τ).loc Cert.Dw512RefIdeal.main_arg2))
      ∧ r.2.sem = fun _ => 0)

def quiescent_Dw128 [hDw128 : Cert.Dw128.Facts] : Prop :=
  ∀ (m : (ℓ : Loc Cert.Dw128.nD Cert.Dw128.τ Cert.Dw128.sig) → Buf (Elt Bits) ℓ) (g : Dev Cert.Dw128.nD → PrngReg), Pre_Dw128 m →
    θ_run (Cert.Dw128.defs (F := Bits)) (onTc (τ := Cert.Dw128.τ) (Cert.Dw128.main (F := Bits))) ⟨m, fun _ => 0, g⟩ (fun r => (∀ c : Dev Cert.Dw128.nD,
      r.2.mem ((c.tc : Thread Cert.Dw128.nD Cert.Dw128.τ).loc Cert.Dw128.main_arg0) = m ((c.tc : Thread Cert.Dw128.nD Cert.Dw128.τ).loc Cert.Dw128.main_arg0)
      ∧ r.2.mem ((c.tc : Thread Cert.Dw128.nD Cert.Dw128.τ).loc Cert.Dw128.main_arg1) = m ((c.tc : Thread Cert.Dw128.nD Cert.Dw128.τ).loc Cert.Dw128.main_arg1)
      ∧ r.2.mem ((c.tc : Thread Cert.Dw128.nD Cert.Dw128.τ).loc Cert.Dw128.main_arg2) = m ((c.tc : Thread Cert.Dw128.nD Cert.Dw128.τ).loc Cert.Dw128.main_arg2))
      ∧ r.2.sem = fun _ => 0)

def quiescent_Dw128Ideal [hDw128Ideal : Cert.Dw128Ideal.Facts] : Prop :=
  ∀ (m : (ℓ : Loc Cert.Dw128Ideal.nD Cert.Dw128Ideal.τ Cert.Dw128Ideal.sig) → Buf (Elt Ideal) ℓ) (g : Dev Cert.Dw128Ideal.nD → PrngReg), Pre_Dw128Ideal m →
    θ_run (Cert.Dw128Ideal.defs (F := Ideal)) (onTc (τ := Cert.Dw128Ideal.τ) (Cert.Dw128Ideal.main (F := Ideal))) ⟨m, fun _ => 0, g⟩ (fun r => (∀ c : Dev Cert.Dw128Ideal.nD,
      r.2.mem ((c.tc : Thread Cert.Dw128Ideal.nD Cert.Dw128Ideal.τ).loc Cert.Dw128Ideal.main_arg0) = m ((c.tc : Thread Cert.Dw128Ideal.nD Cert.Dw128Ideal.τ).loc Cert.Dw128Ideal.main_arg0)
      ∧ r.2.mem ((c.tc : Thread Cert.Dw128Ideal.nD Cert.Dw128Ideal.τ).loc Cert.Dw128Ideal.main_arg1) = m ((c.tc : Thread Cert.Dw128Ideal.nD Cert.Dw128Ideal.τ).loc Cert.Dw128Ideal.main_arg1)
      ∧ r.2.mem ((c.tc : Thread Cert.Dw128Ideal.nD Cert.Dw128Ideal.τ).loc Cert.Dw128Ideal.main_arg2) = m ((c.tc : Thread Cert.Dw128Ideal.nD Cert.Dw128Ideal.τ).loc Cert.Dw128Ideal.main_arg2))
      ∧ r.2.sem = fun _ => 0)

def quiescent_Dw128RefIdeal [hDw128RefIdeal : Cert.Dw128RefIdeal.Facts] : Prop :=
  ∀ (m : (ℓ : Loc Cert.Dw128RefIdeal.nD Cert.Dw128RefIdeal.τ Cert.Dw128RefIdeal.sig) → Buf (Elt Ideal) ℓ) (g : Dev Cert.Dw128RefIdeal.nD → PrngReg), Pre_Dw128RefIdeal m →
    θ_run (Cert.Dw128RefIdeal.defs (F := Ideal)) (onTc (τ := Cert.Dw128RefIdeal.τ) (Cert.Dw128RefIdeal.main (F := Ideal))) ⟨m, fun _ => 0, g⟩ (fun r => (∀ c : Dev Cert.Dw128RefIdeal.nD,
      r.2.mem ((c.tc : Thread Cert.Dw128RefIdeal.nD Cert.Dw128RefIdeal.τ).loc Cert.Dw128RefIdeal.main_arg0) = m ((c.tc : Thread Cert.Dw128RefIdeal.nD Cert.Dw128RefIdeal.τ).loc Cert.Dw128RefIdeal.main_arg0)
      ∧ r.2.mem ((c.tc : Thread Cert.Dw128RefIdeal.nD Cert.Dw128RefIdeal.τ).loc Cert.Dw128RefIdeal.main_arg1) = m ((c.tc : Thread Cert.Dw128RefIdeal.nD Cert.Dw128RefIdeal.τ).loc Cert.Dw128RefIdeal.main_arg1)
      ∧ r.2.mem ((c.tc : Thread Cert.Dw128RefIdeal.nD Cert.Dw128RefIdeal.τ).loc Cert.Dw128RefIdeal.main_arg2) = m ((c.tc : Thread Cert.Dw128RefIdeal.nD Cert.Dw128RefIdeal.τ).loc Cert.Dw128RefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSsm [hAdamSsm : Cert.AdamSsm.Facts] : Prop :=
  ∀ (m : (ℓ : Loc Cert.AdamSsm.nD Cert.AdamSsm.τ Cert.AdamSsm.sig) → Buf (Elt Bits) ℓ) (g : Dev Cert.AdamSsm.nD → PrngReg), Pre_AdamSsm m →
    θ_run (Cert.AdamSsm.defs (F := Bits)) (onTc (τ := Cert.AdamSsm.τ) (Cert.AdamSsm.main (F := Bits))) ⟨m, fun _ => 0, g⟩ (fun r => (∀ c : Dev Cert.AdamSsm.nD,
      r.2.mem ((c.tc : Thread Cert.AdamSsm.nD Cert.AdamSsm.τ).loc Cert.AdamSsm.main_arg0) = m ((c.tc : Thread Cert.AdamSsm.nD Cert.AdamSsm.τ).loc Cert.AdamSsm.main_arg0)
      ∧ r.2.mem ((c.tc : Thread Cert.AdamSsm.nD Cert.AdamSsm.τ).loc Cert.AdamSsm.main_arg1) = m ((c.tc : Thread Cert.AdamSsm.nD Cert.AdamSsm.τ).loc Cert.AdamSsm.main_arg1)
      ∧ r.2.mem ((c.tc : Thread Cert.AdamSsm.nD Cert.AdamSsm.τ).loc Cert.AdamSsm.main_arg2) = m ((c.tc : Thread Cert.AdamSsm.nD Cert.AdamSsm.τ).loc Cert.AdamSsm.main_arg2)
      ∧ r.2.mem ((c.tc : Thread Cert.AdamSsm.nD Cert.AdamSsm.τ).loc Cert.AdamSsm.main_arg3) = m ((c.tc : Thread Cert.AdamSsm.nD Cert.AdamSsm.τ).loc Cert.AdamSsm.main_arg3))
      ∧ r.2.sem = fun _ => 0)

def quiescent_AdamSsmIdeal [hAdamSsmIdeal : Cert.AdamSsmIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg), Pre_AdamSsmIdeal m →
    θ_run (Cert.AdamSsmIdeal.defs (F := Ideal)) (onTc (τ := Cert.AdamSsmIdeal.τ) (Cert.AdamSsmIdeal.main (F := Ideal))) ⟨m, fun _ => 0, g⟩ (fun r => (∀ c : Dev Cert.AdamSsmIdeal.nD,
      r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
      ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
      ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
      ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ r.2.sem = fun _ => 0)

def quiescent_AdamSsmRefIdeal [hAdamSsmRefIdeal : Cert.AdamSsmRefIdeal.Facts] : Prop :=
  ∀ (m : (ℓ : Loc Cert.AdamSsmRefIdeal.nD Cert.AdamSsmRefIdeal.τ Cert.AdamSsmRefIdeal.sig) → Buf (Elt Ideal) ℓ) (g : Dev Cert.AdamSsmRefIdeal.nD → PrngReg), Pre_AdamSsmRefIdeal m →
    θ_run (Cert.AdamSsmRefIdeal.defs (F := Ideal)) (onTc (τ := Cert.AdamSsmRefIdeal.τ) (Cert.AdamSsmRefIdeal.main (F := Ideal))) ⟨m, fun _ => 0, g⟩ (fun r => (∀ c : Dev Cert.AdamSsmRefIdeal.nD,
      r.2.mem ((c.tc : Thread Cert.AdamSsmRefIdeal.nD Cert.AdamSsmRefIdeal.τ).loc Cert.AdamSsmRefIdeal.main_arg0) = m ((c.tc : Thread Cert.AdamSsmRefIdeal.nD Cert.AdamSsmRefIdeal.τ).loc Cert.AdamSsmRefIdeal.main_arg0)
      ∧ r.2.mem ((c.tc : Thread Cert.AdamSsmRefIdeal.nD Cert.AdamSsmRefIdeal.τ).loc Cert.AdamSsmRefIdeal.main_arg1) = m ((c.tc : Thread Cert.AdamSsmRefIdeal.nD Cert.AdamSsmRefIdeal.τ).loc Cert.AdamSsmRefIdeal.main_arg1)
      ∧ r.2.mem ((c.tc : Thread Cert.AdamSsmRefIdeal.nD Cert.AdamSsmRefIdeal.τ).loc Cert.AdamSsmRefIdeal.main_arg2) = m ((c.tc : Thread Cert.AdamSsmRefIdeal.nD Cert.AdamSsmRefIdeal.τ).loc Cert.AdamSsmRefIdeal.main_arg2)
      ∧ r.2.mem ((c.tc : Thread Cert.AdamSsmRefIdeal.nD Cert.AdamSsmRefIdeal.τ).loc Cert.AdamSsmRefIdeal.main_arg3) = m ((c.tc : Thread Cert.AdamSsmRefIdeal.nD Cert.AdamSsmRefIdeal.τ).loc Cert.AdamSsmRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_masked [hAttnIdeal : Cert.AttnIdeal.Facts] [hPre_attn_masked : Cert.Pre_attn_masked.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_masked m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_masked [hAttnRefIdeal : Cert.AttnRefIdeal.Facts] [hPre_attn_masked : Cert.Pre_attn_masked.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_masked m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)) (v12 : (c : Dev Cert.KernelIdeal.nD) → Buf (Elt Ideal) ((c.tc : Thread Cert.KernelIdeal.nD Cert.KernelIdeal.τ).loc Cert.KernelIdeal.main_v0_12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_v0_12) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_v126) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_v130) = v6 c
          ∧ r.2.mem ((c.tc : Thread Cert.ReferenceIdeal.nD Cert.ReferenceIdeal.τ).loc Cert.ReferenceIdeal.main_v132) = v7 c
          ∧ r.2.mem ((c.tc : Thread Cert.ReferenceIdeal.nD Cert.ReferenceIdeal.τ).loc Cert.ReferenceIdeal.main_v133) = v8 c
          ∧ r.2.mem ((c.tc : Thread Cert.ReferenceIdeal.nD Cert.ReferenceIdeal.τ).loc Cert.ReferenceIdeal.main_v134) = v9 c
          ∧ r.2.mem ((c.tc : Thread Cert.ReferenceIdeal.nD Cert.ReferenceIdeal.τ).loc Cert.ReferenceIdeal.main_v135) = v10 c
          ∧ r.2.mem ((c.tc : Thread Cert.ReferenceIdeal.nD Cert.ReferenceIdeal.τ).loc Cert.ReferenceIdeal.main_v82) = v11 c
          ∧ r.2.mem ((c.tc : Thread Cert.ReferenceIdeal.nD Cert.ReferenceIdeal.τ).loc Cert.ReferenceIdeal.main_v116) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Dproj_DprojIdeal : Prop :=
  True

def algebraic_DprojIdeal_DprojRefIdeal_pre_dproj_finite [hDprojIdeal : Cert.DprojIdeal.Facts] [hDprojRefIdeal : Cert.DprojRefIdeal.Facts] [hPre_dproj_finite : Cert.Pre_dproj_finite.Facts] : Prop :=
  ∀ (m : (ℓ : Loc Cert.DprojIdeal.nD Cert.DprojIdeal.τ Cert.DprojIdeal.sig) → Buf (Elt Ideal) ℓ) (g : Dev Cert.DprojIdeal.nD → PrngReg)
    (m' : (ℓ : Loc Cert.DprojRefIdeal.nD Cert.DprojRefIdeal.τ Cert.DprojRefIdeal.sig) → Buf (Elt Ideal) ℓ) (g' : Dev Cert.DprojRefIdeal.nD → PrngReg), Pre_DprojIdeal_dproj_finite m →
    (∀ c : Dev Cert.DprojIdeal.nD,
      m' ((c.tc : Thread Cert.DprojRefIdeal.nD Cert.DprojRefIdeal.τ).loc Cert.DprojRefIdeal.main_arg0) = m ((c.tc : Thread Cert.DprojIdeal.nD Cert.DprojIdeal.τ).loc Cert.DprojIdeal.main_arg0)
      ∧ m' ((c.tc : Thread Cert.DprojRefIdeal.nD Cert.DprojRefIdeal.τ).loc Cert.DprojRefIdeal.main_arg1) = m ((c.tc : Thread Cert.DprojIdeal.nD Cert.DprojIdeal.τ).loc Cert.DprojIdeal.main_arg1)
      ∧ m' ((c.tc : Thread Cert.DprojRefIdeal.nD Cert.DprojRefIdeal.τ).loc Cert.DprojRefIdeal.main_arg2) = m ((c.tc : Thread Cert.DprojIdeal.nD Cert.DprojIdeal.τ).loc Cert.DprojIdeal.main_arg2)
      ∧ m' ((c.tc : Thread Cert.DprojRefIdeal.nD Cert.DprojRefIdeal.τ).loc Cert.DprojRefIdeal.main_arg3) = m ((c.tc : Thread Cert.DprojIdeal.nD Cert.DprojIdeal.τ).loc Cert.DprojIdeal.main_arg3)
      ∧ m' ((c.tc : Thread Cert.DprojRefIdeal.nD Cert.DprojRefIdeal.τ).loc Cert.DprojRefIdeal.main_arg4) = m ((c.tc : Thread Cert.DprojIdeal.nD Cert.DprojIdeal.τ).loc Cert.DprojIdeal.main_arg4)
      ∧ m' ((c.tc : Thread Cert.DprojRefIdeal.nD Cert.DprojRefIdeal.τ).loc Cert.DprojRefIdeal.main_arg5) = m ((c.tc : Thread Cert.DprojIdeal.nD Cert.DprojIdeal.τ).loc Cert.DprojIdeal.main_arg5)
      ∧ m' ((c.tc : Thread Cert.DprojRefIdeal.nD Cert.DprojRefIdeal.τ).loc Cert.DprojRefIdeal.main_arg6) = m ((c.tc : Thread Cert.DprojIdeal.nD Cert.DprojIdeal.τ).loc Cert.DprojIdeal.main_arg6)
      ∧ m' ((c.tc : Thread Cert.DprojRefIdeal.nD Cert.DprojRefIdeal.τ).loc Cert.DprojRefIdeal.main_arg7) = m ((c.tc : Thread Cert.DprojIdeal.nD Cert.DprojIdeal.τ).loc Cert.DprojIdeal.main_arg7)
      ∧ m' ((c.tc : Thread Cert.DprojRefIdeal.nD Cert.DprojRefIdeal.τ).loc Cert.DprojRefIdeal.main_arg8) = m ((c.tc : Thread Cert.DprojIdeal.nD Cert.DprojIdeal.τ).loc Cert.DprojIdeal.main_arg8)
      ∧ m' ((c.tc : Thread Cert.DprojRefIdeal.nD Cert.DprojRefIdeal.τ).loc Cert.DprojRefIdeal.main_arg9) = m ((c.tc : Thread Cert.DprojIdeal.nD Cert.DprojIdeal.τ).loc Cert.DprojIdeal.main_arg9)) →
    ∃ (v0 : (c : Dev Cert.DprojIdeal.nD) → Buf (Elt Ideal) ((c.tc : Thread Cert.DprojIdeal.nD Cert.DprojIdeal.τ).loc Cert.DprojIdeal.main_v0_0)) (v1 : (c : Dev Cert.DprojIdeal.nD) → Buf (Elt Ideal) ((c.tc : Thread Cert.DprojIdeal.nD Cert.DprojIdeal.τ).loc Cert.DprojIdeal.main_v0_1)) (v2 : (c : Dev Cert.DprojIdeal.nD) → Buf (Elt Ideal) ((c.tc : Thread Cert.DprojIdeal.nD Cert.DprojIdeal.τ).loc Cert.DprojIdeal.main_v0_2)) (v3 : (c : Dev Cert.DprojIdeal.nD) → Buf (Elt Ideal) ((c.tc : Thread Cert.DprojIdeal.nD Cert.DprojIdeal.τ).loc Cert.DprojIdeal.main_v0_3)),
      θ_run (Cert.DprojIdeal.defs (F := Ideal)) (onTc (τ := Cert.DprojIdeal.τ) (Cert.DprojIdeal.main (F := Ideal))) ⟨m, fun _ => 0, g⟩ (fun r => ∀ c : Dev Cert.DprojIdeal.nD,
          r.2.mem ((c.tc : Thread Cert.DprojIdeal.nD Cert.DprojIdeal.τ).loc Cert.DprojIdeal.main_v0_0) = v0 c
          ∧ r.2.mem ((c.tc : Thread Cert.DprojIdeal.nD Cert.DprojIdeal.τ).loc Cert.DprojIdeal.main_v0_1) = v1 c
          ∧ r.2.mem ((c.tc : Thread Cert.DprojIdeal.nD Cert.DprojIdeal.τ).loc Cert.DprojIdeal.main_v0_2) = v2 c
          ∧ r.2.mem ((c.tc : Thread Cert.DprojIdeal.nD Cert.DprojIdeal.τ).loc Cert.DprojIdeal.main_v0_3) = v3 c
          ∧ r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
          ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
          ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
          ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
          ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
          ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
          ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
          ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
          ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
          ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9))
      ∧ θ_run (Cert.DprojRefIdeal.defs (F := Ideal)) (onTc (τ := Cert.DprojRefIdeal.τ) (Cert.DprojRefIdeal.main (F := Ideal))) ⟨m', fun _ => 0, g'⟩ (fun r => ∀ c : Dev Cert.DprojRefIdeal.nD,
          r.2.mem ((c.tc : Thread Cert.DprojRefIdeal.nD Cert.DprojRefIdeal.τ).loc Cert.DprojRefIdeal.main_v58) = v0 c
          ∧ r.2.mem ((c.tc : Thread Cert.DprojRefIdeal.nD Cert.DprojRefIdeal.τ).loc Cert.DprojRefIdeal.main_v41) = v1 c
          ∧ r.2.mem ((c.tc : Thread Cert.DprojRefIdeal.nD Cert.DprojRefIdeal.τ).loc Cert.DprojRefIdeal.main_v36) = v2 c
          ∧ r.2.mem ((c.tc : Thread Cert.DprojRefIdeal.nD Cert.DprojRefIdeal.τ).loc Cert.DprojRefIdeal.main_v33) = v3 c
          ∧ r.2.mem ((c.tc : Thread Cert.DprojRefIdeal.nD Cert.DprojRefIdeal.τ).loc Cert.DprojRefIdeal.main_arg0) = m' ((c.tc : Thread Cert.DprojRefIdeal.nD Cert.DprojRefIdeal.τ).loc Cert.DprojRefIdeal.main_arg0)
          ∧ r.2.mem ((c.tc : Thread Cert.DprojRefIdeal.nD Cert.DprojRefIdeal.τ).loc Cert.DprojRefIdeal.main_arg1) = m' ((c.tc : Thread Cert.DprojRefIdeal.nD Cert.DprojRefIdeal.τ).loc Cert.DprojRefIdeal.main_arg1)
          ∧ r.2.mem ((c.tc : Thread Cert.DprojRefIdeal.nD Cert.DprojRefIdeal.τ).loc Cert.DprojRefIdeal.main_arg2) = m' ((c.tc : Thread Cert.DprojRefIdeal.nD Cert.DprojRefIdeal.τ).loc Cert.DprojRefIdeal.main_arg2)
          ∧ r.2.mem ((c.tc : Thread Cert.DprojRefIdeal.nD Cert.DprojRefIdeal.τ).loc Cert.DprojRefIdeal.main_arg3) = m' ((c.tc : Thread Cert.DprojRefIdeal.nD Cert.DprojRefIdeal.τ).loc Cert.DprojRefIdeal.main_arg3)
          ∧ r.2.mem ((c.tc : Thread Cert.DprojRefIdeal.nD Cert.DprojRefIdeal.τ).loc Cert.DprojRefIdeal.main_arg4) = m' ((c.tc : Thread Cert.DprojRefIdeal.nD Cert.DprojRefIdeal.τ).loc Cert.DprojRefIdeal.main_arg4)
          ∧ r.2.mem ((c.tc : Thread Cert.DprojRefIdeal.nD Cert.DprojRefIdeal.τ).loc Cert.DprojRefIdeal.main_arg5) = m' ((c.tc : Thread Cert.DprojRefIdeal.nD Cert.DprojRefIdeal.τ).loc Cert.DprojRefIdeal.main_arg5)
          ∧ r.2.mem ((c.tc : Thread Cert.DprojRefIdeal.nD Cert.DprojRefIdeal.τ).loc Cert.DprojRefIdeal.main_arg6) = m' ((c.tc : Thread Cert.DprojRefIdeal.nD Cert.DprojRefIdeal.τ).loc Cert.DprojRefIdeal.main_arg6)
          ∧ r.2.mem ((c.tc : Thread Cert.DprojRefIdeal.nD Cert.DprojRefIdeal.τ).loc Cert.DprojRefIdeal.main_arg7) = m' ((c.tc : Thread Cert.DprojRefIdeal.nD Cert.DprojRefIdeal.τ).loc Cert.DprojRefIdeal.main_arg7)
          ∧ r.2.mem ((c.tc : Thread Cert.DprojRefIdeal.nD Cert.DprojRefIdeal.τ).loc Cert.DprojRefIdeal.main_arg8) = m' ((c.tc : Thread Cert.DprojRefIdeal.nD Cert.DprojRefIdeal.τ).loc Cert.DprojRefIdeal.main_arg8)
          ∧ r.2.mem ((c.tc : Thread Cert.DprojRefIdeal.nD Cert.DprojRefIdeal.τ).loc Cert.DprojRefIdeal.main_arg9) = m' ((c.tc : Thread Cert.DprojRefIdeal.nD Cert.DprojRefIdeal.τ).loc Cert.DprojRefIdeal.main_arg9))

def preserves_Dw1024_Dw1024Ideal : Prop :=
  True

def algebraic_Dw1024Ideal_Dw1024RefIdeal [hDw1024Ideal : Cert.Dw1024Ideal.Facts] [hDw1024RefIdeal : Cert.Dw1024RefIdeal.Facts] : Prop :=
  ∀ (m : (ℓ : Loc Cert.Dw1024Ideal.nD Cert.Dw1024Ideal.τ Cert.Dw1024Ideal.sig) → Buf (Elt Ideal) ℓ) (g : Dev Cert.Dw1024Ideal.nD → PrngReg)
    (m' : (ℓ : Loc Cert.Dw1024RefIdeal.nD Cert.Dw1024RefIdeal.τ Cert.Dw1024RefIdeal.sig) → Buf (Elt Ideal) ℓ) (g' : Dev Cert.Dw1024RefIdeal.nD → PrngReg), Pre_Dw1024Ideal m →
    (∀ c : Dev Cert.Dw1024Ideal.nD,
      m' ((c.tc : Thread Cert.Dw1024RefIdeal.nD Cert.Dw1024RefIdeal.τ).loc Cert.Dw1024RefIdeal.main_arg0) = m ((c.tc : Thread Cert.Dw1024Ideal.nD Cert.Dw1024Ideal.τ).loc Cert.Dw1024Ideal.main_arg0)
      ∧ m' ((c.tc : Thread Cert.Dw1024RefIdeal.nD Cert.Dw1024RefIdeal.τ).loc Cert.Dw1024RefIdeal.main_arg1) = m ((c.tc : Thread Cert.Dw1024Ideal.nD Cert.Dw1024Ideal.τ).loc Cert.Dw1024Ideal.main_arg1)
      ∧ m' ((c.tc : Thread Cert.Dw1024RefIdeal.nD Cert.Dw1024RefIdeal.τ).loc Cert.Dw1024RefIdeal.main_arg2) = m ((c.tc : Thread Cert.Dw1024Ideal.nD Cert.Dw1024Ideal.τ).loc Cert.Dw1024Ideal.main_arg2)) →
    ∃ (v0 : (c : Dev Cert.Dw1024Ideal.nD) → Buf (Elt Ideal) ((c.tc : Thread Cert.Dw1024Ideal.nD Cert.Dw1024Ideal.τ).loc Cert.Dw1024Ideal.main_v0)),
      θ_run (Cert.Dw1024Ideal.defs (F := Ideal)) (onTc (τ := Cert.Dw1024Ideal.τ) (Cert.Dw1024Ideal.main (F := Ideal))) ⟨m, fun _ => 0, g⟩ (fun r => ∀ c : Dev Cert.Dw1024Ideal.nD,
          r.2.mem ((c.tc : Thread Cert.Dw1024Ideal.nD Cert.Dw1024Ideal.τ).loc Cert.Dw1024Ideal.main_v0) = v0 c
          ∧ r.2.mem ((c.tc : Thread Cert.Dw1024Ideal.nD Cert.Dw1024Ideal.τ).loc Cert.Dw1024Ideal.main_arg0) = m ((c.tc : Thread Cert.Dw1024Ideal.nD Cert.Dw1024Ideal.τ).loc Cert.Dw1024Ideal.main_arg0)
          ∧ r.2.mem ((c.tc : Thread Cert.Dw1024Ideal.nD Cert.Dw1024Ideal.τ).loc Cert.Dw1024Ideal.main_arg1) = m ((c.tc : Thread Cert.Dw1024Ideal.nD Cert.Dw1024Ideal.τ).loc Cert.Dw1024Ideal.main_arg1)
          ∧ r.2.mem ((c.tc : Thread Cert.Dw1024Ideal.nD Cert.Dw1024Ideal.τ).loc Cert.Dw1024Ideal.main_arg2) = m ((c.tc : Thread Cert.Dw1024Ideal.nD Cert.Dw1024Ideal.τ).loc Cert.Dw1024Ideal.main_arg2))
      ∧ θ_run (Cert.Dw1024RefIdeal.defs (F := Ideal)) (onTc (τ := Cert.Dw1024RefIdeal.τ) (Cert.Dw1024RefIdeal.main (F := Ideal))) ⟨m', fun _ => 0, g'⟩ (fun r => ∀ c : Dev Cert.Dw1024RefIdeal.nD,
          r.2.mem ((c.tc : Thread Cert.Dw1024RefIdeal.nD Cert.Dw1024RefIdeal.τ).loc Cert.Dw1024RefIdeal.main_v6) = v0 c
          ∧ r.2.mem ((c.tc : Thread Cert.Dw1024RefIdeal.nD Cert.Dw1024RefIdeal.τ).loc Cert.Dw1024RefIdeal.main_arg0) = m' ((c.tc : Thread Cert.Dw1024RefIdeal.nD Cert.Dw1024RefIdeal.τ).loc Cert.Dw1024RefIdeal.main_arg0)
          ∧ r.2.mem ((c.tc : Thread Cert.Dw1024RefIdeal.nD Cert.Dw1024RefIdeal.τ).loc Cert.Dw1024RefIdeal.main_arg1) = m' ((c.tc : Thread Cert.Dw1024RefIdeal.nD Cert.Dw1024RefIdeal.τ).loc Cert.Dw1024RefIdeal.main_arg1)
          ∧ r.2.mem ((c.tc : Thread Cert.Dw1024RefIdeal.nD Cert.Dw1024RefIdeal.τ).loc Cert.Dw1024RefIdeal.main_arg2) = m' ((c.tc : Thread Cert.Dw1024RefIdeal.nD Cert.Dw1024RefIdeal.τ).loc Cert.Dw1024RefIdeal.main_arg2))

def preserves_DwSsm_DwSsmIdeal : Prop :=
  True

def algebraic_DwSsmIdeal_DwSsmRefIdeal [hDwSsmIdeal : Cert.DwSsmIdeal.Facts] [hDwSsmRefIdeal : Cert.DwSsmRefIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg)
    (m' : (ℓ : Loc Cert.DwSsmRefIdeal.nD Cert.DwSsmRefIdeal.τ Cert.DwSsmRefIdeal.sig) → Buf (Elt Ideal) ℓ) (g' : Dev Cert.DwSsmRefIdeal.nD → PrngReg), Pre_DwSsmIdeal m →
    (∀ c : Dev Cert.DwSsmIdeal.nD,
      m' ((c.tc : Thread Cert.DwSsmRefIdeal.nD Cert.DwSsmRefIdeal.τ).loc Cert.DwSsmRefIdeal.main_arg0) = m ((c.tc : Thread Cert.DwSsmIdeal.nD Cert.DwSsmIdeal.τ).loc Cert.DwSsmIdeal.main_arg0)
      ∧ m' ((c.tc : Thread Cert.DwSsmRefIdeal.nD Cert.DwSsmRefIdeal.τ).loc Cert.DwSsmRefIdeal.main_arg1) = m ((c.tc : Thread Cert.DwSsmIdeal.nD Cert.DwSsmIdeal.τ).loc Cert.DwSsmIdeal.main_arg1)
      ∧ m' ((c.tc : Thread Cert.DwSsmRefIdeal.nD Cert.DwSsmRefIdeal.τ).loc Cert.DwSsmRefIdeal.main_arg2) = m ((c.tc : Thread Cert.DwSsmIdeal.nD Cert.DwSsmIdeal.τ).loc Cert.DwSsmIdeal.main_arg2)) →
    ∃ (v0 : (c : Dev Cert.DwSsmIdeal.nD) → Buf (Elt Ideal) ((c.tc : Thread Cert.DwSsmIdeal.nD Cert.DwSsmIdeal.τ).loc Cert.DwSsmIdeal.main_v0)),
      θ_run (Cert.DwSsmIdeal.defs (F := Ideal)) (onTc (τ := Cert.DwSsmIdeal.τ) (Cert.DwSsmIdeal.main (F := Ideal))) ⟨m, fun _ => 0, g⟩ (fun r => ∀ c : Dev Cert.DwSsmIdeal.nD,
          r.2.mem ((c.tc : Thread Cert.DwSsmIdeal.nD Cert.DwSsmIdeal.τ).loc Cert.DwSsmIdeal.main_v0) = v0 c
          ∧ r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
          ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1)
          ∧ r.2.mem ((c.tc : Thread Cert.DwSsmIdeal.nD Cert.DwSsmIdeal.τ).loc Cert.DwSsmIdeal.main_arg2) = m ((c.tc : Thread Cert.DwSsmIdeal.nD Cert.DwSsmIdeal.τ).loc Cert.DwSsmIdeal.main_arg2))
      ∧ θ_run (Cert.DwSsmRefIdeal.defs (F := Ideal)) (onTc (τ := Cert.DwSsmRefIdeal.τ) (Cert.DwSsmRefIdeal.main (F := Ideal))) ⟨m', fun _ => 0, g'⟩ (fun r => ∀ c : Dev Cert.DwSsmRefIdeal.nD,
          r.2.mem ((c.tc : Thread Cert.DwSsmRefIdeal.nD Cert.DwSsmRefIdeal.τ).loc Cert.DwSsmRefIdeal.main_v6) = v0 c
          ∧ r.2.mem ((c.tc : Thread Cert.DwSsmRefIdeal.nD Cert.DwSsmRefIdeal.τ).loc Cert.DwSsmRefIdeal.main_arg0) = m' ((c.tc : Thread Cert.DwSsmRefIdeal.nD Cert.DwSsmRefIdeal.τ).loc Cert.DwSsmRefIdeal.main_arg0)
          ∧ r.2.mem ((c.tc : Thread Cert.DwSsmRefIdeal.nD Cert.DwSsmRefIdeal.τ).loc Cert.DwSsmRefIdeal.main_arg1) = m' ((c.tc : Thread Cert.DwSsmRefIdeal.nD Cert.DwSsmRefIdeal.τ).loc Cert.DwSsmRefIdeal.main_arg1)
          ∧ r.2.mem ((c.tc : Thread Cert.DwSsmRefIdeal.nD Cert.DwSsmRefIdeal.τ).loc Cert.DwSsmRefIdeal.main_arg2) = m' ((c.tc : Thread Cert.DwSsmRefIdeal.nD Cert.DwSsmRefIdeal.τ).loc Cert.DwSsmRefIdeal.main_arg2))

def preserves_Dw5120_Dw5120Ideal : Prop :=
  True

def algebraic_Dw5120Ideal_Dw5120RefIdeal [hDw5120Ideal : Cert.Dw5120Ideal.Facts] [hDw5120RefIdeal : Cert.Dw5120RefIdeal.Facts] : Prop :=
  ∀ (m : (ℓ : Loc Cert.Dw5120Ideal.nD Cert.Dw5120Ideal.τ Cert.Dw5120Ideal.sig) → Buf (Elt Ideal) ℓ) (g : Dev Cert.Dw5120Ideal.nD → PrngReg)
    (m' : (ℓ : Loc Cert.Dw5120RefIdeal.nD Cert.Dw5120RefIdeal.τ Cert.Dw5120RefIdeal.sig) → Buf (Elt Ideal) ℓ) (g' : Dev Cert.Dw5120RefIdeal.nD → PrngReg), Pre_Dw5120Ideal m →
    (∀ c : Dev Cert.Dw5120Ideal.nD,
      m' ((c.tc : Thread Cert.Dw5120RefIdeal.nD Cert.Dw5120RefIdeal.τ).loc Cert.Dw5120RefIdeal.main_arg0) = m ((c.tc : Thread Cert.Dw5120Ideal.nD Cert.Dw5120Ideal.τ).loc Cert.Dw5120Ideal.main_arg0)
      ∧ m' ((c.tc : Thread Cert.Dw5120RefIdeal.nD Cert.Dw5120RefIdeal.τ).loc Cert.Dw5120RefIdeal.main_arg1) = m ((c.tc : Thread Cert.Dw5120Ideal.nD Cert.Dw5120Ideal.τ).loc Cert.Dw5120Ideal.main_arg1)
      ∧ m' ((c.tc : Thread Cert.Dw5120RefIdeal.nD Cert.Dw5120RefIdeal.τ).loc Cert.Dw5120RefIdeal.main_arg2) = m ((c.tc : Thread Cert.Dw5120Ideal.nD Cert.Dw5120Ideal.τ).loc Cert.Dw5120Ideal.main_arg2)) →
    ∃ (v0 : (c : Dev Cert.Dw5120Ideal.nD) → Buf (Elt Ideal) ((c.tc : Thread Cert.Dw5120Ideal.nD Cert.Dw5120Ideal.τ).loc Cert.Dw5120Ideal.main_v0)),
      θ_run (Cert.Dw5120Ideal.defs (F := Ideal)) (onTc (τ := Cert.Dw5120Ideal.τ) (Cert.Dw5120Ideal.main (F := Ideal))) ⟨m, fun _ => 0, g⟩ (fun r => ∀ c : Dev Cert.Dw5120Ideal.nD,
          r.2.mem ((c.tc : Thread Cert.Dw5120Ideal.nD Cert.Dw5120Ideal.τ).loc Cert.Dw5120Ideal.main_v0) = v0 c
          ∧ r.2.mem ((c.tc : Thread Cert.Dw5120Ideal.nD Cert.Dw5120Ideal.τ).loc Cert.Dw5120Ideal.main_arg0) = m ((c.tc : Thread Cert.Dw5120Ideal.nD Cert.Dw5120Ideal.τ).loc Cert.Dw5120Ideal.main_arg0)
          ∧ r.2.mem ((c.tc : Thread Cert.Dw5120Ideal.nD Cert.Dw5120Ideal.τ).loc Cert.Dw5120Ideal.main_arg1) = m ((c.tc : Thread Cert.Dw5120Ideal.nD Cert.Dw5120Ideal.τ).loc Cert.Dw5120Ideal.main_arg1)
          ∧ r.2.mem ((c.tc : Thread Cert.Dw5120Ideal.nD Cert.Dw5120Ideal.τ).loc Cert.Dw5120Ideal.main_arg2) = m ((c.tc : Thread Cert.Dw5120Ideal.nD Cert.Dw5120Ideal.τ).loc Cert.Dw5120Ideal.main_arg2))
      ∧ θ_run (Cert.Dw5120RefIdeal.defs (F := Ideal)) (onTc (τ := Cert.Dw5120RefIdeal.τ) (Cert.Dw5120RefIdeal.main (F := Ideal))) ⟨m', fun _ => 0, g'⟩ (fun r => ∀ c : Dev Cert.Dw5120RefIdeal.nD,
          r.2.mem ((c.tc : Thread Cert.Dw5120RefIdeal.nD Cert.Dw5120RefIdeal.τ).loc Cert.Dw5120RefIdeal.main_v6) = v0 c
          ∧ r.2.mem ((c.tc : Thread Cert.Dw5120RefIdeal.nD Cert.Dw5120RefIdeal.τ).loc Cert.Dw5120RefIdeal.main_arg0) = m' ((c.tc : Thread Cert.Dw5120RefIdeal.nD Cert.Dw5120RefIdeal.τ).loc Cert.Dw5120RefIdeal.main_arg0)
          ∧ r.2.mem ((c.tc : Thread Cert.Dw5120RefIdeal.nD Cert.Dw5120RefIdeal.τ).loc Cert.Dw5120RefIdeal.main_arg1) = m' ((c.tc : Thread Cert.Dw5120RefIdeal.nD Cert.Dw5120RefIdeal.τ).loc Cert.Dw5120RefIdeal.main_arg1)
          ∧ r.2.mem ((c.tc : Thread Cert.Dw5120RefIdeal.nD Cert.Dw5120RefIdeal.τ).loc Cert.Dw5120RefIdeal.main_arg2) = m' ((c.tc : Thread Cert.Dw5120RefIdeal.nD Cert.Dw5120RefIdeal.τ).loc Cert.Dw5120RefIdeal.main_arg2))

def preserves_Dw3072_Dw3072Ideal : Prop :=
  True

def algebraic_Dw3072Ideal_Dw3072RefIdeal [hDw3072Ideal : Cert.Dw3072Ideal.Facts] [hDw3072RefIdeal : Cert.Dw3072RefIdeal.Facts] : Prop :=
  ∀ (m : (ℓ : Loc Cert.Dw3072Ideal.nD Cert.Dw3072Ideal.τ Cert.Dw3072Ideal.sig) → Buf (Elt Ideal) ℓ) (g : Dev Cert.Dw3072Ideal.nD → PrngReg)
    (m' : (ℓ : Loc Cert.Dw3072RefIdeal.nD Cert.Dw3072RefIdeal.τ Cert.Dw3072RefIdeal.sig) → Buf (Elt Ideal) ℓ) (g' : Dev Cert.Dw3072RefIdeal.nD → PrngReg), Pre_Dw3072Ideal m →
    (∀ c : Dev Cert.Dw3072Ideal.nD,
      m' ((c.tc : Thread Cert.Dw3072RefIdeal.nD Cert.Dw3072RefIdeal.τ).loc Cert.Dw3072RefIdeal.main_arg0) = m ((c.tc : Thread Cert.Dw3072Ideal.nD Cert.Dw3072Ideal.τ).loc Cert.Dw3072Ideal.main_arg0)
      ∧ m' ((c.tc : Thread Cert.Dw3072RefIdeal.nD Cert.Dw3072RefIdeal.τ).loc Cert.Dw3072RefIdeal.main_arg1) = m ((c.tc : Thread Cert.Dw3072Ideal.nD Cert.Dw3072Ideal.τ).loc Cert.Dw3072Ideal.main_arg1)
      ∧ m' ((c.tc : Thread Cert.Dw3072RefIdeal.nD Cert.Dw3072RefIdeal.τ).loc Cert.Dw3072RefIdeal.main_arg2) = m ((c.tc : Thread Cert.Dw3072Ideal.nD Cert.Dw3072Ideal.τ).loc Cert.Dw3072Ideal.main_arg2)) →
    ∃ (v0 : (c : Dev Cert.Dw3072Ideal.nD) → Buf (Elt Ideal) ((c.tc : Thread Cert.Dw3072Ideal.nD Cert.Dw3072Ideal.τ).loc Cert.Dw3072Ideal.main_v0)),
      θ_run (Cert.Dw3072Ideal.defs (F := Ideal)) (onTc (τ := Cert.Dw3072Ideal.τ) (Cert.Dw3072Ideal.main (F := Ideal))) ⟨m, fun _ => 0, g⟩ (fun r => ∀ c : Dev Cert.Dw3072Ideal.nD,
          r.2.mem ((c.tc : Thread Cert.Dw3072Ideal.nD Cert.Dw3072Ideal.τ).loc Cert.Dw3072Ideal.main_v0) = v0 c
          ∧ r.2.mem ((c.tc : Thread Cert.Dw3072Ideal.nD Cert.Dw3072Ideal.τ).loc Cert.Dw3072Ideal.main_arg0) = m ((c.tc : Thread Cert.Dw3072Ideal.nD Cert.Dw3072Ideal.τ).loc Cert.Dw3072Ideal.main_arg0)
          ∧ r.2.mem ((c.tc : Thread Cert.Dw3072Ideal.nD Cert.Dw3072Ideal.τ).loc Cert.Dw3072Ideal.main_arg1) = m ((c.tc : Thread Cert.Dw3072Ideal.nD Cert.Dw3072Ideal.τ).loc Cert.Dw3072Ideal.main_arg1)
          ∧ r.2.mem ((c.tc : Thread Cert.Dw3072Ideal.nD Cert.Dw3072Ideal.τ).loc Cert.Dw3072Ideal.main_arg2) = m ((c.tc : Thread Cert.Dw3072Ideal.nD Cert.Dw3072Ideal.τ).loc Cert.Dw3072Ideal.main_arg2))
      ∧ θ_run (Cert.Dw3072RefIdeal.defs (F := Ideal)) (onTc (τ := Cert.Dw3072RefIdeal.τ) (Cert.Dw3072RefIdeal.main (F := Ideal))) ⟨m', fun _ => 0, g'⟩ (fun r => ∀ c : Dev Cert.Dw3072RefIdeal.nD,
          r.2.mem ((c.tc : Thread Cert.Dw3072RefIdeal.nD Cert.Dw3072RefIdeal.τ).loc Cert.Dw3072RefIdeal.main_v6) = v0 c
          ∧ r.2.mem ((c.tc : Thread Cert.Dw3072RefIdeal.nD Cert.Dw3072RefIdeal.τ).loc Cert.Dw3072RefIdeal.main_arg0) = m' ((c.tc : Thread Cert.Dw3072RefIdeal.nD Cert.Dw3072RefIdeal.τ).loc Cert.Dw3072RefIdeal.main_arg0)
          ∧ r.2.mem ((c.tc : Thread Cert.Dw3072RefIdeal.nD Cert.Dw3072RefIdeal.τ).loc Cert.Dw3072RefIdeal.main_arg1) = m' ((c.tc : Thread Cert.Dw3072RefIdeal.nD Cert.Dw3072RefIdeal.τ).loc Cert.Dw3072RefIdeal.main_arg1)
          ∧ r.2.mem ((c.tc : Thread Cert.Dw3072RefIdeal.nD Cert.Dw3072RefIdeal.τ).loc Cert.Dw3072RefIdeal.main_arg2) = m' ((c.tc : Thread Cert.Dw3072RefIdeal.nD Cert.Dw3072RefIdeal.τ).loc Cert.Dw3072RefIdeal.main_arg2))

def preserves_Dw512_Dw512Ideal : Prop :=
  True

def algebraic_Dw512Ideal_Dw512RefIdeal [hDw512Ideal : Cert.Dw512Ideal.Facts] [hDw512RefIdeal : Cert.Dw512RefIdeal.Facts] : Prop :=
  ∀ (m : (ℓ : Loc Cert.Dw512Ideal.nD Cert.Dw512Ideal.τ Cert.Dw512Ideal.sig) → Buf (Elt Ideal) ℓ) (g : Dev Cert.Dw512Ideal.nD → PrngReg)
    (m' : (ℓ : Loc Cert.Dw512RefIdeal.nD Cert.Dw512RefIdeal.τ Cert.Dw512RefIdeal.sig) → Buf (Elt Ideal) ℓ) (g' : Dev Cert.Dw512RefIdeal.nD → PrngReg), Pre_Dw512Ideal m →
    (∀ c : Dev Cert.Dw512Ideal.nD,
      m' ((c.tc : Thread Cert.Dw512RefIdeal.nD Cert.Dw512RefIdeal.τ).loc Cert.Dw512RefIdeal.main_arg0) = m ((c.tc : Thread Cert.Dw512Ideal.nD Cert.Dw512Ideal.τ).loc Cert.Dw512Ideal.main_arg0)
      ∧ m' ((c.tc : Thread Cert.Dw512RefIdeal.nD Cert.Dw512RefIdeal.τ).loc Cert.Dw512RefIdeal.main_arg1) = m ((c.tc : Thread Cert.Dw512Ideal.nD Cert.Dw512Ideal.τ).loc Cert.Dw512Ideal.main_arg1)
      ∧ m' ((c.tc : Thread Cert.Dw512RefIdeal.nD Cert.Dw512RefIdeal.τ).loc Cert.Dw512RefIdeal.main_arg2) = m ((c.tc : Thread Cert.Dw512Ideal.nD Cert.Dw512Ideal.τ).loc Cert.Dw512Ideal.main_arg2)) →
    ∃ (v0 : (c : Dev Cert.Dw512Ideal.nD) → Buf (Elt Ideal) ((c.tc : Thread Cert.Dw512Ideal.nD Cert.Dw512Ideal.τ).loc Cert.Dw512Ideal.main_v0)),
      θ_run (Cert.Dw512Ideal.defs (F := Ideal)) (onTc (τ := Cert.Dw512Ideal.τ) (Cert.Dw512Ideal.main (F := Ideal))) ⟨m, fun _ => 0, g⟩ (fun r => ∀ c : Dev Cert.Dw512Ideal.nD,
          r.2.mem ((c.tc : Thread Cert.Dw512Ideal.nD Cert.Dw512Ideal.τ).loc Cert.Dw512Ideal.main_v0) = v0 c
          ∧ r.2.mem ((c.tc : Thread Cert.Dw512Ideal.nD Cert.Dw512Ideal.τ).loc Cert.Dw512Ideal.main_arg0) = m ((c.tc : Thread Cert.Dw512Ideal.nD Cert.Dw512Ideal.τ).loc Cert.Dw512Ideal.main_arg0)
          ∧ r.2.mem ((c.tc : Thread Cert.Dw512Ideal.nD Cert.Dw512Ideal.τ).loc Cert.Dw512Ideal.main_arg1) = m ((c.tc : Thread Cert.Dw512Ideal.nD Cert.Dw512Ideal.τ).loc Cert.Dw512Ideal.main_arg1)
          ∧ r.2.mem ((c.tc : Thread Cert.Dw512Ideal.nD Cert.Dw512Ideal.τ).loc Cert.Dw512Ideal.main_arg2) = m ((c.tc : Thread Cert.Dw512Ideal.nD Cert.Dw512Ideal.τ).loc Cert.Dw512Ideal.main_arg2))
      ∧ θ_run (Cert.Dw512RefIdeal.defs (F := Ideal)) (onTc (τ := Cert.Dw512RefIdeal.τ) (Cert.Dw512RefIdeal.main (F := Ideal))) ⟨m', fun _ => 0, g'⟩ (fun r => ∀ c : Dev Cert.Dw512RefIdeal.nD,
          r.2.mem ((c.tc : Thread Cert.Dw512RefIdeal.nD Cert.Dw512RefIdeal.τ).loc Cert.Dw512RefIdeal.main_v6) = v0 c
          ∧ r.2.mem ((c.tc : Thread Cert.Dw512RefIdeal.nD Cert.Dw512RefIdeal.τ).loc Cert.Dw512RefIdeal.main_arg0) = m' ((c.tc : Thread Cert.Dw512RefIdeal.nD Cert.Dw512RefIdeal.τ).loc Cert.Dw512RefIdeal.main_arg0)
          ∧ r.2.mem ((c.tc : Thread Cert.Dw512RefIdeal.nD Cert.Dw512RefIdeal.τ).loc Cert.Dw512RefIdeal.main_arg1) = m' ((c.tc : Thread Cert.Dw512RefIdeal.nD Cert.Dw512RefIdeal.τ).loc Cert.Dw512RefIdeal.main_arg1)
          ∧ r.2.mem ((c.tc : Thread Cert.Dw512RefIdeal.nD Cert.Dw512RefIdeal.τ).loc Cert.Dw512RefIdeal.main_arg2) = m' ((c.tc : Thread Cert.Dw512RefIdeal.nD Cert.Dw512RefIdeal.τ).loc Cert.Dw512RefIdeal.main_arg2))

def preserves_Dw128_Dw128Ideal : Prop :=
  True

def algebraic_Dw128Ideal_Dw128RefIdeal [hDw128Ideal : Cert.Dw128Ideal.Facts] [hDw128RefIdeal : Cert.Dw128RefIdeal.Facts] : Prop :=
  ∀ (m : (ℓ : Loc Cert.Dw128Ideal.nD Cert.Dw128Ideal.τ Cert.Dw128Ideal.sig) → Buf (Elt Ideal) ℓ) (g : Dev Cert.Dw128Ideal.nD → PrngReg)
    (m' : (ℓ : Loc Cert.Dw128RefIdeal.nD Cert.Dw128RefIdeal.τ Cert.Dw128RefIdeal.sig) → Buf (Elt Ideal) ℓ) (g' : Dev Cert.Dw128RefIdeal.nD → PrngReg), Pre_Dw128Ideal m →
    (∀ c : Dev Cert.Dw128Ideal.nD,
      m' ((c.tc : Thread Cert.Dw128RefIdeal.nD Cert.Dw128RefIdeal.τ).loc Cert.Dw128RefIdeal.main_arg0) = m ((c.tc : Thread Cert.Dw128Ideal.nD Cert.Dw128Ideal.τ).loc Cert.Dw128Ideal.main_arg0)
      ∧ m' ((c.tc : Thread Cert.Dw128RefIdeal.nD Cert.Dw128RefIdeal.τ).loc Cert.Dw128RefIdeal.main_arg1) = m ((c.tc : Thread Cert.Dw128Ideal.nD Cert.Dw128Ideal.τ).loc Cert.Dw128Ideal.main_arg1)
      ∧ m' ((c.tc : Thread Cert.Dw128RefIdeal.nD Cert.Dw128RefIdeal.τ).loc Cert.Dw128RefIdeal.main_arg2) = m ((c.tc : Thread Cert.Dw128Ideal.nD Cert.Dw128Ideal.τ).loc Cert.Dw128Ideal.main_arg2)) →
    ∃ (v0 : (c : Dev Cert.Dw128Ideal.nD) → Buf (Elt Ideal) ((c.tc : Thread Cert.Dw128Ideal.nD Cert.Dw128Ideal.τ).loc Cert.Dw128Ideal.main_v0)),
      θ_run (Cert.Dw128Ideal.defs (F := Ideal)) (onTc (τ := Cert.Dw128Ideal.τ) (Cert.Dw128Ideal.main (F := Ideal))) ⟨m, fun _ => 0, g⟩ (fun r => ∀ c : Dev Cert.Dw128Ideal.nD,
          r.2.mem ((c.tc : Thread Cert.Dw128Ideal.nD Cert.Dw128Ideal.τ).loc Cert.Dw128Ideal.main_v0) = v0 c
          ∧ r.2.mem ((c.tc : Thread Cert.Dw128Ideal.nD Cert.Dw128Ideal.τ).loc Cert.Dw128Ideal.main_arg0) = m ((c.tc : Thread Cert.Dw128Ideal.nD Cert.Dw128Ideal.τ).loc Cert.Dw128Ideal.main_arg0)
          ∧ r.2.mem ((c.tc : Thread Cert.Dw128Ideal.nD Cert.Dw128Ideal.τ).loc Cert.Dw128Ideal.main_arg1) = m ((c.tc : Thread Cert.Dw128Ideal.nD Cert.Dw128Ideal.τ).loc Cert.Dw128Ideal.main_arg1)
          ∧ r.2.mem ((c.tc : Thread Cert.Dw128Ideal.nD Cert.Dw128Ideal.τ).loc Cert.Dw128Ideal.main_arg2) = m ((c.tc : Thread Cert.Dw128Ideal.nD Cert.Dw128Ideal.τ).loc Cert.Dw128Ideal.main_arg2))
      ∧ θ_run (Cert.Dw128RefIdeal.defs (F := Ideal)) (onTc (τ := Cert.Dw128RefIdeal.τ) (Cert.Dw128RefIdeal.main (F := Ideal))) ⟨m', fun _ => 0, g'⟩ (fun r => ∀ c : Dev Cert.Dw128RefIdeal.nD,
          r.2.mem ((c.tc : Thread Cert.Dw128RefIdeal.nD Cert.Dw128RefIdeal.τ).loc Cert.Dw128RefIdeal.main_v6) = v0 c
          ∧ r.2.mem ((c.tc : Thread Cert.Dw128RefIdeal.nD Cert.Dw128RefIdeal.τ).loc Cert.Dw128RefIdeal.main_arg0) = m' ((c.tc : Thread Cert.Dw128RefIdeal.nD Cert.Dw128RefIdeal.τ).loc Cert.Dw128RefIdeal.main_arg0)
          ∧ r.2.mem ((c.tc : Thread Cert.Dw128RefIdeal.nD Cert.Dw128RefIdeal.τ).loc Cert.Dw128RefIdeal.main_arg1) = m' ((c.tc : Thread Cert.Dw128RefIdeal.nD Cert.Dw128RefIdeal.τ).loc Cert.Dw128RefIdeal.main_arg1)
          ∧ r.2.mem ((c.tc : Thread Cert.Dw128RefIdeal.nD Cert.Dw128RefIdeal.τ).loc Cert.Dw128RefIdeal.main_arg2) = m' ((c.tc : Thread Cert.Dw128RefIdeal.nD Cert.Dw128RefIdeal.τ).loc Cert.Dw128RefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v20) = v0 c
          ∧ r.2.mem ((c.tc : Thread Cert.NormRefIdeal.nD Cert.NormRefIdeal.τ).loc Cert.NormRefIdeal.main_v21) = v1 c
          ∧ r.2.mem ((c.tc : Thread Cert.NormRefIdeal.nD Cert.NormRefIdeal.τ).loc Cert.NormRefIdeal.main_v23) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v29_0)) (v1 : (c : Dev Cert.ConvIdeal.nD) → Buf (Elt Ideal) ((c.tc : Thread Cert.ConvIdeal.nD Cert.ConvIdeal.τ).loc Cert.ConvIdeal.main_v29_1)) (v2 : (c : Dev Cert.ConvIdeal.nD) → Buf (Elt Ideal) ((c.tc : Thread Cert.ConvIdeal.nD Cert.ConvIdeal.τ).loc Cert.ConvIdeal.main_v29_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v29_0) = v0 c
          ∧ r.2.mem ((c.tc : Thread Cert.ConvIdeal.nD Cert.ConvIdeal.τ).loc Cert.ConvIdeal.main_v29_1) = v1 c
          ∧ r.2.mem ((c.tc : Thread Cert.ConvIdeal.nD Cert.ConvIdeal.τ).loc Cert.ConvIdeal.main_v29_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_v63) = v1 c
          ∧ r.2.mem ((c.tc : Thread Cert.ConvRefIdeal.nD Cert.ConvRefIdeal.τ).loc Cert.ConvRefIdeal.main_v29) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v25_0) = v0 c
          ∧ r.2.mem ((c.tc : Thread Cert.ConvFwdRefIdeal.nD Cert.ConvFwdRefIdeal.τ).loc Cert.ConvFwdRefIdeal.main_v28) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v4) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v3) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSsm_AdamSsmIdeal : Prop :=
  True

def algebraic_AdamSsmIdeal_AdamSsmRefIdeal [hAdamSsmIdeal : Cert.AdamSsmIdeal.Facts] [hAdamSsmRefIdeal : Cert.AdamSsmRefIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg)
    (m' : (ℓ : Loc Cert.AdamSsmRefIdeal.nD Cert.AdamSsmRefIdeal.τ Cert.AdamSsmRefIdeal.sig) → Buf (Elt Ideal) ℓ) (g' : Dev Cert.AdamSsmRefIdeal.nD → PrngReg), Pre_AdamSsmIdeal m →
    (∀ c : Dev Cert.AdamSsmIdeal.nD,
      m' ((c.tc : Thread Cert.AdamSsmRefIdeal.nD Cert.AdamSsmRefIdeal.τ).loc Cert.AdamSsmRefIdeal.main_arg0) = m ((c.tc : Thread Cert.AdamSsmIdeal.nD Cert.AdamSsmIdeal.τ).loc Cert.AdamSsmIdeal.main_arg0)
      ∧ m' ((c.tc : Thread Cert.AdamSsmRefIdeal.nD Cert.AdamSsmRefIdeal.τ).loc Cert.AdamSsmRefIdeal.main_arg1) = m ((c.tc : Thread Cert.AdamSsmIdeal.nD Cert.AdamSsmIdeal.τ).loc Cert.AdamSsmIdeal.main_arg1)
      ∧ m' ((c.tc : Thread Cert.AdamSsmRefIdeal.nD Cert.AdamSsmRefIdeal.τ).loc Cert.AdamSsmRefIdeal.main_arg2) = m ((c.tc : Thread Cert.AdamSsmIdeal.nD Cert.AdamSsmIdeal.τ).loc Cert.AdamSsmIdeal.main_arg2)
      ∧ m' ((c.tc : Thread Cert.AdamSsmRefIdeal.nD Cert.AdamSsmRefIdeal.τ).loc Cert.AdamSsmRefIdeal.main_arg3) = m ((c.tc : Thread Cert.AdamSsmIdeal.nD Cert.AdamSsmIdeal.τ).loc Cert.AdamSsmIdeal.main_arg3)) →
    ∃ (v0 : (c : Dev Cert.AdamSsmIdeal.nD) → Buf (Elt Ideal) ((c.tc : Thread Cert.AdamSsmIdeal.nD Cert.AdamSsmIdeal.τ).loc Cert.AdamSsmIdeal.main_v0_0)) (v1 : (c : Dev Cert.AdamSsmIdeal.nD) → Buf (Elt Ideal) ((c.tc : Thread Cert.AdamSsmIdeal.nD Cert.AdamSsmIdeal.τ).loc Cert.AdamSsmIdeal.main_v0_1)) (v2 : (c : Dev Cert.AdamSsmIdeal.nD) → Buf (Elt Ideal) ((c.tc : Thread Cert.AdamSsmIdeal.nD Cert.AdamSsmIdeal.τ).loc Cert.AdamSsmIdeal.main_v0_2)),
      θ_run (Cert.AdamSsmIdeal.defs (F := Ideal)) (onTc (τ := Cert.AdamSsmIdeal.τ) (Cert.AdamSsmIdeal.main (F := Ideal))) ⟨m, fun _ => 0, g⟩ (fun r => ∀ c : Dev Cert.AdamSsmIdeal.nD,
          r.2.mem ((c.tc : Thread Cert.AdamSsmIdeal.nD Cert.AdamSsmIdeal.τ).loc Cert.AdamSsmIdeal.main_v0_0) = v0 c
          ∧ r.2.mem ((c.tc : Thread Cert.AdamSsmIdeal.nD Cert.AdamSsmIdeal.τ).loc Cert.AdamSsmIdeal.main_v0_1) = v1 c
          ∧ r.2.mem ((c.tc : Thread Cert.AdamSsmIdeal.nD Cert.AdamSsmIdeal.τ).loc Cert.AdamSsmIdeal.main_v0_2) = v2 c
          ∧ r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
          ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
          ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
          ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ θ_run (Cert.AdamSsmRefIdeal.defs (F := Ideal)) (onTc (τ := Cert.AdamSsmRefIdeal.τ) (Cert.AdamSsmRefIdeal.main (F := Ideal))) ⟨m', fun _ => 0, g'⟩ (fun r => ∀ c : Dev Cert.AdamSsmRefIdeal.nD,
          r.2.mem ((c.tc : Thread Cert.AdamSsmRefIdeal.nD Cert.AdamSsmRefIdeal.τ).loc Cert.AdamSsmRefIdeal.main_v23) = v0 c
          ∧ r.2.mem ((c.tc : Thread Cert.AdamSsmRefIdeal.nD Cert.AdamSsmRefIdeal.τ).loc Cert.AdamSsmRefIdeal.main_v4) = v1 c
          ∧ r.2.mem ((c.tc : Thread Cert.AdamSsmRefIdeal.nD Cert.AdamSsmRefIdeal.τ).loc Cert.AdamSsmRefIdeal.main_v10) = v2 c
          ∧ r.2.mem ((c.tc : Thread Cert.AdamSsmRefIdeal.nD Cert.AdamSsmRefIdeal.τ).loc Cert.AdamSsmRefIdeal.main_arg0) = m' ((c.tc : Thread Cert.AdamSsmRefIdeal.nD Cert.AdamSsmRefIdeal.τ).loc Cert.AdamSsmRefIdeal.main_arg0)
          ∧ r.2.mem ((c.tc : Thread Cert.AdamSsmRefIdeal.nD Cert.AdamSsmRefIdeal.τ).loc Cert.AdamSsmRefIdeal.main_arg1) = m' ((c.tc : Thread Cert.AdamSsmRefIdeal.nD Cert.AdamSsmRefIdeal.τ).loc Cert.AdamSsmRefIdeal.main_arg1)
          ∧ r.2.mem ((c.tc : Thread Cert.AdamSsmRefIdeal.nD Cert.AdamSsmRefIdeal.τ).loc Cert.AdamSsmRefIdeal.main_arg2) = m' ((c.tc : Thread Cert.AdamSsmRefIdeal.nD Cert.AdamSsmRefIdeal.τ).loc Cert.AdamSsmRefIdeal.main_arg2)
          ∧ r.2.mem ((c.tc : Thread Cert.AdamSsmRefIdeal.nD Cert.AdamSsmRefIdeal.τ).loc Cert.AdamSsmRefIdeal.main_arg3) = m' ((c.tc : Thread Cert.AdamSsmRefIdeal.nD Cert.AdamSsmRefIdeal.τ).loc Cert.AdamSsmRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def preserves_Attn_AttnIdeal : Prop :=
  True

def algebraic_AttnIdeal_AttnRefIdeal_pre_attn_masked [hAttnIdeal : Cert.AttnIdeal.Facts] [hAttnRefIdeal : Cert.AttnRefIdeal.Facts] [hPre_attn_masked : Cert.Pre_attn_masked.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_masked m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v83) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hDproj : Cert.Dproj.Facts) (hDprojIdeal : Cert.DprojIdeal.Facts) (hDprojRefIdeal : Cert.DprojRefIdeal.Facts) (hDw1024 : Cert.Dw1024.Facts) (hDw1024Ideal : Cert.Dw1024Ideal.Facts) (hDw1024RefIdeal : Cert.Dw1024RefIdeal.Facts) (hDwSsm : Cert.DwSsm.Facts) (hDwSsmIdeal : Cert.DwSsmIdeal.Facts) (hDwSsmRefIdeal : Cert.DwSsmRefIdeal.Facts) (hDw5120 : Cert.Dw5120.Facts) (hDw5120Ideal : Cert.Dw5120Ideal.Facts) (hDw5120RefIdeal : Cert.Dw5120RefIdeal.Facts) (hDw3072 : Cert.Dw3072.Facts) (hDw3072Ideal : Cert.Dw3072Ideal.Facts) (hDw3072RefIdeal : Cert.Dw3072RefIdeal.Facts) (hDw512 : Cert.Dw512.Facts) (hDw512Ideal : Cert.Dw512Ideal.Facts) (hDw512RefIdeal : Cert.Dw512RefIdeal.Facts) (hDw128 : Cert.Dw128.Facts) (hDw128Ideal : Cert.Dw128Ideal.Facts) (hDw128RefIdeal : Cert.Dw128RefIdeal.Facts) (hNorm : Cert.Norm.Facts) (hNormIdeal : Cert.NormIdeal.Facts) (hNormRefIdeal : Cert.NormRefIdeal.Facts) (hConv : Cert.Conv.Facts) (hConvIdeal : Cert.ConvIdeal.Facts) (hConvRefIdeal : Cert.ConvRefIdeal.Facts) (hConvFwd : Cert.ConvFwd.Facts) (hConvFwdIdeal : Cert.ConvFwdIdeal.Facts) (hConvFwdRefIdeal : Cert.ConvFwdRefIdeal.Facts) (hAdaGrad : Cert.AdaGrad.Facts) (hAdaGradIdeal : Cert.AdaGradIdeal.Facts) (hAdaGradRefIdeal : Cert.AdaGradRefIdeal.Facts) (hAdaMod : Cert.AdaMod.Facts) (hAdaModIdeal : Cert.AdaModIdeal.Facts) (hAdaModRefIdeal : Cert.AdaModRefIdeal.Facts) (hAdamAda : Cert.AdamAda.Facts) (hAdamAdaIdeal : Cert.AdamAdaIdeal.Facts) (hAdamAdaRefIdeal : Cert.AdamAdaRefIdeal.Facts) (hAdamConv : Cert.AdamConv.Facts) (hAdamConvIdeal : Cert.AdamConvIdeal.Facts) (hAdamConvRefIdeal : Cert.AdamConvRefIdeal.Facts) (hAdamProj : Cert.AdamProj.Facts) (hAdamProjIdeal : Cert.AdamProjIdeal.Facts) (hAdamProjRefIdeal : Cert.AdamProjRefIdeal.Facts) (hAdamSsm : Cert.AdamSsm.Facts) (hAdamSsmIdeal : Cert.AdamSsmIdeal.Facts) (hAdamSsmRefIdeal : Cert.AdamSsmRefIdeal.Facts) (hAdamSmall : Cert.AdamSmall.Facts) (hAdamSmallIdeal : Cert.AdamSmallIdeal.Facts) (hAdamSmallRefIdeal : Cert.AdamSmallRefIdeal.Facts) (hSumDev : Cert.SumDev.Facts) (hSumDevIdeal : Cert.SumDevIdeal.Facts) (hSumDevRefIdeal : Cert.SumDevRefIdeal.Facts) (hAttn : Cert.Attn.Facts) (hAttnIdeal : Cert.AttnIdeal.Facts) (hAttnRefIdeal : Cert.AttnRefIdeal.Facts) (hPre_finite : Cert.Pre_finite.Facts) (hPre_dproj_finite : Cert.Pre_dproj_finite.Facts) (hPre_conv_finite : Cert.Pre_conv_finite.Facts) (hPre_attn_masked : Cert.Pre_attn_masked.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dproj (hDproj := hDproj)
    ∧ quiescent_DprojIdeal (hDprojIdeal := hDprojIdeal)
    ∧ quiescent_DprojIdeal_pre_dproj_finite (hDprojIdeal := hDprojIdeal) (hPre_dproj_finite := hPre_dproj_finite)
    ∧ quiescent_DprojRefIdeal (hDprojRefIdeal := hDprojRefIdeal)
    ∧ quiescent_DprojRefIdeal_pre_dproj_finite (hDprojRefIdeal := hDprojRefIdeal) (hPre_dproj_finite := hPre_dproj_finite)
    ∧ quiescent_Dw1024 (hDw1024 := hDw1024)
    ∧ quiescent_Dw1024Ideal (hDw1024Ideal := hDw1024Ideal)
    ∧ quiescent_Dw1024RefIdeal (hDw1024RefIdeal := hDw1024RefIdeal)
    ∧ quiescent_DwSsm (hDwSsm := hDwSsm)
    ∧ quiescent_DwSsmIdeal (hDwSsmIdeal := hDwSsmIdeal)
    ∧ quiescent_DwSsmRefIdeal (hDwSsmRefIdeal := hDwSsmRefIdeal)
    ∧ quiescent_Dw5120 (hDw5120 := hDw5120)
    ∧ quiescent_Dw5120Ideal (hDw5120Ideal := hDw5120Ideal)
    ∧ quiescent_Dw5120RefIdeal (hDw5120RefIdeal := hDw5120RefIdeal)
    ∧ quiescent_Dw3072 (hDw3072 := hDw3072)
    ∧ quiescent_Dw3072Ideal (hDw3072Ideal := hDw3072Ideal)
    ∧ quiescent_Dw3072RefIdeal (hDw3072RefIdeal := hDw3072RefIdeal)
    ∧ quiescent_Dw512 (hDw512 := hDw512)
    ∧ quiescent_Dw512Ideal (hDw512Ideal := hDw512Ideal)
    ∧ quiescent_Dw512RefIdeal (hDw512RefIdeal := hDw512RefIdeal)
    ∧ quiescent_Dw128 (hDw128 := hDw128)
    ∧ quiescent_Dw128Ideal (hDw128Ideal := hDw128Ideal)
    ∧ quiescent_Dw128RefIdeal (hDw128RefIdeal := hDw128RefIdeal)
    ∧ quiescent_Norm (hNorm := hNorm)
    ∧ quiescent_NormIdeal (hNormIdeal := hNormIdeal)
    ∧ quiescent_NormRefIdeal (hNormRefIdeal := hNormRefIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSsm (hAdamSsm := hAdamSsm)
    ∧ quiescent_AdamSsmIdeal (hAdamSsmIdeal := hAdamSsmIdeal)
    ∧ quiescent_AdamSsmRefIdeal (hAdamSsmRefIdeal := hAdamSsmRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_Attn (hAttn := hAttn)
    ∧ quiescent_AttnIdeal (hAttnIdeal := hAttnIdeal)
    ∧ quiescent_AttnIdeal_pre_attn_masked (hAttnIdeal := hAttnIdeal) (hPre_attn_masked := hPre_attn_masked)
    ∧ quiescent_AttnRefIdeal (hAttnRefIdeal := hAttnRefIdeal)
    ∧ quiescent_AttnRefIdeal_pre_attn_masked (hAttnRefIdeal := hAttnRefIdeal) (hPre_attn_masked := hPre_attn_masked)
    ∧ preserves_Kernel_KernelIdeal
    ∧ algebraic_KernelIdeal_ReferenceIdeal_pre_finite (hKernelIdeal := hKernelIdeal) (hReferenceIdeal := hReferenceIdeal) (hPre_finite := hPre_finite)
    ∧ preserves_Dproj_DprojIdeal
    ∧ algebraic_DprojIdeal_DprojRefIdeal_pre_dproj_finite (hDprojIdeal := hDprojIdeal) (hDprojRefIdeal := hDprojRefIdeal) (hPre_dproj_finite := hPre_dproj_finite)
    ∧ preserves_Dw1024_Dw1024Ideal
    ∧ algebraic_Dw1024Ideal_Dw1024RefIdeal (hDw1024Ideal := hDw1024Ideal) (hDw1024RefIdeal := hDw1024RefIdeal)
    ∧ preserves_DwSsm_DwSsmIdeal
    ∧ algebraic_DwSsmIdeal_DwSsmRefIdeal (hDwSsmIdeal := hDwSsmIdeal) (hDwSsmRefIdeal := hDwSsmRefIdeal)
    ∧ preserves_Dw5120_Dw5120Ideal
    ∧ algebraic_Dw5120Ideal_Dw5120RefIdeal (hDw5120Ideal := hDw5120Ideal) (hDw5120RefIdeal := hDw5120RefIdeal)
    ∧ preserves_Dw3072_Dw3072Ideal
    ∧ algebraic_Dw3072Ideal_Dw3072RefIdeal (hDw3072Ideal := hDw3072Ideal) (hDw3072RefIdeal := hDw3072RefIdeal)
    ∧ preserves_Dw512_Dw512Ideal
    ∧ algebraic_Dw512Ideal_Dw512RefIdeal (hDw512Ideal := hDw512Ideal) (hDw512RefIdeal := hDw512RefIdeal)
    ∧ preserves_Dw128_Dw128Ideal
    ∧ algebraic_Dw128Ideal_Dw128RefIdeal (hDw128Ideal := hDw128Ideal) (hDw128RefIdeal := hDw128RefIdeal)
    ∧ preserves_Norm_NormIdeal
    ∧ algebraic_NormIdeal_NormRefIdeal (hNormIdeal := hNormIdeal) (hNormRefIdeal := hNormRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_AdaMod_AdaModIdeal
    ∧ algebraic_AdaModIdeal_AdaModRefIdeal (hAdaModIdeal := hAdaModIdeal) (hAdaModRefIdeal := hAdaModRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSsm_AdamSsmIdeal
    ∧ algebraic_AdamSsmIdeal_AdamSsmRefIdeal (hAdamSsmIdeal := hAdamSsmIdeal) (hAdamSsmRefIdeal := hAdamSsmRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumDev_SumDevIdeal
    ∧ algebraic_SumDevIdeal_SumDevRefIdeal (hSumDevIdeal := hSumDevIdeal) (hSumDevRefIdeal := hSumDevRefIdeal)
    ∧ preserves_Attn_AttnIdeal
    ∧ algebraic_AttnIdeal_AttnRefIdeal_pre_attn_masked (hAttnIdeal := hAttnIdeal) (hAttnRefIdeal := hAttnRefIdeal) (hPre_attn_masked := hPre_attn_masked)
-- ==== Pre_attn_masked.lean ====
abbrev S8192x9984 : Shape := ⟨2, ![8192, 9984]⟩
abbrev S2x16x128x256 : Shape := ⟨4, ![2, 16, 128, 256]⟩
abbrev S1x64 : Shape := ⟨2, ![1, 64]⟩
abbrev S_ : Shape := ⟨0, ![]⟩
abbrev S2x16x128x1 : Shape := ⟨4, ![2, 16, 128, 1]⟩
abbrev S2x16x128 : Shape := ⟨3, ![2, 16, 128]⟩
abbrev S1x16x128x127 : Shape := ⟨4, ![1, 16, 128, 127]⟩
abbrev S16x128x127 : Shape := ⟨3, ![16, 128, 127]⟩

class Facts : Prop where
  bcast_S_S1x64 : S_.BroadcastsInDim S1x64 (![] : Fin 0 → Fin S1x64.rank)
  bcast_S_S2x16x128x256 : S_.BroadcastsInDim S2x16x128x256 (![] : Fin 0 → Fin S2x16x128x256.rank)
  slices_S2x16x128x256_S2x16x128x1_0_0_0_0 : S2x16x128x256.Slices ![0, 0, 0, 0] S2x16x128x1
  shapeCasts_S2x16x128x1_S2x16x128 : S2x16x128x1.ShapeCasts S2x16x128
  bcast_S_S2x16x128 : S_.BroadcastsInDim S2x16x128 (![] : Fin 0 → Fin S2x16x128.rank)
  slices_S2x16x128x256_S1x16x128x127_0_0_0_1 : S2x16x128x256.Slices ![0, 0, 0, 1] S1x16x128x127
  shapeCasts_S1x16x128x127_S16x128x127 : S1x16x128x127.ShapeCasts S16x128x127
  bcast_S_S16x128x127 : S_.BroadcastsInDim S16x128x127 (![] : Fin 0 → Fin S16x128x127.rank)

variable [Facts]

def fn {F : FTy → Type} [FloatOps F] (main_arg0 : FVec F S8192x9984 .bf16) (main_arg1 : FVec F S2x16x128x256 .f32) (main_arg2 : FVec F S1x64 .f32) (main_arg3 : FVec F S1x64 .f32) : IVec S1x64 1 × IVec S1x64 1 × IVec S2x16x128x256 1 × IVec S2x16x128 1 × IVec S16x128x127 1 :=
  let main_v0 : FVec F S1x64 .f32 := Host.absf main_arg2
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_cst_1 : FVec F S_ .f32 := constant S_ .f32 0x7F800000#32
  let main_v6 : FVec F S2x16x128x256 .f32 := broadcastInDim S2x16x128x256 ![] bcast_S_S2x16x128x256 main_cst_1
  let main_v7 : IVec S2x16x128x256 1 := cmpf .olt main_arg1 main_v6
  let main_v8 : FVec F S2x16x128x1 .f32 := (extractStridedSlice S2x16x128x1 ![0, 0, 0, 0] · slices_S2x16x128x256_S2x16x128x1_0_0_0_0) main_arg1
  let main_v9 : FVec F S2x16x128 .f32 := shapeCast S2x16x128 main_v8 shapeCasts_S2x16x128x1_S2x16x128
  let main_cst_2 : FVec F S_ .f32 := constant S_ .f32 0xFF800000#32
  let main_v10 : FVec F S2x16x128 .f32 := broadcastInDim S2x16x128 ![] bcast_S_S2x16x128 main_cst_2
  let main_v11 : IVec S2x16x128 1 := cmpf .ogt main_v9 main_v10
  let main_v12 : FVec F S1x16x128x127 .f32 := (extractStridedSlice S1x16x128x127 ![0, 0, 0, 1] · slices_S2x16x128x256_S1x16x128x127_0_0_0_1) main_arg1
  let main_v13 : FVec F S16x128x127 .f32 := shapeCast S16x128x127 main_v12 shapeCasts_S1x16x128x127_S16x128x127
  let main_cst_3 : FVec F S_ .f32 := constant S_ .f32 0xFF800000#32
  let main_v14 : FVec F S16x128x127 .f32 := broadcastInDim S16x128x127 ![] bcast_S_S16x128x127 main_cst_3
  let main_v15 : IVec S16x128x127 1 := cmpf .oeq main_v13 main_v14
  (main_v2, main_v5, main_v7, main_v11, main_v15)
-- ==== Pre_conv_finite.lean ====
abbrev S8192x9984 : Shape := ⟨2, ![8192, 9984]⟩
abbrev S8192x3072 : Shape := ⟨2, ![8192, 3072]⟩
abbrev S4x3072 : Shape := ⟨2, ![4, 3072]⟩
abbrev S1x3072 : Shape := ⟨2, ![1, 3072]⟩
abbrev S_ : Shape := ⟨0, ![]⟩

class Facts : Prop where
  bcast_S_S8192x3072 : S_.BroadcastsInDim S8192x3072 (![] : Fin 0 → Fin S8192x3072.rank)

variable [Facts]

def fn {F : FTy → Type} [FloatOps F] (main_arg0 : FVec F S8192x9984 .bf16) (main_arg1 : FVec F S8192x3072 .f32) (main_arg2 : FVec F S4x3072 .f32) (main_arg3 : FVec F S1x3072 .f32) : IVec S8192x3072 1 :=
  let main_v0 : FVec F S8192x3072 .f32 := Host.absf main_arg1
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  main_v2
-- ==== Pre_dproj_finite.lean ====
abbrev S8192x1024 : Shape := ⟨2, ![8192, 1024]⟩
abbrev S8192x5120 : Shape := ⟨2, ![8192, 5120]⟩
abbrev S8192x3072 : Shape := ⟨2, ![8192, 3072]⟩
abbrev S8192x512 : Shape := ⟨2, ![8192, 512]⟩
abbrev S8192x128 : Shape := ⟨2, ![8192, 128]⟩
abbrev S1024x9984 : Shape := ⟨2, ![1024, 9984]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x5120 : S_.BroadcastsInDim S8192x5120 (![] : Fin 0 → Fin S8192x5120.rank)
  bcast_S_S8192x3072 : S_.BroadcastsInDim S8192x3072 (![] : Fin 0 → Fin S8192x3072.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S1024x9984 : S_.BroadcastsInDim S1024x9984 (![] : Fin 0 → Fin S1024x9984.rank)
  bcast_S_S1x1024 : S_.BroadcastsInDim S1x1024 (![] : Fin 0 → Fin S1x1024.rank)

variable [Facts]

def fn_part1 {F : FTy → Type} [FloatOps F] (main_arg5 : FVec F S1024x9984 .bf16) (main_arg6 : FVec F S8192x1024 .f32) (main_arg7 : FVec F S8192x1024 .f32) (main_arg8 : FVec F S1x1024 .f32) (main_arg9 : FVec F S1x1024 .f32) (main_v3 : IVec S8192x1024 1) (main_v7 : IVec S8192x5120 1) (main_v11 : IVec S8192x3072 1) (main_v15 : IVec S8192x512 1) (main_v17 : FVec F S8192x128 .f32) (main_v18 : FVec F S8192x128 .f32) : IVec S8192x1024 1 × IVec S8192x5120 1 × IVec S8192x3072 1 × IVec S8192x512 1 × IVec S8192x128 1 × IVec S1024x9984 1 × IVec S8192x1024 1 × IVec S8192x1024 1 × IVec S1x1024 1 × IVec S1x1024 1 :=
  let main_v19 : IVec S8192x128 1 := cmpf .olt main_v17 main_v18
  let main_v20 : FVec F S1024x9984 .f32 := (extf .f32 · bitsLt_bf16_f32) main_arg5
  let main_v21 : FVec F S1024x9984 .f32 := Host.absf main_v20
  let main_cst_4 : FVec F S_ .f32 := constant S_ .f32 0x7F800000#32
  let main_v22 : FVec F S1024x9984 .f32 := broadcastInDim S1024x9984 ![] bcast_S_S1024x9984 main_cst_4
  let main_v23 : IVec S1024x9984 1 := cmpf .olt main_v21 main_v22
  let main_v24 : FVec F S8192x1024 .f32 := Host.absf main_arg6
  let main_cst_5 : FVec F S_ .f32 := constant S_ .f32 0x7F800000#32
  let main_v25 : FVec F S8192x1024 .f32 := broadcastInDim S8192x1024 ![] bcast_S_S8192x1024 main_cst_5
  let main_v26 : IVec S8192x1024 1 := cmpf .olt main_v24 main_v25
  let main_v27 : FVec F S8192x1024 .f32 := Host.absf main_arg7
  let main_cst_6 : FVec F S_ .f32 := constant S_ .f32 0x7F800000#32
  let main_v28 : FVec F S8192x1024 .f32 := broadcastInDim S8192x1024 ![] bcast_S_S8192x1024 main_cst_6
  let main_v29 : IVec S8192x1024 1 := cmpf .olt main_v27 main_v28
  let main_v30 : FVec F S1x1024 .f32 := Host.absf main_arg8
  let main_cst_7 : FVec F S_ .f32 := constant S_ .f32 0x7F800000#32
  let main_v31 : FVec F S1x1024 .f32 := broadcastInDim S1x1024 ![] bcast_S_S1x1024 main_cst_7
  let main_v32 : IVec S1x1024 1 := cmpf .olt main_v30 main_v31
  let main_v33 : FVec F S1x1024 .f32 := Host.absf main_arg9
  let main_cst_8 : FVec F S_ .f32 := constant S_ .f32 0x7F800000#32
  let main_v34 : FVec F S1x1024 .f32 := broadcastInDim S1x1024 ![] bcast_S_S1x1024 main_cst_8
  let main_v35 : IVec S1x1024 1 := cmpf .olt main_v33 main_v34
  (main_v3, main_v7, main_v11, main_v15, main_v19, main_v23, main_v26, main_v29, main_v32, main_v35)

def fn {F : FTy → Type} [FloatOps F] (main_arg0 : FVec F S8192x1024 .bf16) (main_arg1 : FVec F S8192x5120 .bf16) (main_arg2 : FVec F S8192x3072 .bf16) (main_arg3 : FVec F S8192x512 .bf16) (main_arg4 : FVec F S8192x128 .bf16) (main_arg5 : FVec F S1024x9984 .bf16) (main_arg6 : FVec F S8192x1024 .f32) (main_arg7 : FVec F S8192x1024 .f32) (main_arg8 : FVec F S1x1024 .f32) (main_arg9 : FVec F S1x1024 .f32) : IVec S8192x1024 1 × IVec S8192x5120 1 × IVec S8192x3072 1 × IVec S8192x512 1 × IVec S8192x128 1 × IVec S1024x9984 1 × IVec S8192x1024 1 × IVec S8192x1024 1 × IVec S1x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x5120 .f32 := (extf .f32 · bitsLt_bf16_f32) main_arg1
  let main_v5 : FVec F S8192x5120 .f32 := Host.absf main_v4
  let main_cst_0 : FVec F S_ .f32 := constant S_ .f32 0x7F800000#32
  let main_v6 : FVec F S8192x5120 .f32 := broadcastInDim S8192x5120 ![] bcast_S_S8192x5120 main_cst_0
  let main_v7 : IVec S8192x5120 1 := cmpf .olt main_v5 main_v6
  let main_v8 : FVec F S8192x3072 .f32 := (extf .f32 · bitsLt_bf16_f32) main_arg2
  let main_v9 : FVec F S8192x3072 .f32 := Host.absf main_v8
  let main_cst_1 : FVec F S_ .f32 := constant S_ .f32 0x7F800000#32
  let main_v10 : FVec F S8192x3072 .f32 := broadcastInDim S8192x3072 ![] bcast_S_S8192x3072 main_cst_1
  let main_v11 : IVec S8192x3072 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x128 .f32 := (extf .f32 · bitsLt_bf16_f32) main_arg4
  let main_v17 : FVec F S8192x128 .f32 := Host.absf main_v16
  let main_cst_3 : FVec F S_ .f32 := constant S_ .f32 0x7F800000#32
  let main_v18 : FVec F S8192x128 .f32 := broadcastInDim S8192x128 ![] bcast_S_S8192x128 main_cst_3
  fn_part1 (F := F) main_arg5 main_arg6 main_arg7 main_arg8 main_arg9 main_v3 main_v7 main_v11 main_v15 main_v17 main_v18
-- ==== Pre_finite.lean ====
abbrev S8192x9984 : Shape := ⟨2, ![8192, 9984]⟩
abbrev S8192x1024 : Shape := ⟨2, ![8192, 1024]⟩
abbrev S8192x2048 : Shape := ⟨2, ![8192, 2048]⟩
abbrev S1x1024 : Shape := ⟨2, ![1, 1024]⟩
abbrev S1x2048 : Shape := ⟨2, ![1, 2048]⟩
abbrev S1024x1024 : Shape := ⟨2, ![1024, 1024]⟩
abbrev S2048x1024 : Shape := ⟨2, ![2048, 1024]⟩
abbrev S_ : Shape := ⟨0, ![]⟩

class Facts : Prop where
  bitsLt_bf16_f32 : FTy.bits .bf16 < FTy.bits .f32
  bcast_S_S8192x9984 : S_.BroadcastsInDim S8192x9984 (![] : Fin 0 → Fin S8192x9984.rank)
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S1x1024 : S_.BroadcastsInDim S1x1024 (![] : Fin 0 → Fin S1x1024.rank)
  bcast_S_S1x2048 : S_.BroadcastsInDim S1x2048 (![] : Fin 0 → Fin S1x2048.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn_part1 {F : FTy → Type} [FloatOps F] (main_arg6 : FVec F S1x2048 .f32) (main_arg7 : FVec F S1024x1024 .bf16) (main_arg8 : FVec F S2048x1024 .bf16) (main_arg9 : FVec F S1024x1024 .bf16) (main_v3 : IVec S8192x9984 1) (main_v7 : IVec S8192x1024 1) (main_v11 : IVec S8192x2048 1) (main_v14 : IVec S8192x1024 1) (main_v17 : IVec S8192x1024 1) (main_v18 : FVec F S1x1024 .f32) : IVec S8192x9984 1 × IVec S8192x1024 1 × IVec S8192x2048 1 × IVec S8192x1024 1 × IVec S8192x1024 1 × IVec S1x1024 1 × IVec S1x2048 1 × IVec S1024x1024 1 × IVec S2048x1024 1 × IVec S1024x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_v21 : FVec F S1x2048 .f32 := Host.absf main_arg6
  let main_cst_5 : FVec F S_ .f32 := constant S_ .f32 0x7F800000#32
  let main_v22 : FVec F S1x2048 .f32 := broadcastInDim S1x2048 ![] bcast_S_S1x2048 main_cst_5
  let main_v23 : IVec S1x2048 1 := cmpf .olt main_v21 main_v22
  let main_v24 : FVec F S1024x1024 .f32 := (extf .f32 · bitsLt_bf16_f32) main_arg7
  let main_v25 : FVec F S1024x1024 .f32 := Host.absf main_v24
  let main_cst_6 : FVec F S_ .f32 := constant S_ .f32 0x7F800000#32
  let main_v26 : FVec F S1024x1024 .f32 := broadcastInDim S1024x1024 ![] bcast_S_S1024x1024 main_cst_6
  let main_v27 : IVec S1024x1024 1 := cmpf .olt main_v25 main_v26
  let main_v28 : FVec F S2048x1024 .f32 := (extf .f32 · bitsLt_bf16_f32) main_arg8
  let main_v29 : FVec F S2048x1024 .f32 := Host.absf main_v28
  let main_cst_7 : FVec F S_ .f32 := constant S_ .f32 0x7F800000#32
  let main_v30 : FVec F S2048x1024 .f32 := broadcastInDim S2048x1024 ![] bcast_S_S2048x1024 main_cst_7
  let main_v31 : IVec S2048x1024 1 := cmpf .olt main_v29 main_v30
  let main_v32 : FVec F S1024x1024 .f32 := (extf .f32 · bitsLt_bf16_f32) main_arg9
  let main_v33 : FVec F S1024x1024 .f32 := Host.absf main_v32
  let main_cst_8 : FVec F S_ .f32 := constant S_ .f32 0x7F800000#32
  let main_v34 : FVec F S1024x1024 .f32 := broadcastInDim S1024x1024 ![] bcast_S_S1024x1024 main_cst_8
  let main_v35 : IVec S1024x1024 1 := cmpf .olt main_v33 main_v34
  (main_v3, main_v7, main_v11, main_v14, main_v17, main_v20, main_v23, main_v27, main_v31, main_v35)

def fn {F : FTy → Type} [FloatOps F] (main_arg0 : FVec F S8192x9984 .bf16) (main_arg1 : FVec F S8192x1024 .bf16) (main_arg2 : FVec F S8192x2048 .bf16) (main_arg3 : FVec F S8192x1024 .f32) (main_arg4 : FVec F S8192x1024 .f32) (main_arg5 : FVec F S1x1024 .f32) (main_arg6 : FVec F S1x2048 .f32) (main_arg7 : FVec F S1024x1024 .bf16) (main_arg8 : FVec F S2048x1024 .bf16) (main_arg9 : FVec F S1024x1024 .bf16) : IVec S8192x9984 1 × IVec S8192x1024 1 × IVec S8192x2048 1 × IVec S8192x1024 1 × IVec S8192x1024 1 × IVec S1x1024 1 × IVec S1x2048 1 × IVec S1024x1024 1 × IVec S2048x1024 1 × IVec S1024x1024 1 :=
  let main_v0 : FVec F S8192x9984 .f32 := (extf .f32 · bitsLt_bf16_f32) main_arg0
  let main_v1 : FVec F S8192x9984 .f32 := Host.absf main_v0
  let main_cst : FVec F S_ .f32 := constant S_ .f32 0x7F800000#32
  let main_v2 : FVec F S8192x9984 .f32 := broadcastInDim S8192x9984 ![] bcast_S_S8192x9984 main_cst
  let main_v3 : IVec S8192x9984 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S8192x1024 .f32 := Host.absf main_arg3
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S8192x1024 .f32 := Host.absf main_arg4
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  let main_v18 : FVec F S1x1024 .f32 := Host.absf main_arg5
  fn_part1 (F := F) main_arg6 main_arg7 main_arg8 main_arg9 main_v3 main_v7 main_v11 main_v14 main_v17 main_v18
-- ==== Kernel.lean ====
abbrev S8192x9984 : Shape := ⟨2, ![8192, 9984]⟩
abbrev S8192x1024 : Shape := ⟨2, ![8192, 1024]⟩
abbrev S8192x2048 : Shape := ⟨2, ![8192, 2048]⟩
abbrev S1x1024 : Shape := ⟨2, ![1, 1024]⟩
abbrev S1x2048 : Shape := ⟨2, ![1, 2048]⟩
abbrev S1024x1024 : Shape := ⟨2, ![1024, 1024]⟩
abbrev S2048x1024 : Shape := ⟨2, ![2048, 1024]⟩
abbrev S1x128 : Shape := ⟨2, ![1, 128]⟩
abbrev S8192x5120 : Shape := ⟨2, ![8192, 5120]⟩
abbrev S1024x8192 : Shape := ⟨2, ![1024, 8192]⟩
abbrev S2048x8192 : Shape := ⟨2, ![2048, 8192]⟩
abbrev S256x1024 : Shape := ⟨2, ![256, 1024]⟩
abbrev S256x2048 : Shape := ⟨2, ![256, 2048]⟩
abbrev S256x5120 : Shape := ⟨2, ![256, 5120]⟩
abbrev S1024x256 : Shape := ⟨2, ![1024, 256]⟩
abbrev S2048x256 : Shape := ⟨2, ![2048, 256]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S2048 : Shape := ⟨1, ![2048]⟩

abbrev nBuf : Space → Nat
  | .hbm => 23
  | .vmem => 44
  | .smem => 0
  | _ => 0

abbrev bufTy : (tb : Table) → Fin (tcTables nBuf tb) → BufTy
  | .hbm, ⟨0, _⟩ => ⟨S8192x9984, .bf16⟩
  | .hbm, ⟨1, _⟩ => ⟨S8192x1024, .bf16⟩
  | .hbm, ⟨2, _⟩ => ⟨S8192x2048, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x2048, .f32⟩
  | .hbm, ⟨7, _⟩ => ⟨S1024x1024, .bf16⟩
  | .hbm, ⟨8, _⟩ => ⟨S2048x1024, .bf16⟩
  | .hbm, ⟨9, _⟩ => ⟨S1024x1024, .bf16⟩
  | .hbm, ⟨10, _⟩ => ⟨S1x128, .f32⟩
  | .hbm, ⟨11, _⟩ => ⟨S8192x1024, .f32⟩
  | .hbm, ⟨12, _⟩ => ⟨S8192x1024, .bf16⟩
  | .hbm, ⟨13, _⟩ => ⟨S8192x5120, .bf16⟩
  | .hbm, ⟨14, _⟩ => ⟨S8192x2048, .bf16⟩
  | .hbm, ⟨15, _⟩ => ⟨S1024x8192, .bf16⟩
  | .hbm, ⟨16, _⟩ => ⟨S2048x8192, .bf16⟩
  | .hbm, ⟨17, _⟩ => ⟨S1024x8192, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S1x1024, .f32⟩
  | .hbm, ⟨22, _⟩ => ⟨S1x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x2048, .f32⟩
  | .local _ .vmem, ⟨18, _⟩ => ⟨S1024x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1x128, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x5120, .bf16⟩
  | .local _ .vmem, ⟨27, _⟩ => ⟨S256x5120, .bf16⟩
  | .local _ .vmem, ⟨28, _⟩ => ⟨S256x2048, .bf16⟩
  | .local _ .vmem, ⟨29, _⟩ => ⟨S256x2048, .bf16⟩
  | .local _ .vmem, ⟨30, _⟩ => ⟨S1024x256, .bf16⟩
  | .local _ .vmem, ⟨31, _⟩ => ⟨S1024x256, .bf16⟩
  | .local _ .vmem, ⟨32, _⟩ => ⟨S2048x256, .bf16⟩
  | .local _ .vmem, ⟨33, _⟩ => ⟨S2048x256, .bf16⟩
  | .local _ .vmem, ⟨34, _⟩ => ⟨S1024x256, .bf16⟩
  | .local _ .vmem, ⟨35, _⟩ => ⟨S1024x256, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S1x1024, .f32⟩
  | .local _ .vmem, ⟨43, _⟩ => ⟨S1x2048, .f32⟩
  | _, _ => ⟨S8192x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg25_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem25_0 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x5120 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S8192x9984 : Shape := ⟨2, ![8192, 9984]⟩
abbrev S8192x1024 : Shape := ⟨2, ![8192, 1024]⟩
abbrev S8192x2048 : Shape := ⟨2, ![8192, 2048]⟩
abbrev S1x1024 : Shape := ⟨2, ![1, 1024]⟩
abbrev S1x2048 : Shape := ⟨2, ![1, 2048]⟩
abbrev S1024x1024 : Shape := ⟨2, ![1024, 1024]⟩
abbrev S2048x1024 : Shape := ⟨2, ![2048, 1024]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩
abbrev S8192 : Shape := ⟨1, ![8192]⟩
abbrev S1024 : Shape := ⟨1, ![1024]⟩
abbrev S1x1 : Shape := ⟨2, ![1, 1]⟩
abbrev S1x128 : Shape := ⟨2, ![1, 128]⟩
abbrev S8192x5120 : Shape := ⟨2, ![8192, 5120]⟩
abbrev S1024x8192 : Shape := ⟨2, ![1024, 8192]⟩
abbrev S2048x8192 : Shape := ⟨2, ![2048, 8192]⟩

abbrev nBuf : Space → Nat
  | .hbm => 202
  | .vmem => 0
  | .smem => 0
  | _ => 0

abbrev hbmTy0_0 (i : Nat) : BufTy := match i % 128 with
  | 0 => ⟨S8192x9984, .bf16⟩
  | 1 => ⟨S8192x1024, .bf16⟩
  | 2 => ⟨S8192x2048, .bf16⟩
  | 3 => ⟨S8192x1024, .f32⟩
  | 4 => ⟨S8192x1024, .f32⟩
  | 5 => ⟨S1x1024, .f32⟩
  | 6 => ⟨S1x2048, .f32⟩
  | 7 => ⟨S1024x1024, .bf16⟩
  | 8 => ⟨S2048x1024, .bf16⟩
  | 9 => ⟨S1024x1024, .bf16⟩
  | 10 => ⟨S8192x1024, .bf16⟩
  | 11 => ⟨S8192x1024, .f32⟩
  | 12 => ⟨S8192x1024, .bf16⟩
  | 13 => ⟨S8192x1024, .f32⟩
  | 14 => ⟨S8192x1024, .bf16⟩
  | 15 => ⟨S8192x1024, .f32⟩
  | 16 => ⟨S8192x2048, .bf16⟩
  | 17 => ⟨S8192x2048, .f32⟩
  | 18 => ⟨S1024x1024, .f32⟩
  | 19 => ⟨S2048x1024, .f32⟩
  | 20 => ⟨S1024x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x2048, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x4x512, .f32⟩
  | 53 => ⟨S4x512, .f32⟩
  | 54 => ⟨S8192x4x512, .f32⟩
  | 55 => ⟨S_, .f32⟩
  | 56 => ⟨S8192x4, .f32⟩
  | 57 => ⟨S8192x4x1, .f32⟩
  | 58 => ⟨S_, .f32⟩
  | 59 => ⟨S8192x4x1, .f32⟩
  | 60 => ⟨S8192x4x1, .f32⟩
  | 61 => ⟨S_, .f32⟩
  | 62 => ⟨S8192x4x1, .f32⟩
  | 63 => ⟨S8192x4x1, .f32⟩
  | 64 => ⟨S8192x4x1, .f32⟩
  | 65 => ⟨S8192x4x1, .f32⟩
  | 66 => ⟨S_, .f32⟩
  | 67 => ⟨S8192x4x1, .f32⟩
  | 68 => ⟨S8192x4x1, .f32⟩
  | 69 => ⟨S8192x4x512, .f32⟩
  | 70 => ⟨S8192x4x512, .f32⟩
  | 71 => ⟨S1x4x512, .f32⟩
  | 72 => ⟨S8192x4x512, .f32⟩
  | 73 => ⟨S8192x4x512, .f32⟩
  | 74 => ⟨S8192x2048, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192, .f32⟩
  | 114 => ⟨S_, .f32⟩
  | 115 => ⟨S8192, .f32⟩
  | 116 => ⟨S8192, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8192, .f32⟩
  | 125 => ⟨S_, .f32⟩
  | 126 => ⟨S8192, .f32⟩
  | 127 => ⟨S8192, .f32⟩
  | _ => ⟨S8192x9984, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x2048, .f32⟩
  | 23 => ⟨S8192x4x512, .f32⟩
  | 24 => ⟨S8192x4x512, .f32⟩
  | 25 => ⟨S_, .f32⟩
  | 26 => ⟨S4x512, .f32⟩
  | 27 => ⟨S1x4x512, .f32⟩
  | 28 => ⟨S8192x4x512, .f32⟩
  | 29 => ⟨S8192x4x512, .f32⟩
  | 30 => ⟨S_, .f32⟩
  | 31 => ⟨S4x512, .f32⟩
  | 32 => ⟨S8192x4x512, .f32⟩
  | 33 => ⟨S_, .f32⟩
  | 34 => ⟨S8192x4, .f32⟩
  | 35 => ⟨S8192x4x1, .f32⟩
  | 36 => ⟨S8192x4x512, .f32⟩
  | 37 => ⟨S8192x4x512, .f32⟩
  | 38 => ⟨S8192x4x1, .f32⟩
  | 39 => ⟨S_, .f32⟩
  | 40 => ⟨S8192x4x1, .f32⟩
  | 41 => ⟨S8192x4x1, .f32⟩
  | 42 => ⟨S_, .f32⟩
  | 43 => ⟨S8192x4, .f32⟩
  | 44 => ⟨S8192x4x512, .f32⟩
  | 45 => ⟨S8192x4x512, .f32⟩
  | 46 => ⟨S8192x4x512, .f32⟩
  | 47 => ⟨S8192x4x512, .f32⟩
  | 48 => ⟨S8192x4x512, .f32⟩
  | 49 => ⟨S1x2048, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S1x1, .f32⟩
  | 58 => ⟨S_, .i32⟩
  | 59 => ⟨S_, .f32⟩
  | 60 => ⟨S1x128, .f32⟩
  | 61 => ⟨S8192x1024, .bf16⟩
  | 62 => ⟨S8192x5120, .f32⟩
  | 63 => ⟨S8192x5120, .bf16⟩
  | 64 => ⟨S8192x2048, .bf16⟩
  | 65 => ⟨S1024x8192, .f32⟩
  | 66 => ⟨S1024x8192, .bf16⟩
  | 67 => ⟨S2048x8192, .f32⟩
  | 68 => ⟨S2048x8192, .bf16⟩
  | 69 => ⟨S1024x8192, .f32⟩
  | 70 => ⟨S1024x8192, .bf16⟩
  | 71 => ⟨S8192x1024, .bf16⟩
  | 72 => ⟨S8192x1024, .bf16⟩
  | 73 => ⟨S8192x1024, .bf16⟩
  | _ => ⟨S8192x9984, .bf16⟩

abbrev hbmTy (i : Nat) : BufTy := match i / 128 with
  | 0 => hbmTy0_0 i
  | 1 => hbmTy0_1 i
  | _ => ⟨S8192x9984, .bf16⟩

abbrev bufTy : (tb : Table) → Fin (tcTables nBuf tb) → BufTy
  | .hbm, ⟨i, _⟩ => hbmTy i
  | _, _ => ⟨S8192x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v12_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v12_1 : Ref sig .tc := ⟨.hbm, 33, rfl⟩
abbrev main_v12_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_v16_2 : Ref sig .tc := ⟨.hbm, 45, rfl⟩
abbrev main_call1_cst_1 : Ref sig .tc := ⟨.hbm, 46, rfl⟩
abbrev main_call1_v6 : Ref sig .tc := ⟨.hbm, 47, rfl⟩
abbrev main_call1_v7 : Ref sig .tc := ⟨.hbm, 48, rfl⟩
abbrev main_v16_1 : Ref sig .tc := ⟨.hbm, 49, rfl⟩
abbrev main_v16_0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_cst_0 : Ref sig .tc := ⟨.hbm, 58, rfl⟩
abbrev main_v23 : Ref sig .tc := ⟨.hbm, 59, rfl⟩
abbrev main_v24 : Ref sig .tc := ⟨.hbm, 60, rfl⟩
abbrev main_cst_1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_2 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_3 : Ref sig .tc := ⟨.hbm, 78, rfl⟩
abbrev main_v40 : Ref sig .tc := ⟨.hbm, 79, rfl⟩
abbrev main_v41 : Ref sig .tc := ⟨.hbm, 80, rfl⟩
abbrev main_cst_4 : Ref sig .tc := ⟨.hbm, 81, rfl⟩
abbrev main_v42 : Ref sig .tc := ⟨.hbm, 82, rfl⟩
abbrev main_v43 : Ref sig .tc := ⟨.hbm, 83, rfl⟩
abbrev main_cst_5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_6 : Ref sig .tc := ⟨.hbm, 91, rfl⟩
abbrev main_v50 : Ref sig .tc := ⟨.hbm, 92, rfl⟩
abbrev main_v51 : Ref sig .tc := ⟨.hbm, 93, rfl⟩
abbrev main_cst_7 : Ref sig .tc := ⟨.hbm, 94, rfl⟩
abbrev main_v52 : Ref sig .tc := ⟨.hbm, 95, rfl⟩
abbrev main_v53 : Ref sig .tc := ⟨.hbm, 96, rfl⟩
abbrev main_cst_8 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_9 : Ref sig .tc := ⟨.hbm, 109, rfl⟩
abbrev main_v65 : Ref sig .tc := ⟨.hbm, 110, rfl⟩
abbrev main_v66 : Ref sig .tc := ⟨.hbm, 111, rfl⟩
abbrev main_cst_10 : Ref sig .tc := ⟨.hbm, 112, rfl⟩
abbrev main_v67 : Ref sig .tc := ⟨.hbm, 113, rfl⟩
abbrev main_cst_11 : Ref sig .tc := ⟨.hbm, 114, rfl⟩
abbrev main_v68 : Ref sig .tc := ⟨.hbm, 115, rfl⟩
abbrev main_v69 : Ref sig .tc := ⟨.hbm, 116, rfl⟩
abbrev main_cst_12 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_cst_14 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_cst_16 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_17 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_19 : Ref sig .tc := ⟨.hbm, 158, rfl⟩
abbrev main_v101 : Ref sig .tc := ⟨.hbm, 159, rfl⟩
abbrev main_v102 : Ref sig .tc := ⟨.hbm, 160, rfl⟩
abbrev main_cst_20 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_21 : Ref sig .tc := ⟨.hbm, 167, rfl⟩
abbrev main_v108 : Ref sig .tc := ⟨.hbm, 168, rfl⟩
abbrev main_v109 : Ref sig .tc := ⟨.hbm, 169, rfl⟩
abbrev main_cst_22 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_v120 : Ref sig .tc := ⟨.hbm, 184, rfl⟩
abbrev main_v121 : Ref sig .tc := ⟨.hbm, 185, rfl⟩
abbrev main_c : Ref sig .tc := ⟨.hbm, 186, rfl⟩
abbrev main_call4_v0 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩

abbrev nD : Nat := 1
abbrev τ : Topo := Topo.v7x

variable {F : FTy → Type} [FloatOps F]
-- ==== Dproj.lean ====
abbrev S8192x1024 : Shape := ⟨2, ![8192, 1024]⟩
abbrev S8192x5120 : Shape := ⟨2, ![8192, 5120]⟩
abbrev S8192x3072 : Shape := ⟨2, ![8192, 3072]⟩
abbrev S8192x512 : Shape := ⟨2, ![8192, 512]⟩
abbrev S8192x128 : Shape := ⟨2, ![8192, 128]⟩
abbrev S1024x9984 : Shape := ⟨2, ![1024, 9984]⟩
abbrev S1x1024 : Shape := ⟨2, ![1, 1024]⟩
abbrev S256x1024 : Shape := ⟨2, ![256, 1024]⟩
abbrev S256x5120 : Shape := ⟨2, ![256, 5120]⟩
abbrev S256x3072 : Shape := ⟨2, ![256, 3072]⟩
abbrev S256x512 : Shape := ⟨2, ![256, 512]⟩
abbrev S256x128 : Shape := ⟨2, ![256, 128]⟩
abbrev S1024x1024 : Shape := ⟨2, ![1024, 1024]⟩
abbrev S1024x2048 : Shape := ⟨2, ![1024, 2048]⟩
abbrev S1024x3072 : Shape := ⟨2, ![1024, 3072]⟩
abbrev S1024x512 : Shape := ⟨2, ![1024, 512]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 14
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S8192x3072, .bf16⟩
  | .hbm, ⟨3, _⟩ => ⟨S8192x512, .bf16⟩
  | .hbm, ⟨4, _⟩ => ⟨S8192x128, .bf16⟩
  | .hbm, ⟨5, _⟩ => ⟨S1024x9984, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x5120, .bf16⟩
  | .local _ .vmem, ⟨3, _⟩ => ⟨S256x5120, .bf16⟩
  | .local _ .vmem, ⟨4, _⟩ => ⟨S256x3072, .bf16⟩
  | .local _ .vmem, ⟨5, _⟩ => ⟨S256x3072, .bf16⟩
  | .local _ .vmem, ⟨6, _⟩ => ⟨S256x512, .bf16⟩
  | .local _ .vmem, ⟨7, _⟩ => ⟨S256x512, .bf16⟩
  | .local _ .vmem, ⟨8, _⟩ => ⟨S256x128, .bf16⟩
  | .local _ .vmem, ⟨9, _⟩ => ⟨S256x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x3072, .bf16⟩
  | .local _ .vmem, ⟨16, _⟩ => ⟨S1024x512, .bf16⟩
  | .local _ .vmem, ⟨17, _⟩ => ⟨S1024x128, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v79 : BitVec 1 := Scalar.cmpi .eq arg0 c31_i32
  let v80 : BitVec 32 := Scalar.extui v79
  let c0_i32_62 : BitVec 32 := 0#32
  let v81 : BitVec 1 := Scalar.cmpi .ne v80 c0_i32_62
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_10 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_11 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_12 (i : grid0.Coords) : Fin 2 → Nat :=
  let arg0 : BitVec 32 := BitVec.ofNat 32 (i 0).val
  let c0_i32 : BitVec 32 := 0#32
  let c76_i32 : BitVec 32 := 76#32
  let c0_i32_0 : BitVec 32 := 0#32
  ![c0_i32.toNat, c76_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== DprojRefIdeal.lean ====
abbrev S8192x1024 : Shape := ⟨2, ![8192, 1024]⟩
abbrev S8192x5120 : Shape := ⟨2, ![8192, 5120]⟩
abbrev S8192x3072 : Shape := ⟨2, ![8192, 3072]⟩
abbrev S8192x512 : Shape := ⟨2, ![8192, 512]⟩
abbrev S8192x128 : Shape := ⟨2, ![8192, 128]⟩
abbrev S1024x9984 : Shape := ⟨2, ![1024, 9984]⟩
abbrev S1x1024 : Shape := ⟨2, ![1, 1024]⟩
abbrev S8192x9856 : Shape := ⟨2, ![8192, 9856]⟩
abbrev S_ : Shape := ⟨0, ![]⟩
abbrev S8192 : Shape := ⟨1, ![8192]⟩
abbrev S8192x1 : Shape := ⟨2, ![8192, 1]⟩
abbrev S1024x9856 : Shape := ⟨2, ![1024, 9856]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S8192x3072, .bf16⟩
  | .hbm, ⟨3, _⟩ => ⟨S8192x512, .bf16⟩
  | .hbm, ⟨4, _⟩ => ⟨S8192x128, .bf16⟩
  | .hbm, ⟨5, _⟩ => ⟨S1024x9984, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1024x9984, .f32⟩
  | .hbm, ⟨11, _⟩ => ⟨S8192x1024, .f32⟩
  | .hbm, ⟨12, _⟩ => ⟨S8192x5120, .f32⟩
  | .hbm, ⟨13, _⟩ => ⟨S8192x3072, .f32⟩
  | .hbm, ⟨14, _⟩ => ⟨S8192x512, .f32⟩
  | .hbm, ⟨15, _⟩ => ⟨S8192x128, .f32⟩
  | .hbm, ⟨16, _⟩ => ⟨S8192x9856, .f32⟩
  | .hbm, ⟨17, _⟩ => ⟨S_, .f32⟩
  | .hbm, ⟨18, _⟩ => ⟨S1x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x9856, .f32⟩
  | .hbm, ⟨46, _⟩ => ⟨S8192x9856, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Dw1024.lean ====
abbrev S1024x8192 : Shape := ⟨2, ![1024, 8192]⟩
abbrev S8192x1024 : Shape := ⟨2, ![8192, 1024]⟩
abbrev S8x128 : Shape := ⟨2, ![8, 128]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8x128, .f32⟩
  | .hbm, ⟨3, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dw1024Ideal.lean ====
abbrev S1024x8192 : Shape := ⟨2, ![1024, 8192]⟩
abbrev S8192x1024 : Shape := ⟨2, ![8192, 1024]⟩
abbrev S8x128 : Shape := ⟨2, ![8, 128]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8x128, .f32⟩
  | .hbm, ⟨3, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dw1024RefIdeal.lean ====
abbrev S1024x8192 : Shape := ⟨2, ![1024, 8192]⟩
abbrev S8192x1024 : Shape := ⟨2, ![8192, 1024]⟩
abbrev S8x128 : Shape := ⟨2, ![8, 128]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8x128, .f32⟩
  | .hbm, ⟨3, _⟩ => ⟨S1024x8192, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DwSsm.lean ====
abbrev S2048x8192 : Shape := ⟨2, ![2048, 8192]⟩
abbrev S8192x1024 : Shape := ⟨2, ![8192, 1024]⟩
abbrev S8x128 : Shape := ⟨2, ![8, 128]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S8x128, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsmIdeal.lean ====
abbrev S2048x8192 : Shape := ⟨2, ![2048, 8192]⟩
abbrev S8192x1024 : Shape := ⟨2, ![8192, 1024]⟩
abbrev S8x128 : Shape := ⟨2, ![8, 128]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S8x128, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsmRefIdeal.lean ====
abbrev S2048x8192 : Shape := ⟨2, ![2048, 8192]⟩
abbrev S8192x1024 : Shape := ⟨2, ![8192, 1024]⟩
abbrev S8x128 : Shape := ⟨2, ![8, 128]⟩
abbrev S8192x2048 : Shape := ⟨2, ![8192, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S8x128, .f32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S1024x2048, .f32⟩
  | .hbm, ⟨10, _⟩ => ⟨S2048x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dw5120.lean ====
abbrev S1024x8192 : Shape := ⟨2, ![1024, 8192]⟩
abbrev S8192x5120 : Shape := ⟨2, ![8192, 5120]⟩
abbrev S8x128 : Shape := ⟨2, ![8, 128]⟩
abbrev S1024x5120 : Shape := ⟨2, ![1024, 5120]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x5120, .bf16⟩
  | .hbm, ⟨2, _⟩ => ⟨S8x128, .f32⟩
  | .hbm, ⟨3, _⟩ => ⟨S1024x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw5120Ideal.lean ====
abbrev S1024x8192 : Shape := ⟨2, ![1024, 8192]⟩
abbrev S8192x5120 : Shape := ⟨2, ![8192, 5120]⟩
abbrev S8x128 : Shape := ⟨2, ![8, 128]⟩
abbrev S1024x5120 : Shape := ⟨2, ![1024, 5120]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x5120, .bf16⟩
  | .hbm, ⟨2, _⟩ => ⟨S8x128, .f32⟩
  | .hbm, ⟨3, _⟩ => ⟨S1024x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw5120RefIdeal.lean ====
abbrev S1024x8192 : Shape := ⟨2, ![1024, 8192]⟩
abbrev S8192x5120 : Shape := ⟨2, ![8192, 5120]⟩
abbrev S8x128 : Shape := ⟨2, ![8, 128]⟩
abbrev S8192x1024 : Shape := ⟨2, ![8192, 1024]⟩
abbrev S_ : Shape := ⟨0, ![]⟩
abbrev S1024x5120 : Shape := ⟨2, ![1024, 5120]⟩
abbrev S5120x1024 : Shape := ⟨2, ![5120, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x5120, .bf16⟩
  | .hbm, ⟨2, _⟩ => ⟨S8x128, .f32⟩
  | .hbm, ⟨3, _⟩ => ⟨S1024x8192, .f32⟩
  | .hbm, ⟨4, _⟩ => ⟨S8192x1024, .f32⟩
  | .hbm, ⟨5, _⟩ => ⟨S_, .f32⟩
  | .hbm, ⟨6, _⟩ => ⟨S1024x5120, .f32⟩
  | .hbm, ⟨7, _⟩ => ⟨S8192x5120, .f32⟩
  | .hbm, ⟨8, _⟩ => ⟨S8192x5120, .f32⟩
  | .hbm, ⟨9, _⟩ => ⟨S5120x1024, .f32⟩
  | .hbm, ⟨10, _⟩ => ⟨S1024x5120, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dw3072.lean ====
abbrev S1024x8192 : Shape := ⟨2, ![1024, 8192]⟩
abbrev S8192x3072 : Shape := ⟨2, ![8192, 3072]⟩
abbrev S8x128 : Shape := ⟨2, ![8, 128]⟩
abbrev S1024x3072 : Shape := ⟨2, ![1024, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S8x128, .f32⟩
  | .hbm, ⟨3, _⟩ => ⟨S1024x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw3072Ideal.lean ====
abbrev S1024x8192 : Shape := ⟨2, ![1024, 8192]⟩
abbrev S8192x3072 : Shape := ⟨2, ![8192, 3072]⟩
abbrev S8x128 : Shape := ⟨2, ![8, 128]⟩
abbrev S1024x3072 : Shape := ⟨2, ![1024, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S8x128, .f32⟩
  | .hbm, ⟨3, _⟩ => ⟨S1024x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw3072RefIdeal.lean ====
abbrev S1024x8192 : Shape := ⟨2, ![1024, 8192]⟩
abbrev S8192x3072 : Shape := ⟨2, ![8192, 3072]⟩
abbrev S8x128 : Shape := ⟨2, ![8, 128]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S8x128, .f32⟩
  | .hbm, ⟨3, _⟩ => ⟨S1024x8192, .f32⟩
  | .hbm, ⟨4, _⟩ => ⟨S8192x1024, .f32⟩
  | .hbm, ⟨5, _⟩ => ⟨S_, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dw512.lean ====
abbrev S1024x8192 : Shape := ⟨2, ![1024, 8192]⟩
abbrev S8192x512 : Shape := ⟨2, ![8192, 512]⟩
abbrev S8x128 : Shape := ⟨2, ![8, 128]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8x128, .f32⟩
  | .hbm, ⟨3, _⟩ => ⟨S1024x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dw512Ideal.lean ====
abbrev S1024x8192 : Shape := ⟨2, ![1024, 8192]⟩
abbrev S8192x512 : Shape := ⟨2, ![8192, 512]⟩
abbrev S8x128 : Shape := ⟨2, ![8, 128]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8x128, .f32⟩
  | .hbm, ⟨3, _⟩ => ⟨S1024x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dw512RefIdeal.lean ====
abbrev S1024x8192 : Shape := ⟨2, ![1024, 8192]⟩
abbrev S8192x512 : Shape := ⟨2, ![8192, 512]⟩
abbrev S8x128 : Shape := ⟨2, ![8, 128]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8x128, .f32⟩
  | .hbm, ⟨3, _⟩ => ⟨S1024x8192, .f32⟩
  | .hbm, ⟨4, _⟩ => ⟨S8192x1024, .f32⟩
  | .hbm, ⟨5, _⟩ => ⟨S_, .f32⟩
  | .hbm, ⟨6, _⟩ => ⟨S1024x512, .f32⟩
  | .hbm, ⟨7, _⟩ => ⟨S8192x512, .f32⟩
  | .hbm, ⟨8, _⟩ => ⟨S8192x512, .f32⟩
  | .hbm, ⟨9, _⟩ => ⟨S512x1024, .f32⟩
  | .hbm, ⟨10, _⟩ => ⟨S1024x512, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dw128.lean ====
abbrev S1024x8192 : Shape := ⟨2, ![1024, 8192]⟩
abbrev S8192x128 : Shape := ⟨2, ![8192, 128]⟩
abbrev S8x128 : Shape := ⟨2, ![8, 128]⟩
abbrev S1024x128 : Shape := ⟨2, ![1024, 128]⟩
abbrev S1024x2048 : Shape := ⟨2, ![1024, 2048]⟩
abbrev S2048x128 : Shape := ⟨2, ![2048, 128]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x128, .bf16⟩
  | .hbm, ⟨2, _⟩ => ⟨S8x128, .f32⟩
  | .hbm, ⟨3, _⟩ => ⟨S1024x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dw128RefIdeal.lean ====
abbrev S1024x8192 : Shape := ⟨2, ![1024, 8192]⟩
abbrev S8192x128 : Shape := ⟨2, ![8192, 128]⟩
abbrev S8x128 : Shape := ⟨2, ![8, 128]⟩
abbrev S8192x1024 : Shape := ⟨2, ![8192, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x128, .bf16⟩
  | .hbm, ⟨2, _⟩ => ⟨S8x128, .f32⟩
  | .hbm, ⟨3, _⟩ => ⟨S1024x8192, .f32⟩
  | .hbm, ⟨4, _⟩ => ⟨S8192x1024, .f32⟩
  | .hbm, ⟨5, _⟩ => ⟨S_, .f32⟩
  | .hbm, ⟨6, _⟩ => ⟨S1024x128, .f32⟩
  | .hbm, ⟨7, _⟩ => ⟨S8192x128, .f32⟩
  | .hbm, ⟨8, _⟩ => ⟨S8192x128, .f32⟩
  | .hbm, ⟨9, _⟩ => ⟨S128x1024, .f32⟩
  | .hbm, ⟨10, _⟩ => ⟨S1024x128, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1024x9984 : Shape := ⟨2, ![1024, 9984]⟩
abbrev S8192x9984 : Shape := ⟨2, ![8192, 9984]⟩
abbrev S8192x128 : Shape := ⟨2, ![8192, 128]⟩
abbrev S1024x8192 : Shape := ⟨2, ![1024, 8192]⟩
abbrev S1024x1024 : Shape := ⟨2, ![1024, 1024]⟩
abbrev S1024x3328 : Shape := ⟨2, ![1024, 3328]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9984, .bf16⟩
  | .hbm, ⟨5, _⟩ => ⟨S8192x9984, .bf16⟩
  | .hbm, ⟨6, _⟩ => ⟨S8192x128, .f32⟩
  | .hbm, ⟨7, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3328, .bf16⟩
  | .local _ .vmem, ⟨6, _⟩ => ⟨S1024x3328, .bf16⟩
  | .local _ .vmem, ⟨7, _⟩ => ⟨S1024x3328, .bf16⟩
  | .local _ .vmem, ⟨8, _⟩ => ⟨S1024x3328, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v8 : BitVec 1 := Scalar.cmpi .eq arg1 c2_i32
  let v9 : BitVec 32 := Scalar.extui v8
  let c0_i32_6 : BitVec 32 := 0#32
  let v10 : BitVec 1 := Scalar.cmpi .ne v9 c0_i32_6
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== NormRefIdeal.lean ====
abbrev S8192x1024 : Shape := ⟨2, ![8192, 1024]⟩
abbrev S1x1024 : Shape := ⟨2, ![1, 1024]⟩
abbrev S1024x9984 : Shape := ⟨2, ![1024, 9984]⟩
abbrev S_ : Shape := ⟨0, ![]⟩
abbrev S8192 : Shape := ⟨1, ![8192]⟩
abbrev S8192x1 : Shape := ⟨2, ![8192, 1]⟩
abbrev S8192x9984 : Shape := ⟨2, ![8192, 9984]⟩
abbrev S8192x128 : Shape := ⟨2, ![8192, 128]⟩
abbrev S1024x8192 : Shape := ⟨2, ![1024, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9984, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x9984, .f32⟩
  | .hbm, ⟨28, _⟩ => ⟨S8192x9984, .f32⟩
  | .hbm, ⟨29, _⟩ => ⟨S8192x9984, .bf16⟩
  | .hbm, ⟨30, _⟩ => ⟨S8192x128, .f32⟩
  | .hbm, ⟨31, _⟩ => ⟨S1024x8192, .f32⟩
  | .hbm, ⟨32, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Conv.lean ====
abbrev S8192x9984 : Shape := ⟨2, ![8192, 9984]⟩
abbrev S8192x3072 : Shape := ⟨2, ![8192, 3072]⟩
abbrev S4x3072 : Shape := ⟨2, ![4, 3072]⟩
abbrev S1x3072 : Shape := ⟨2, ![1, 3072]⟩
abbrev S_ : Shape := ⟨0, ![]⟩
abbrev S3x3072 : Shape := ⟨2, ![3, 3072]⟩
abbrev S8195x3072 : Shape := ⟨2, ![8195, 3072]⟩
abbrev S1024x1024 : Shape := ⟨2, ![1024, 1024]⟩
abbrev S16x1024 : Shape := ⟨2, ![16, 1024]⟩
abbrev S8x1024 : Shape := ⟨2, ![8, 1024]⟩
abbrev S4x1024 : Shape := ⟨2, ![4, 1024]⟩
abbrev S1x1024 : Shape := ⟨2, ![1, 1024]⟩
abbrev S32x1024 : Shape := ⟨2, ![32, 1024]⟩
abbrev S48x1024 : Shape := ⟨2, ![48, 1024]⟩
abbrev S40x1024 : Shape := ⟨2, ![40, 1024]⟩
abbrev S1024 : Shape := ⟨1, ![1024]⟩

abbrev nBuf : Space → Nat
  | .hbm => 53
  | .vmem => 20
  | .smem => 0
  | _ => 0

abbrev bufTy : (tb : Table) → Fin (tcTables nBuf tb) → BufTy
  | .hbm, ⟨0, _⟩ => ⟨S8192x9984, .bf16⟩
  | .hbm, ⟨1, _⟩ => ⟨S8192x3072, .f32⟩
  | .hbm, ⟨2, _⟩ => ⟨S4x3072, .f32⟩
  | .hbm, ⟨3, _⟩ => ⟨S1x3072, .f32⟩
  | .hbm, ⟨4, _⟩ => ⟨S8192x3072, .bf16⟩
  | .hbm, ⟨5, _⟩ => ⟨S8192x3072, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x3072, .f32⟩
  | .hbm, ⟨37, _⟩ => ⟨S8192x3072, .f32⟩
  | .hbm, ⟨38, _⟩ => ⟨S_, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S8192x3072, .bf16⟩
  | .hbm, ⟨50, _⟩ => ⟨S8192x3072, .bf16⟩
  | .hbm, ⟨51, _⟩ => ⟨S4x3072, .f32⟩
  | .hbm, ⟨52, _⟩ => ⟨S1x3072, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S16x1024, .bf16⟩
  | .local _ .vmem, ⟨11, _⟩ => ⟨S16x1024, .bf16⟩
  | .local _ .vmem, ⟨12, _⟩ => ⟨S4x1024, .f32⟩
  | .local _ .vmem, ⟨13, _⟩ => ⟨S4x1024, .f32⟩
  | .local _ .vmem, ⟨14, _⟩ => ⟨S1024x1024, .bf16⟩
  | .local _ .vmem, ⟨15, _⟩ => ⟨S1024x1024, .bf16⟩
  | .local _ .vmem, ⟨16, _⟩ => ⟨S4x1024, .f32⟩
  | .local _ .vmem, ⟨17, _⟩ => ⟨S4x1024, .f32⟩
  | .local _ .vmem, ⟨18, _⟩ => ⟨S1x1024, .f32⟩
  | .local _ .vmem, ⟨19, _⟩ => ⟨S1x1024, .f32⟩
  | _, _ => ⟨S8192x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v25_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v25_1 : Ref sig .tc := ⟨.hbm, 41, rfl⟩
abbrev main_v25_0 : Ref sig .tc := ⟨.hbm, 42, rfl⟩
abbrev main_cst_0 : Ref sig .tc := ⟨.hbm, 43, rfl⟩
abbrev main_v26 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S8192x9984 : Shape := ⟨2, ![8192, 9984]⟩
abbrev S8192x3072 : Shape := ⟨2, ![8192, 3072]⟩
abbrev S4x3072 : Shape := ⟨2, ![4, 3072]⟩
abbrev S1x3072 : Shape := ⟨2, ![1, 3072]⟩
abbrev S_ : Shape := ⟨0, ![]⟩
abbrev S3x3072 : Shape := ⟨2, ![3, 3072]⟩
abbrev S8195x3072 : Shape := ⟨2, ![8195, 3072]⟩
abbrev S3072 : Shape := ⟨1, ![3072]⟩

abbrev nBuf : Space → Nat
  | .hbm => 101
  | .vmem => 0
  | .smem => 0
  | _ => 0

abbrev bufTy : (tb : Table) → Fin (tcTables nBuf tb) → BufTy
  | .hbm, ⟨0, _⟩ => ⟨S8192x9984, .bf16⟩
  | .hbm, ⟨1, _⟩ => ⟨S8192x3072, .f32⟩
  | .hbm, ⟨2, _⟩ => ⟨S4x3072, .f32⟩
  | .hbm, ⟨3, _⟩ => ⟨S1x3072, .f32⟩
  | .hbm, ⟨4, _⟩ => ⟨S8192x3072, .bf16⟩
  | .hbm, ⟨5, _⟩ => ⟨S8192x3072, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S_, .f32⟩
  | .hbm, ⟨10, _⟩ => ⟨S3x3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | .hbm, ⟨37, _⟩ => ⟨S_, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S_, .f32⟩
  | .hbm, ⟨50, _⟩ => ⟨S3072, .f32⟩
  | .hbm, ⟨51, _⟩ => ⟨S1x3072, .f32⟩
  | .hbm, ⟨52, _⟩ => ⟨S8192x3072, .f32⟩
  | .hbm, ⟨53, _⟩ => ⟨S8192x3072, .f32⟩
  | .hbm, ⟨54, _⟩ => ⟨S8192x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S_, .f32⟩
  | .hbm, ⟨59, _⟩ => ⟨S8195x3072, .f32⟩
  | .hbm, ⟨60, _⟩ => ⟨S_, .f32⟩
  | .hbm, ⟨61, _⟩ => ⟨S4x3072, .f32⟩
  | .hbm, ⟨62, _⟩ => ⟨S8192x3072, .f32⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S8195x3072, .f32⟩
  | .hbm, ⟨70, _⟩ => ⟨S8195x3072, .f32⟩
  | .hbm, ⟨71, _⟩ => ⟨S_, .f32⟩
  | .hbm, ⟨72, _⟩ => ⟨S4x3072, .f32⟩
  | .hbm, ⟨73, _⟩ => ⟨S4x3072, .f32⟩
  | .hbm, ⟨74, _⟩ => ⟨S8192x3072, .f32⟩
  | .hbm, ⟨75, _⟩ => ⟨S8192x3072, .f32⟩
  | .hbm, ⟨76, _⟩ => ⟨S8192x3072, .f32⟩
  | .hbm, ⟨77, _⟩ => ⟨S_, .f32⟩
  | .hbm, ⟨78, _⟩ => ⟨S3072, .f32⟩
  | .hbm, ⟨79, _⟩ => ⟨S1x3072, .f32⟩
  | .hbm, ⟨80, _⟩ => ⟨S_, .f32⟩
  | .hbm, ⟨81, _⟩ => ⟨S8195x3072, .f32⟩
  | .hbm, ⟨82, _⟩ => ⟨S8195x3072, .f32⟩
  | .hbm, ⟨83, _⟩ => ⟨S_, .f32⟩
  | .hbm, ⟨84, _⟩ => ⟨S4x3072, .f32⟩
  | .hbm, ⟨85, _⟩ => ⟨S4x3072, .f32⟩
  | .hbm, ⟨86, _⟩ => ⟨S8192x3072, .f32⟩
  | .hbm, ⟨87, _⟩ => ⟨S8192x3072, .f32⟩
  | .hbm, ⟨88, _⟩ => ⟨S8192x3072, .f32⟩
  | .hbm, ⟨89, _⟩ => ⟨S_, .f32⟩
  | .hbm, ⟨90, _⟩ => ⟨S3072, .f32⟩
  | .hbm, ⟨91, _⟩ => ⟨S1x3072, .f32⟩
  | .hbm, ⟨92, _⟩ => ⟨S_, .f32⟩
  | .hbm, ⟨93, _⟩ => ⟨S8195x3072, .f32⟩
  | .hbm, ⟨94, _⟩ => ⟨S8195x3072, .f32⟩
  | .hbm, ⟨95, _⟩ => ⟨S_, .f32⟩
  | .hbm, ⟨96, _⟩ => ⟨S4x3072, .f32⟩
  | .hbm, ⟨97, _⟩ => ⟨S4x3072, .f32⟩
  | .hbm, ⟨98, _⟩ => ⟨S3x3072, .f32⟩
  | .hbm, ⟨99, _⟩ => ⟨S8192x3072, .f32⟩
  | .hbm, ⟨100, _⟩ => ⟨S8192x3072, .bf16⟩
  | _, _ => ⟨S8192x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v26_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v26_1 : Ref sig .tc := ⟨.hbm, 43, rfl⟩
abbrev main_v26_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== ConvFwd.lean ====
abbrev S8192x9984 : Shape := ⟨2, ![8192, 9984]⟩
abbrev S4x3072 : Shape := ⟨2, ![4, 3072]⟩
abbrev S1x3072 : Shape := ⟨2, ![1, 3072]⟩
abbrev S8192x3072 : Shape := ⟨2, ![8192, 3072]⟩
abbrev S1024x1024 : Shape := ⟨2, ![1024, 1024]⟩
abbrev S16x1024 : Shape := ⟨2, ![16, 1024]⟩
abbrev S4x1024 : Shape := ⟨2, ![4, 1024]⟩
abbrev S1x1024 : Shape := ⟨2, ![1, 1024]⟩
abbrev S32x1024 : Shape := ⟨2, ![32, 1024]⟩
abbrev S48x1024 : Shape := ⟨2, ![48, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x9984, .bf16⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvFwdRefIdeal.lean ====
abbrev S8192x9984 : Shape := ⟨2, ![8192, 9984]⟩
abbrev S4x3072 : Shape := ⟨2, ![4, 3072]⟩
abbrev S1x3072 : Shape := ⟨2, ![1, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩

abbrev nBuf : Space → Nat
  | .hbm => 49
  | .vmem => 0
  | .smem => 0
  | _ => 0

abbrev bufTy : (tb : Table) → Fin (tcTables nBuf tb) → BufTy
  | .hbm, ⟨0, _⟩ => ⟨S8192x9984, .bf16⟩
  | .hbm, ⟨1, _⟩ => ⟨S4x3072, .f32⟩
  | .hbm, ⟨2, _⟩ => ⟨S1x3072, .f32⟩
  | .hbm, ⟨3, _⟩ => ⟨S8192x3072, .bf16⟩
  | .hbm, ⟨4, _⟩ => ⟨S8192x3072, .f32⟩
  | .hbm, ⟨5, _⟩ => ⟨S_, .f32⟩
  | .hbm, ⟨6, _⟩ => ⟨S3x3072, .f32⟩
  | .hbm, ⟨7, _⟩ => ⟨S8195x3072, .f32⟩
  | .hbm, ⟨8, _⟩ => ⟨S1x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S_, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | .hbm, ⟨37, _⟩ => ⟨S_, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .bf16⟩
  | _, _ => ⟨S8192x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v25_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v25_1 : Ref sig .tc := ⟨.hbm, 40, rfl⟩
abbrev main_v25_0 : Ref sig .tc := ⟨.hbm, 41, rfl⟩
abbrev main_cst_0 : Ref sig .tc := ⟨.hbm, 42, rfl⟩
abbrev main_v26 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== AdaGrad.lean ====
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaMod.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaModRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdamAda.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjIdeal.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsm.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDev.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevRefIdeal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Attn.lean ====
abbrev S8192x9984 : Shape := ⟨2, ![8192, 9984]⟩
abbrev S2x16x128x256 : Shape := ⟨4, ![2, 16, 128, 256]⟩
abbrev S1x64 : Shape := ⟨2, ![1, 64]⟩
abbrev S8192x1024 : Shape := ⟨2, ![8192, 1024]⟩
abbrev S256x1024 : Shape := ⟨2, ![256, 1024]⟩
abbrev S256x256 : Shape := ⟨2, ![256, 256]⟩
abbrev S128x256 : Shape := ⟨2, ![128, 256]⟩
abbrev S1x16x128x256 : Shape := ⟨4, ![1, 16, 128, 256]⟩
abbrev S16x128x256 : Shape := ⟨3, ![16, 128, 256]⟩
abbrev S128x1024 : Shape := ⟨2, ![128, 1024]⟩
abbrev S128x64 : Shape := ⟨2, ![128, 64]⟩
abbrev S2048x64 : Shape := ⟨2, ![2048, 64]⟩
abbrev S2048 : Shape := ⟨1, ![2048]⟩
abbrev S2048x1 : Shape := ⟨2, ![2048, 1]⟩
abbrev S256x64 : Shape := ⟨2, ![256, 64]⟩
abbrev S1024x64 : Shape := ⟨2, ![1024, 64]⟩
abbrev S1024 : Shape := ⟨1, ![1024]⟩
abbrev S1024x1 : Shape := ⟨2, ![1024, 1]⟩
abbrev S512x64 : Shape := ⟨2, ![512, 64]⟩
abbrev S512x256 : Shape := ⟨2, ![512, 256]⟩
abbrev S2048x256 : Shape := ⟨2, ![2048, 256]⟩

abbrev nBuf : Space → Nat
  | .hbm => 5
  | .vmem => 15
  | .smem => 0
  | _ => 0

abbrev bufTy : (tb : Table) → Fin (tcTables nBuf tb) → BufTy
  | .hbm, ⟨0, _⟩ => ⟨S8192x9984, .bf16⟩
  | .hbm, ⟨1, _⟩ => ⟨S2x16x128x256, .f32⟩
  | .hbm, ⟨2, _⟩ => ⟨S1x64, .f32⟩
  | .hbm, ⟨3, _⟩ => ⟨S1x64, .f32⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S2x16x128x256, .f32⟩
  | .local _ .vmem, ⟨11, _⟩ => ⟨S1x64, .f32⟩
  | .local _ .vmem, ⟨12, _⟩ => ⟨S1x64, .f32⟩
  | .local _ .vmem, ⟨13, _⟩ => ⟨S256x1024, .bf16⟩
  | .local _ .vmem, ⟨14, _⟩ => ⟨S256x1024, .bf16⟩
  | _, _ => ⟨S8192x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def k0_off1 (i : grid0.Coords) : Fin 4 → Nat :=
  let arg0 : BitVec 32 := BitVec.ofNat 32 (i 0).val
  let c1_i32 : BitVec 32 := 1#32
  let v2 : BitVec 32 := Scalar.minsi arg0 c1_i32
  let v3 : Index := Scalar.indexCast v2
  let c0_3 : Index := 0#32
  let c0_4 : Index := 0#32
  let c0_5 : Index := 0#32
  ![v3.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c36_i32 : BitVec 32 := 36#32
  let c0_i32_0 : BitVec 32 := 0#32
  ![v2.toNat, c36_i32.toNat]

def cc0_transform_3 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c37_i32 : BitVec 32 := 37#32
  let c0_i32_0 : BitVec 32 := 0#32
  ![v2.toNat, c37_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S8192x9984 : Shape := ⟨2, ![8192, 9984]⟩
abbrev S2x16x128x256 : Shape := ⟨4, ![2, 16, 128, 256]⟩
abbrev S1x64 : Shape := ⟨2, ![1, 64]⟩
abbrev S8192x1024 : Shape := ⟨2, ![8192, 1024]⟩
abbrev S8192x256 : Shape := ⟨2, ![8192, 256]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S8192x4x64 : Shape := ⟨3, ![8192, 4, 64]⟩
abbrev S8192x4 : Shape := ⟨2, ![8192, 4]⟩
abbrev S8192x4x1 : Shape := ⟨3, ![8192, 4, 1]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S63x128x4x64 : Shape := ⟨4, ![63, 128, 4, 64]⟩
abbrev S64x256x4x64 : Shape := ⟨4, ![64, 256, 4, 64]⟩
abbrev S1x16x128x256 : Shape := ⟨4, ![1, 16, 128, 256]⟩
abbrev S63x16x128x256 : Shape := ⟨4, ![63, 16, 128, 256]⟩
abbrev S64x16x128x256 : Shape := ⟨4, ![64, 16, 128, 256]⟩
abbrev S64x4x4x128x256 : Shape := ⟨5, ![64, 4, 4, 128, 256]⟩
abbrev S64x4x256x128x4 : Shape := ⟨5, ![64, 4, 256, 128, 4]⟩
abbrev S256 : Shape := ⟨1, ![256]⟩
abbrev S64x4x4x128x1 : Shape := ⟨5, ![64, 4, 4, 128, 1]⟩
abbrev S64x4x4x128 : Shape := ⟨4, ![64, 4, 4, 128]⟩
abbrev S64x4x64x4x128 : Shape := ⟨5, ![64, 4, 64, 4, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x9984, .bf16⟩
  | .hbm, ⟨1, _⟩ => ⟨S2x16x128x256, .f32⟩
  | .hbm, ⟨2, _⟩ => ⟨S1x64, .f32⟩
  | .hbm, ⟨3, _⟩ => ⟨S1x64, .f32⟩
  | .hbm, ⟨4, _⟩ => ⟨S8192x1024, .bf16⟩
  | .hbm, ⟨5, _⟩ => ⟨S8192x1024, .f32⟩
  | .hbm, ⟨6, _⟩ => ⟨S8192x256, .bf16⟩
  | .hbm, ⟨7, _⟩ => ⟨S8192x256, .f32⟩
  | .hbm, ⟨8, _⟩ => ⟨S8192x256, .bf16⟩
  | .hbm, ⟨9, _⟩ => ⟨S8192x256, .f32⟩
  | .hbm, ⟨10, _⟩ => ⟨S8192x16x64, .f32⟩
  | .hbm, ⟨11, _⟩ => ⟨S8192x16x64, .f32⟩
  | .hbm, ⟨12, _⟩ => ⟨S_, .f32⟩
  | .hbm, ⟨13, _⟩ => ⟨S8192x16, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S_, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S8192x16x64, .f32⟩
  | .hbm, ⟨23, _⟩ => ⟨S8192x16x64, .f32⟩
  | .hbm, ⟨24, _⟩ => ⟨S1x1x64, .f32⟩
  | .hbm, ⟨25, _⟩ => ⟨S8192x16x64, .f32⟩
  | .hbm, ⟨26, _⟩ => ⟨S8192x16x64, .f32⟩
  | .hbm, ⟨27, _⟩ => ⟨S8192x4x64, .f32⟩
  | .hbm, ⟨28, _⟩ => ⟨S8192x4x64, .f32⟩
  | .hbm, ⟨29, _⟩ => ⟨S_, .f32⟩
  | .hbm, ⟨30, _⟩ => ⟨S8192x4, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S_, .f32⟩
  | .hbm, ⟨36, _⟩ => ⟨S8192x4x1, .f32⟩
  | .hbm, ⟨37, _⟩ => ⟨S8192x4x1, .f32⟩
  | .hbm, ⟨38, _⟩ => ⟨S8192x4x1, .f32⟩
  | .hbm, ⟨39, _⟩ => ⟨S8192x4x64, .f32⟩
  | .hbm, ⟨40, _⟩ => ⟨S8192x4x64, .f32⟩
  | .hbm, ⟨41, _⟩ => ⟨S1x1x64, .f32⟩
  | .hbm, ⟨42, _⟩ => ⟨S8192x4x64, .f32⟩
  | .hbm, ⟨43, _⟩ => ⟨S8192x4x64, .f32⟩
  | .hbm, ⟨44, _⟩ => ⟨S64x128x4x4x64, .f32⟩
  | .hbm, ⟨45, _⟩ => ⟨S64x128x4x64, .f32⟩
  | .hbm, ⟨46, _⟩ => ⟨S1x128x4x64, .f32⟩
  | .hbm, ⟨47, _⟩ => ⟨S_, .f32⟩
  | .hbm, ⟨48, _⟩ => ⟨S1x128x4x64, .f32⟩
  | .hbm, ⟨49, _⟩ => ⟨S63x128x4x64, .f32⟩
  | .hbm, ⟨50, _⟩ => ⟨S64x128x4x64, .f32⟩
  | .hbm, ⟨51, _⟩ => ⟨S64x256x4x64, .f32⟩
  | .hbm, ⟨52, _⟩ => ⟨S8192x4x64, .f32⟩
  | .hbm, ⟨53, _⟩ => ⟨S64x128x4x64, .f32⟩
  | .hbm, ⟨54, _⟩ => ⟨S1x128x4x64, .f32⟩
  | .hbm, ⟨55, _⟩ => ⟨S_, .f32⟩
  | .hbm, ⟨56, _⟩ => ⟨S1x128x4x64, .f32⟩
  | .hbm, ⟨57, _⟩ => ⟨S63x128x4x64, .f32⟩
  | .hbm, ⟨58, _⟩ => ⟨S64x128x4x64, .f32⟩
  | .hbm, ⟨59, _⟩ => ⟨S64x256x4x64, .f32⟩
  | .hbm, ⟨60, _⟩ => ⟨S1x16x128x256, .f32⟩
  | .hbm, ⟨61, _⟩ => ⟨S1x16x128x256, .f32⟩
  | .hbm, ⟨62, _⟩ => ⟨S63x16x128x256, .f32⟩
  | .hbm, ⟨63, _⟩ => ⟨S64x16x128x256, .f32⟩
  | .hbm, ⟨64, _⟩ => ⟨S64x4x4x128x256, .f32⟩
  | .hbm, ⟨65, _⟩ => ⟨S64x128x4x4x64, .bf16⟩
  | .hbm, ⟨66, _⟩ => ⟨S64x256x4x64, .bf16⟩
  | .hbm, ⟨67, _⟩ => ⟨S64x4x256x128x4, .f32⟩
  | .hbm, ⟨68, _⟩ => ⟨S64x4x4x128x256, .f32⟩
  | .hbm, ⟨69, _⟩ => ⟨S_, .f32⟩
  | .hbm, ⟨70, _⟩ => ⟨S64x4x4x128x256, .f32⟩
  | .hbm, ⟨71, _⟩ => ⟨S64x4x4x128x256, .f32⟩
  | .hbm, ⟨72, _⟩ => ⟨S256, .i32⟩
  | .hbm, ⟨73, _⟩ => ⟨S_, .i32⟩
  | .hbm, ⟨74, _⟩ => ⟨S256, .i32⟩
  | .hbm, ⟨75, _⟩ => ⟨S256, .i1⟩
  | .hbm, ⟨76, _⟩ => ⟨S64x4x4x128x256, .f32⟩
  | .hbm, ⟨77, _⟩ => ⟨S_, .f32⟩
  | .hbm, ⟨78, _⟩ => ⟨S_, .f32⟩
  | .hbm, ⟨79, _⟩ => ⟨S64x4x4x128x256, .i1⟩
  | .hbm, ⟨80, _⟩ => ⟨S64x4x4x128x256, .f32⟩
  | .hbm, ⟨81, _⟩ => ⟨S64x4x4x128x256, .f32⟩
  | .hbm, ⟨82, _⟩ => ⟨S64x4x4x128x1, .f32⟩
  | .hbm, ⟨83, _⟩ => ⟨S_, .f32⟩
  | .hbm, ⟨84, _⟩ => ⟨S64x4x4x128, .f32⟩
  | .hbm, ⟨85, _⟩ => ⟨S64x4x4x128x1, .f32⟩
  | .hbm, ⟨86, _⟩ => ⟨S64x4x4x128x1, .f32⟩
  | .hbm, ⟨87, _⟩ => ⟨S64x4x4x128x256, .f32⟩
  | .hbm, ⟨88, _⟩ => ⟨S64x4x4x128x256, .f32⟩
  | .hbm, ⟨89, _⟩ => ⟨S64x4x4x128x256, .f32⟩
  | .hbm, ⟨90, _⟩ => ⟨S_, .f32⟩
  | .hbm, ⟨91, _⟩ => ⟨S64x4x4x128, .f32⟩
  | .hbm, ⟨92, _⟩ => ⟨S64x4x4x128x1, .f32⟩
  | .hbm, ⟨93, _⟩ => ⟨S64x4x4x128x1, .f32⟩
  | .hbm, ⟨94, _⟩ => ⟨S64x4x4x128x1, .f32⟩
  | .hbm, ⟨95, _⟩ => ⟨S64x4x4x128x1, .f32⟩
  | .hbm, ⟨96, _⟩ => ⟨S64x4x4x128x256, .f32⟩
  | .hbm, ⟨97, _⟩ => ⟨S64x4x4x128x256, .f32⟩
  | .hbm, ⟨98, _⟩ => ⟨S64x4x4x128x256, .bf16⟩
  | .hbm, ⟨99, _⟩ => ⟨S64x256x4x64, .bf16⟩
  | .hbm, ⟨100, _⟩ => ⟨S64x4x64x4x128, .f32⟩
  | .hbm, ⟨101, _⟩ => ⟨S64x128x4x4x64, .f32⟩
  | .hbm, ⟨102, _⟩ => ⟨S8192x1024, .f32⟩
  | .hbm, ⟨103, _⟩ => ⟨S8192x1024, .bf16⟩
  | _, _ => ⟨S8192x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Proof.RealLift.lean ====
/- Extended reals that are real numbers.

   A value claim of a gradient needs distributivity, which the extended reals do not have: its proof shows that every
   number of both programs is a real number, and compares the real numbers.  This module holds what that takes: the
   operations of the ideal instance at real arguments, read from right to left (an operation of two casts is the cast of
   the operation), the constants the programs print, and an array of real numbers as an array of extended reals. -/
module

public import Idealize.ShloMosaic.Lib.Pointwise
public import Idealize.ShloMosaic.PureOps.Ideal.Laws
public import Idealize.ShloMosaic.Lib.IdealHost

@[expose] public section

noncomputable section

namespace Cert.RealLift

open Idealize.ShloMosaic
open scoped BigOperators

/-! ## Arrays of real numbers -/

/-- An array of real numbers as an array of a float format's ideal values. -/
def lift {s : Shape} (φ : FTy) (x : s.Idx → ℝ) : FVec Ideal s φ := fun i => ((x i : ℝ) : EReal)

theorem lift_apply {s : Shape} {φ : FTy} (x : s.Idx → ℝ) (i : s.Idx) : lift φ x i = ((x i : ℝ) : EReal) := rfl

/-- An array whose elements have an absolute value below infinity is an array of real numbers. -/
theorem eq_lift_of_lt_top {s : Shape} {φ : FTy} (X : FVec Ideal s φ)
    (h : ∀ i, max (X i : EReal) (-(X i : EReal)) < (⊤ : EReal)) :
    X = lift φ fun i => (X i : EReal).toReal := by
  funext i
  have h1 : (X i : EReal) ≠ ⊤ := fun e => by have := h i; rw [e] at this; simp at this
  have h2 : (X i : EReal) ≠ ⊥ := fun e => by have := h i; rw [e] at this; simp at this
  exact (EReal.coe_toReal h1 h2).symm

/-! ## Operations at real arguments -/

theorem radd (a b : ℝ) : (a : EReal) + (b : EReal) = ((a + b : ℝ) : EReal) := (EReal.coe_add a b).symm
theorem rmul (a b : ℝ) : (a : EReal) * (b : EReal) = ((a * b : ℝ) : EReal) := (EReal.coe_mul a b).symm
theorem rsub (a b : ℝ) : (a : EReal) - (b : EReal) = ((a - b : ℝ) : EReal) := (EReal.coe_sub a b).symm
theorem rneg (a : ℝ) : -(a : EReal) = ((-a : ℝ) : EReal) := (EReal.coe_neg a).symm
theorem rzero : (0 : EReal) = ((0 : ℝ) : EReal) := rfl
theorem rone : (1 : EReal) = ((1 : ℝ) : EReal) := rfl

theorem rsum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, radd]

theorem rdiv (a b : ℝ) (hb : b ≠ 0) : Ideal.div (a : EReal) (b : EReal) = ((a / b : ℝ) : EReal) := by
  rw [Ideal.div_coe hb, rmul, mul_one_div]

theorem rrsqrt (a : ℝ) (ha : 0 < a) : Ideal.rsqrt (a : EReal) = (((Real.sqrt a)⁻¹ : ℝ) : EReal) := by
  rw [Ideal.rsqrt_coe, if_neg (not_lt.mpr ha.le), if_neg ha.ne']

theorem rdiv_512 (a : ℝ) : Ideal.div (a : EReal) ((512 : ℝ) : EReal) = ((a / 512 : ℝ) : EReal) := rdiv _ _ (by norm_num)
theorem rdiv_1024 (a : ℝ) : Ideal.div (a : EReal) ((1024 : ℝ) : EReal) = ((a / 1024 : ℝ) : EReal) := rdiv _ _ (by norm_num)

theorem one_add_exp_ne (z : ℝ) : 1 + Real.exp (-z) ≠ 0 := by positivity

/-! ## The constants -/

theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num
theorem c_two : Ideal.ofBits .f32 0x40000000#32 = ((2 : ℝ) : EReal) := by
  simp [Ideal.ofBits, Ideal.ieee, -EReal.coe_mul]; norm_num
theorem c_512 : Ideal.ofBits .f32 0x44000000#32 = ((512 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num

/-- The real number the format's pattern for `1e-6` denotes. -/
def eps : ℝ := 8796093 / 8796093022208
theorem eps_pos : 0 < eps := by unfold eps; norm_num
theorem c_eps : Ideal.ofBits .f32 0x358637BD#32 = ((eps : ℝ) : EReal) := by
  unfold eps
  simp [Ideal.ofBits, Ideal.ieee, -EReal.coe_mul]; norm_num
theorem rexp (a : ℝ) : Ideal.exp (a : EReal) = ((Real.exp a : ℝ) : EReal) := Ideal.exp_coe a
/-- The root mean square's reciprocal, of 512 and of 1024 numbers. -/
theorem rrsqrt_512 {n : ℕ} (f : Fin n → ℝ) :
    Ideal.rsqrt (((∑ l, f l * f l) / 512 + eps : ℝ) : EReal) = (((Real.sqrt ((∑ l, f l * f l) / 512 + eps))⁻¹ : ℝ) : EReal) :=
  rrsqrt _ (by
    have h : 0 ≤ ∑ l, f l * f l := Finset.sum_nonneg fun l _ => mul_self_nonneg _
    have := eps_pos
    positivity)
theorem rrsqrt_1024 {n : ℕ} (f : Fin n → ℝ) :
    Ideal.rsqrt (((∑ l, f l * f l) / 1024 + eps : ℝ) : EReal) = (((Real.sqrt ((∑ l, f l * f l) / 1024 + eps))⁻¹ : ℝ) : EReal) :=
  rrsqrt _ (by
    have h : 0 ≤ ∑ l, f l * f l := Finset.sum_nonneg fun l _ => mul_self_nonneg _
    have := eps_pos
    positivity)

theorem c_inf : Ideal.ofBits .f32 0x7F800000#32 = (⊤ : EReal) := by
  simp [Ideal.ofBits, Ideal.ieee]

/-! ## The logistic function -/

/-- The logistic function. -/
def sg (z : ℝ) : ℝ := 1 / (1 + Real.exp (-z))

/-- The logistic function by the hyperbolic tangent of half the argument. -/
theorem sg_tanh (z : ℝ) : 1 / 2 * Real.tanh (1 / 2 * z) + 1 / 2 = sg z := by
  unfold sg
  have h : Real.exp (-z) = Real.exp (-(1 / 2 * z)) * Real.exp (-(1 / 2 * z)) := by
    rw [← Real.exp_add]; congr 1; ring
  rw [Real.tanh_eq_sinh_div_cosh, Real.sinh_eq, Real.cosh_eq, h]
  have hp : Real.exp (1 / 2 * z) * Real.exp (-(1 / 2 * z)) = 1 := by rw [← Real.exp_add]; simp
  have h1 : 0 < Real.exp (1 / 2 * z) := Real.exp_pos _
  have h2 : 0 < Real.exp (-(1 / 2 * z)) := Real.exp_pos _
  generalize Real.exp (1 / 2 * z) = a at hp h1 ⊢
  generalize Real.exp (-(1 / 2 * z)) = b at hp h2 ⊢
  field_simp
  nlinarith [hp]

/-- The logistic function, as one over one plus an exponential. -/
theorem rsg (a : ℝ) : Ideal.div ((1 : ℝ) : EReal) ((1 + Real.exp (-a) : ℝ) : EReal) = ((sg a : ℝ) : EReal) := rdiv _ _ (one_add_exp_ne a)

end Cert.RealLift
-- ==== Proof.TailMath.lean ====
/- The tail of the layer at one token, on real numbers: what both programs compute there, forward and backward.

   From the two mixers' outputs (`ao`, `ys`) and their gates (`za`, `zm`), to the two projections, their gated sum, the
   output projection, the residual stream and the token's loss; then the derivative of the loss back to each of them. -/
module

public import proofs.«01_k».proof.Proof.RealLift

@[expose] public section

noncomputable section

namespace Cert.Tail

open Cert.RealLift
open scoped BigOperators

/-- One token's inputs, and the parameters every token shares. -/
structure Tok where
  ao : Fin 1024 → ℝ
  za : Fin 1024 → ℝ
  ga : Fin 1024 → ℝ
  gb : Fin 1024 → ℝ
  zm : Fin 2048 → ℝ
  ys : Fin 2048 → ℝ
  x : Fin 1024 → ℝ
  tg : Fin 1024 → ℝ
  gt : Fin 1024 → ℝ
  nw : Fin 2048 → ℝ
  wa : Fin 1024 → Fin 1024 → ℝ
  ws : Fin 2048 → Fin 1024 → ℝ
  wo : Fin 1024 → Fin 1024 → ℝ

namespace Tok

variable (T : Tok)

/-- The group a channel of the grouped norm lies in. -/
def grp (j : Fin 2048) : Fin 4 := ⟨j / 512, by omega⟩
/-- Channel `l` of group `g`. -/
def chan (g : Fin 4) (l : Fin 512) : Fin 2048 := ⟨g * 512 + l, by omega⟩

/-- Derivative of `z * sg z`. -/
def dsilu (z : ℝ) : ℝ := sg z * (1 + z * (1 - sg z))

/-! ## Forward -/

def ua (j : Fin 1024) : ℝ := T.ao j * (T.za j * sg (T.za j))
def ya (k : Fin 1024) : ℝ := ∑ j, T.ua j * T.wa j k
def u (j : Fin 2048) : ℝ := T.ys j * (T.zm j * sg (T.zm j))
def ms (g : Fin 4) : ℝ := (∑ l, T.u (chan g l) * T.u (chan g l)) / 512 + eps
def rs (g : Fin 4) : ℝ := (Real.sqrt (T.ms g))⁻¹
def un (j : Fin 2048) : ℝ := T.u j * T.rs (grp j)
def yn (j : Fin 2048) : ℝ := T.un j * T.nw j
def yb (k : Fin 1024) : ℝ := ∑ j, T.yn j * T.ws j k
def mg (k : Fin 1024) : ℝ := sg (T.ga k) * T.ya k + sg (T.gb k) * T.yb k
def o (k : Fin 1024) : ℝ := ∑ j, T.mg j * T.wo j k
def err (k : Fin 1024) : ℝ := T.x k + T.gt k * T.o k - T.tg k
/-- The mean of the token's squared errors. -/
def sq : ℝ := (∑ k, T.err k * T.err k) / 1024

/-! ## Backward: the derivative of half the sum of the tokens' `sq` -/

def dy (k : Fin 1024) : ℝ := T.err k * (1 / 1024)
def dg (k : Fin 1024) : ℝ := T.dy k * T.o k
def dout (k : Fin 1024) : ℝ := T.dy k * T.gt k
def dmg (j : Fin 1024) : ℝ := ∑ k, T.dout k * T.wo j k
def dga (k : Fin 1024) : ℝ := T.dmg k * T.ya k * sg (T.ga k) * (1 - sg (T.ga k))
def dgb (k : Fin 1024) : ℝ := T.dmg k * T.yb k * sg (T.gb k) * (1 - sg (T.gb k))
def dya (k : Fin 1024) : ℝ := T.dmg k * sg (T.ga k)
def dyb (k : Fin 1024) : ℝ := T.dmg k * sg (T.gb k)
def dua (j : Fin 1024) : ℝ := ∑ k, T.dya k * T.wa j k
def dao (j : Fin 1024) : ℝ := T.dua j * (T.za j * sg (T.za j))
def dza (j : Fin 1024) : ℝ := T.dua j * T.ao j * dsilu (T.za j)
def dyn (j : Fin 2048) : ℝ := ∑ k, T.dyb k * T.ws j k
def dnw (j : Fin 2048) : ℝ := T.dyn j * T.un j
def dun (j : Fin 2048) : ℝ := T.dyn j * T.nw j
/-- The mean over a group of the normalised channels times their derivatives. -/
def pr (g : Fin 4) : ℝ := (∑ l, T.dun (chan g l) * T.un (chan g l)) / 512
def du (j : Fin 2048) : ℝ := T.rs (grp j) * (T.dun j - T.un j * T.pr (grp j))
def dys (j : Fin 2048) : ℝ := T.du j * (T.zm j * sg (T.zm j))
def dzm (j : Fin 2048) : ℝ := T.du j * T.ys j * dsilu (T.zm j)

/-- The derivatives of the projected gates, in the order of their columns. -/
def dmid (j : Fin 5120) : ℝ :=
  if h1 : (j : ℕ) < 1024 then T.dza ⟨j, h1⟩
  else if h2 : (j : ℕ) < 2048 then T.dga ⟨j - 1024, by omega⟩
  else if h3 : (j : ℕ) < 3072 then T.dgb ⟨j - 2048, by omega⟩
  else T.dzm ⟨j - 3072, by omega⟩

theorem ms_pos (g : Fin 4) : 0 < T.ms g := by
  unfold ms
  have h : 0 ≤ ∑ l, T.u (chan g l) * T.u (chan g l) := Finset.sum_nonneg fun l _ => mul_self_nonneg _
  have := eps_pos
  positivity

theorem rs_mul_rs (g : Fin 4) : T.rs g * T.rs g = 1 / T.ms g := by
  unfold rs
  rw [← mul_inv, Real.mul_self_sqrt (T.ms_pos g).le, one_div]

theorem grp_chan (g : Fin 4) (l : Fin 512) : grp (chan g l) = g := by
  apply Fin.ext; simp only [grp, chan]; omega

end Tok

end Cert.Tail
-- ==== Proof.TailBlock.lean ====
/- What the kernel's body computes of one block of 256 tokens, on real numbers: each of the body's named payloads, at blocks
   of real numbers, is the block of one of `Tok`'s quantities. -/
module

public import proofs.«01_k».proof.Proof.TailMath
public import proofs.«01_k».proof.Proof.Gen.KernelIdeal.Skeleton

@[expose] public section

set_option maxRecDepth 16384

noncomputable section

namespace Cert.KernelIdeal.TailBlock

open Cert.KernelIdeal Cert.KernelIdeal.Gen Idealize.ShloMosaic Cert.RealLift Cert.Tail
open scoped BigOperators

/-- The blocks one grid point reads, as arrays of real numbers. -/
structure Blk where
  ao : S256x1024.Idx → ℝ
  za : S256x1024.Idx → ℝ
  ga : S256x1024.Idx → ℝ
  gb : S256x1024.Idx → ℝ
  zm : S256x2048.Idx → ℝ
  ys : S256x2048.Idx → ℝ
  x : S256x1024.Idx → ℝ
  tg : S256x1024.Idx → ℝ
  gt : S1x1024.Idx → ℝ
  nw : S1x2048.Idx → ℝ
  wa : S1024x1024.Idx → ℝ
  ws : S2048x1024.Idx → ℝ
  wo : S1024x1024.Idx → ℝ

variable (B : Blk)

/-- Token `r` of the block. -/
def Blk.tok (r : Fin 256) : Tok where
  ao j := B.ao (ix2 r j)
  za j := B.za (ix2 r j)
  ga j := B.ga (ix2 r j)
  gb j := B.gb (ix2 r j)
  zm j := B.zm (ix2 r j)
  ys j := B.ys (ix2 r j)
  x j := B.x (ix2 r j)
  tg j := B.tg (ix2 r j)
  gt j := B.gt (ix2 0 j)
  nw j := B.nw (ix2 0 j)
  wa j k := B.wa (ix2 j k)
  ws j k := B.ws (ix2 j k)
  wo j k := B.wo (ix2 j k)

/-- A quantity of each token of the block, as a block. -/
def rowsOf {n : ℕ} (φ : FTy) (f : Tok → Fin n → ℝ) : FVec Ideal ⟨2, ![256, n]⟩ φ := lift φ fun j => f (B.tok (j 0)) (j 1)
/-- The same, transposed. -/
def colsOf {n : ℕ} (φ : FTy) (f : Tok → Fin n → ℝ) : FVec Ideal ⟨2, ![n, 256]⟩ φ := lift φ fun j => f (B.tok (j 1)) (j 0)
/-- The columns of one group of the norm. -/
def grpOf (g : Fin 4) (φ : FTy) (f : Tok → Fin 2048 → ℝ) : FVec Ideal S256x512 φ := lift φ fun j => f (B.tok (j 0)) (Tok.chan g (j 1))
/-- One number of each token, as a column. -/
def colOf (φ : FTy) (f : Tok → ℝ) : FVec Ideal S256x1 φ := lift φ fun j => f (B.tok (j 0))
/-- One number of each token, as a vector. -/
def vecOf (φ : FTy) (f : Tok → ℝ) : FVec Ideal S256 φ := lift φ fun j => f (B.tok (j 0))

theorem rowsOf_ix2 {n : ℕ} {φ : FTy} (f : Tok → Fin n → ℝ) (r : Fin 256) (c : Fin n) :
    rowsOf B φ f (ix2 r c) = ((f (B.tok r) c : ℝ) : EReal) := rfl
theorem colsOf_ix2 {n : ℕ} {φ : FTy} (f : Tok → Fin n → ℝ) (r : Fin 256) (c : Fin n) :
    colsOf B φ f (ix2 c r) = ((f (B.tok r) c : ℝ) : EReal) := rfl
theorem grpOf_ix2 {φ : FTy} (g : Fin 4) (f : Tok → Fin 2048 → ℝ) (r : Fin 256) (c : Fin 512) :
    grpOf B g φ f (ix2 r c) = ((f (B.tok r) (Tok.chan g c) : ℝ) : EReal) := rfl
theorem colOf_ix2 {φ : FTy} (f : Tok → ℝ) (r : Fin 256) (c : Fin 1) : colOf B φ f (ix2 r c) = ((f (B.tok r) : ℝ) : EReal) := rfl
theorem vecOf_ix1 {φ : FTy} (f : Tok → ℝ) (r : Fin 256) : vecOf B φ f (ix1 r) = ((f (B.tok r) : ℝ) : EReal) := rfl

/-! A channel's number, by its group. -/
theorem mk0 (i : Fin 512) (h : (i : ℕ) < 2048) : (⟨(i : ℕ), h⟩ : Fin 2048) = Tok.chan 0 i := by apply Fin.ext; simp [Tok.chan]
theorem mk1 (i : Fin 512) (h : 512 + (i : ℕ) < 2048) : (⟨512 + (i : ℕ), h⟩ : Fin 2048) = Tok.chan 1 i := by apply Fin.ext; simp [Tok.chan]
theorem mk2 (i : Fin 512) (h : 1024 + (i : ℕ) < 2048) : (⟨1024 + (i : ℕ), h⟩ : Fin 2048) = Tok.chan 2 i := by apply Fin.ext; simp [Tok.chan]
theorem mk3 (i : Fin 512) (h : 1536 + (i : ℕ) < 2048) : (⟨1536 + (i : ℕ), h⟩ : Fin 2048) = Tok.chan 3 i := by apply Fin.ext; simp [Tok.chan]

/-- Four groups' columns side by side are the whole row. -/
theorem four (f : Fin 2048 → ℝ) (j : Fin 2048) :
    (if h : (j : ℕ) < 512 then ((f (Tok.chan 0 ⟨j, h⟩) : ℝ) : EReal)
      else if h1 : (j : ℕ) - 512 < 512 then ((f (Tok.chan 1 ⟨(j : ℕ) - 512, h1⟩) : ℝ) : EReal)
      else if h2 : (j : ℕ) - 512 - 512 < 512 then ((f (Tok.chan 2 ⟨(j : ℕ) - 512 - 512, h2⟩) : ℝ) : EReal)
      else ((f (Tok.chan 3 ⟨(j : ℕ) - 512 - 512 - 512, by omega⟩) : ℝ) : EReal)) = ((f j : ℝ) : EReal) := by
  by_cases h : (j : ℕ) < 512
  · rw [dif_pos h]; congr 2; apply Fin.ext; simp [Tok.chan]
  rw [dif_neg h]
  by_cases h1 : (j : ℕ) - 512 < 512
  · rw [dif_pos h1]; congr 2; apply Fin.ext; simp [Tok.chan]; omega
  rw [dif_neg h1]
  by_cases h2 : (j : ℕ) - 512 - 512 < 512
  · rw [dif_pos h2]; congr 2; apply Fin.ext; simp [Tok.chan]; omega
  rw [dif_neg h2]
  congr 2; apply Fin.ext; simp [Tok.chan]; omega

theorem pay10_eq : k0_pay10 (F := Ideal) (lift .bf16 B.ao) = rowsOf B .f32 (fun T j => T.ao j) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay10]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay11_eq : k0_pay11 (F := Ideal) (lift .bf16 B.za) = rowsOf B .f32 (fun T j => T.za j) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay11]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay12_eq : k0_pay12 (F := Ideal) (lift .bf16 B.za) = rowsOf B .f32 (fun T j => sg (T.za j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay12, k0_pay11]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay13_eq : k0_pay13 (F := Ideal) (lift .bf16 B.za) = rowsOf B .f32 (fun T j => T.za j * sg (T.za j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay13, k0_pay11, k0_pay12]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay14_eq : k0_pay14 (F := Ideal) (lift .bf16 B.ao) (lift .bf16 B.za) = rowsOf B .f32 Tok.ua := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay14, k0_pay10, k0_pay11, k0_pay12, k0_pay13]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay15_eq : k0_pay15 (F := Ideal) (lift .bf16 B.ao) (lift .bf16 B.za) (lift .bf16 B.wa) = rowsOf B .f32 Tok.ya := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay15, k0_pay14, k0_pay10, k0_pay11, k0_pay12, k0_pay13]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay16_eq : k0_pay16 (F := Ideal) (lift .bf16 B.zm) = rowsOf B .f32 (fun T j => T.zm j) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay16]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay17_eq : k0_pay17 (F := Ideal) (lift .bf16 B.zm) = rowsOf B .f32 (fun T j => sg (T.zm j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay17, k0_pay16]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay18_eq : k0_pay18 (F := Ideal) (lift .bf16 B.zm) = rowsOf B .f32 (fun T j => T.zm j * sg (T.zm j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay18, k0_pay16, k0_pay17]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay19_eq : k0_pay19 (F := Ideal) (lift .bf16 B.ys) = rowsOf B .f32 (fun T j => T.ys j) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay19]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay20_eq : k0_pay20 (F := Ideal) (lift .bf16 B.zm) (lift .bf16 B.ys) = rowsOf B .f32 Tok.u := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay20, k0_pay16, k0_pay17, k0_pay18, k0_pay19]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay21_eq : k0_pay21 (F := Ideal) (lift .bf16 B.zm) (lift .bf16 B.ys) = grpOf B 0 .f32 Tok.u := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay21, pay20_eq]
  pointwise [k0_pay21]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  skip

theorem pay22_eq : k0_pay22 (F := Ideal) (lift .bf16 B.zm) (lift .bf16 B.ys) = vecOf B .f32 (fun T => ∑ l, T.u (Tok.chan 0 l) * T.u (Tok.chan 0 l)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay22, pay21_eq]
  pointwise [k0_pay22]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay23_eq : k0_pay23 (F := Ideal) (vecOf B .f32 (fun T => ∑ l, T.u (Tok.chan 0 l) * T.u (Tok.chan 0 l))) = colOf B .f32 (fun T => T.rs 0) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay23]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay24_eq : k0_pay24 (F := Ideal) (grpOf B 0 .f32 Tok.u) (vecOf B .f32 (fun T => ∑ l, T.u (Tok.chan 0 l) * T.u (Tok.chan 0 l))) = grpOf B 0 .f32 Tok.un := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay24, pay23_eq]
  pointwise [k0_pay24]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals simp only [Tok.un, Tok.grp_chan]

theorem pay25_eq : k0_pay25 (F := Ideal) (rowsOf B .f32 Tok.u) = grpOf B 1 .f32 Tok.u := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay25]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay26_eq : k0_pay26 (F := Ideal) (rowsOf B .f32 Tok.u) = colOf B .f32 (fun T => T.rs 1) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay26, pay25_eq]
  pointwise [k0_pay26]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay27_eq : k0_pay27 (F := Ideal) (rowsOf B .f32 Tok.u) = grpOf B 1 .f32 Tok.un := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay27, pay25_eq, pay26_eq]
  pointwise [k0_pay27]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals simp only [Tok.un, Tok.grp_chan]

theorem pay28_eq : k0_pay28 (F := Ideal) (rowsOf B .f32 Tok.u) = grpOf B 2 .f32 Tok.u := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay28]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay29_eq : k0_pay29 (F := Ideal) (rowsOf B .f32 Tok.u) = colOf B .f32 (fun T => T.rs 2) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay29, pay28_eq]
  pointwise [k0_pay29]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay30_eq : k0_pay30 (F := Ideal) (rowsOf B .f32 Tok.u) = grpOf B 2 .f32 Tok.un := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay30, pay28_eq, pay29_eq]
  pointwise [k0_pay30]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals simp only [Tok.un, Tok.grp_chan]

theorem pay31_eq : k0_pay31 (F := Ideal) (rowsOf B .f32 Tok.u) = grpOf B 3 .f32 Tok.u := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay31]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay32_eq : k0_pay32 (F := Ideal) (rowsOf B .f32 Tok.u) = colOf B .f32 (fun T => T.rs 3) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay32, pay31_eq]
  pointwise [k0_pay32]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay33_eq : k0_pay33 (F := Ideal) (rowsOf B .f32 Tok.u) = grpOf B 3 .f32 Tok.un := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay33, pay31_eq, pay32_eq]
  pointwise [k0_pay33]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals simp only [Tok.un, Tok.grp_chan]

theorem pay34_eq : k0_pay34 (F := Ideal) (rowsOf B .f32 Tok.u) (grpOf B 0 .f32 Tok.u) (vecOf B .f32 (fun T => ∑ l, T.u (Tok.chan 0 l) * T.u (Tok.chan 0 l))) = rowsOf B .f32 Tok.un := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay34, pay24_eq, pay27_eq, pay30_eq, pay33_eq]
  pointwise [k0_pay34]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  exact four (B.tok i0).un i1

theorem pay35_eq : k0_pay35 (F := Ideal) (rowsOf B .f32 Tok.u) (lift .f32 B.nw) (grpOf B 0 .f32 Tok.u) (vecOf B .f32 (fun T => ∑ l, T.u (Tok.chan 0 l) * T.u (Tok.chan 0 l))) = rowsOf B .f32 Tok.yn := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay35, pay34_eq]
  pointwise [k0_pay35]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay36_eq : k0_pay36 (F := Ideal) (rowsOf B .f32 Tok.u) (lift .f32 B.nw) (grpOf B 0 .f32 Tok.u) (vecOf B .f32 (fun T => ∑ l, T.u (Tok.chan 0 l) * T.u (Tok.chan 0 l))) = rowsOf B .bf16 Tok.yn := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay36, pay35_eq]
  pointwise [k0_pay36]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay37_eq : k0_pay37 (F := Ideal) (rowsOf B .bf16 Tok.yn) (lift .bf16 B.ws) (constant S256x1024 .f32 0x00000000#32) = rowsOf B .f32 Tok.yb := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay37]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay38_eq : k0_pay38 (F := Ideal) (lift .bf16 B.ga) = rowsOf B .f32 (fun T j => sg (T.ga j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay38]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay39_eq : k0_pay39 (F := Ideal) (lift .bf16 B.gb) = rowsOf B .f32 (fun T j => sg (T.gb j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay39]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay40_eq : k0_pay40 (F := Ideal) (rowsOf B .f32 Tok.ya) (rowsOf B .bf16 Tok.yn) (lift .bf16 B.ws) (constant S256x1024 .f32 0x00000000#32) (lift .bf16 B.ga) (lift .bf16 B.gb) = rowsOf B .f32 Tok.mg := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay40, pay37_eq, pay38_eq, pay39_eq]
  pointwise [k0_pay40]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay41_eq : k0_pay41 (F := Ideal) (rowsOf B .f32 Tok.ya) (rowsOf B .bf16 Tok.yn) (lift .bf16 B.ws) (constant S256x1024 .f32 0x00000000#32) (lift .bf16 B.ga) (lift .bf16 B.gb) (lift .bf16 B.wo) = rowsOf B .f32 Tok.o := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay41, pay40_eq]
  pointwise [k0_pay41]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay42_eq : k0_pay42 (F := Ideal) (rowsOf B .f32 Tok.ya) (rowsOf B .bf16 Tok.yn) (lift .bf16 B.ws) (constant S256x1024 .f32 0x00000000#32) (lift .bf16 B.ga) (lift .bf16 B.gb) (lift .bf16 B.wo) (lift .f32 B.gt) (lift .f32 B.x) (lift .f32 B.tg) = rowsOf B .f32 Tok.err := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay42, pay41_eq]
  pointwise [k0_pay42]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay45_eq : k0_pay45 (F := Ideal) (rowsOf B .f32 Tok.ya) (rowsOf B .bf16 Tok.yn) (lift .bf16 B.ws) (constant S256x1024 .f32 0x00000000#32) (lift .bf16 B.ga) (lift .bf16 B.gb) (lift .bf16 B.wo) (lift .f32 B.gt) (lift .f32 B.x) (lift .f32 B.tg) = rowsOf B .f32 (fun T j => T.err j * T.err j) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay45, pay42_eq]
  pointwise [k0_pay45]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay47_eq : k0_pay47 (F := Ideal) (rowsOf B .f32 Tok.err) = rowsOf B .f32 Tok.dy := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay47]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay49_eq : k0_pay49 (F := Ideal) (lift .f32 B.gt) (rowsOf B .f32 Tok.err) = rowsOf B .bf16 Tok.dout := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay49, pay47_eq]
  pointwise [k0_pay49]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay50_eq : k0_pay50 (F := Ideal) (lift .f32 B.gt) (rowsOf B .f32 Tok.err) (lift .bf16 B.wo) = rowsOf B .f32 Tok.dmg := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay50, pay49_eq]
  pointwise [k0_pay50]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay51_eq : k0_pay51 (F := Ideal) (rowsOf B .f32 Tok.ya) (rowsOf B .f32 (fun T j => sg (T.ga j))) (lift .f32 B.gt) (rowsOf B .f32 Tok.err) (lift .bf16 B.wo) = rowsOf B .bf16 Tok.dga := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay51, pay50_eq]
  pointwise [k0_pay51]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay52_eq : k0_pay52 (F := Ideal) (rowsOf B .f32 Tok.yb) (rowsOf B .f32 (fun T j => sg (T.gb j))) (rowsOf B .f32 Tok.dmg) = rowsOf B .bf16 Tok.dgb := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay52]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay53_eq : k0_pay53 (F := Ideal) (rowsOf B .f32 (fun T j => sg (T.ga j))) (rowsOf B .f32 Tok.dmg) = rowsOf B .bf16 Tok.dya := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay53]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay54_eq : k0_pay54 (F := Ideal) (rowsOf B .f32 (fun T j => sg (T.gb j))) (rowsOf B .f32 Tok.dmg) = rowsOf B .bf16 Tok.dyb := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay54]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay55_eq : k0_pay55 (F := Ideal) (rowsOf B .f32 (fun T j => sg (T.ga j))) (rowsOf B .f32 Tok.dmg) (lift .bf16 B.wa) = rowsOf B .f32 Tok.dua := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay55, pay53_eq]
  pointwise [k0_pay55]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay56_eq : k0_pay56 (F := Ideal) (rowsOf B .f32 (fun T j => T.za j * sg (T.za j))) (rowsOf B .f32 (fun T j => sg (T.ga j))) (rowsOf B .f32 Tok.dmg) (lift .bf16 B.wa) = rowsOf B .bf16 Tok.dao := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay56, pay55_eq]
  pointwise [k0_pay56]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay57_eq : k0_pay57 (F := Ideal) (rowsOf B .f32 (fun T j => T.ao j)) (rowsOf B .f32 (fun T j => T.za j)) (rowsOf B .f32 (fun T j => sg (T.za j))) (rowsOf B .f32 (fun T j => sg (T.ga j))) (rowsOf B .f32 Tok.dmg) (lift .bf16 B.wa) = rowsOf B .bf16 Tok.dza := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay57, pay55_eq]
  pointwise [k0_pay57]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay58_eq : k0_pay58 (F := Ideal) (rowsOf B .f32 (fun T j => sg (T.gb j))) (rowsOf B .f32 Tok.dmg) (lift .bf16 B.ws) = rowsOf B .f32 Tok.dyn := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay58, pay54_eq]
  pointwise [k0_pay58]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay60_eq : k0_pay60 (F := Ideal) (lift .f32 B.nw) (rowsOf B .f32 Tok.dyn) = rowsOf B .f32 Tok.dun := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay60]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay61_eq : k0_pay61 (F := Ideal) (lift .f32 B.nw) (colOf B .f32 (fun T => T.rs 0)) (grpOf B 0 .f32 Tok.un) (rowsOf B .f32 Tok.dyn) = grpOf B 0 .f32 Tok.du := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay61, pay60_eq]
  pointwise [k0_pay61]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  simp only [Tok.du, Tok.pr, Tok.grp_chan]

theorem pay62_eq : k0_pay62 (F := Ideal) (lift .f32 B.nw) (colOf B .f32 (fun T => T.rs 1)) (grpOf B 1 .f32 Tok.un) (rowsOf B .f32 Tok.dyn) = grpOf B 1 .f32 Tok.du := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay62, pay60_eq]
  pointwise [k0_pay62]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  simp only [Tok.du, Tok.pr, Tok.grp_chan]

theorem pay63_eq : k0_pay63 (F := Ideal) (lift .f32 B.nw) (colOf B .f32 (fun T => T.rs 2)) (grpOf B 2 .f32 Tok.un) (rowsOf B .f32 Tok.dyn) = grpOf B 2 .f32 Tok.du := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay63, pay60_eq]
  pointwise [k0_pay63]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  simp only [Tok.du, Tok.pr, Tok.grp_chan]

theorem pay64_eq : k0_pay64 (F := Ideal) (lift .f32 B.nw) (grpOf B 3 .f32 Tok.un) (rowsOf B .f32 Tok.dyn) = grpOf B 3 .f32 (fun T j => T.dun j - T.un j * T.pr (Tok.grp j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay64, pay60_eq]
  pointwise [k0_pay64]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay65_eq : k0_pay65 (F := Ideal) (colOf B .f32 (fun T => T.rs 3)) = grpOf B 3 .f32 (fun T j => T.rs (Tok.grp j)) := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay65]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  exact congrArg (fun g => (((B.tok i0).rs g : ℝ) : EReal)) (Tok.grp_chan 3 i1).symm

theorem pay1_eq : k0_pay1 (F := Ideal) (grpOf B 0 .f32 Tok.du) (grpOf B 1 .f32 Tok.du) (grpOf B 2 .f32 Tok.du) (grpOf B 3 .f32 (fun T j => T.dun j - T.un j * T.pr (Tok.grp j))) (grpOf B 3 .f32 (fun T j => T.rs (Tok.grp j))) = rowsOf B .f32 Tok.du := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay1]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  refine Eq.trans ?_ (four (B.tok i0).du i1); simp only [Tok.du, Tok.grp_chan]

theorem pay2_eq : k0_pay2 (F := Ideal) (rowsOf B .f32 (fun T j => T.zm j * sg (T.zm j))) (grpOf B 0 .f32 Tok.du) (grpOf B 1 .f32 Tok.du) (grpOf B 2 .f32 Tok.du) (grpOf B 3 .f32 (fun T j => T.dun j - T.un j * T.pr (Tok.grp j))) (grpOf B 3 .f32 (fun T j => T.rs (Tok.grp j))) = rowsOf B .bf16 Tok.dys := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay2, pay1_eq]
  pointwise [k0_pay2]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay3_eq : k0_pay3 (F := Ideal) (rowsOf B .f32 (fun T j => T.zm j)) (rowsOf B .f32 (fun T j => sg (T.zm j))) (rowsOf B .f32 (fun T j => T.ys j)) (grpOf B 0 .f32 Tok.du) (grpOf B 1 .f32 Tok.du) (grpOf B 2 .f32 Tok.du) (grpOf B 3 .f32 (fun T j => T.dun j - T.un j * T.pr (Tok.grp j))) (grpOf B 3 .f32 (fun T j => T.rs (Tok.grp j))) = rowsOf B .bf16 Tok.dzm := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  simp only [k0_pay3, pay1_eq]
  pointwise [k0_pay3]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay4_eq : k0_pay4 (F := Ideal) (rowsOf B .f32 Tok.ua) = colsOf B .bf16 Tok.ua := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay4]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay5_eq : k0_pay5 (F := Ideal) (rowsOf B .f32 Tok.yn) = colsOf B .bf16 Tok.yn := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay5]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

theorem pay6_eq : k0_pay6 (F := Ideal) (rowsOf B .f32 Tok.mg) = colsOf B .bf16 Tok.mg := by
  funext i; idx_vars i
  refine Eq.trans ?_ (by first | exact (rowsOf_ix2 B _ _ _).symm | exact (colsOf_ix2 B _ _ _).symm | exact (grpOf_ix2 B _ _ _ _).symm | exact (colOf_ix2 B _ _ _).symm | exact (vecOf_ix1 B _ _).symm)
  skip
  pointwise [k0_pay6]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add, mk0, mk1, mk2, mk3, Tok.grp_chan]
  all_goals rfl

/-! The three results every point adds to. -/
theorem pay48_at (acc : FVec Ideal S1x1024 .f32) (i0 : Fin 1) (i1 : Fin 1024) :
    k0_pay48 (F := Ideal) (rowsOf B .f32 Tok.o) (rowsOf B .f32 Tok.err) acc (ix2 i0 i1) = acc (ix2 i0 i1) + ((∑ r, (B.tok r).dg i1 : ℝ) : EReal) := by
  simp only [k0_pay48, pay47_eq]
  pointwise []
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add]
  rfl

theorem pay59_at (acc : FVec Ideal S1x2048 .f32) (i0 : Fin 1) (i1 : Fin 2048) :
    k0_pay59 (F := Ideal) (rowsOf B .f32 Tok.un) (rowsOf B .f32 (fun T j => sg (T.gb j))) (rowsOf B .f32 Tok.dmg) (lift .bf16 B.ws) acc (ix2 i0 i1) = acc (ix2 i0 i1) + ((∑ r, (B.tok r).dnw i1 : ℝ) : EReal) := by
  simp only [k0_pay59, pay58_eq]
  pointwise []
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add]
  rfl

theorem pay46_at (acc : FVec Ideal S1x128 .f32) (i0 : Fin 1) (i1 : Fin 128) :
    k0_pay46 (F := Ideal) (k0_pay43 acc) (k0_pay44) (rowsOf B .f32 (fun T j => T.err j * T.err j)) (ix2 i0 i1)
      = acc (ix2 i0 i1) + if (i1 : ℕ) = 0 then ((1 / 2 * ∑ r, (B.tok r).sq : ℝ) : EReal) else 0 := by
  pointwise [k0_pay46, k0_pay43, k0_pay44]
  simp only [lift_apply, rowsOf_ix2, colsOf_ix2, grpOf_ix2, colOf_ix2, vecOf_ix1, c_half, c_512, c_1024, c_inv1024, c_eps, rone, rmul, Ideal.tanh_coe, radd, rsub, sg_tanh, rsum, rdiv_512, rdiv_1024, rrsqrt_512, zero_add]
  have hc : ∀ i : Fin 128, IntOp.cmpi CmpIPredicate.eq (BitVec.ofNat 32 (i : ℕ)) 0#32 = if (i : ℕ) = 0 then 1#1 else 0#1 := by decide
  rw [hc]
  by_cases h : (i1 : ℕ) = 0
  · simp [h, Scalar.select, Tok.sq]
  · simp [h, Scalar.select]

end Cert.KernelIdeal.TailBlock
-- ==== Proof.TailRef.lean ====
/- What the reference computes from real arrays: each of the values it names is the array of one of `Tok`'s quantities. -/
module

public import proofs.«01_k».proof.Proof.TailMath
public import proofs.«01_k».proof.Proof.Gen.ReferenceIdeal.Read

@[expose] public section

set_option maxRecDepth 16384

noncomputable section

namespace Cert.ReferenceIdeal.TailRef

open Cert.ReferenceIdeal Cert.ReferenceIdeal.Gen Cert.ReferenceIdeal.Read Idealize.ShloMosaic Cert.RealLift Cert.Tail
open scoped BigOperators

/-- The arguments, as arrays of real numbers. -/
structure Arr where
  proj : S8192x9984.Idx → ℝ
  ao : S8192x1024.Idx → ℝ
  ys : S8192x2048.Idx → ℝ
  x : S8192x1024.Idx → ℝ
  tg : S8192x1024.Idx → ℝ
  gt : S1x1024.Idx → ℝ
  nw : S1x2048.Idx → ℝ
  wa : S1024x1024.Idx → ℝ
  ws : S2048x1024.Idx → ℝ
  wo : S1024x1024.Idx → ℝ

variable (A : Arr)

/-- Token `t`: the gates are columns 1024 to 6144 of the projection. -/
def Arr.tok (t : Fin 8192) : Tok where
  ao j := A.ao (ix2 t j)
  za j := A.proj (ix2 t ⟨1024 + j, by omega⟩)
  ga j := A.proj (ix2 t ⟨2048 + j, by omega⟩)
  gb j := A.proj (ix2 t ⟨3072 + j, by omega⟩)
  zm j := A.proj (ix2 t ⟨4096 + j, by omega⟩)
  ys j := A.ys (ix2 t j)
  x j := A.x (ix2 t j)
  tg j := A.tg (ix2 t j)
  gt j := A.gt (ix2 0 j)
  nw j := A.nw (ix2 0 j)
  wa j k := A.wa (ix2 j k)
  ws j k := A.ws (ix2 j k)
  wo j k := A.wo (ix2 j k)

/-- The norm's derivative, as the reference writes it: through the mean square, which the reciprocal root depends on. -/
theorem du_eq (T : Tok) (g : Fin 4) (l : Fin 512) :
    T.du (Tok.chan g l) = T.dun (Tok.chan g l) * T.rs g
      + T.u (Tok.chan g l) * ((∑ l, T.u (Tok.chan g l) * T.dun (Tok.chan g l)) * (-(1 / 2) * (T.rs g / T.ms g)) / 512)
      + (∑ l, T.u (Tok.chan g l) * T.dun (Tok.chan g l)) * (-(1 / 2) * (T.rs g / T.ms g)) / 512 * T.u (Tok.chan g l) := by
  have hp : T.pr g = T.rs g * (∑ l, T.u (Tok.chan g l) * T.dun (Tok.chan g l)) / 512 := by
    simp only [Tok.pr, Tok.un, Tok.grp_chan, Finset.mul_sum]
    congr 1
    exact Finset.sum_congr rfl fun l _ => by ring
  have h := T.rs_mul_rs g
  simp only [Tok.du, Tok.grp_chan, hp, Tok.un]
  have h' : T.rs g / T.ms g = T.rs g * (T.rs g * T.rs g) := by rw [h]; ring
  rw [h']
  ring

/-- Four arrays side by side are the derivatives of the projected gates. -/
theorem dmid_eq (T : Tok) (j : Fin 5120) :
    (if h : (j : ℕ) < 1024 then ((T.dza ⟨j, h⟩ : ℝ) : EReal)
      else if h1 : (j : ℕ) - 1024 < 1024 then ((T.dga ⟨(j : ℕ) - 1024, h1⟩ : ℝ) : EReal)
      else if h2 : (j : ℕ) - 1024 - 1024 < 1024 then ((T.dgb ⟨(j : ℕ) - 1024 - 1024, h2⟩ : ℝ) : EReal)
      else ((T.dzm ⟨(j : ℕ) - 1024 - 1024 - 1024, by omega⟩ : ℝ) : EReal)) = ((T.dmid j : ℝ) : EReal) := by
  unfold Tok.dmid
  by_cases h : (j : ℕ) < 1024
  · rw [dif_pos h, dif_pos h]
  rw [dif_neg h, dif_neg h]
  by_cases h1 : (j : ℕ) - 1024 < 1024
  · have e : (j : ℕ) < 2048 := by omega
    rw [dif_pos h1, dif_pos e]
  have e : ¬(j : ℕ) < 2048 := by omega
  rw [dif_neg h1, dif_neg e]
  by_cases h2 : (j : ℕ) - 1024 - 1024 < 1024
  · have e : (j : ℕ) < 3072 := by omega
    rw [dif_pos h2, dif_pos e]; exact congrArg (fun i => ((T.dgb i : ℝ) : EReal)) (Fin.ext (by show (j : ℕ) - 1024 - 1024 = (j : ℕ) - 2048; omega))
  have e : ¬(j : ℕ) < 3072 := by omega
  rw [dif_neg h2, dif_neg e]
  exact congrArg (fun i => ((T.dzm i : ℝ) : EReal)) (Fin.ext (by show (j : ℕ) - 1024 - 1024 - 1024 = (j : ℕ) - 3072; omega))

/-- A quantity of each token, as an array. -/
def rowsOf {n : ℕ} (φ : FTy) (f : Tok → Fin n → ℝ) : FVec Ideal ⟨2, ![8192, n]⟩ φ := lift φ fun j => f (A.tok (j 0)) (j 1)
/-- The same, transposed. -/
def colsOf {n : ℕ} (φ : FTy) (f : Tok → Fin n → ℝ) : FVec Ideal ⟨2, ![n, 8192]⟩ φ := lift φ fun j => f (A.tok (j 1)) (j 0)
/-- The same, with the channels cut into the norm's groups. -/
def grpsOf (f : Tok → Fin 2048 → ℝ) : FVec Ideal S8192x4x512 .f32 := lift .f32 fun j => f (A.tok (j 0)) (Tok.chan (j 1) (j 2))
/-- One number of each group of each token. -/
def colOf (f : Tok → Fin 4 → ℝ) : FVec Ideal S8192x4x1 .f32 := lift .f32 fun j => f (A.tok (j 0)) (j 1)

theorem rowsOf_ix2 {n : ℕ} {φ : FTy} (f : Tok → Fin n → ℝ) (r : Fin 8192) (c : Fin n) :
    rowsOf A φ f (ix2 r c) = ((f (A.tok r) c : ℝ) : EReal) := rfl
theorem colsOf_ix2 {n : ℕ} {φ : FTy} (f : Tok → Fin n → ℝ) (r : Fin 8192) (c : Fin n) :
    colsOf A φ f (ix2 c r) = ((f (A.tok r) c : ℝ) : EReal) := rfl
theorem grpsOf_ix3 (f : Tok → Fin 2048 → ℝ) (r : Fin 8192) (g : Fin 4) (c : Fin 512) :
    grpsOf A f (ix3 r g c) = ((f (A.tok r) (Tok.chan g c) : ℝ) : EReal) := rfl
theorem colOf_ix3 (f : Tok → Fin 4 → ℝ) (r : Fin 8192) (g : Fin 4) (c : Fin 1) :
    colOf A f (ix3 r g c) = ((f (A.tok r) g : ℝ) : EReal) := rfl

theorem chan_mk (g : Fin 4) (l : Fin 512) (h : (g : ℕ) * 512 + l < 2048) : (⟨(g : ℕ) * 512 + l, h⟩ : Fin 2048) = Tok.chan g l := rfl
theorem chan_div_mod (j : Fin 2048) (h : (j : ℕ) / 512 < 4) (h' : (j : ℕ) % 512 < 512) :
    Tok.chan ⟨(j : ℕ) / 512, h⟩ ⟨(j : ℕ) % 512, h'⟩ = j := by
  apply Fin.ext; simp only [Tok.chan]; omega

theorem v1_eq : val_main_v1 (F := Ideal) (lift .bf16 A.proj) = rowsOf A .f32 (fun T j => T.za j) := by
  funext i; idx_vars i
  simp only [val_main_v1, val_main_v0]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v3_eq : val_main_v3 (F := Ideal) (lift .bf16 A.proj) = rowsOf A .f32 (fun T j => T.ga j) := by
  funext i; idx_vars i
  simp only [val_main_v3, val_main_v2]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v5_eq : val_main_v5 (F := Ideal) (lift .bf16 A.proj) = rowsOf A .f32 (fun T j => T.gb j) := by
  funext i; idx_vars i
  simp only [val_main_v5, val_main_v4]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v7_eq : val_main_v7 (F := Ideal) (lift .bf16 A.proj) = rowsOf A .f32 (fun T j => T.zm j) := by
  funext i; idx_vars i
  simp only [val_main_v7, val_main_v6]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v8_eq : val_main_v8 (F := Ideal) (lift .bf16 A.wa) = lift .f32 A.wa := by
  funext i; idx_vars i
  simp only [val_main_v8]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v9_eq : val_main_v9 (F := Ideal) (lift .bf16 A.ws) = lift .f32 A.ws := by
  funext i; idx_vars i
  simp only [val_main_v9]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v10_eq : val_main_v10 (F := Ideal) (lift .bf16 A.wo) = lift .f32 A.wo := by
  funext i; idx_vars i
  simp only [val_main_v10]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v11_eq : val_main_v11 (F := Ideal) (lift .bf16 A.ao) = rowsOf A .f32 (fun T j => T.ao j) := by
  funext i; idx_vars i
  simp only [val_main_v11]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v15_eq : val_main_v15 (F := Ideal) (lift .bf16 A.ys) = rowsOf A .f32 (fun T j => T.ys j) := by
  funext i; idx_vars i
  simp only [val_main_v15]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v12_2_eq : val_main_v12_2 (F := Ideal) (lift .bf16 A.proj) = rowsOf A .f32 (fun T j => sg (T.za j)) := by
  funext i; idx_vars i
  simp only [val_main_v12_2, val_main_call0_v4, val_main_call0_v3, val_main_call0_v2, val_main_call0_v1, val_main_call0_v0, val_main_call0_cst, val_main_call0_cst_0, v1_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v12_1_eq : val_main_v12_1 (F := Ideal) (lift .bf16 A.proj) = rowsOf A .f32 (fun T j => sg (T.za j) * (1 - sg (T.za j))) := by
  funext i; idx_vars i
  simp only [val_main_v12_1, val_main_call0_v7, val_main_call0_v6, val_main_call0_cst_1, v12_2_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v12_0_eq : val_main_v12_0 (F := Ideal) (lift .bf16 A.proj) = rowsOf A .f32 (fun T j => T.za j * sg (T.za j)) := by
  funext i; idx_vars i
  simp only [val_main_v12_0, v1_eq A, v12_2_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v13_eq : val_main_v13 (F := Ideal) (lift .bf16 A.proj) (lift .bf16 A.ao) = rowsOf A .f32 Tok.ua := by
  funext i; idx_vars i
  simp only [val_main_v13, v11_eq A, v12_0_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v14_eq : val_main_v14 (F := Ideal) (lift .bf16 A.proj) (lift .bf16 A.ao) (lift .bf16 A.wa) = rowsOf A .f32 Tok.ya := by
  funext i; idx_vars i
  simp only [val_main_v14, v8_eq A, v13_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v16_2_eq : val_main_v16_2 (F := Ideal) (lift .bf16 A.proj) = rowsOf A .f32 (fun T j => sg (T.zm j)) := by
  funext i; idx_vars i
  simp only [val_main_v16_2, val_main_call1_v4, val_main_call1_v3, val_main_call1_v2, val_main_call1_v1, val_main_call1_v0, val_main_call1_cst, val_main_call1_cst_0, v7_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v16_1_eq : val_main_v16_1 (F := Ideal) (lift .bf16 A.proj) = rowsOf A .f32 (fun T j => sg (T.zm j) * (1 - sg (T.zm j))) := by
  funext i; idx_vars i
  simp only [val_main_v16_1, val_main_call1_v7, val_main_call1_v6, val_main_call1_cst_1, v16_2_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v16_0_eq : val_main_v16_0 (F := Ideal) (lift .bf16 A.proj) = rowsOf A .f32 (fun T j => T.zm j * sg (T.zm j)) := by
  funext i; idx_vars i
  simp only [val_main_v16_0, v7_eq A, v16_2_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v17_eq : val_main_v17 (F := Ideal) (lift .bf16 A.proj) (lift .bf16 A.ys) = rowsOf A .f32 Tok.u := by
  funext i; idx_vars i
  simp only [val_main_v17, v15_eq A, v16_0_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v18_eq : val_main_v18 (F := Ideal) (lift .bf16 A.proj) (lift .bf16 A.ys) = grpsOf A Tok.u := by
  funext i; idx_vars i
  simp only [val_main_v18, v17_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v26_eq : val_main_v26 (F := Ideal) (lift .bf16 A.proj) (lift .bf16 A.ys) = colOf A Tok.ms := by
  funext i; idx_vars i
  simp only [val_main_v26, val_main_v24, val_main_v25, val_main_cst_1, val_main_v22, val_main_v23, val_main_cst_0, val_main_v21, val_main_v20, val_main_cst, v18_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v27_eq : val_main_v27 (F := Ideal) (lift .bf16 A.proj) (lift .bf16 A.ys) = colOf A Tok.rs := by
  funext i; idx_vars i
  simp only [val_main_v27, v26_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  exact rrsqrt_512 _

theorem v30_eq : val_main_v30 (F := Ideal) (lift .bf16 A.proj) (lift .bf16 A.ys) = colOf A (fun T g => -(1 / 2) * (T.rs g / T.ms g)) := by
  funext i; idx_vars i
  simp only [val_main_v30, val_main_v29, val_main_v28, val_main_cst_2, v26_eq A, v27_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  rw [rdiv _ _ ((A.tok i0).ms_pos i1).ne', rmul]

theorem v32_eq : val_main_v32 (F := Ideal) (lift .bf16 A.proj) (lift .bf16 A.ys) = grpsOf A Tok.un := by
  funext i; idx_vars i
  simp only [val_main_v32, val_main_v31, v18_eq A, v27_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  simp only [Tok.un, Tok.grp_chan]

theorem v34_eq : val_main_v34 (F := Ideal) (lift .f32 A.nw) = grpsOf A (fun T j => T.nw j) := by
  funext i; idx_vars i
  simp only [val_main_v34, val_main_v33, val_main_v19]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v36_eq : val_main_v36 (F := Ideal) (lift .bf16 A.proj) (lift .bf16 A.ys) (lift .f32 A.nw) = rowsOf A .f32 Tok.yn := by
  funext i; idx_vars i
  simp only [val_main_v36, val_main_v35, v32_eq A, v34_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v37_eq : val_main_v37 (F := Ideal) (lift .bf16 A.proj) (lift .bf16 A.ys) (lift .f32 A.nw) (lift .bf16 A.ws) = rowsOf A .f32 Tok.yb := by
  funext i; idx_vars i
  simp only [val_main_v37, v9_eq A, v36_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v43_eq : val_main_v43 (F := Ideal) (lift .bf16 A.proj) = rowsOf A .f32 (fun T j => sg (T.ga j)) := by
  funext i; idx_vars i
  simp only [val_main_v43, val_main_v42, val_main_v41, val_main_v40, val_main_v39, val_main_v38, val_main_cst_3, val_main_cst_4, v3_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v46_eq : val_main_v46 (F := Ideal) (lift .bf16 A.proj) = rowsOf A .f32 (fun T j => sg (T.ga j) * (1 - sg (T.ga j))) := by
  funext i; idx_vars i
  simp only [val_main_v46, val_main_v45, val_main_v44, val_main_cst_5, v43_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v53_eq : val_main_v53 (F := Ideal) (lift .bf16 A.proj) = rowsOf A .f32 (fun T j => sg (T.gb j)) := by
  funext i; idx_vars i
  simp only [val_main_v53, val_main_v52, val_main_v51, val_main_v50, val_main_v49, val_main_v48, val_main_cst_6, val_main_cst_7, v5_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v56_eq : val_main_v56 (F := Ideal) (lift .bf16 A.proj) = rowsOf A .f32 (fun T j => sg (T.gb j) * (1 - sg (T.gb j))) := by
  funext i; idx_vars i
  simp only [val_main_v56, val_main_v55, val_main_v54, val_main_cst_8, v53_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v58_eq : val_main_v58 (F := Ideal) (lift .bf16 A.proj) (lift .bf16 A.ao) (lift .bf16 A.ys) (lift .f32 A.nw) (lift .bf16 A.wa) (lift .bf16 A.ws) = rowsOf A .f32 Tok.mg := by
  funext i; idx_vars i
  simp only [val_main_v58, val_main_v47, val_main_v57, v14_eq A, v37_eq A, v43_eq A, v53_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v59_eq : val_main_v59 (F := Ideal) (lift .bf16 A.proj) (lift .bf16 A.ao) (lift .bf16 A.ys) (lift .f32 A.nw) (lift .bf16 A.wa) (lift .bf16 A.ws) (lift .bf16 A.wo) = rowsOf A .f32 Tok.o := by
  funext i; idx_vars i
  simp only [val_main_v59, v10_eq A, v58_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v63_eq : val_main_v63 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.err := by
  funext i; idx_vars i
  simp only [val_main_v63, val_main_v62, val_main_v61, val_main_v60, v59_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v71_eq : val_main_v71 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun _ => 1 / 2 * ∑ t, (A.tok t).sq) := by
  funext i
  simp only [val_main_v71, val_main_cst_13, val_main_v70, val_main_v69, val_main_cst_12, val_main_v67, val_main_v68, val_main_cst_11, val_main_v64, val_main_cst_10, v63_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v77_eq : val_main_v77 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dy := by
  funext i; idx_vars i
  simp only [val_main_v77, val_main_v76, val_main_v66, val_main_v65, val_main_cst_9, val_main_v75, val_main_v73, val_main_v74, val_main_cst_16, val_main_v72, val_main_cst_14, val_main_cst_15, v63_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dy]; ring

theorem v79_eq : val_main_v79 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dout := by
  funext i; idx_vars i
  simp only [val_main_v79, val_main_v78, v77_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  exact congrArg _ (mul_comm _ _)

theorem v82_eq : val_main_v82 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun j => ∑ t, (A.tok t).dg (j 1)) := by
  funext i; idx_vars i
  simp only [val_main_v82, val_main_v81, val_main_v80, val_main_cst_17, v59_eq A, v77_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v83_eq : val_main_v83 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dmg := by
  funext i; idx_vars i
  simp only [val_main_v83, v10_eq A, v79_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v84_eq : val_main_v84 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dyb := by
  funext i; idx_vars i
  simp only [val_main_v84, v53_eq A, v83_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dyb]; all_goals ring

theorem v86_eq : val_main_v86 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dgb := by
  funext i; idx_vars i
  simp only [val_main_v86, val_main_v85, v37_eq A, v56_eq A, v83_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dgb]; all_goals ring

theorem v87_eq : val_main_v87 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dya := by
  funext i; idx_vars i
  simp only [val_main_v87, v43_eq A, v83_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dya]; all_goals ring

theorem v89_eq : val_main_v89 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dga := by
  funext i; idx_vars i
  simp only [val_main_v89, val_main_v88, v14_eq A, v46_eq A, v83_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dga]; all_goals ring

theorem v90_eq : val_main_v90 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dua := by
  funext i; idx_vars i
  simp only [val_main_v90, v8_eq A, v87_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v92_eq : val_main_v92 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dao := by
  funext i; idx_vars i
  simp only [val_main_v92, v12_0_eq A, v90_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dao]; all_goals ring

theorem v93_eq : val_main_v93 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dza := by
  funext i; idx_vars i
  simp only [val_main_v93, val_main_call2_v1, val_main_call2_v2, val_main_call2_v0, val_main_v91, v1_eq A, v11_eq A, v12_2_eq A, v12_1_eq A, v90_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dza, Tok.dsilu]; all_goals ring

theorem v94_eq : val_main_v94 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dyn := by
  funext i; idx_vars i
  simp only [val_main_v94, v9_eq A, v84_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v95_eq : val_main_v95 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = grpsOf A Tok.dyn := by
  funext i; idx_vars i
  simp only [val_main_v95, v94_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v96_eq : val_main_v96 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = grpsOf A Tok.dnw := by
  funext i; idx_vars i
  simp only [val_main_v96, v32_eq A, v95_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dnw]; all_goals ring

theorem v97_eq : val_main_v97 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun j => ∑ t, (A.tok t).dnw (Tok.chan (j 0) (j 1))) := by
  funext i; idx_vars i
  simp only [val_main_v97, val_main_cst_18, v96_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v101_eq : val_main_v101 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun j => ∑ t, (A.tok t).dnw (Tok.chan (j 0) (j 1))) := by
  funext i; idx_vars i
  simp only [val_main_v101, val_main_v98, val_main_cst_19, v97_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  simp

theorem v116_eq : val_main_v116 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun j => ∑ t, (A.tok t).dnw (j 1)) := by
  funext i; idx_vars i
  simp only [val_main_v116, v101_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  exact congrArg (fun j => ((∑ t, (A.tok t).dnw j : ℝ) : EReal)) (chan_div_mod i1 (by omega) (by omega))

theorem v100_eq : val_main_v100 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = grpsOf A Tok.dun := by
  funext i; idx_vars i
  simp only [val_main_v100, val_main_v99, val_main_v33, val_main_v19, v95_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v104_eq : val_main_v104 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = colOf A (fun T g => ∑ l, T.u (Tok.chan g l) * T.dun (Tok.chan g l)) := by
  funext i; idx_vars i
  simp only [val_main_v104, val_main_v103, val_main_v102, val_main_cst_20, v18_eq A, v100_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v109_eq : val_main_v109 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = colOf A (fun T g => (∑ l, T.u (Tok.chan g l) * T.dun (Tok.chan g l)) * (-(1 / 2) * (T.rs g / T.ms g)) / 512) := by
  funext i; idx_vars i
  simp only [val_main_v109, val_main_v107, val_main_v108, val_main_cst_21, v30_eq A, v104_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v115_eq : val_main_v115 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = grpsOf A Tok.du := by
  funext i; idx_vars i
  simp only [val_main_v115, val_main_v113, val_main_v114, val_main_v111, val_main_v110, val_main_cst_22, val_main_v106, val_main_v112, val_main_v105, v18_eq A, v27_eq A, v100_eq A, v109_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  simp only [Finset.univ_unique, Finset.sum_singleton]; exact congrArg _ (du_eq _ _ _).symm

theorem v117_eq : val_main_v117 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.du := by
  funext i; idx_vars i
  simp only [val_main_v117, v115_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v119_eq : val_main_v119 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dys := by
  funext i; idx_vars i
  simp only [val_main_v119, v16_0_eq A, v117_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dys]; all_goals ring

theorem v120_eq : val_main_v120 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .f32 Tok.dzm := by
  funext i; idx_vars i
  simp only [val_main_v120, val_main_call3_v1, val_main_call3_v2, val_main_call3_v0, val_main_v118, v7_eq A, v15_eq A, v16_2_eq A, v16_1_eq A, v117_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  refine congrArg (fun r : ℝ => (r : EReal)) ?_; simp only [Tok.dzm, Tok.dsilu]; all_goals ring

theorem v122_eq : val_main_v122 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = lift .f32 (fun j => if (j 1 : ℕ) = 0 then 1 / 2 * ∑ t, (A.tok t).sq else 0) := by
  funext i; idx_vars i
  simp only [val_main_v122, val_main_v121, val_main_call4_v0, val_main_c, v71_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  by_cases h : (i1 : ℕ) = 0
  · rw [dif_pos (by omega)]; exact congrArg (fun r : ℝ => (r : EReal)) (if_pos h).symm
  · rw [dif_neg (by omega)]; refine Eq.trans ?_ (congrArg (fun r : ℝ => (r : EReal)) (if_neg h).symm); simp [FloatOps.sitofp]

theorem v123_eq : val_main_v123 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dao := by
  funext i; idx_vars i
  simp only [val_main_v123, v92_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v125_eq : val_main_v125 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dmid := by
  funext i; idx_vars i
  simp only [val_main_v125, val_main_v124, v86_eq A, v89_eq A, v93_eq A, v120_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  simp only [v93_eq A, v89_eq A, v86_eq A, v120_eq A, rowsOf_ix2]; exact dmid_eq _ _

theorem v126_eq : val_main_v126 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dys := by
  funext i; idx_vars i
  simp only [val_main_v126, v119_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v128_eq : val_main_v128 (F := Ideal) (lift .bf16 A.proj) (lift .bf16 A.ao) = colsOf A .bf16 Tok.ua := by
  funext i; idx_vars i
  simp only [val_main_v128, val_main_v127, v13_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v130_eq : val_main_v130 (F := Ideal) (lift .bf16 A.proj) (lift .bf16 A.ys) (lift .f32 A.nw) = colsOf A .bf16 Tok.yn := by
  funext i; idx_vars i
  simp only [val_main_v130, val_main_v129, v36_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v132_eq : val_main_v132 (F := Ideal) (lift .bf16 A.proj) (lift .bf16 A.ao) (lift .bf16 A.ys) (lift .f32 A.nw) (lift .bf16 A.wa) (lift .bf16 A.ws) = colsOf A .bf16 Tok.mg := by
  funext i; idx_vars i
  simp only [val_main_v132, val_main_v131, v58_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v133_eq : val_main_v133 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dya := by
  funext i; idx_vars i
  simp only [val_main_v133, v87_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v134_eq : val_main_v134 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dyb := by
  funext i; idx_vars i
  simp only [val_main_v134, v84_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

theorem v135_eq : val_main_v135 (F := Ideal) (lift .bf16 A.proj) (lift .bf16 A.ao) (lift .bf16 A.ys) (lift .f32 A.x) (lift .f32 A.tg) (lift .f32 A.gt) (lift .f32 A.nw) (lift .bf16 A.wa) (lift .bf16 A.ws) (lift .bf16 A.wo) = rowsOf A .bf16 Tok.dout := by
  funext i; idx_vars i
  simp only [val_main_v135, v79_eq A]
  pointwise []
  simp only [lift_apply, rowsOf_ix2, colsOf_ix2, grpsOf_ix3, colOf_ix3, c_half, c_neg_half, c_two, c_512, c_1024, c_inv1024, c_eps, rone, rmul, radd, rsub, rneg, rexp, rsg, rsum, rdiv_512, rdiv_1024, rrsqrt_512, zero_add, chan_mk, chan_div_mod, Tok.grp_chan]
  all_goals rfl

end Cert.ReferenceIdeal.TailRef
-- ==== Proof.TailArrays.lean ====
/- The kernel's output arrays after the run, at real arguments: each is the array of one of `Tok`'s quantities. -/
module

public import proofs.«01_k».proof.Proof.TailBlock
public import proofs.«01_k».proof.Proof.TailRef
public import proofs.«01_k».proof.Proof.Gen.KernelIdeal.Value
public import Idealize.ShloMosaic.Lib.Pipeline.ValueKit

@[expose] public section

set_option maxRecDepth 16384

noncomputable section

namespace Cert.KernelIdeal.TailArrays

open Cert.KernelIdeal Cert.KernelIdeal.Gen Idealize.ShloMosaic Idealize.ShloMosaic.TcCoe Cert.RealLift Cert.Tail
open Cert.KernelIdeal.TailBlock (Blk)
open Cert.ReferenceIdeal.TailRef (Arr)
open scoped BigOperators

variable (m : (ℓ : Loc nD τ sig) → Buf (Elt Ideal) ℓ) (A : Arr)

/-- The arguments on core `c` are the arrays `A`. -/
structure Holds (c : Dev nD) : Prop where
  proj : m ((c : Thread nD τ).loc main_arg0) = lift .bf16 A.proj
  ao : m ((c : Thread nD τ).loc main_arg1) = lift .bf16 A.ao
  ys : m ((c : Thread nD τ).loc main_arg2) = lift .bf16 A.ys
  x : m ((c : Thread nD τ).loc main_arg3) = lift .f32 A.x
  tg : m ((c : Thread nD τ).loc main_arg4) = lift .f32 A.tg
  gt : m ((c : Thread nD τ).loc main_arg5) = lift .f32 A.gt
  nw : m ((c : Thread nD τ).loc main_arg6) = lift .f32 A.nw
  wa : m ((c : Thread nD τ).loc main_arg7) = lift .bf16 A.wa
  ws : m ((c : Thread nD τ).loc main_arg8) = lift .bf16 A.ws
  wo : m ((c : Thread nD τ).loc main_arg9) = lift .bf16 A.wo

/-- Row `r` of block `t` is row `256 t + r` of the array. -/
def row (t : Fin cfg0.N) (r : Fin 256) : Fin 8192 := ⟨t.val * 256 + r, by have := t.isLt; have h : cfg0.N = 32 := N_0; omega⟩

/-- The blocks of the point `t`. -/
def blkOf (t : Fin cfg0.N) : Blk where
  ao i := A.ao (ix2 (row t (i 0)) (i 1))
  za i := A.proj (ix2 (row t (i 0)) ⟨1024 + (i 1).val, by have : (i 1).val < 1024 := (i 1).isLt; omega⟩)
  ga i := A.proj (ix2 (row t (i 0)) ⟨2048 + (i 1).val, by have : (i 1).val < 1024 := (i 1).isLt; omega⟩)
  gb i := A.proj (ix2 (row t (i 0)) ⟨3072 + (i 1).val, by have : (i 1).val < 1024 := (i 1).isLt; omega⟩)
  zm i := A.proj (ix2 (row t (i 0)) ⟨4096 + (i 1).val, by have : (i 1).val < 2048 := (i 1).isLt; omega⟩)
  ys i := A.ys (ix2 (row t (i 0)) (i 1))
  x i := A.x (ix2 (row t (i 0)) (i 1))
  tg i := A.tg (ix2 (row t (i 0)) (i 1))
  gt := A.gt
  nw := A.nw
  wa := A.wa
  ws := A.ws
  wo := A.wo

theorem tok_row (t : Fin cfg0.N) (r : Fin 256) : (blkOf A t).tok r = A.tok (row t r) := rfl

theorem idx : ∀ t : Fin cfg0.N, win0_0.index t = ![t.val, 0] ∧ win0_1.index t = ![t.val, 1] ∧ win0_2.index t = ![t.val, 2]
    ∧ win0_3.index t = ![t.val, 3] ∧ win0_4.index t = ![t.val, 2] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_12.index t = ![0, 0] := (by decide +kernel : ∀ t : Fin grid0.N, _)

theorem idx_out : ∀ t : Fin cfg0.N, win0_13.index t = ![0, 0] ∧ win0_14.index t = ![t.val, 0] ∧ win0_15.index t = ![t.val, 0]
    ∧ win0_16.index t = ![t.val, 0] ∧ win0_17.index t = ![t.val, 0] ∧ win0_18.index t = ![0, t.val] ∧ win0_19.index t = ![0, t.val]
    ∧ win0_20.index t = ![0, t.val] ∧ win0_21.index t = ![t.val, 0] ∧ win0_22.index t = ![t.val, 0] ∧ win0_23.index t = ![t.val, 0]
    ∧ win0_24.index t = ![0, 0] ∧ win0_25.index t = ![0, 0] := (by decide +kernel : ∀ t : Fin grid0.N, _)

variable {m A}

theorem in0 {c : Dev nD} (H : Holds m A c) (t : Fin cfg0.N) : iblk m c 0 t = lift .bf16 (blkOf A t).ao := by
  funext i; idx_vars i
  blk_simp [iblk, V, idx t]
  rw [H.ao]
  refine congrArg (fun j => ((A.ao j : ℝ) : EReal)) ?_
  blk_ext [iblk, V, idx t]
  rfl

theorem in5 {c : Dev nD} (H : Holds m A c) (t : Fin cfg0.N) : iblk m c 5 t = lift .bf16 (blkOf A t).ys := by
  funext i; idx_vars i
  blk_simp [iblk, V, idx t]
  rw [H.ys]
  refine congrArg (fun j => ((A.ys j : ℝ) : EReal)) ?_
  blk_ext [iblk, V, idx t]
  rfl

theorem in6 {c : Dev nD} (H : Holds m A c) (t : Fin cfg0.N) : iblk m c 6 t = lift .f32 (blkOf A t).x := by
  funext i; idx_vars i
  blk_simp [iblk, V, idx t]
  rw [H.x]
  refine congrArg (fun j => ((A.x j : ℝ) : EReal)) ?_
  blk_ext [iblk, V, idx t]
  rfl

theorem in7 {c : Dev nD} (H : Holds m A c) (t : Fin cfg0.N) : iblk m c 7 t = lift .f32 (blkOf A t).tg := by
  funext i; idx_vars i
  blk_simp [iblk, V, idx t]
  rw [H.tg]
  refine congrArg (fun j => ((A.tg j : ℝ) : EReal)) ?_
  blk_ext [iblk, V, idx t]
  rfl

theorem in8 {c : Dev nD} (H : Holds m A c) (t : Fin cfg0.N) : iblk m c 8 t = lift .f32 (blkOf A t).gt := by
  funext i; idx_vars i
  blk_simp [iblk, V, idx t]
  rw [H.gt]
  refine congrArg (fun j => ((A.gt j : ℝ) : EReal)) ?_
  blk_ext [iblk, V, idx t]

theorem in9 {c : Dev nD} (H : Holds m A c) (t : Fin cfg0.N) : iblk m c 9 t = lift .f32 (blkOf A t).nw := by
  funext i; idx_vars i
  blk_simp [iblk, V, idx t]
  rw [H.nw]
  refine congrArg (fun j => ((A.nw j : ℝ) : EReal)) ?_
  blk_ext [iblk, V, idx t]

theorem in10 {c : Dev nD} (H : Holds m A c) (t : Fin cfg0.N) : iblk m c 10 t = lift .bf16 (blkOf A t).wa := by
  funext i; idx_vars i
  blk_simp [iblk, V, idx t]
  rw [H.wa]
  refine congrArg (fun j => ((A.wa j : ℝ) : EReal)) ?_
  blk_ext [iblk, V, idx t]

theorem in11 {c : Dev nD} (H : Holds m A c) (t : Fin cfg0.N) : iblk m c 11 t = lift .bf16 (blkOf A t).ws := by
  funext i; idx_vars i
  blk_simp [iblk, V, idx t]
  rw [H.ws]
  refine congrArg (fun j => ((A.ws j : ℝ) : EReal)) ?_
  blk_ext [iblk, V, idx t]

theorem in12 {c : Dev nD} (H : Holds m A c) (t : Fin cfg0.N) : iblk m c 12 t = lift .bf16 (blkOf A t).wo := by
  funext i; idx_vars i
  blk_simp [iblk, V, idx t]
  rw [H.wo]
  refine congrArg (fun j => ((A.wo j : ℝ) : EReal)) ?_
  blk_ext [iblk, V, idx t]

theorem in1 {c : Dev nD} (H : Holds m A c) (t : Fin cfg0.N) : X0_1 m c t = lift .bf16 (blkOf A t).za := by
  funext i
  unfold X0_1 Pipeline.Window.fill
  rw [dif_pos (moved0_1 t i)]
  idx_vars i
  blk_simp [iblk, V, idx t]
  rw [H.proj]
  refine congrArg (fun j => ((A.proj j : ℝ) : EReal)) ?_
  blk_ext [iblk, V, idx t]
  rfl

theorem in2 {c : Dev nD} (H : Holds m A c) (t : Fin cfg0.N) : X0_2 m c t = lift .bf16 (blkOf A t).ga := by
  funext i
  unfold X0_2 Pipeline.Window.fill
  rw [dif_pos (moved0_2 t i)]
  idx_vars i
  blk_simp [iblk, V, idx t]
  rw [H.proj]
  refine congrArg (fun j => ((A.proj j : ℝ) : EReal)) ?_
  blk_ext [iblk, V, idx t]
  rfl

theorem in3 {c : Dev nD} (H : Holds m A c) (t : Fin cfg0.N) : X0_3 m c t = lift .bf16 (blkOf A t).gb := by
  funext i
  unfold X0_3 Pipeline.Window.fill
  rw [dif_pos (moved0_3 t i)]
  idx_vars i
  blk_simp [iblk, V, idx t]
  rw [H.proj]
  refine congrArg (fun j => ((A.proj j : ℝ) : EReal)) ?_
  blk_ext [iblk, V, idx t]
  rfl

theorem in4 {c : Dev nD} (H : Holds m A c) (t : Fin cfg0.N) : X0_4 m c t = lift .bf16 (blkOf A t).zm := by
  funext i
  unfold X0_4 Pipeline.Window.fill
  rw [dif_pos (moved0_4 t i)]
  idx_vars i
  blk_simp [iblk, V, idx t]
  rw [H.proj]
  refine congrArg (fun j => ((A.proj j : ℝ) : EReal)) ?_
  blk_ext [iblk, V, idx t]
  rfl

/-- Rows of a block are rows of the array. -/
theorem rows_at {n : ℕ} {φ : FTy} (f : Tok → Fin n → ℝ) (t : Fin cfg0.N) (y : (⟨2, ![256, n]⟩ : Shape).Idx) (j : (⟨2, ![8192, n]⟩ : Shape).Idx)
    (h0 : (j 0 : ℕ) = t.val * 256 + (y 0 : ℕ)) (h1 : (j 1 : ℕ) = (y 1 : ℕ)) :
    TailBlock.rowsOf (blkOf A t) φ f y = Cert.ReferenceIdeal.TailRef.rowsOf A φ f j := by
  have e0 : (j 0 : Fin 8192) = row t (y 0) := Fin.ext h0
  have e1 : (j 1 : Fin n) = (y 1 : Fin n) := Fin.ext h1
  show ((f ((blkOf A t).tok (y 0)) (y 1) : ℝ) : EReal) = ((f (A.tok (j 0)) (j 1) : ℝ) : EReal)
  rw [e0, e1]
  rfl

/-- The same for the transposed arrays. -/
theorem cols_at {n : ℕ} {φ : FTy} (f : Tok → Fin n → ℝ) (t : Fin cfg0.N) (y : (⟨2, ![n, 256]⟩ : Shape).Idx) (j : (⟨2, ![n, 8192]⟩ : Shape).Idx)
    (h0 : (j 1 : ℕ) = t.val * 256 + (y 1 : ℕ)) (h1 : (j 0 : ℕ) = (y 0 : ℕ)) :
    TailBlock.colsOf (blkOf A t) φ f y = Cert.ReferenceIdeal.TailRef.colsOf A φ f j := by
  have e0 : (j 1 : Fin 8192) = row t (y 1) := Fin.ext h0
  have e1 : (j 0 : Fin n) = (y 0 : Fin n) := Fin.ext h1
  show ((f ((blkOf A t).tok (y 1)) (y 0) : ℝ) : EReal) = ((f (A.tok (j 1)) (j 0) : ℝ) : EReal)
  rw [e0, e1]
  rfl

theorem final14 {c : Dev nD} (H : Holds m A c) : (dats m 0 c).arrAt 14 cfg0.N = Cert.ReferenceIdeal.TailRef.rowsOf A .f32 Tok.dy := by
  refine (dats m 0 c).arrAt_eq_of_covers 14 _ (by decide +kernel) fun t _ y => ?_
  blk_simp
  rw [after0_14]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dy t y _ ?_ ?_
    all_goals (blk_simp [idx_out t] <;> try omega)

theorem final15 {c : Dev nD} (H : Holds m A c) : (dats m 0 c).arrAt 15 cfg0.N = Cert.ReferenceIdeal.TailRef.rowsOf A .bf16 Tok.dao := by
  refine (dats m 0 c).arrAt_eq_of_covers 15 _ (by decide +kernel) fun t _ y => ?_
  blk_simp
  rw [after0_15]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dao t y _ ?_ ?_
    all_goals (blk_simp [idx_out t] <;> try omega)

theorem final17 {c : Dev nD} (H : Holds m A c) : (dats m 0 c).arrAt 17 cfg0.N = Cert.ReferenceIdeal.TailRef.rowsOf A .bf16 Tok.dys := by
  refine (dats m 0 c).arrAt_eq_of_covers 17 _ (by decide +kernel) fun t _ y => ?_
  blk_simp
  rw [after0_17]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dys t y _ ?_ ?_
    all_goals (blk_simp [idx_out t] <;> try omega)

theorem final18 {c : Dev nD} (H : Holds m A c) : (dats m 0 c).arrAt 18 cfg0.N = Cert.ReferenceIdeal.TailRef.colsOf A .bf16 Tok.ua := by
  refine (dats m 0 c).arrAt_eq_of_covers 18 _ (by decide +kernel) fun t _ y => ?_
  blk_simp
  rw [after0_18]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine cols_at Tok.ua t y _ ?_ ?_
    all_goals (blk_simp [idx_out t] <;> try omega)

theorem final19 {c : Dev nD} (H : Holds m A c) : (dats m 0 c).arrAt 19 cfg0.N = Cert.ReferenceIdeal.TailRef.colsOf A .bf16 Tok.yn := by
  refine (dats m 0 c).arrAt_eq_of_covers 19 _ (by decide +kernel) fun t _ y => ?_
  blk_simp
  rw [after0_19]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine cols_at Tok.yn t y _ ?_ ?_
    all_goals (blk_simp [idx_out t] <;> try omega)

theorem final20 {c : Dev nD} (H : Holds m A c) : (dats m 0 c).arrAt 20 cfg0.N = Cert.ReferenceIdeal.TailRef.colsOf A .bf16 Tok.mg := by
  refine (dats m 0 c).arrAt_eq_of_covers 20 _ (by decide +kernel) fun t _ y => ?_
  blk_simp
  rw [after0_20]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine cols_at Tok.mg t y _ ?_ ?_
    all_goals (blk_simp [idx_out t] <;> try omega)

theorem final21 {c : Dev nD} (H : Holds m A c) : (dats m 0 c).arrAt 21 cfg0.N = Cert.ReferenceIdeal.TailRef.rowsOf A .bf16 Tok.dya := by
  refine (dats m 0 c).arrAt_eq_of_covers 21 _ (by decide +kernel) fun t _ y => ?_
  blk_simp
  rw [after0_21]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dya t y _ ?_ ?_
    all_goals (blk_simp [idx_out t] <;> try omega)

theorem final22 {c : Dev nD} (H : Holds m A c) : (dats m 0 c).arrAt 22 cfg0.N = Cert.ReferenceIdeal.TailRef.rowsOf A .bf16 Tok.dyb := by
  refine (dats m 0 c).arrAt_eq_of_covers 22 _ (by decide +kernel) fun t _ y => ?_
  blk_simp
  rw [after0_22]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dyb t y _ ?_ ?_
    all_goals (blk_simp [idx_out t] <;> try omega)

theorem final23 {c : Dev nD} (H : Holds m A c) : (dats m 0 c).arrAt 23 cfg0.N = Cert.ReferenceIdeal.TailRef.rowsOf A .bf16 Tok.dout := by
  refine (dats m 0 c).arrAt_eq_of_covers 23 _ (by decide +kernel) fun t _ y => ?_
  blk_simp
  rw [after0_23]
  by_cases h : t.val % 32 = 0
  all_goals
    first | rw [outsAt0_A m c t h] | rw [outsAt0_B m c t h]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    refine rows_at Tok.dout t y _ ?_ ?_
    all_goals (blk_simp [idx_out t] <;> try omega)

/-- A piece of the gates' derivatives: columns `off` to `off + n`. -/
theorem piece_at {n : ℕ} {φ : FTy} (f : Tok → Fin n → ℝ) (off : ℕ) (hf : ∀ (T : Tok) (a : Fin n) (b : Fin 5120), (b : ℕ) = off + a → T.dmid b = f T a)
    (t : Fin cfg0.N) (y : (⟨2, ![256, n]⟩ : Shape).Idx) (j : (⟨2, ![8192, 5120]⟩ : Shape).Idx)
    (h0 : (j 0 : ℕ) = t.val * 256 + (y 0 : ℕ)) (h1 : (j 1 : ℕ) = off + (y 1 : ℕ)) :
    TailBlock.rowsOf (blkOf A t) φ f y = Cert.ReferenceIdeal.TailRef.rowsOf A φ Tok.dmid j := by
  have e0 : (j 0 : Fin 8192) = row t (y 0) := Fin.ext h0
  show ((f ((blkOf A t).tok (y 0)) (y 1) : ℝ) : EReal) = ((Tok.dmid (A.tok (j 0)) (j 1) : ℝ) : EReal)
  rw [e0]
  exact congrArg (fun r : ℝ => (r : EReal)) (hf _ (y 1) (j 1) h1).symm

theorem dmid_dza (T : Tok) (a : Fin 1024) (b : Fin 5120) (h : (b : ℕ) = 0 + a) : T.dmid b = T.dza a := by
  have h1 : (b : ℕ) < 1024 := by omega
  unfold Tok.dmid; rw [dif_pos h1]; exact congrArg _ (Fin.ext (by show (b : ℕ) = a; omega))
theorem dmid_dga (T : Tok) (a : Fin 1024) (b : Fin 5120) (h : (b : ℕ) = 1024 + a) : T.dmid b = T.dga a := by
  have h1 : ¬(b : ℕ) < 1024 := by omega
  have h2 : (b : ℕ) < 2048 := by omega
  unfold Tok.dmid; rw [dif_neg h1, dif_pos h2]; exact congrArg _ (Fin.ext (by show (b : ℕ) - 1024 = a; omega))
theorem dmid_dgb (T : Tok) (a : Fin 1024) (b : Fin 5120) (h : (b : ℕ) = 2048 + a) : T.dmid b = T.dgb a := by
  have h1 : ¬(b : ℕ) < 1024 := by omega
  have h2 : ¬(b : ℕ) < 2048 := by omega
  have h3 : (b : ℕ) < 3072 := by omega
  unfold Tok.dmid; rw [dif_neg h1, dif_neg h2, dif_pos h3]; exact congrArg _ (Fin.ext (by show (b : ℕ) - 2048 = a; omega))
theorem dmid_dzm (T : Tok) (a : Fin 2048) (b : Fin 5120) (h : (b : ℕ) = 3072 + a) : T.dmid b = T.dzm a := by
  have h1 : ¬(b : ℕ) < 1024 := by omega
  have h2 : ¬(b : ℕ) < 2048 := by omega
  have h3 : ¬(b : ℕ) < 3072 := by omega
  unfold Tok.dmid; rw [dif_neg h1, dif_neg h2, dif_neg h3]; exact congrArg _ (Fin.ext (by show (b : ℕ) - 3072 = a; omega))

theorem final16 {c : Dev nD} (H : Holds m A c) : (dats m 0 c).arrAt 16 cfg0.N = Cert.ReferenceIdeal.TailRef.rowsOf A .bf16 Tok.dmid := by
  refine (dats m 0 c).arrAt_eq_of_covers 16 _ (by decide +kernel) fun t _ y => ?_
  blk_simp
  rw [after0_16]
  by_cases hc : t.val % 32 = 0
  all_goals
    first | rw [outsAt0_A m c t hc] | rw [outsAt0_B m c t hc]
    frame_out
    simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
    canon_tiles x h using (by
      have h0 : (y 0 : ℕ) < 256 := (y 0).isLt
      have h1 : (y 1 : ℕ) < 5120 := (y 1).isLt
      rcases (by omega : 3072 ≤ (y 1 : ℕ) ∨ (y 1 : ℕ) < 1024 ∨ (2048 ≤ (y 1 : ℕ) ∧ (y 1 : ℕ) < 3072) ∨ (1024 ≤ (y 1 : ℕ) ∧ (y 1 : ℕ) < 2048)) with h | h | h | h
      · refine ⟨_, List.mem_cons_self, ?_⟩
        refine (Rect.mem_set_unit (s := S256x5120) (off := ![0, 3072]) (size := ![256, 2048]) (inb := by decide)).mpr ?_
        exact Fin.forall_fin_two.mpr ⟨⟨Nat.zero_le _, by show (y 0 : ℕ) < 0 + 256; omega⟩, by show 3072 ≤ (y 1 : ℕ); omega, by show (y 1 : ℕ) < 3072 + 2048; omega⟩
      · refine ⟨_, List.mem_cons_of_mem _ List.mem_cons_self, ?_⟩
        refine (Rect.mem_set_unit (s := S256x5120) (off := ![0, 0]) (size := ![256, 1024]) (inb := by decide)).mpr ?_
        exact Fin.forall_fin_two.mpr ⟨⟨Nat.zero_le _, by show (y 0 : ℕ) < 0 + 256; omega⟩, by show 0 ≤ (y 1 : ℕ); omega, by show (y 1 : ℕ) < 0 + 1024; omega⟩
      · refine ⟨_, List.mem_cons_of_mem _ (List.mem_cons_of_mem _ List.mem_cons_self), ?_⟩
        refine (Rect.mem_set_unit (s := S256x5120) (off := ![0, 2048]) (size := ![256, 1024]) (inb := by decide)).mpr ?_
        exact Fin.forall_fin_two.mpr ⟨⟨Nat.zero_le _, by show (y 0 : ℕ) < 0 + 256; omega⟩, by show 2048 ≤ (y 1 : ℕ); omega, by show (y 1 : ℕ) < 2048 + 1024; omega⟩
      · refine ⟨_, List.mem_cons_of_mem _ (List.mem_cons_of_mem _ (List.mem_cons_of_mem _ List.mem_cons_self)), ?_⟩
        refine (Rect.mem_set_unit (s := S256x5120) (off := ![0, 1024]) (size := ![256, 1024]) (inb := by decide)).mpr ?_
        exact Fin.forall_fin_two.mpr ⟨⟨Nat.zero_le _, by show (y 0 : ℕ) < 0 + 256; omega⟩, by show 1024 ≤ (y 1 : ℕ); omega, by show (y 1 : ℕ) < 1024 + 1024; omega⟩)
    · refine piece_at Tok.dzm 3072 dmid_dzm t x _ ?_ ?_ <;> (blk_simp [idx_out t] <;> try omega)
    · refine piece_at Tok.dza 0 dmid_dza t x _ ?_ ?_ <;> (blk_simp [idx_out t] <;> try omega)
    · refine piece_at Tok.dgb 2048 dmid_dgb t x _ ?_ ?_ <;> (blk_simp [idx_out t] <;> try omega)
    · refine piece_at Tok.dga 1024 dmid_dga t x _ ?_ ?_ <;> (blk_simp [idx_out t] <;> try omega)

/-- The sum over the points of a sum over a block's rows is the sum over the array's rows. -/
theorem sum_rows (f : Fin 8192 → ℝ) (p : Fin 32 → Fin cfg0.N) (hp : ∀ s, (p s).val = s) :
    (∑ s, ((∑ r, f (row (p s) r) : ℝ) : EReal)) = ((∑ t, f t : ℝ) : EReal) := by
  rw [rsum]
  refine congrArg (fun r : ℝ => (r : EReal)) (Fin.sum_mul_add_congr fun s r hl => ?_)
  exact congrArg f (Fin.ext (by show (p s).val * 256 + r.val = _; rw [hp]))

theorem final24 {c : Dev nD} (H : Holds m A c) : (dats m 0 c).arrAt 24 cfg0.N = lift .f32 (fun j => ∑ t, (A.tok t).dg (j 1)) := by
  have hN : cfg0.N = 32 := N_0
  refine (dats m 0 c).arrAt_eq_of_covers 24 _ (by decide +kernel) fun t hf y => ?_
  blk_simp
  rw [after0_24]
  rw [Pipeline.eq_sum_fin_of_reset_step_apply_of_flush (fun n h => (outsAt0 m c n h).2.2.2.2.2.2.2.2.2.2.2.1) 32 (fun _ => 0)
    (fun t j => ((∑ r, ((blkOf A t).tok r).dg (j 1) : ℝ) : EReal))
    (fun t h j => by
      rw [outsAt0_A m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay48_at]
      exact congrArg (· + _) (by pointwise [k0_pay8]))
    (fun t h j => by
      rw [outsAt0_B m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay48_at])
    t ((flush0_24 t).mp hf) _, zero_add]
  have ht : t.val < 32 := lt_of_lt_of_eq t.isLt N_0
  refine (sum_rows (fun t => (A.tok t).dg (y 1)) (fun s => ⟨32 * (t.val / 32) + s.val, by have := s.isLt; omega⟩) (fun s => by show 32 * (t.val / 32) + s.val = s.val; omega)).trans ?_
  show _ = ((∑ t', (A.tok t').dg _ : ℝ) : EReal)
  refine congrArg (fun j : Fin 1024 => ((∑ t', (A.tok t').dg j : ℝ) : EReal)) (Fin.ext ?_)
  blk_simp [idx_out t]

theorem final25 {c : Dev nD} (H : Holds m A c) : (dats m 0 c).arrAt 25 cfg0.N = lift .f32 (fun j => ∑ t, (A.tok t).dnw (j 1)) := by
  have hN : cfg0.N = 32 := N_0
  refine (dats m 0 c).arrAt_eq_of_covers 25 _ (by decide +kernel) fun t hf y => ?_
  blk_simp
  rw [after0_25]
  rw [Pipeline.eq_sum_fin_of_reset_step_apply_of_flush (fun n h => (outsAt0 m c n h).2.2.2.2.2.2.2.2.2.2.2.2) 32 (fun _ => 0)
    (fun t j => ((∑ r, ((blkOf A t).tok r).dnw (j 1) : ℝ) : EReal))
    (fun t h j => by
      rw [outsAt0_A m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay59_at]
      exact congrArg (· + _) (by pointwise [k0_pay9]))
    (fun t h j => by
      rw [outsAt0_B m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay59_at])
    t ((flush0_25 t).mp hf) _, zero_add]
  have ht : t.val < 32 := lt_of_lt_of_eq t.isLt N_0
  refine (sum_rows (fun t => (A.tok t).dnw (y 1)) (fun s => ⟨32 * (t.val / 32) + s.val, by have := s.isLt; omega⟩) (fun s => by show 32 * (t.val / 32) + s.val = s.val; omega)).trans ?_
  show _ = ((∑ t', (A.tok t').dnw _ : ℝ) : EReal)
  refine congrArg (fun j : Fin 2048 => ((∑ t', (A.tok t').dnw j : ℝ) : EReal)) (Fin.ext ?_)
  blk_simp [idx_out t]

theorem final13 {c : Dev nD} (H : Holds m A c) :
    (dats m 0 c).arrAt 13 cfg0.N = lift .f32 (fun j => if (j 1 : ℕ) = 0 then 1 / 2 * ∑ t, (A.tok t).sq else 0) := by
  have hN : cfg0.N = 32 := N_0
  refine (dats m 0 c).arrAt_eq_of_covers 13 _ (by decide +kernel) fun t hf y => ?_
  blk_simp
  rw [after0_13]
  rw [Pipeline.eq_sum_fin_of_reset_step_apply_of_flush (fun n h => (outsAt0 m c n h).1) 32 (fun _ => 0)
    (fun t j => if (j 1 : ℕ) = 0 then ((1 / 2 * ∑ r, ((blkOf A t).tok r).sq : ℝ) : EReal) else 0)
    (fun t h j => by
      rw [outsAt0_A m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay46_at]
      exact congrArg (· + _) (by pointwise [k0_pay7]))
    (fun t h j => by
      rw [outsAt0_B m c t h]; frame_out
      simp only [in0 H t, in1 H t, in2 H t, in3 H t, in4 H t, in5 H t, in6 H t, in7 H t, in8 H t, in9 H t, in10 H t, in11 H t, in12 H t, TailBlock.pay10_eq, TailBlock.pay11_eq, TailBlock.pay12_eq, TailBlock.pay13_eq, TailBlock.pay14_eq, TailBlock.pay15_eq, TailBlock.pay16_eq, TailBlock.pay17_eq, TailBlock.pay18_eq, TailBlock.pay19_eq, TailBlock.pay20_eq, TailBlock.pay21_eq, TailBlock.pay22_eq, TailBlock.pay23_eq, TailBlock.pay24_eq, TailBlock.pay25_eq, TailBlock.pay26_eq, TailBlock.pay27_eq, TailBlock.pay28_eq, TailBlock.pay29_eq, TailBlock.pay30_eq, TailBlock.pay31_eq, TailBlock.pay32_eq, TailBlock.pay33_eq, TailBlock.pay34_eq, TailBlock.pay35_eq, TailBlock.pay36_eq, TailBlock.pay37_eq, TailBlock.pay38_eq, TailBlock.pay39_eq, TailBlock.pay40_eq, TailBlock.pay41_eq, TailBlock.pay42_eq, TailBlock.pay45_eq, TailBlock.pay47_eq, TailBlock.pay49_eq, TailBlock.pay50_eq, TailBlock.pay51_eq, TailBlock.pay52_eq, TailBlock.pay53_eq, TailBlock.pay54_eq, TailBlock.pay55_eq, TailBlock.pay56_eq, TailBlock.pay57_eq, TailBlock.pay58_eq, TailBlock.pay60_eq, TailBlock.pay61_eq, TailBlock.pay62_eq, TailBlock.pay63_eq, TailBlock.pay64_eq, TailBlock.pay65_eq, TailBlock.pay1_eq, TailBlock.pay2_eq, TailBlock.pay3_eq, TailBlock.pay4_eq, TailBlock.pay5_eq, TailBlock.pay6_eq]
      idx_vars j; rw [TailBlock.pay46_at]
      rfl)
    t ((flush0_13 t).mp hf) _, zero_add]
  have ht : t.val < 32 := lt_of_lt_of_eq t.isLt N_0
  have e : ((((win0_13.blk t).view.emb y : S1x128.Idx) 1 : Fin 128) : ℕ) = (y 1 : ℕ) := by blk_simp [idx_out t]
  rw [lift_apply, e]
  by_cases h : (y 1 : ℕ) = 0
  · simp only [h, if_true]
    simp only [Finset.mul_sum]
    exact sum_rows (fun t => 1 / 2 * (A.tok t).sq) (fun s => ⟨32 * (t.val / 32) + s.val, by have := s.isLt; omega⟩) (fun s => by show 32 * (t.val / 32) + s.val = s.val; omega)
  · simp [h]

end Cert.KernelIdeal.TailArrays
-- ==== Proof.TailPre.lean ====
/-
  The precondition `finite` read as real arrays: where every element of every argument is finite in absolute
  value, the arguments are the embeddings of real arrays (`Cert.ReferenceIdeal.TailRef.Arr`).
-/
module

public import proofs.«01_k».proof.Defs
public import proofs.«01_k».proof.Proof.TailArrays
public import proofs.«01_k».proof.Proof.Gen.Pre_finite

@[expose] public section

noncomputable section

namespace Cert.KernelIdeal.TailPre

open Idealize.ShloMosaic Idealize.SL.Sem Cert.KernelIdeal Cert.KernelIdeal.Gen Cert.KernelIdeal.TailArrays Cert.ReferenceIdeal.TailRef
open Cert.RealLift

/-- An ordered "less than" that answers one says that its operands are so ordered. -/
theorem lt_of_cmp {φ : FTy} {a b : Ideal φ} (h : FloatOps.cmpf .olt a b = 1) : (a : EReal) < b := by
  rw [Ideal.cmpf_def] at h
  by_contra hn
  simp [Ideal.cmp, hn] at h

variable {m : (ℓ : Loc nD τ sig) → Buf (Elt Ideal) ℓ}

/-- The real arrays the arguments of device `c` embed. -/
def arr (m : (ℓ : Loc nD τ sig) → Buf (Elt Ideal) ℓ) (c : Dev nD) : Arr where
  proj := fun i => EReal.toReal (m ((c.tc : Thread nD τ).loc main_arg0) i)
  ao := fun i => EReal.toReal (m ((c.tc : Thread nD τ).loc main_arg1) i)
  ys := fun i => EReal.toReal (m ((c.tc : Thread nD τ).loc main_arg2) i)
  x := fun i => EReal.toReal (m ((c.tc : Thread nD τ).loc main_arg3) i)
  tg := fun i => EReal.toReal (m ((c.tc : Thread nD τ).loc main_arg4) i)
  gt := fun i => EReal.toReal (m ((c.tc : Thread nD τ).loc main_arg5) i)
  nw := fun i => EReal.toReal (m ((c.tc : Thread nD τ).loc main_arg6) i)
  wa := fun i => EReal.toReal (m ((c.tc : Thread nD τ).loc main_arg7) i)
  ws := fun i => EReal.toReal (m ((c.tc : Thread nD τ).loc main_arg8) i)
  wo := fun i => EReal.toReal (m ((c.tc : Thread nD τ).loc main_arg9) i)

theorem holds [hp : Cert.Pre_finite.Facts] (h : Cert.Pre_KernelIdeal_finite m) (c : Dev nD) : Holds m (arr m c) c := by
  obtain ⟨h0, h1, h2, h3, h4, h5, h6, h7, h8, h9⟩ := h c
  constructor
  · exact eq_lift_of_lt_top (φ := .bf16) _ fun i => lt_of_lt_of_eq (lt_of_cmp (congrFun h0 i)) c_inf
  · exact eq_lift_of_lt_top (φ := .bf16) _ fun i => lt_of_lt_of_eq (lt_of_cmp (congrFun h1 i)) c_inf
  · exact eq_lift_of_lt_top (φ := .bf16) _ fun i => lt_of_lt_of_eq (lt_of_cmp (congrFun h2 i)) c_inf
  · exact eq_lift_of_lt_top (φ := .f32) _ fun i => lt_of_lt_of_eq (lt_of_cmp (congrFun h3 i)) c_inf
  · exact eq_lift_of_lt_top (φ := .f32) _ fun i => lt_of_lt_of_eq (lt_of_cmp (congrFun h4 i)) c_inf
  · exact eq_lift_of_lt_top (φ := .f32) _ fun i => lt_of_lt_of_eq (lt_of_cmp (congrFun h5 i)) c_inf
  · exact eq_lift_of_lt_top (φ := .f32) _ fun i => lt_of_lt_of_eq (lt_of_cmp (congrFun h6 i)) c_inf
  · exact eq_lift_of_lt_top (φ := .bf16) _ fun i => lt_of_lt_of_eq (lt_of_cmp (congrFun h7 i)) c_inf
  · exact eq_lift_of_lt_top (φ := .bf16) _ fun i => lt_of_lt_of_eq (lt_of_cmp (congrFun h8 i)) c_inf
  · exact eq_lift_of_lt_top (φ := .bf16) _ fun i => lt_of_lt_of_eq (lt_of_cmp (congrFun h9 i)) c_inf

end Cert.KernelIdeal.TailPre

end
-- ==== Proof.TailClaim.lean ====
/-
  The value claim of the tail: on finite arguments, every result of the kernel is the result of the reference.
-/
module

public import proofs.«01_k».proof.Defs
public import proofs.«01_k».proof.Proof.TailPre
public import proofs.«01_k».proof.Proof.Gen.Pre_finite

@[expose] public section

noncomputable section

namespace Cert.KernelIdeal.TailClaim

open Idealize.ShloMosaic Idealize.ShloMosaic.StableHlo Idealize.SL.Sem Cert.KernelIdeal.TailArrays Cert.ReferenceIdeal.TailRef Cert.RealLift

variable {m : (ℓ : Loc Cert.KernelIdeal.nD Cert.KernelIdeal.τ Cert.KernelIdeal.sig) → Buf (Elt Ideal) ℓ}

/-- A valuation of the reference's buffers that holds the real arrays `A` in its arguments. -/
structure RefHolds (V : Valuation Cert.ReferenceIdeal.τ Cert.ReferenceIdeal.sig (Elt Ideal)) (A : Arr) : Prop where
  proj : V (Proc.devRef .tc Cert.ReferenceIdeal.main_arg0) = lift .bf16 A.proj
  ao : V (Proc.devRef .tc Cert.ReferenceIdeal.main_arg1) = lift .bf16 A.ao
  ys : V (Proc.devRef .tc Cert.ReferenceIdeal.main_arg2) = lift .bf16 A.ys
  x : V (Proc.devRef .tc Cert.ReferenceIdeal.main_arg3) = lift .f32 A.x
  tg : V (Proc.devRef .tc Cert.ReferenceIdeal.main_arg4) = lift .f32 A.tg
  gt : V (Proc.devRef .tc Cert.ReferenceIdeal.main_arg5) = lift .f32 A.gt
  nw : V (Proc.devRef .tc Cert.ReferenceIdeal.main_arg6) = lift .f32 A.nw
  wa : V (Proc.devRef .tc Cert.ReferenceIdeal.main_arg7) = lift .bf16 A.wa
  ws : V (Proc.devRef .tc Cert.ReferenceIdeal.main_arg8) = lift .bf16 A.ws
  wo : V (Proc.devRef .tc Cert.ReferenceIdeal.main_arg9) = lift .bf16 A.wo

set_option maxHeartbeats 2000000 in
/-- The value claim of the tail: the kernel's results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · exact Cert.KernelIdeal.Value.run_blocks m g
  · have key : ∀ c, RefHolds (launchContents m' c) (TailPre.arr m c) := fun c => by
      obtain ⟨a0, a1, a2, a3, a4, a5, a6, a7, a8, a9⟩ := hagree c
      have H := TailPre.holds (hp := Cert.Pre_finite.Gen.facts) hpre c
      exact ⟨a0.trans H.proj, a1.trans H.ao, a2.trans H.ys, a3.trans H.x, a4.trans H.tg, a5.trans H.gt, a6.trans H.nw, a7.trans H.wa, a8.trans H.ws, a9.trans H.wo⟩
    refine (θ_run _ _ _).mono (fun r h c => ?_) (Cert.ReferenceIdeal.Value.run m' g')
    obtain ⟨a0, a1, a2, a3, a4, a5, a6, a7, a8, a9⟩ := key c
    have H := TailPre.holds (hp := Cert.Pre_finite.Gen.facts) hpre c
    obtain ⟨r122, r77, r123, r125, r126, r128, r130, r132, r133, r134, r135, r82, r116, args⟩ := h c
    refine ⟨r122.trans ?_, r77.trans ?_, r123.trans ?_, r125.trans ?_, r126.trans ?_, r128.trans ?_, r130.trans ?_, r132.trans ?_, r133.trans ?_, r134.trans ?_, r135.trans ?_, r82.trans ?_, r116.trans ?_, args⟩
    · refine (Cert.ReferenceIdeal.Read.val_main_v122_eq (launchContents m' c)).trans ?_
      simp only [a0, a1, a2, a3, a4, a5, a6, a7, a8, a9]
      exact (v122_eq _).trans (final13 H).symm
    · refine (Cert.ReferenceIdeal.Read.val_main_v77_eq (launchContents m' c)).trans ?_
      simp only [a0, a1, a2, a3, a4, a5, a6, a7, a8, a9]
      exact (v77_eq _).trans (final14 H).symm
    · refine (Cert.ReferenceIdeal.Read.val_main_v123_eq (launchContents m' c)).trans ?_
      simp only [a0, a1, a2, a3, a4, a5, a6, a7, a8, a9]
      exact (v123_eq _).trans (final15 H).symm
    · refine (Cert.ReferenceIdeal.Read.val_main_v125_eq (launchContents m' c)).trans ?_
      simp only [a0, a1, a2, a3, a4, a5, a6, a7, a8, a9]
      exact (v125_eq _).trans (final16 H).symm
    · refine (Cert.ReferenceIdeal.Read.val_main_v126_eq (launchContents m' c)).trans ?_
      simp only [a0, a1, a2, a3, a4, a5, a6, a7, a8, a9]
      exact (v126_eq _).trans (final17 H).symm
    · refine (Cert.ReferenceIdeal.Read.val_main_v128_eq (launchContents m' c)).trans ?_
      simp only [a0, a1, a2, a3, a4, a5, a6, a7, a8, a9]
      exact (v128_eq _).trans (final18 H).symm
    · refine (Cert.ReferenceIdeal.Read.val_main_v130_eq (launchContents m' c)).trans ?_
      simp only [a0, a1, a2, a3, a4, a5, a6, a7, a8, a9]
      exact (v130_eq _).trans (final19 H).symm
    · refine (Cert.ReferenceIdeal.Read.val_main_v132_eq (launchContents m' c)).trans ?_
      simp only [a0, a1, a2, a3, a4, a5, a6, a7, a8, a9]
      exact (v132_eq _).trans (final20 H).symm
    · refine (Cert.ReferenceIdeal.Read.val_main_v133_eq (launchContents m' c)).trans ?_
      simp only [a0, a1, a2, a3, a4, a5, a6, a7, a8, a9]
      exact (v133_eq _).trans (final21 H).symm
    · refine (Cert.ReferenceIdeal.Read.val_main_v134_eq (launchContents m' c)).trans ?_
      simp only [a0, a1, a2, a3, a4, a5, a6, a7, a8, a9]
      exact (v134_eq _).trans (final22 H).symm
    · refine (Cert.ReferenceIdeal.Read.val_main_v135_eq (launchContents m' c)).trans ?_
      simp only [a0, a1, a2, a3, a4, a5, a6, a7, a8, a9]
      exact (v135_eq _).trans (final23 H).symm
    · refine (Cert.ReferenceIdeal.Read.val_main_v82_eq (launchContents m' c)).trans ?_
      simp only [a0, a1, a2, a3, a4, a5, a6, a7, a8, a9]
      exact (v82_eq _).trans (final24 H).symm
    · refine (Cert.ReferenceIdeal.Read.val_main_v116_eq (launchContents m' c)).trans ?_
      simp only [a0, a1, a2, a3, a4, a5, a6, a7, a8, a9]
      exact (v116_eq _).trans (final25 H).symm

/-- The reference leaves its arguments unchanged, and it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
          = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5)
          = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6)
          = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7)
          = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8)
          = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9)
          = m ((c.tc : Thread Cert.ReferenceIdeal.nD Cert.ReferenceIdeal.τ).loc Cert.ReferenceIdeal.main_arg9)
       ) ∧ r.2.sem = fun _ => 0 :=
  (θ_run _ _ _).mono (fun r h => ⟨fun c => (h c).2.2.2.2.2.2.2.2.2.2.2.2.2, sem_eq_zero_of_no_sems rfl _⟩)
    (Cert.ReferenceIdeal.Value.run m ρ)

end Cert.KernelIdeal.TailClaim

end
-- ==== Proof.DprojMath.lean ====
/- The derivative of the layer's first lines at one token, on real numbers: what both programs compute there.

   The residual stream `x` is normalised, scaled and shifted (`h`), and projected by a matrix whose columns fall into eight
   ranges.  From the derivatives of the eight projected pieces and of the residual stream beside them: the derivative of
   `h`, and through the modulated norm that of `x` and the token's share of those of the norm's weight, the scale and the
   shift. -/
module

public import proofs.«01_k».proof.Proof.RealLift

@[expose] public section

noncomputable section

namespace Cert.Dproj

open Cert.RealLift
open scoped BigOperators

/-- One token's inputs, and the parameters every token shares. -/
structure Tok where
  dq : Fin 1024 → ℝ
  dza : Fin 1024 → ℝ
  dga : Fin 1024 → ℝ
  dgb : Fin 1024 → ℝ
  dzm : Fin 2048 → ℝ
  dx : Fin 3072 → ℝ
  dk : Fin 512 → ℝ
  dt : Fin 128 → ℝ
  wq : Fin 1024 → Fin 1024 → ℝ
  wza : Fin 1024 → Fin 1024 → ℝ
  wga : Fin 1024 → Fin 1024 → ℝ
  wgb : Fin 1024 → Fin 1024 → ℝ
  wzm : Fin 1024 → Fin 2048 → ℝ
  wx : Fin 1024 → Fin 3072 → ℝ
  wk : Fin 1024 → Fin 512 → ℝ
  wt : Fin 1024 → Fin 128 → ℝ
  x : Fin 1024 → ℝ
  dy : Fin 1024 → ℝ
  nw : Fin 1024 → ℝ
  sc : Fin 1024 → ℝ

namespace Tok

variable (T : Tok)

/-- The share of the first six ranges of columns in the derivative of `h`. -/
def dh6 (a : Fin 1024) : ℝ :=
  (∑ k, T.dq k * T.wq a k) + (∑ k, T.dza k * T.wza a k) + (∑ k, T.dga k * T.wga a k) + (∑ k, T.dgb k * T.wgb a k)
    + (∑ k, T.dzm k * T.wzm a k) + (∑ k, T.dx k * T.wx a k)
/-- The derivative of `h`. -/
def dh (a : Fin 1024) : ℝ := T.dh6 a + (∑ k, T.dk k * T.wk a k) + (∑ k, T.dt k * T.wt a k)
def ms : ℝ := (∑ l, T.x l * T.x l) / 1024 + eps
def rs : ℝ := (Real.sqrt T.ms)⁻¹
def xn (a : Fin 1024) : ℝ := T.x a * T.rs
/-- The derivative of the normalised stream. -/
def dxn (a : Fin 1024) : ℝ := T.dh a * (T.nw a * (1 + T.sc a))
/-- The mean over the channels of the normalised stream times its derivative. -/
def pr : ℝ := (∑ l, T.dxn l * T.xn l) / 1024
def gx (a : Fin 1024) : ℝ := T.dy a + T.rs * (T.dxn a - T.xn a * T.pr)
/-- The token's share of the derivative of the norm's weight times its scale. -/
def dw (a : Fin 1024) : ℝ := T.dh a * T.xn a

theorem ms_pos : 0 < T.ms := by
  unfold ms
  have h : 0 ≤ ∑ l, T.x l * T.x l := Finset.sum_nonneg fun l _ => mul_self_nonneg _
  have := eps_pos
  positivity

theorem rs_mul_rs : T.rs * T.rs = 1 / T.ms := by
  unfold rs
  rw [← mul_inv, Real.mul_self_sqrt T.ms_pos.le, one_div]

/-- The derivative of the stream, written through the mean square, which the reciprocal root depends on. -/
theorem gx_eq (a : Fin 1024) :
    T.gx a = T.dy a + T.dxn a * T.rs + T.x a * ((∑ l, T.x l * T.dxn l) * (-(1 / 2) * (T.rs / T.ms)) / 1024)
      + (∑ l, T.x l * T.dxn l) * (-(1 / 2) * (T.rs / T.ms)) / 1024 * T.x a := by
  have hp : T.pr = T.rs * (∑ l, T.x l * T.dxn l) / 1024 := by
    simp only [pr, xn, Finset.mul_sum]
    congr 1
    exact Finset.sum_congr rfl fun l _ => by ring
  have h := T.rs_mul_rs
  have h' : T.rs / T.ms = T.rs * (T.rs * T.rs) := by rw [h]; ring
  simp only [gx, hp, xn, h']
  ring

end Tok

/-- A sum over a range is the sum over its first part and the sum over the rest. -/
theorem sum_split {N : ℕ} (n m : ℕ) (h : N = n + m) (f : Fin N → ℝ) :
    ∑ k, f k = (∑ k : Fin n, f ⟨k, by omega⟩) + ∑ k : Fin m, f ⟨n + k, by omega⟩ := by
  subst h
  exact Fin.sum_univ_add f

end Cert.Dproj
-- ==== Proof.DprojBlock.lean ====
/- What the kernel's body computes of one block of 256 tokens, on real numbers: each of the body's named payloads, at blocks
   of real numbers, is the block of one of `Tok`'s quantities. -/
module

public import proofs.«01_k».proof.Proof.DprojMath
public import proofs.«01_k».proof.Proof.Gen.DprojIdeal.Skeleton

@[expose] public section

set_option maxRecDepth 16384

noncomputable section

namespace Cert.DprojIdeal.DprojBlock

open Cert.DprojIdeal Cert.DprojIdeal.Gen Idealize.ShloMosaic Cert.RealLift Cert.Dproj
open scoped BigOperators

/-- The blocks one grid point reads, as arrays of real numbers. -/
structure Blk where
  dq : S256x1024.Idx → ℝ
  dza : S256x1024.Idx → ℝ
  dga : S256x1024.Idx → ℝ
  dgb : S256x1024.Idx → ℝ
  dzm : S256x2048.Idx → ℝ
  dx : S256x3072.Idx → ℝ
  dk : S256x512.Idx → ℝ
  dt : S256x128.Idx → ℝ
  wq : S1024x1024.Idx → ℝ
  wza : S1024x1024.Idx → ℝ
  wga : S1024x1024.Idx → ℝ
  wgb : S1024x1024.Idx → ℝ
  wzm : S1024x2048.Idx → ℝ
  wx : S1024x3072.Idx → ℝ
  wk : S1024x512.Idx → ℝ
  wt : S1024x128.Idx → ℝ
  x : S256x1024.Idx → ℝ
  dy : S256x1024.Idx → ℝ
  nw : S1x1024.Idx → ℝ
  sc : S1x1024.Idx → ℝ

variable (B : Blk)

/-- Token `r` of the block. -/
def Blk.tok (r : Fin 256) : Tok where
  dq j := B.dq (ix2 r j)
  dza j := B.dza (ix2 r j)
  dga j := B.dga (ix2 r j)
  dgb j := B.dgb (ix2 r j)
  dzm j := B.dzm (ix2 r j)
  dx j := B.dx (ix2 r j)
  dk j := B.dk (ix2 r j)
  dt j := B.dt (ix2 r j)
  wq j k := B.wq (ix2 j k)
  wza j k := B.wza (ix2 j k)
  wga j k := B.wga (ix2 j k)
  wgb j k := B.wgb (ix2 j k)
  wzm j k := B.wzm (ix2 j k)
  wx j k := B.wx (ix2 j k)
  wk j k := B.wk (ix2 j k)
  wt j k := B.wt (ix2 j k)
  x j := B.x (ix2 r j)
  dy j := B.dy (ix2 r j)
  nw j := B.nw (ix2 0 j)
  sc j := B.sc (ix2 0 j)

/-- A quantity of each token of the block, as a block. -/
def rowsOf {n : ℕ} (φ : FTy) (f : Tok → Fin n → ℝ) : FVec Ideal ⟨2, ![256, n]⟩ φ := lift φ fun j => f (B.tok (j 0)) (j 1)
/-- One number of each token, as a column. -/
def colOf (φ : FTy) (f : Tok → ℝ) : FVec Ideal S256x1 φ := lift φ fun j => f (B.tok (j 0))

theorem rowsOf_ix2 {n : ℕ} {φ : FTy} (f : Tok → Fin n → ℝ) (r : Fin 256) (c : Fin n) :
    rowsOf B φ f (ix2 r c) = ((f (B.tok r) c : ℝ) : EReal) := rfl
theorem colOf_ix2 {φ : FTy} (f : Tok → ℝ) (r : Fin 256) (c : Fin 1) : colOf B φ f (ix2 r c) = ((f (B.tok r) : ℝ) : EReal) := rfl

theorem pay10_eq : k0_pay10 (F := Ideal) (lift .bf16 B.dq) (lift .bf16 B.wq) (lift .bf16 B.dza) (lift .bf16 B.wza) (lift .bf16 B.dga) (lift .bf16 B.wga) (lift .bf16 B.dgb) (lift .bf16 B.wgb) (lift .bf16 B.dzm) (lift .bf16 B.wzm) (lift .bf16 B.dx) (lift .bf16 B.wx) = rowsOf B .f32 Tok.dh6 := by
  funext i; idx_vars i
  refine Eq.trans ?_ (rowsOf_ix2 B _ _ _).symm
  simp only [k0_pay10]
  pointwise []
  simp only [lift_apply, rowsOf_ix2, colOf_ix2, c_1024, c_eps, rone, rmul, radd, rsub, rsum, rdiv_1024, rrsqrt_1024, zero_add]
  all_goals rfl

theorem pay11_eq : k0_pay11 (F := Ideal) (rowsOf B .f32 Tok.dh6) (lift .bf16 B.dk) (lift .bf16 B.wk) (lift .bf16 B.dt) (lift .bf16 B.wt) = rowsOf B .f32 Tok.dh := by
  funext i; idx_vars i
  refine Eq.trans ?_ (rowsOf_ix2 B _ _ _).symm
  simp only [k0_pay11]
  pointwise []
  simp only [lift_apply, rowsOf_ix2, colOf_ix2, c_1024, c_eps, rone, rmul, radd, rsub, rsum, rdiv_1024, rrsqrt_1024, zero_add]
  all_goals rfl

theorem pay12_eq : k0_pay12 (F := Ideal) (lift .f32 B.x) = colOf B .f32 Tok.rs := by
  funext i; idx_vars i
  refine Eq.trans ?_ (colOf_ix2 B _ _ _).symm
  simp only [k0_pay12]
  pointwise []
  simp only [lift_apply, rowsOf_ix2, colOf_ix2, c_1024, c_eps, rone, rmul, radd, rsub, rsum, rdiv_1024, rrsqrt_1024, zero_add]
  all_goals rfl

theorem pay13_eq : k0_pay13 (F := Ideal) (lift .f32 B.x) = rowsOf B .f32 Tok.xn := by
  funext i; idx_vars i
  refine Eq.trans ?_ (rowsOf_ix2 B _ _ _).symm
  simp only [k0_pay13, pay12_eq]
  pointwise []
  simp only [lift_apply, rowsOf_ix2, colOf_ix2, c_1024, c_eps, rone, rmul, radd, rsub, rsum, rdiv_1024, rrsqrt_1024, zero_add]
  all_goals rfl

theorem pay14_eq : k0_pay14 (F := Ideal) (rowsOf B .f32 Tok.dh6) (lift .bf16 B.dk) (lift .bf16 B.wk) (lift .bf16 B.dt) (lift .bf16 B.wt) (lift .f32 B.x) (lift .f32 B.nw) (lift .f32 B.sc) = rowsOf B .f32 (fun T j => T.dxn j - T.xn j * T.pr) := by
  funext i; idx_vars i
  refine Eq.trans ?_ (rowsOf_ix2 B _ _ _).symm
  simp only [k0_pay14, pay11_eq, pay13_eq]
  pointwise []
  simp only [lift_apply, rowsOf_ix2, colOf_ix2, c_1024, c_eps, rone, rmul, radd, rsub, rsum, rdiv_1024, rrsqrt_1024, zero_add]
  all_goals rfl

theorem pay15_eq : k0_pay15 (F := Ideal) (lift .f32 B.x) = rowsOf B .f32 (fun T _ => T.rs) := by
  funext i; idx_vars i
  refine Eq.trans ?_ (rowsOf_ix2 B _ _ _).symm
  simp only [k0_pay15, pay12_eq]
  pointwise []
  simp only [lift_apply, rowsOf_ix2, colOf_ix2, c_1024, c_eps, rone, rmul, radd, rsub, rsum, rdiv_1024, rrsqrt_1024, zero_add]
  all_goals rfl

theorem pay1_eq : k0_pay1 (F := Ideal) (lift .f32 B.dy) (rowsOf B .f32 (fun T j => T.dxn j - T.xn j * T.pr)) (rowsOf B .f32 (fun T _ => T.rs)) = rowsOf B .f32 Tok.gx := by
  funext i; idx_vars i
  refine Eq.trans ?_ (rowsOf_ix2 B _ _ _).symm
  simp only [k0_pay1]
  pointwise []
  simp only [lift_apply, rowsOf_ix2, colOf_ix2, c_1024, c_eps, rone, rmul, radd, rsub, rsum, rdiv_1024, rrsqrt_1024, zero_add]
  all_goals rfl

/-! The two sums every point adds to, and what the last point makes of the first. -/
theorem pay2_at (acc : FVec Ideal S1x1024 .f32) (i0 : Fin 1) (i1 : Fin 1024) :
    k0_pay2 (F := Ideal) (rowsOf B .f32 Tok.dh) (rowsOf B .f32 Tok.xn) acc (ix2 i0 i1) = acc (ix2 i0 i1) + ((∑ r, (B.tok r).dw i1 : ℝ) : EReal) := by
  pointwise [k0_pay2]
  simp only [lift_apply, rowsOf_ix2, colOf_ix2, c_1024, c_eps, rone, rmul, radd, rsub, rsum, rdiv_1024, rrsqrt_1024, zero_add]
  rfl

theorem pay3_at (acc : FVec Ideal S1x1024 .f32) (i0 : Fin 1) (i1 : Fin 1024) :
    k0_pay3 (F := Ideal) (rowsOf B .f32 Tok.dh) acc (ix2 i0 i1) = acc (ix2 i0 i1) + ((∑ r, (B.tok r).dh i1 : ℝ) : EReal) := by
  pointwise [k0_pay3]
  simp only [lift_apply, rowsOf_ix2, colOf_ix2, c_1024, c_eps, rone, rmul, radd, rsub, rsum, rdiv_1024, rrsqrt_1024, zero_add]

theorem pay4_at (a : ℝ) (acc : FVec Ideal S1x1024 .f32) (i0 : Fin 1) (i1 : Fin 1024) (h : acc (ix2 i0 i1) = ((a : ℝ) : EReal)) :
    k0_pay4 (F := Ideal) acc (lift .f32 B.sc) (ix2 i0 i1) = ((a * (1 + B.sc (ix2 i0 i1)) : ℝ) : EReal) := by
  pointwise [k0_pay4]
  rw [h]
  simp only [lift_apply, rowsOf_ix2, colOf_ix2, c_1024, c_eps, rone, rmul, radd, rsub, rsum, rdiv_1024, rrsqrt_1024, zero_add]

theorem pay5_at (a : ℝ) (acc : FVec Ideal S1x1024 .f32) (i0 : Fin 1) (i1 : Fin 1024) (h : acc (ix2 i0 i1) = ((a : ℝ) : EReal)) :
    k0_pay5 (F := Ideal) acc (lift .f32 B.nw) (ix2 i0 i1) = ((a * B.nw (ix2 i0 i1) : ℝ) : EReal) := by
  pointwise [k0_pay5]
  rw [h]
  simp only [lift_apply, rowsOf_ix2, colOf_ix2, c_1024, c_eps, rone, rmul, radd, rsub, rsum, rdiv_1024, rrsqrt_1024, zero_add]

end Cert.DprojIdeal.DprojBlock
-- ==== Proof.DprojRef.lean ====
/- What the reference computes from real arrays: each of the values it names is the array of one of `Tok`'s quantities. -/
module

public import proofs.«01_k».proof.Proof.DprojMath
public import proofs.«01_k».proof.Proof.Gen.DprojRefIdeal.Read

@[expose] public section

set_option maxRecDepth 16384

noncomputable section

namespace Cert.DprojRefIdeal.DprojRef

open Cert.DprojRefIdeal Cert.DprojRefIdeal.Gen Cert.DprojRefIdeal.Read Idealize.ShloMosaic Cert.RealLift Cert.Dproj
open scoped BigOperators

/-- The arguments, as arrays of real numbers. -/
structure Arr where
  dq : S8192x1024.Idx → ℝ
  dm : S8192x5120.Idx → ℝ
  dx : S8192x3072.Idx → ℝ
  dk : S8192x512.Idx → ℝ
  dt : S8192x128.Idx → ℝ
  w : S1024x9984.Idx → ℝ
  x : S8192x1024.Idx → ℝ
  dy : S8192x1024.Idx → ℝ
  nw : S1x1024.Idx → ℝ
  sc : S1x1024.Idx → ℝ

variable (A : Arr)

/-- Token `t`: the eight ranges of the projection's columns, and the pieces that belong to them. -/
def Arr.tok (t : Fin 8192) : Tok where
  dq j := A.dq (ix2 t j)
  dza k := A.dm (ix2 t ⟨k, by omega⟩)
  dga k := A.dm (ix2 t ⟨1024 + k, by omega⟩)
  dgb k := A.dm (ix2 t ⟨2048 + k, by omega⟩)
  dzm k := A.dm (ix2 t ⟨3072 + k, by omega⟩)
  dx j := A.dx (ix2 t j)
  dk j := A.dk (ix2 t j)
  dt j := A.dt (ix2 t j)
  wq j k := A.w (ix2 j ⟨k, by omega⟩)
  wza j k := A.w (ix2 j ⟨1024 + k, by omega⟩)
  wga j k := A.w (ix2 j ⟨2048 + k, by omega⟩)
  wgb j k := A.w (ix2 j ⟨3072 + k, by omega⟩)
  wzm j k := A.w (ix2 j ⟨4096 + k, by omega⟩)
  wx j k := A.w (ix2 j ⟨6144 + k, by omega⟩)
  wk j k := A.w (ix2 j ⟨9216 + k, by omega⟩)
  wt j k := A.w (ix2 j ⟨9728 + k, by omega⟩)
  x j := A.x (ix2 t j)
  dy j := A.dy (ix2 t j)
  nw j := A.nw (ix2 0 j)
  sc j := A.sc (ix2 0 j)

/-- The five pieces side by side. -/
def Arr.cat (t : Fin 8192) (j : Fin 9856) : ℝ :=
  if h : (j : ℕ) < 1024 then A.dq (ix2 t ⟨j, h⟩)
  else if h1 : (j : ℕ) - 1024 < 5120 then A.dm (ix2 t ⟨(j : ℕ) - 1024, h1⟩)
  else if h2 : (j : ℕ) - 1024 - 5120 < 3072 then A.dx (ix2 t ⟨(j : ℕ) - 1024 - 5120, h2⟩)
  else if h3 : (j : ℕ) - 1024 - 5120 - 3072 < 512 then A.dk (ix2 t ⟨(j : ℕ) - 1024 - 5120 - 3072, h3⟩)
  else A.dt (ix2 t ⟨(j : ℕ) - 1024 - 5120 - 3072 - 512, by omega⟩)

theorem cat_dq (t : Fin 8192) (j : Fin 9856) (k : Fin 1024) (e : (j : ℕ) = k) : A.cat t j = A.dq (ix2 t k) := by
  have := k.isLt
  unfold Arr.cat
  rw [dif_pos (by omega)]
  exact congrArg (fun k => A.dq (ix2 t k)) (Fin.ext (by show (j : ℕ) = _; omega))
theorem cat_dm (t : Fin 8192) (j : Fin 9856) (k : Fin 5120) (e : (j : ℕ) = 1024 + k) : A.cat t j = A.dm (ix2 t k) := by
  have := k.isLt
  unfold Arr.cat
  rw [dif_neg (by omega), dif_pos (by omega)]
  exact congrArg (fun k => A.dm (ix2 t k)) (Fin.ext (by show (j : ℕ) - 1024 = _; omega))
theorem cat_dx (t : Fin 8192) (j : Fin 9856) (k : Fin 3072) (e : (j : ℕ) = 6144 + k) : A.cat t j = A.dx (ix2 t k) := by
  have := k.isLt
  unfold Arr.cat
  rw [dif_neg (by omega), dif_neg (by omega), dif_pos (by omega)]
  exact congrArg (fun k => A.dx (ix2 t k)) (Fin.ext (by show (j : ℕ) - 1024 - 5120 = _; omega))
theorem cat_dk (t : Fin 8192) (j : Fin 9856) (k : Fin 512) (e : (j : ℕ) = 9216 + k) : A.cat t j = A.dk (ix2 t k) := by
  have := k.isLt
  unfold Arr.cat
  rw [dif_neg (by omega), dif_neg (by omega), dif_neg (by omega), dif_pos (by omega)]
  exact congrArg (fun k => A.dk (ix2 t k)) (Fin.ext (by show (j : ℕ) - 1024 - 5120 - 3072 = _; omega))
theorem cat_dt (t : Fin 8192) (j : Fin 9856) (k : Fin 128) (e : (j : ℕ) = 9728 + k) : A.cat t j = A.dt (ix2 t k) := by
  have := k.isLt
  unfold Arr.cat
  rw [dif_neg (by omega), dif_neg (by omega), dif_neg (by omega), dif_neg (by omega)]
  exact congrArg (fun k => A.dt (ix2 t k)) (Fin.ext (by show (j : ℕ) - 1024 - 5120 - 3072 - 512 = _; omega))

/-- The product with all the columns is the sum of the products with the eight ranges. -/
theorem dh_eq (t : Fin 8192) (a : Fin 1024) : (∑ j : Fin 9856, A.cat t j * A.w (ix2 a ⟨j, by omega⟩)) = (A.tok t).dh a := by
  rw [sum_split 9728 128 (by norm_num), sum_split 9216 512 (by norm_num), sum_split 6144 3072 (by norm_num), sum_split 4096 2048 (by norm_num), sum_split 3072 1024 (by norm_num),
    sum_split 2048 1024 (by norm_num), sum_split 1024 1024 (by norm_num)]
  unfold Tok.dh Tok.dh6
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · exact Finset.sum_congr rfl fun k _ => congrArg (· * _) (cat_dq A t _ k rfl)
  · exact Finset.sum_congr rfl fun k _ => congrArg (· * _) (cat_dm A t _ ⟨k, by omega⟩ rfl)
  · exact Finset.sum_congr rfl fun k _ => congrArg (· * _) (cat_dm A t _ ⟨1024 + k, by omega⟩ (by show 2048 + (k : ℕ) = 1024 + (1024 + k); omega))
  · exact Finset.sum_congr rfl fun k _ => congrArg (· * _) (cat_dm A t _ ⟨2048 + k, by omega⟩ (by show 3072 + (k : ℕ) = 1024 + (2048 + k); omega))
  · exact Finset.sum_congr rfl fun k _ => congrArg (· * _) (cat_dm A t _ ⟨3072 + k, by omega⟩ (by show 4096 + (k : ℕ) = 1024 + (3072 + k); omega))
  · exact Finset.sum_congr rfl fun k _ => congrArg (· * _) (cat_dx A t _ k rfl)
  · exact Finset.sum_congr rfl fun k _ => congrArg (· * _) (cat_dk A t _ k rfl)
  · exact Finset.sum_congr rfl fun k _ => congrArg (· * _) (cat_dt A t _ k rfl)

/-- A quantity of each token, as an array. -/
def rowsOf {n : ℕ} (φ : FTy) (f : Tok → Fin n → ℝ) : FVec Ideal ⟨2, ![8192, n]⟩ φ := lift φ fun j => f (A.tok (j 0)) (j 1)
/-- One number of each token. -/
def colOf (f : Tok → ℝ) : FVec Ideal S8192x1 .f32 := lift .f32 fun j => f (A.tok (j 0))
/-- A quantity of the tokens together, as a row. -/
def rowOf (f : Fin 1024 → ℝ) : FVec Ideal S1x1024 .f32 := lift .f32 fun j => f (j 1)

theorem rowsOf_ix2 {n : ℕ} {φ : FTy} (f : Tok → Fin n → ℝ) (r : Fin 8192) (c : Fin n) :
    rowsOf A φ f (ix2 r c) = ((f (A.tok r) c : ℝ) : EReal) := rfl
theorem colOf_ix2 (f : Tok → ℝ) (r : Fin 8192) (c : Fin 1) : colOf A f (ix2 r c) = ((f (A.tok r) : ℝ) : EReal) := rfl
theorem rowOf_ix2 (f : Fin 1024 → ℝ) (r : Fin 1) (c : Fin 1024) : rowOf f (ix2 r c) = ((f c : ℝ) : EReal) := rfl

theorem v6_eq : val_main_v6 (F := Ideal) (lift .bf16 A.dq) (lift .bf16 A.dm) (lift .bf16 A.dx) (lift .bf16 A.dk) (lift .bf16 A.dt) = lift .f32 (fun j => A.cat (j 0) (j 1)) := by
  funext i; idx_vars i
  simp only [val_main_v6, val_main_v1, val_main_v2, val_main_v3, val_main_v4, val_main_v5]
  pointwise []
  simp only [lift_apply, rowsOf_ix2, colOf_ix2, rowOf_ix2, c_neg_half, c_1024, c_eps, rone, rmul, radd, rsub, rsum, rdiv_1024, rrsqrt_1024, zero_add]
  show _ = ((A.cat i0 i1 : ℝ) : EReal)
  by_cases hdq : (i1 : ℕ) < 1024
  · rw [dif_pos hdq, cat_dq A i0 i1 ⟨(i1 : ℕ), hdq⟩ rfl]
  rw [dif_neg hdq]
  by_cases hdm : (i1 : ℕ) - 1024 < 5120
  · rw [dif_pos hdm, cat_dm A i0 i1 ⟨(i1 : ℕ) - 1024, hdm⟩ (by show (i1 : ℕ) = 1024 + ((i1 : ℕ) - 1024); omega)]
  rw [dif_neg hdm]
  by_cases hdx : (i1 : ℕ) - 1024 - 5120 < 3072
  · rw [dif_pos hdx, cat_dx A i0 i1 ⟨(i1 : ℕ) - 1024 - 5120, hdx⟩ (by show (i1 : ℕ) = 6144 + ((i1 : ℕ) - 1024 - 5120); omega)]
  rw [dif_neg hdx]
  by_cases hdk : (i1 : ℕ) - 1024 - 5120 - 3072 < 512
  · rw [dif_pos hdk, cat_dk A i0 i1 ⟨(i1 : ℕ) - 1024 - 5120 - 3072, hdk⟩ (by show (i1 : ℕ) = 9216 + ((i1 : ℕ) - 1024 - 5120 - 3072); omega)]
  rw [dif_neg hdk]
  rw [cat_dt A i0 i1 ⟨(i1 : ℕ) - 1024 - 5120 - 3072 - 512, by omega⟩ (by show (i1 : ℕ) = 9728 + ((i1 : ℕ) - 1024 - 5120 - 3072 - 512); omega)]

theorem v31_eq : val_main_v31 (F := Ideal) (lift .bf16 A.dq) (lift .bf16 A.dm) (lift .bf16 A.dx) (lift .bf16 A.dk) (lift .bf16 A.dt) (lift .bf16 A.w) = rowsOf A .f32 Tok.dh := by
  funext i; idx_vars i
  simp only [val_main_v31, val_main_v29, val_main_v0, v6_eq A]
  pointwise []
  simp only [lift_apply, rowsOf_ix2, colOf_ix2, rowOf_ix2, c_neg_half, c_1024, c_eps, rone, rmul, radd, rsub, rsum, rdiv_1024, rrsqrt_1024, zero_add]
  exact congrArg (fun r : ℝ => (r : EReal)) (dh_eq A i0 i1)

theorem v33_eq : val_main_v33 (F := Ideal) (lift .bf16 A.dq) (lift .bf16 A.dm) (lift .bf16 A.dx) (lift .bf16 A.dk) (lift .bf16 A.dt) (lift .bf16 A.w) = rowOf (fun a => ∑ t, (A.tok t).dh a) := by
  funext i; idx_vars i
  simp only [val_main_v33, val_main_v32, val_main_cst_5, v31_eq A]
  pointwise []
  simp only [lift_apply, rowsOf_ix2, colOf_ix2, rowOf_ix2, c_neg_half, c_1024, c_eps, rone, rmul, radd, rsub, rsum, rdiv_1024, rrsqrt_1024, zero_add]
  all_goals rfl

theorem v14_eq : val_main_v14 (F := Ideal) (lift .f32 A.x) = colOf A Tok.ms := by
  funext i; idx_vars i
  simp only [val_main_v14, val_main_v12, val_main_v13, val_main_cst_2, val_main_v10, val_main_v11, val_main_cst_1, val_main_v9, val_main_v8, val_main_cst_0]
  pointwise []
  simp only [lift_apply, rowsOf_ix2, colOf_ix2, rowOf_ix2, c_neg_half, c_1024, c_eps, rone, rmul, radd, rsub, rsum, rdiv_1024, rrsqrt_1024, zero_add]
  all_goals rfl

theorem v15_eq : val_main_v15 (F := Ideal) (lift .f32 A.x) = colOf A Tok.rs := by
  funext i; idx_vars i
  simp only [val_main_v15, v14_eq A]
  pointwise []
  simp only [lift_apply, rowsOf_ix2, colOf_ix2, rowOf_ix2, c_neg_half, c_1024, c_eps, rone, rmul, radd, rsub, rsum, rdiv_1024, rrsqrt_1024, zero_add]
  exact rrsqrt_1024 _

theorem v18_eq : val_main_v18 (F := Ideal) (lift .f32 A.x) = colOf A (fun T => -(1 / 2) * (T.rs / T.ms)) := by
  funext i; idx_vars i
  simp only [val_main_v18, val_main_v17, val_main_v16, val_main_cst_3, v14_eq A, v15_eq A]
  pointwise []
  simp only [lift_apply, rowsOf_ix2, colOf_ix2, rowOf_ix2, c_neg_half, c_1024, c_eps, rone, rmul, radd, rsub, rsum, rdiv_1024, rrsqrt_1024, zero_add]
  rw [rdiv _ _ (A.tok i0).ms_pos.ne', rmul]

theorem v20_eq : val_main_v20 (F := Ideal) (lift .f32 A.x) = rowsOf A .f32 Tok.xn := by
  funext i; idx_vars i
  simp only [val_main_v20, val_main_v19, v15_eq A]
  pointwise []
  simp only [lift_apply, rowsOf_ix2, colOf_ix2, rowOf_ix2, c_neg_half, c_1024, c_eps, rone, rmul, radd, rsub, rsum, rdiv_1024, rrsqrt_1024, zero_add]
  all_goals rfl

theorem v34_eq : val_main_v34 (F := Ideal) (lift .bf16 A.dq) (lift .bf16 A.dm) (lift .bf16 A.dx) (lift .bf16 A.dk) (lift .bf16 A.dt) (lift .bf16 A.w) (lift .f32 A.x) (lift .f32 A.nw) = rowsOf A .f32 (fun T a => T.dw a * T.nw a) := by
  funext i; idx_vars i
  simp only [val_main_v34, val_main_v22, val_main_v21, v31_eq A, v20_eq A]
  pointwise []
  simp only [lift_apply, rowsOf_ix2, colOf_ix2, rowOf_ix2, c_neg_half, c_1024, c_eps, rone, rmul, radd, rsub, rsum, rdiv_1024, rrsqrt_1024, zero_add]
  refine congrArg (fun r : ℝ => (r : EReal)) ?_
  show (A.tok i0).xn i1 * (A.tok i0).nw i1 * (A.tok i0).dh i1 = (A.tok i0).dh i1 * (A.tok i0).xn i1 * (A.tok i0).nw i1
  ring

theorem v36_eq : val_main_v36 (F := Ideal) (lift .bf16 A.dq) (lift .bf16 A.dm) (lift .bf16 A.dx) (lift .bf16 A.dk) (lift .bf16 A.dt) (lift .bf16 A.w) (lift .f32 A.x) (lift .f32 A.nw) = rowOf (fun a => (∑ t, (A.tok t).dw a) * A.nw (ix2 0 a)) := by
  funext i; idx_vars i
  simp only [val_main_v36, val_main_v35, val_main_cst_6, v34_eq A]
  pointwise []
  simp only [lift_apply, rowsOf_ix2, colOf_ix2, rowOf_ix2, c_neg_half, c_1024, c_eps, rone, rmul, radd, rsub, rsum, rdiv_1024, rrsqrt_1024, zero_add]
  refine congrArg (fun r : ℝ => (r : EReal)) ?_
  rw [Finset.sum_mul]
  rfl

theorem v38_eq : val_main_v38 (F := Ideal) (lift .bf16 A.dq) (lift .bf16 A.dm) (lift .bf16 A.dx) (lift .bf16 A.dk) (lift .bf16 A.dt) (lift .bf16 A.w) (lift .f32 A.sc) = rowsOf A .f32 (fun T a => T.dh a * (1 + T.sc a)) := by
  funext i; idx_vars i
  simp only [val_main_v38, val_main_v37, val_main_v24, val_main_v23, val_main_cst_4, v31_eq A]
  pointwise []
  simp only [lift_apply, rowsOf_ix2, colOf_ix2, rowOf_ix2, c_neg_half, c_1024, c_eps, rone, rmul, radd, rsub, rsum, rdiv_1024, rrsqrt_1024, zero_add]
  all_goals rfl

theorem v39_eq : val_main_v39 (F := Ideal) (lift .bf16 A.dq) (lift .bf16 A.dm) (lift .bf16 A.dx) (lift .bf16 A.dk) (lift .bf16 A.dt) (lift .bf16 A.w) (lift .f32 A.x) (lift .f32 A.sc) = rowsOf A .f32 (fun T a => T.dw a * (1 + T.sc a)) := by
  funext i; idx_vars i
  simp only [val_main_v39, v20_eq A, v38_eq A]
  pointwise []
  simp only [lift_apply, rowsOf_ix2, colOf_ix2, rowOf_ix2, c_neg_half, c_1024, c_eps, rone, rmul, radd, rsub, rsum, rdiv_1024, rrsqrt_1024, zero_add]
  refine congrArg (fun r : ℝ => (r : EReal)) ?_
  show (A.tok i0).xn i1 * ((A.tok i0).dh i1 * (1 + (A.tok i0).sc i1)) = (A.tok i0).dh i1 * (A.tok i0).xn i1 * (1 + (A.tok i0).sc i1)
  ring

theorem v41_eq : val_main_v41 (F := Ideal) (lift .bf16 A.dq) (lift .bf16 A.dm) (lift .bf16 A.dx) (lift .bf16 A.dk) (lift .bf16 A.dt) (lift .bf16 A.w) (lift .f32 A.x) (lift .f32 A.sc) = rowOf (fun a => (∑ t, (A.tok t).dw a) * (1 + A.sc (ix2 0 a))) := by
  funext i; idx_vars i
  simp only [val_main_v41, val_main_v40, val_main_cst_7, v39_eq A]
  pointwise []
  simp only [lift_apply, rowsOf_ix2, colOf_ix2, rowOf_ix2, c_neg_half, c_1024, c_eps, rone, rmul, radd, rsub, rsum, rdiv_1024, rrsqrt_1024, zero_add]
  refine congrArg (fun r : ℝ => (r : EReal)) ?_
  rw [Finset.sum_mul]
  rfl

theorem v43_eq : val_main_v43 (F := Ideal) (lift .bf16 A.dq) (lift .bf16 A.dm) (lift .bf16 A.dx) (lift .bf16 A.dk) (lift .bf16 A.dt) (lift .bf16 A.w) (lift .f32 A.nw) (lift .f32 A.sc) = rowsOf A .f32 Tok.dxn := by
  funext i; idx_vars i
  simp only [val_main_v43, val_main_v42, v38_eq A]
  pointwise []
  simp only [lift_apply, rowsOf_ix2, colOf_ix2, rowOf_ix2, c_neg_half, c_1024, c_eps, rone, rmul, radd, rsub, rsum, rdiv_1024, rrsqrt_1024, zero_add]
  refine congrArg (fun r : ℝ => (r : EReal)) ?_
  show (A.tok i0).dh i1 * (1 + (A.tok i0).sc i1) * (A.tok i0).nw i1 = (A.tok i0).dh i1 * ((A.tok i0).nw i1 * (1 + (A.tok i0).sc i1))
  ring

theorem v46_eq : val_main_v46 (F := Ideal) (lift .bf16 A.dq) (lift .bf16 A.dm) (lift .bf16 A.dx) (lift .bf16 A.dk) (lift .bf16 A.dt) (lift .bf16 A.w) (lift .f32 A.x) (lift .f32 A.nw) (lift .f32 A.sc) = colOf A (fun T => ∑ l, T.x l * T.dxn l) := by
  funext i; idx_vars i
  simp only [val_main_v46, val_main_v45, val_main_v44, val_main_cst_8, v43_eq A]
  pointwise []
  simp only [lift_apply, rowsOf_ix2, colOf_ix2, rowOf_ix2, c_neg_half, c_1024, c_eps, rone, rmul, radd, rsub, rsum, rdiv_1024, rrsqrt_1024, zero_add]
  all_goals rfl

theorem v52_eq : val_main_v52 (F := Ideal) (lift .bf16 A.dq) (lift .bf16 A.dm) (lift .bf16 A.dx) (lift .bf16 A.dk) (lift .bf16 A.dt) (lift .bf16 A.w) (lift .f32 A.x) (lift .f32 A.nw) (lift .f32 A.sc) = colOf A (fun T => (∑ l, T.x l * T.dxn l) * (-(1 / 2) * (T.rs / T.ms)) / 1024) := by
  funext i; idx_vars i
  simp only [val_main_v52, val_main_v50, val_main_v51, val_main_cst_9, v18_eq A, v46_eq A]
  pointwise []
  simp only [lift_apply, rowsOf_ix2, colOf_ix2, rowOf_ix2, c_neg_half, c_1024, c_eps, rone, rmul, radd, rsub, rsum, rdiv_1024, rrsqrt_1024, zero_add]
  all_goals rfl

theorem v58_eq : val_main_v58 (F := Ideal) (lift .bf16 A.dq) (lift .bf16 A.dm) (lift .bf16 A.dx) (lift .bf16 A.dk) (lift .bf16 A.dt) (lift .bf16 A.w) (lift .f32 A.x) (lift .f32 A.dy) (lift .f32 A.nw) (lift .f32 A.sc) = rowsOf A .f32 Tok.gx := by
  funext i; idx_vars i
  simp only [val_main_v58, val_main_v56, val_main_v57, val_main_v54, val_main_v53, val_main_cst_10, val_main_v49, val_main_v55, val_main_v48, val_main_v47, v15_eq A, v43_eq A, v52_eq A]
  pointwise []
  simp only [lift_apply, rowsOf_ix2, colOf_ix2, rowOf_ix2, c_neg_half, c_1024, c_eps, rone, rmul, radd, rsub, rsum, rdiv_1024, rrsqrt_1024, zero_add]
  simp only [Finset.univ_unique, Finset.sum_singleton]; exact congrArg (fun r : ℝ => (r : EReal)) ((A.tok i0).gx_eq i1).symm

end Cert.DprojRefIdeal.DprojRef
-- ==== Proof.DprojArrays.lean ====
/- The kernel's output arrays after the run, at real arguments: each is the array of one of `Tok`'s quantities. -/
module

public import proofs.«01_k».proof.Proof.DprojBlock
public import proofs.«01_k».proof.Proof.DprojRef
public import proofs.«01_k».proof.Proof.Gen.DprojIdeal.Value
public import Idealize.ShloMosaic.Lib.Pipeline.ValueKit
public import Idealize.ShloMosaic.Lib.Pipeline.ReadBack

@[expose] public section

set_option maxRecDepth 16384

noncomputable section

namespace Cert.DprojIdeal.DprojArrays

open Cert.DprojIdeal Cert.DprojIdeal.Gen Idealize.ShloMosaic Idealize.ShloMosaic.TcCoe Cert.RealLift Cert.Dproj
open Cert.DprojIdeal.DprojBlock (Blk)
open Cert.DprojRefIdeal.DprojRef (Arr rowOf)
open scoped BigOperators

variable (m : (ℓ : Loc nD τ sig) → Buf (Elt Ideal) ℓ) (A : Arr)

/-- The arguments on core `c` are the arrays `A`. -/
structure Holds (c : Dev nD) : Prop where
  dq : m ((c : Thread nD τ).loc main_arg0) = lift .bf16 A.dq
  dm : m ((c : Thread nD τ).loc main_arg1) = lift .bf16 A.dm
  dx : m ((c : Thread nD τ).loc main_arg2) = lift .bf16 A.dx
  dk : m ((c : Thread nD τ).loc main_arg3) = lift .bf16 A.dk
  dt : m ((c : Thread nD τ).loc main_arg4) = lift .bf16 A.dt
  w : m ((c : Thread nD τ).loc main_arg5) = lift .bf16 A.w
  x : m ((c : Thread nD τ).loc main_arg6) = lift .f32 A.x
  dy : m ((c : Thread nD τ).loc main_arg7) = lift .f32 A.dy
  nw : m ((c : Thread nD τ).loc main_arg8) = lift .f32 A.nw
  sc : m ((c : Thread nD τ).loc main_arg9) = lift .f32 A.sc

/-- Row `r` of block `t` is row `256 t + r` of the array. -/
def row (t : Fin cfg0.N) (r : Fin 256) : Fin 8192 := ⟨t.val * 256 + r, by have := t.isLt; have h : cfg0.N = 32 := N_0; omega⟩

/-- The blocks of the point `t`. -/
def blkOf (t : Fin cfg0.N) : Blk where
  dq i := A.dq (ix2 (row t (i 0)) (i 1))
  dza i := A.dm (ix2 (row t (i 0)) ⟨(i 1).val, by have : (i 1).val < 1024 := (i 1).isLt; omega⟩)
  dga i := A.dm (ix2 (row t (i 0)) ⟨1024 + (i 1).val, by have : (i 1).val < 1024 := (i 1).isLt; omega⟩)
  dgb i := A.dm (ix2 (row t (i 0)) ⟨2048 + (i 1).val, by have : (i 1).val < 1024 := (i 1).isLt; omega⟩)
  dzm i := A.dm (ix2 (row t (i 0)) ⟨3072 + (i 1).val, by have : (i 1).val < 2048 := (i 1).isLt; omega⟩)
  dx i := A.dx (ix2 (row t (i 0)) (i 1))
  dk i := A.dk (ix2 (row t (i 0)) (i 1))
  dt i := A.dt (ix2 (row t (i 0)) (i 1))
  wq i := A.w (ix2 (i 0) ⟨(i 1).val, by have : (i 1).val < 1024 := (i 1).isLt; omega⟩)
  wza i := A.w (ix2 (i 0) ⟨1024 + (i 1).val, by have : (i 1).val < 1024 := (i 1).isLt; omega⟩)
  wga i := A.w (ix2 (i 0) ⟨2048 + (i 1).val, by have : (i 1).val < 1024 := (i 1).isLt; omega⟩)
  wgb i := A.w (ix2 (i 0) ⟨3072 + (i 1).val, by have : (i 1).val < 1024 := (i 1).isLt; omega⟩)
  wzm i := A.w (ix2 (i 0) ⟨4096 + (i 1).val, by have : (i 1).val < 2048 := (i 1).isLt; omega⟩)
  wx i := A.w (ix2 (i 0) ⟨6144 + (i 1).val, by have : (i 1).val < 3072 := (i 1).isLt; omega⟩)
  wk i := A.w (ix2 (i 0) ⟨9216 + (i 1).val, by have : (i 1).val < 512 := (i 1).isLt; omega⟩)
  wt i := A.w (ix2 (i 0) ⟨9728 + (i 1).val, by have : (i 1).val < 128 := (i 1).isLt; omega⟩)
  x i := A.x (ix2 (row t (i 0)) (i 1))
  dy i := A.dy (ix2 (row t (i 0)) (i 1))
  nw := A.nw
  sc := A.sc
/-- The block of the second piece, which holds four ranges of columns. -/
def dmOf (t : Fin cfg0.N) : S256x5120.Idx → ℝ := fun i => A.dm (ix2 (row t (i 0)) (i 1))

theorem tok_row (t : Fin cfg0.N) (r : Fin 256) : (blkOf A t).tok r = A.tok (row t r) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 1]
    ∧ win0_7.index t = ![0, 2] ∧ win0_8.index t = ![0, 3] ∧ win0_9.index t = ![0, 2] ∧ win0_10.index t = ![0, 2]
    ∧ win0_11.index t = ![0, 18] ∧ win0_12.index t = ![0, 76] ∧ win0_13.index t = ![t.val, 0] ∧ win0_14.index t = ![t.val, 0]
    ∧ win0_15.index t = ![0, 0] ∧ win0_16.index t = ![0, 0] := (by decide +kernel : ∀ t : Fin grid0.N, _)

theorem idx_out : ∀ t : Fin cfg0.N, win0_17.index t = ![t.val, 0] ∧ win0_18.index t = ![0, 0] ∧ win0_19.index t = ![0, 0]
    ∧ win0_20.index t = ![0, 0] := (by decide +kernel : ∀ t : Fin grid0.N, _)

variable {m A}

theorem in0 {c : Dev nD} (H : Holds m A c) (t : Fin cfg0.N) : iblk m c 0 t = lift .bf16 (blkOf A t).dq := by
  funext i
  idx_vars i
  blk_simp [iblk, V, idx t]
  rw [H.dq]
  refine congrArg (fun j => ((A.dq j : ℝ) : EReal)) ?_
  blk_ext [iblk, V, idx t]
  rfl

theorem in1 {c : Dev nD} (H : Holds m A c) (t : Fin cfg0.N) : iblk m c 1 t = lift .bf16 (dmOf A t) := by
  funext i
  idx_vars i
  blk_simp [iblk, V, idx t]
  rw [H.dm]
  refine congrArg (fun j => ((A.dm j : ℝ) : EReal)) ?_
  blk_ext [iblk, V, idx t]
  rfl

theorem in2 {c : Dev nD} (H : Holds m A c) (t : Fin cfg0.N) : iblk m c 2 t = lift .bf16 (blkOf A t).dx := by
  funext i
  idx_vars i
  blk_simp [iblk, V, idx t]
  rw [H.dx]
  refine congrArg (fun j => ((A.dx j : ℝ) : EReal)) ?_
  blk_ext [iblk, V, idx t]
  rfl

theorem in3 {c : Dev nD} (H : Holds m A c) (t : Fin cfg0.N) : iblk m c 3 t = lift .bf16 (blkOf A t).dk := by
  funext i
  idx_vars i
  blk_simp [iblk, V, idx t]
  rw [H.dk]
  refine congrArg (fun j => ((A.dk j : ℝ) : EReal)) ?_
  blk_ext [iblk, V, idx t]
  rfl

theorem in4 {c : Dev nD} (H : Holds m A c) (t : Fin cfg0.N) : iblk m c 4 t = lift .bf16 (blkOf A t).dt := by
  funext i
  idx_vars i
  blk_simp [iblk, V, idx t]
  rw [H.dt]
  refine congrArg (fun j => ((A.dt j : ℝ) : EReal)) ?_
  blk_ext [iblk, V, idx t]
  rfl

theorem in5 {c : Dev nD} (H : Holds m A c) (t : Fin cfg0.N) : X0_5 m c t = lift .bf16 (blkOf A t).wq := by
  funext i
  unfold X0_5 Pipeline.Window.fill
  rw [dif_pos (moved0_5 t i)]
  idx_vars i
  blk_simp [iblk, V, idx t]
  rw [H.w]
  refine congrArg (fun j => ((A.w j : ℝ) : EReal)) ?_
  blk_ext [iblk, V, idx t]

theorem in6 {c : Dev nD} (H : Holds m A c) (t : Fin cfg0.N) : X0_6 m c t = lift .bf16 (blkOf A t).wza := by
  funext i
  unfold X0_6 Pipeline.Window.fill
  rw [dif_pos (moved0_6 t i)]
  idx_vars i
  blk_simp [iblk, V, idx t]
  rw [H.w]
  refine congrArg (fun j => ((A.w j : ℝ) : EReal)) ?_
  blk_ext [iblk, V, idx t]

theorem in7 {c : Dev nD} (H : Holds m A c) (t : Fin cfg0.N) : X0_7 m c t = lift .bf16 (blkOf A t).wga := by
  funext i
  unfold X0_7 Pipeline.Window.fill
  rw [dif_pos (moved0_7 t i)]
  idx_vars i
  blk_simp [iblk, V, idx t]
  rw [H.w]
  refine congrArg (fun j => ((A.w j : ℝ) : EReal)) ?_
  blk_ext [iblk, V, idx t]

theorem in8 {c : Dev nD} (H : Holds m A c) (t : Fin cfg0.N) : X0_8 m c t = lift .bf16 (blkOf A t).wgb := by
  funext i
  unfold X0_8 Pipeline.Window.fill
  rw [dif_pos (moved0_8 t i)]
  idx_vars i
  blk_simp [iblk, V, idx t]
  rw [H.w]
  refine congrArg (fun j => ((A.w j : ℝ) : EReal)) ?_
  blk_ext [iblk, V, idx t]

theorem in9 {c : Dev nD} (H : Holds m A c) (t : Fin cfg0.N) : X0_9 m c t = lift .bf16 (blkOf A t).wzm := by
  funext i
  unfold X0_9 Pipeline.Window.fill
  rw [dif_pos (moved0_9 t i)]
  idx_vars i
  blk_simp [iblk, V, idx t]
  rw [H.w]
  refine congrArg (fun j => ((A.w j : ℝ) : EReal)) ?_
  blk_ext [iblk, V, idx t]

theorem in10 {c : Dev nD} (H : Holds m A c) (t : Fin cfg0.N) : X0_10 m c t = lift .bf16 (blkOf A t).wx := by
  funext i
  unfold X0_10 Pipeline.Window.fill
  rw [dif_pos (moved0_10 t i)]
  idx_vars i
  blk_simp [iblk, V, idx t]
  rw [H.w]
  refine congrArg (fun j => ((A.w j : ℝ) : EReal)) ?_
  blk_ext [iblk, V, idx t]

theorem in11 {c : Dev nD} (H : Holds m A c) (t : Fin cfg0.N) : X0_11 m c t = lift .bf16 (blkOf A t).wk := by
  funext i
  unfold X0_11 Pipeline.Window.fill
  rw [dif_pos (moved0_11 t i)]
  idx_vars i
  blk_simp [iblk, V, idx t]
  rw [H.w]
  refine congrArg (fun j => ((A.w j : ℝ) : EReal)) ?_
  blk_ext [iblk, V, idx t]

theorem in12 {c : Dev nD} (H : Holds m A c) (t : Fin cfg0.N) : iblk m c 12 t = lift .bf16 (blkOf A t).wt := by
  funext i
  idx_vars i
  blk_simp [iblk, V, idx t]
  rw [H.w]
  refine congrArg (fun j => ((A.w j : ℝ) : EReal)) ?_
  blk_ext [iblk, V, idx t]

theorem in13 {c : Dev nD} (H : Holds m A c) (t : Fin cfg0.N) : iblk m c 13 t = lift .f32 (blkOf A t).x := by
  funext i
  idx_vars i
  blk_simp [iblk, V, idx t]
  rw [H.x]
  refine congrArg (fun j => ((A.x j : ℝ) : EReal)) ?_
  blk_ext [iblk, V, idx t]
  rfl

theorem in14 {c : Dev nD} (H : Holds m A c) (t : Fin cfg0.N) : iblk m c 14 t = lift .f32 (blkOf A t).dy := by
  funext i
  idx_vars i
  blk_simp [iblk, V, idx t]
  rw [H.dy]
  refine congrArg (fun j => ((A.dy j : ℝ) : EReal)) ?_
  blk_ext [iblk, V, idx t]
  rfl

theorem in15 {c : Dev nD} (H : Holds m A c) (t : Fin cfg0.N) : iblk m c 15 t = lift .f32 (blkOf A t).nw := by
  funext i
  idx_vars i
  blk_simp [iblk, V, idx t]
  rw [H.nw]
  refine congrArg (fun j => ((A.nw j : ℝ) : EReal)) ?_
  blk_ext [iblk, V, idx t]

theorem in16 {c : Dev nD} (H : Holds m A c) (t : Fin cfg0.N) : iblk m c 16 t = lift .f32 (blkOf A t).sc := by
  funext i
  idx_vars i
  blk_simp [iblk, V, idx t]
  rw [H.sc]
  refine congrArg (fun j => ((A.sc j : ℝ) : EReal)) ?_
  blk_ext [iblk, V, idx t]

/-- Rows of a block are rows of the array. -/
theorem rows_at {n : ℕ} {φ : FTy} (f : Tok → Fin n → ℝ) (t : Fin cfg0.N) (y : (⟨2, ![256, n]⟩ : Shape).Idx) (j : (⟨2, ![8192, n]⟩ : Shape).Idx)
    (h0 : (j 0 : ℕ) = t.val * 256 + (y 0 : ℕ)) (h1 : (j 1 : ℕ) = (y 1 : ℕ)) :
    DprojBlock.rowsOf (blkOf A t) φ f y = Cert.DprojRefIdeal.DprojRef.rowsOf A φ f j := by
  have e0 : (j 0 : Fin 8192) = row t (y 0) := Fin.ext h0
  have e1 : (j 1 : Fin n) = (y 1 : Fin n) := Fin.ext h1
  show ((f ((blkOf A t).tok (y 0)) (y 1) : ℝ) : EReal) = ((f (A.tok (j 0)) (j 1) : ℝ) : EReal)
  rw [e0, e1]
  rfl

theorem slice_dza (t : Fin cfg0.N) :
    (View.ld (Val := Elt Ideal) (e' := .bf16) (lift .bf16 (dmOf A t)) (Rect.unit (s := S256x5120) ![0, 0] ![256, 1024] inb_S256x5120_S256x1024_0_0) : FVec Ideal S256x1024 .bf16) = lift .bf16 (blkOf A t).dza := by
  funext i; idx_vars i
  refine congrArg (fun j => ((A.dm j : ℝ) : EReal)) ?_
  blk_ext []
  all_goals simp [row, Rect.idx_unit_val]

theorem slice_dga (t : Fin cfg0.N) :
    (View.ld (Val := Elt Ideal) (e' := .bf16) (lift .bf16 (dmOf A t)) (Rect.unit (s := S256x5120) ![0, 1024] ![256, 1024] inb_S256x5120_S256x1024_0_1024) : FVec Ideal S256x1024 .bf16) = lift .bf16 (blkOf A t).dga := by
  funext i; idx_vars i
  refine congrArg (fun j => ((A.dm j : ℝ) : EReal)) ?_
  blk_ext []
  all_goals simp [row, Rect.idx_unit_val]

theorem slice_dgb (t : Fin cfg0.N) :
    (View.ld (Val := Elt Ideal) (e' := .bf16) (lift .bf16 (dmOf A t)) (Rect.unit (s := S256x5120) ![0, 2048] ![256, 1024] inb_S256x5120_S256x1024_0_2048) : FVec Ideal S256x1024 .bf16) = lift .bf16 (blkOf A t).dgb := by
  funext i; idx_vars i
  refine congrArg (fun j => ((A.dm j : ℝ) : EReal)) ?_
  blk_ext []
  all_goals simp [row, Rect.idx_unit_val]

theorem slice_dzm (t : Fin cfg0.N) :
    (View.ld (Val := Elt Ideal) (e' := .bf16) (lift .bf16 (dmOf A t)) (Rect.unit (s := S256x5120) ![0, 3072] ![256, 2048] inb_S256x5120_S256x2048_0_3072) : FVec Ideal S256x2048 .bf16) = lift .bf16 (blkOf A t).dzm := by
  funext i; idx_vars i
  refine congrArg (fun j => ((A.dm j : ℝ) : EReal)) ?_
  blk_ext []
  all_goals simp [row, Rect.idx_unit_val]

theorem final17 {c : Dev nD} (H : Holds m A c) : (dats m 0 c).arrAt 17 cfg0.N = Cert.DprojRefIdeal.DprojRef.rowsOf A .f32 Tok.gx := by
  refine (dats m 0 c).arrAt_eq_of_covers 17 _ (by decide +kernel) fun t _ y => ?_
  blk_simp
  rw [after0_17]
  by_cases h : t.val % 32 = 0
  · rw [outsAt0_A m c t h (by omega)]
    frame_out
    simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
    refine rows_at Tok.gx t y _ ?_ ?_
    all_goals (blk_simp [idx_out t] <;> try omega)
  by_cases h1 : t.val % 32 = 31
  all_goals
    first | rw [outsAt0_C m c t h h1] | rw [outsAt0_B m c t h h1]
    frame_out
    simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
    refine rows_at Tok.gx t y _ ?_ ?_
    all_goals (blk_simp [idx_out t] <;> try omega)

/-- The sum over the points of a sum over a block's rows is the sum over the array's rows. -/
theorem sum_rows (f : Fin 8192 → ℝ) (p : Fin 32 → Fin cfg0.N) (hp : ∀ s, (p s).val = s) :
    (∑ s, ((∑ r, f (row (p s) r) : ℝ) : EReal)) = ((∑ t, f t : ℝ) : EReal) := by
  rw [rsum]
  refine congrArg (fun r : ℝ => (r : EReal)) (Fin.sum_mul_add_congr fun s r hl => ?_)
  exact congrArg f (Fin.ext (by show (p s).val * 256 + r.val = _; rw [hp]))

/-- What the scratch holds after the last point. -/
theorem sum_dw {c : Dev nD} (H : Holds m A c) (t : Fin cfg0.N) (hf : t.val % 32 = 31) (j : S1x1024.Idx) :
    (outsAt0 m c t.val t.isLt).2.2.2.2 j = ((∑ t', (A.tok t').dw (j 1) : ℝ) : EReal) := by
  have hN : cfg0.N = 32 := N_0
  rw [Pipeline.eq_sum_fin_of_reset_step_apply_of_flush (fun n h => (outsAt0 m c n h).2.2.2.2) 32 (fun _ => 0)
    (fun t j => ((∑ r, ((blkOf A t).tok r).dw (j 1) : ℝ) : EReal))
    (fun t h j => by
      rw [outsAt0_A m c t h (by omega)]; frame_out
      simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
      idx_vars j; rw [DprojBlock.pay2_at]
      exact congrArg (· + _) (by pointwise [k0_pay6]))
    (fun t h j => by
      by_cases h1 : t.val % 32 = 31
      all_goals
        first | rw [outsAt0_C m c t h h1] | rw [outsAt0_B m c t h h1]
        frame_out
        simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
        idx_vars j; (try simp only [read_unread_whole]); rw [DprojBlock.pay2_at])
    t hf _, zero_add]
  have ht : t.val < 32 := lt_of_lt_of_eq t.isLt N_0
  exact sum_rows (fun t => (A.tok t).dw (j 1)) (fun s => ⟨32 * (t.val / 32) + s.val, by have := s.isLt; omega⟩) (fun s => by show 32 * (t.val / 32) + s.val = s.val; omega)

/-- What the fourth result's block holds after the last point. -/
theorem sum_dh {c : Dev nD} (H : Holds m A c) (t : Fin cfg0.N) (hf : t.val % 32 = 31) (j : S1x1024.Idx) :
    (outsAt0 m c t.val t.isLt).2.2.2.1 j = ((∑ t', (A.tok t').dh (j 1) : ℝ) : EReal) := by
  have hN : cfg0.N = 32 := N_0
  rw [Pipeline.eq_sum_fin_of_reset_step_apply_of_flush (fun n h => (outsAt0 m c n h).2.2.2.1) 32 (fun _ => 0)
    (fun t j => ((∑ r, ((blkOf A t).tok r).dh (j 1) : ℝ) : EReal))
    (fun t h j => by
      rw [outsAt0_A m c t h (by omega)]; frame_out
      simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
      idx_vars j; rw [DprojBlock.pay3_at]
      exact congrArg (· + _) (by pointwise [k0_pay7]))
    (fun t h j => by
      by_cases h1 : t.val % 32 = 31
      all_goals
        first | rw [outsAt0_C m c t h h1] | rw [outsAt0_B m c t h h1]
        frame_out
        simp only [in0 H t, in1 H t, in2 H t, in3 H t, in4 H t, in5 H t, in6 H t, in7 H t, in8 H t, in9 H t, in10 H t, in11 H t, in12 H t, in13 H t, in14 H t, in15 H t, in16 H t, slice_dza t, slice_dga t, slice_dgb t, slice_dzm t, DprojBlock.pay10_eq, DprojBlock.pay11_eq, DprojBlock.pay12_eq, DprojBlock.pay13_eq, DprojBlock.pay14_eq, DprojBlock.pay15_eq, DprojBlock.pay1_eq]
        idx_vars j; (try simp only [read_unread_whole]); rw [DprojBlock.pay3_at])
    t hf _, zero_add]
  have ht : t.val < 32 := lt_of_lt_of_eq t.isLt N_0
  exact sum_rows (fun t => (A.tok t).dh (j 1)) (fun s => ⟨32 * (t.val / 32) + s.val, by have := s.isLt; omega⟩) (fun s => by show 32 * (t.val / 32) + s.val = s.val; omega)

theorem final18 {c : Dev nD} (H : Holds m A c) : (dats m 0 c).arrAt 18 cfg0.N = rowOf (fun a => (∑ t, (A.tok t).dw a) * (1 + A.sc (ix2 0 a))) := by
  refine (dats m 0 c).arrAt_eq_of_covers 18 _ (by decide +kernel) fun t hf y => ?_
  have h1 : t.val % 32 = 31 := (flush0_18 t).mp hf
  have h0 : ¬t.val % 32 = 0 := by omega
  have e : (outsAt0 m c t.val t.isLt).2.1 = k0_pay4 (outsAt0 m c t.val t.isLt).2.2.2.2 (iblk m c 16 t) := by
    rw [outsAt0_C m c t h0 h1]
    frame_out
  blk_simp
  rw [after0_18, e, in16 H t]
  idx_vars y
  refine (DprojBlock.pay4_at (blkOf A t) _ _ y0 y1 (sum_dw H t h1 _)).trans ?_
  have hz : y0 = 0 := Subsingleton.elim _ _
  subst hz
  refine congrArg (fun j : Fin 1024 => (((∑ t', (A.tok t').dw j) * (1 + A.sc (ix2 0 j)) : ℝ) : EReal)) (Fin.ext ?_)
  blk_simp [idx_out t]

theorem final19 {c : Dev nD} (H : Holds m A c) : (dats m 0 c).arrAt 19 cfg0.N = rowOf (fun a => (∑ t, (A.tok t).dw a) * A.nw (ix2 0 a)) := by
  refine (dats m 0 c).arrAt_eq_of_covers 19 _ (by decide +kernel) fun t hf y => ?_
  have h1 : t.val % 32 = 31 := (flush0_19 t).mp hf
  have h0 : ¬t.val % 32 = 0 := by omega
  have e : (outsAt0 m c t.val t.isLt).2.2.1 = k0_pay5 (outsAt0 m c t.val t.isLt).2.2.2.2 (iblk m c 15 t) := by
    rw [outsAt0_C m c t h0 h1]
    frame_out
  blk_simp
  rw [after0_19, e, in15 H t]
  idx_vars y
  refine (DprojBlock.pay5_at (blkOf A t) _ _ y0 y1 (sum_dw H t h1 _)).trans ?_
  have hz : y0 = 0 := Subsingleton.elim _ _
  subst hz
  refine congrArg (fun j : Fin 1024 => (((∑ t', (A.tok t').dw j) * A.nw (ix2 0 j) : ℝ) : EReal)) (Fin.ext ?_)
  blk_simp [idx_out t]

theorem final20 {c : Dev nD} (H : Holds m A c) : (dats m 0 c).arrAt 20 cfg0.N = rowOf (fun a => ∑ t, (A.tok t).dh a) := by
  refine (dats m 0 c).arrAt_eq_of_covers 20 _ (by decide +kernel) fun t hf y => ?_
  blk_simp
  rw [after0_20]
  refine (sum_dh H t ((flush0_20 t).mp hf) _).trans ?_
  refine congrArg (fun j : Fin 1024 => ((∑ t', (A.tok t').dh j : ℝ) : EReal)) (Fin.ext ?_)
  blk_simp [idx_out t]

end Cert.DprojIdeal.DprojArrays
-- ==== Proof.DprojPre.lean ====
/-
  The precondition `dproj_finite` read as real arrays: where every element of every argument is finite in absolute
  value, the arguments are the embeddings of real arrays (`Cert.DprojRefIdeal.DprojRef.Arr`).
-/
module

public import proofs.«01_k».proof.Defs
public import proofs.«01_k».proof.Proof.DprojArrays
public import proofs.«01_k».proof.Proof.TailPre
public import proofs.«01_k».proof.Proof.Gen.Pre_dproj_finite

@[expose] public section

noncomputable section

namespace Cert.DprojIdeal.DprojPre

open Idealize.ShloMosaic Idealize.SL.Sem Cert.DprojIdeal Cert.DprojIdeal.Gen Cert.DprojIdeal.DprojArrays Cert.DprojRefIdeal.DprojRef
open Cert.RealLift
open Cert.KernelIdeal.TailPre (lt_of_cmp)

variable {m : (ℓ : Loc nD τ sig) → Buf (Elt Ideal) ℓ}

/-- The real arrays the arguments of device `c` embed. -/
def arr (m : (ℓ : Loc nD τ sig) → Buf (Elt Ideal) ℓ) (c : Dev nD) : Arr where
  dq := fun i => EReal.toReal (m ((c.tc : Thread nD τ).loc main_arg0) i)
  dm := fun i => EReal.toReal (m ((c.tc : Thread nD τ).loc main_arg1) i)
  dx := fun i => EReal.toReal (m ((c.tc : Thread nD τ).loc main_arg2) i)
  dk := fun i => EReal.toReal (m ((c.tc : Thread nD τ).loc main_arg3) i)
  dt := fun i => EReal.toReal (m ((c.tc : Thread nD τ).loc main_arg4) i)
  w := fun i => EReal.toReal (m ((c.tc : Thread nD τ).loc main_arg5) i)
  x := fun i => EReal.toReal (m ((c.tc : Thread nD τ).loc main_arg6) i)
  dy := fun i => EReal.toReal (m ((c.tc : Thread nD τ).loc main_arg7) i)
  nw := fun i => EReal.toReal (m ((c.tc : Thread nD τ).loc main_arg8) i)
  sc := fun i => EReal.toReal (m ((c.tc : Thread nD τ).loc main_arg9) i)

theorem holds [hp : Cert.Pre_dproj_finite.Facts] (h : Cert.Pre_DprojIdeal_dproj_finite m) (c : Dev nD) : Holds m (arr m c) c := by
  obtain ⟨h0, h1, h2, h3, h4, h5, h6, h7, h8, h9⟩ := h c
  constructor
  · exact eq_lift_of_lt_top (φ := .bf16) _ fun i => lt_of_lt_of_eq (lt_of_cmp (congrFun h0 i)) c_inf
  · exact eq_lift_of_lt_top (φ := .bf16) _ fun i => lt_of_lt_of_eq (lt_of_cmp (congrFun h1 i)) c_inf
  · exact eq_lift_of_lt_top (φ := .bf16) _ fun i => lt_of_lt_of_eq (lt_of_cmp (congrFun h2 i)) c_inf
  · exact eq_lift_of_lt_top (φ := .bf16) _ fun i => lt_of_lt_of_eq (lt_of_cmp (congrFun h3 i)) c_inf
  · exact eq_lift_of_lt_top (φ := .bf16) _ fun i => lt_of_lt_of_eq (lt_of_cmp (congrFun h4 i)) c_inf
  · exact eq_lift_of_lt_top (φ := .bf16) _ fun i => lt_of_lt_of_eq (lt_of_cmp (congrFun h5 i)) c_inf
  · exact eq_lift_of_lt_top (φ := .f32) _ fun i => lt_of_lt_of_eq (lt_of_cmp (congrFun h6 i)) c_inf
  · exact eq_lift_of_lt_top (φ := .f32) _ fun i => lt_of_lt_of_eq (lt_of_cmp (congrFun h7 i)) c_inf
  · exact eq_lift_of_lt_top (φ := .f32) _ fun i => lt_of_lt_of_eq (lt_of_cmp (congrFun h8 i)) c_inf
  · exact eq_lift_of_lt_top (φ := .f32) _ fun i => lt_of_lt_of_eq (lt_of_cmp (congrFun h9 i)) c_inf

end Cert.DprojIdeal.DprojPre

end
-- ==== Proof.DprojClaim.lean ====
/-
  The value claim of the projection's gradient: on finite arguments, every result of the call is the result of the reference.
-/
module

public import proofs.«01_k».proof.Defs
public import proofs.«01_k».proof.Proof.DprojPre
public import proofs.«01_k».proof.Proof.Gen.Pre_dproj_finite

@[expose] public section

noncomputable section

namespace Cert.DprojIdeal.DprojClaim

open Idealize.ShloMosaic Idealize.ShloMosaic.StableHlo Idealize.SL.Sem Cert.DprojIdeal.DprojArrays Cert.DprojRefIdeal.DprojRef Cert.RealLift

set_option maxHeartbeats 2000000 in
/-- The value claim of the projection's gradient: the call's results are the reference's. -/
theorem algebraic : Cert.algebraic_DprojIdeal_DprojRefIdeal_pre_dproj_finite (hDprojIdeal := Cert.DprojIdeal.Gen.facts)
    (hDprojRefIdeal := Cert.DprojRefIdeal.Gen.facts) (hPre_dproj_finite := Cert.Pre_dproj_finite.Gen.facts) := by
  pair_intro
  · exact Cert.DprojIdeal.Value.run_blocks m g
  · refine (θ_run _ _ _).mono (fun r h c => ?_) (Cert.DprojRefIdeal.Value.run m' g')
    have H := DprojPre.holds (hp := Cert.Pre_dproj_finite.Gen.facts) hpre c
    obtain ⟨b0, b1, b2, b3, b4, b5, b6, b7, b8, b9⟩ := hagree c
    have a0 := b0.trans H.dq
    have a1 := b1.trans H.dm
    have a2 := b2.trans H.dx
    have a3 := b3.trans H.dk
    have a4 := b4.trans H.dt
    have a5 := b5.trans H.w
    have a6 := b6.trans H.x
    have a7 := b7.trans H.dy
    have a8 := b8.trans H.nw
    have a9 := b9.trans H.sc
    obtain ⟨r58, r41, r36, r33, args⟩ := h c
    refine ⟨r58.trans ?_, r41.trans ?_, r36.trans ?_, r33.trans ?_, args⟩
    · refine (Cert.DprojRefIdeal.Read.val_main_v58_eq m' c).trans ?_
      simp only [a0, a1, a2, a3, a4, a5, a6, a7, a8, a9]
      exact (v58_eq _).trans (final17 H).symm
    · refine (Cert.DprojRefIdeal.Read.val_main_v41_eq _ _ _ _ _ _ _ _).trans ?_
      simp only [a0, a1, a2, a3, a4, a5, a6, a7, a8, a9]
      exact (v41_eq _).trans (final18 H).symm
    · refine (Cert.DprojRefIdeal.Read.val_main_v36_eq _ _ _ _ _ _ _ _).trans ?_
      simp only [a0, a1, a2, a3, a4, a5, a6, a7, a8, a9]
      exact (v36_eq _).trans (final19 H).symm
    · refine (Cert.DprojRefIdeal.Read.val_main_v33_eq _ _ _ _ _ _).trans ?_
      simp only [a0, a1, a2, a3, a4, a5, a6, a7, a8, a9]
      exact (v33_eq _).trans (final20 H).symm

/-- The reference leaves its arguments unchanged, and it has no semaphores. -/
theorem reference_frame (m : (ℓ : Loc Cert.DprojRefIdeal.nD Cert.DprojRefIdeal.τ Cert.DprojRefIdeal.sig) → Buf (Elt Ideal) ℓ)
    (ρ : Dev Cert.DprojRefIdeal.nD → PrngReg) :
    θ_run (Cert.DprojRefIdeal.defs (F := Ideal)) (onTc (τ := Cert.DprojRefIdeal.τ) (Cert.DprojRefIdeal.main (F := Ideal))) ⟨m, fun _ => 0, ρ⟩
      fun r => (∀ c : Dev Cert.DprojRefIdeal.nD,
r.2.mem ((c.tc : Thread Cert.DprojRefIdeal.nD Cert.DprojRefIdeal.τ).loc Cert.DprojRefIdeal.main_arg0)
          = m ((c.tc : Thread Cert.DprojRefIdeal.nD Cert.DprojRefIdeal.τ).loc Cert.DprojRefIdeal.main_arg0)
        ∧ r.2.mem ((c.tc : Thread Cert.DprojRefIdeal.nD Cert.DprojRefIdeal.τ).loc Cert.DprojRefIdeal.main_arg1)
          = m ((c.tc : Thread Cert.DprojRefIdeal.nD Cert.DprojRefIdeal.τ).loc Cert.DprojRefIdeal.main_arg1)
        ∧ r.2.mem ((c.tc : Thread Cert.DprojRefIdeal.nD Cert.DprojRefIdeal.τ).loc Cert.DprojRefIdeal.main_arg2)
          = m ((c.tc : Thread Cert.DprojRefIdeal.nD Cert.DprojRefIdeal.τ).loc Cert.DprojRefIdeal.main_arg2)
        ∧ r.2.mem ((c.tc : Thread Cert.DprojRefIdeal.nD Cert.DprojRefIdeal.τ).loc Cert.DprojRefIdeal.main_arg3)
          = m ((c.tc : Thread Cert.DprojRefIdeal.nD Cert.DprojRefIdeal.τ).loc Cert.DprojRefIdeal.main_arg3)
        ∧ r.2.mem ((c.tc : Thread Cert.DprojRefIdeal.nD Cert.DprojRefIdeal.τ).loc Cert.DprojRefIdeal.main_arg4)
          = m ((c.tc : Thread Cert.DprojRefIdeal.nD Cert.DprojRefIdeal.τ).loc Cert.DprojRefIdeal.main_arg4)
        ∧ r.2.mem ((c.tc : Thread Cert.DprojRefIdeal.nD Cert.DprojRefIdeal.τ).loc Cert.DprojRefIdeal.main_arg5)
          = m ((c.tc : Thread Cert.DprojRefIdeal.nD Cert.DprojRefIdeal.τ).loc Cert.DprojRefIdeal.main_arg5)
        ∧ r.2.mem ((c.tc : Thread Cert.DprojRefIdeal.nD Cert.DprojRefIdeal.τ).loc Cert.DprojRefIdeal.main_arg6)
          = m ((c.tc : Thread Cert.DprojRefIdeal.nD Cert.DprojRefIdeal.τ).loc Cert.DprojRefIdeal.main_arg6)
        ∧ r.2.mem ((c.tc : Thread Cert.DprojRefIdeal.nD Cert.DprojRefIdeal.τ).loc Cert.DprojRefIdeal.main_arg7)
          = m ((c.tc : Thread Cert.DprojRefIdeal.nD Cert.DprojRefIdeal.τ).loc Cert.DprojRefIdeal.main_arg7)
        ∧ r.2.mem ((c.tc : Thread Cert.DprojRefIdeal.nD Cert.DprojRefIdeal.τ).loc Cert.DprojRefIdeal.main_arg8)
          = m ((c.tc : Thread Cert.DprojRefIdeal.nD Cert.DprojRefIdeal.τ).loc Cert.DprojRefIdeal.main_arg8)
        ∧ r.2.mem ((c.tc : Thread Cert.DprojRefIdeal.nD Cert.DprojRefIdeal.τ).loc Cert.DprojRefIdeal.main_arg9)
          = m ((c.tc : Thread Cert.DprojRefIdeal.nD Cert.DprojRefIdeal.τ).loc Cert.DprojRefIdeal.main_arg9)
       ) ∧ r.2.sem = fun _ => 0 :=
  (θ_run _ _ _).mono (fun r h => ⟨fun c => (h c).2.2.2.2, sem_eq_zero_of_no_sems rfl _⟩)
    (Cert.DprojRefIdeal.Value.run m ρ)

end Cert.DprojIdeal.DprojClaim

end
-- ==== Proof.Dw1024Grad.lean ====
/- The weight gradient of a 1024 by 1024 weight: the kernel sums the product over four blocks of 2048 tokens, the reference
   takes it over the 8192 tokens at once. -/
module

public import proofs.«01_k».proof.Defs
public import proofs.«01_k».proof.Proof.Gen.Dw1024Ideal.Value
public import proofs.«01_k».proof.Proof.Gen.Dw1024RefIdeal.Run
public import proofs.«01_k».proof.Proof.Gen.Dw1024RefIdeal.Read
public import proofs.«01_k».proof.Proof.Gen.Dw1024Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Dw1024Ideal.Grad

open Cert.Dw1024Ideal Cert.Dw1024Ideal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S1024x8192, .bf16⟩ : BufTy).Contents (Elt Ideal)) (b : (⟨S8192x1024, .bf16⟩ : BufTy).Contents (Elt Ideal)) :
    (⟨S1024x1024, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![0, t.val % 4] ∧ win0_1.index t = ![t.val % 4, 0]
    ∧ win0_2.index t = ![0, 0] := (by decide +kernel : ∀ t : Fin grid0.N, _)

/-- One block's product, as a sum over the block's tokens. -/
def part (x : FVec Ideal S1024x2048 .bf16) (y : FVec Ideal S2048x1024 .bf16) : FVec Ideal S1024x1024 .f32 :=
  fun j => ∑ k : Fin 2048, mul (x (ix2 (j 0) k)) (y (ix2 k (j 1)))

theorem pay1_eq (x : FVec Ideal S1024x2048 .bf16) (y : FVec Ideal S2048x1024 .bf16) : k0_pay1 x y = part x y := by
  funext j; idx_vars j
  pointwise [k0_pay1, part]
  rfl

theorem pay2_at (x : FVec Ideal S1024x2048 .bf16) (y : FVec Ideal S2048x1024 .bf16) (z : FVec Ideal S1024x1024 .f32) (j : S1024x1024.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 4 := N_0
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 4 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S1024x1024.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S1024x1024.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S1024x8192, .bf16⟩ : BufTy).Contents (Elt Ideal)) (b : (⟨S8192x1024, .bf16⟩ : BufTy).Contents (Elt Ideal)) :
    Cert.Dw1024RefIdeal.Read.val_main_v6 (F := Ideal) a b = grad a b := by
  funext i
  rw [Cert.Dw1024RefIdeal.Read.val_main_v6_apply, Cert.Dw1024RefIdeal.Read.val_main_v5_apply]
  refine Finset.sum_congr rfl fun k _ => ?_
  rw [Cert.Dw1024RefIdeal.Read.val_main_v4_apply, Cert.Dw1024RefIdeal.Read.val_main_v1_apply, Cert.Dw1024RefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_Dw1024Ideal_Dw1024RefIdeal (hDw1024Ideal := Cert.Dw1024Ideal.Gen.facts) (hDw1024RefIdeal := Cert.Dw1024RefIdeal.Gen.facts) := by
  pair_intro
  · exact Cert.Dw1024Ideal.Value.run_blocks m g
  · refine (θ_run _ _ _).mono (fun r h c => ?_) (Cert.Dw1024RefIdeal.Value.run m' g')
    obtain ⟨a0, a1, a2⟩ := hagree c
    obtain ⟨r6, args⟩ := h c
    refine ⟨r6.trans ?_, args⟩
    refine (Cert.Dw1024RefIdeal.Read.val_main_v6_eq _ _).trans ?_
    rw [a0, a1]
    exact (ref_eq _ _).trans (final m c).symm

/-- The reference leaves its arguments unchanged, and it has no semaphores. -/
theorem reference_frame (m : (ℓ : Loc Cert.Dw1024RefIdeal.nD Cert.Dw1024RefIdeal.τ Cert.Dw1024RefIdeal.sig) → Buf (Elt Ideal) ℓ) (ρ : Dev Cert.Dw1024RefIdeal.nD → PrngReg) :
    θ_run (Cert.Dw1024RefIdeal.defs (F := Ideal)) (onTc (τ := Cert.Dw1024RefIdeal.τ) (Cert.Dw1024RefIdeal.main (F := Ideal))) ⟨m, fun _ => 0, ρ⟩
      fun r => (∀ c : Dev Cert.Dw1024RefIdeal.nD,
        r.2.mem ((c.tc : Thread Cert.Dw1024RefIdeal.nD Cert.Dw1024RefIdeal.τ).loc Cert.Dw1024RefIdeal.main_arg0) = m ((c.tc : Thread Cert.Dw1024RefIdeal.nD Cert.Dw1024RefIdeal.τ).loc Cert.Dw1024RefIdeal.main_arg0)
        ∧ r.2.mem ((c.tc : Thread Cert.Dw1024RefIdeal.nD Cert.Dw1024RefIdeal.τ).loc Cert.Dw1024RefIdeal.main_arg1) = m ((c.tc : Thread Cert.Dw1024RefIdeal.nD Cert.Dw1024RefIdeal.τ).loc Cert.Dw1024RefIdeal.main_arg1)
        ∧ r.2.mem ((c.tc : Thread Cert.Dw1024RefIdeal.nD Cert.Dw1024RefIdeal.τ).loc Cert.Dw1024RefIdeal.main_arg2) = m ((c.tc : Thread Cert.Dw1024RefIdeal.nD Cert.Dw1024RefIdeal.τ).loc Cert.Dw1024RefIdeal.main_arg2)
       ) ∧ r.2.sem = fun _ => 0 :=
  (θ_run _ _ _).mono (fun r h => ⟨fun c => (h c).2, sem_eq_zero_of_no_sems rfl _⟩) (Cert.Dw1024RefIdeal.Value.run m ρ)

end Cert.Dw1024Ideal.Grad
-- ==== Proof.DwSsmGrad.lean ====
/- The weight gradient of a 2048 by 1024 weight: the kernel sums the product over four blocks of 2048 tokens, the reference
   takes it over the 8192 tokens at once. -/
module

public import proofs.«01_k».proof.Defs
public import proofs.«01_k».proof.Proof.Gen.DwSsmIdeal.Value
public import proofs.«01_k».proof.Proof.Gen.DwSsmRefIdeal.Run
public import proofs.«01_k».proof.Proof.Gen.DwSsmRefIdeal.Read
public import proofs.«01_k».proof.Proof.Gen.DwSsmIdeal.Frame
public import Idealize.ShloMosaic.Lib.Pipeline.ValueKit
public import Idealize.ShloMosaic.Lib.Pointwise
public import Idealize.ShloMosaic.Lib.Claim

@[expose] public section

set_option maxRecDepth 16384

noncomputable section

namespace Cert.DwSsmIdeal.Grad

open Cert.DwSsmIdeal Cert.DwSsmIdeal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S2048x8192, .bf16⟩ : BufTy).Contents (Elt Ideal)) (b : (⟨S8192x1024, .bf16⟩ : BufTy).Contents (Elt Ideal)) :
    (⟨S2048x1024, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![t.val / 4, t.val % 4] ∧ win0_1.index t = ![t.val % 4, 0]
    ∧ win0_2.index t = ![t.val / 4, 0] := (by decide +kernel : ∀ t : Fin grid0.N, _)

/-- One block's product, as a sum over the block's tokens. -/
def part (x : FVec Ideal S1024x2048 .bf16) (y : FVec Ideal S2048x1024 .bf16) : FVec Ideal S1024x1024 .f32 :=
  fun j => ∑ k : Fin 2048, mul (x (ix2 (j 0) k)) (y (ix2 k (j 1)))

theorem pay1_eq (x : FVec Ideal S1024x2048 .bf16) (y : FVec Ideal S2048x1024 .bf16) : k0_pay1 x y = part x y := by
  funext j; idx_vars j
  pointwise [k0_pay1, part]
  rfl

theorem pay2_at (x : FVec Ideal S1024x2048 .bf16) (y : FVec Ideal S2048x1024 .bf16) (z : FVec Ideal S1024x1024 .f32) (j : S1024x1024.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 8 := N_0
  refine (dats m 0 c).arrAt_eq_of_covers 2 _ (by decide +kernel) fun t hf y => ?_
  have h3 : t.val % 4 = 3 := (flush0_2 t).mp hf
  have ht : t.val < 8 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 8 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S2048x1024.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S2048x1024.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S2048x8192, .bf16⟩ : BufTy).Contents (Elt Ideal)) (b : (⟨S8192x1024, .bf16⟩ : BufTy).Contents (Elt Ideal)) :
    Cert.DwSsmRefIdeal.Read.val_main_v6 (F := Ideal) a b = grad a b := by
  funext i
  rw [Cert.DwSsmRefIdeal.Read.val_main_v6_apply, Cert.DwSsmRefIdeal.Read.val_main_v5_apply]
  refine Finset.sum_congr rfl fun k _ => ?_
  rw [Cert.DwSsmRefIdeal.Read.val_main_v4_apply, Cert.DwSsmRefIdeal.Read.val_main_v1_apply, Cert.DwSsmRefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_DwSsmIdeal_DwSsmRefIdeal (hDwSsmIdeal := Cert.DwSsmIdeal.Gen.facts) (hDwSsmRefIdeal := Cert.DwSsmRefIdeal.Gen.facts) := by
  pair_intro
  · exact Cert.DwSsmIdeal.Value.run_blocks m g
  · refine (θ_run _ _ _).mono (fun r h c => ?_) (Cert.DwSsmRefIdeal.Value.run m' g')
    obtain ⟨a0, a1, a2⟩ := hagree c
    obtain ⟨r6, args⟩ := h c
    refine ⟨r6.trans ?_, args⟩
    refine (Cert.DwSsmRefIdeal.Read.val_main_v6_eq _ _).trans ?_
    rw [a0, a1]
    exact (ref_eq _ _).trans (final m c).symm

/-- The reference leaves its arguments unchanged, and it has no semaphores. -/
theorem reference_frame (m : (ℓ : Loc Cert.DwSsmRefIdeal.nD Cert.DwSsmRefIdeal.τ Cert.DwSsmRefIdeal.sig) → Buf (Elt Ideal) ℓ) (ρ : Dev Cert.DwSsmRefIdeal.nD → PrngReg) :
    θ_run (Cert.DwSsmRefIdeal.defs (F := Ideal)) (onTc (τ := Cert.DwSsmRefIdeal.τ) (Cert.DwSsmRefIdeal.main (F := Ideal))) ⟨m, fun _ => 0, ρ⟩
      fun r => (∀ c : Dev Cert.DwSsmRefIdeal.nD,
        r.2.mem ((c.tc : Thread Cert.DwSsmRefIdeal.nD Cert.DwSsmRefIdeal.τ).loc Cert.DwSsmRefIdeal.main_arg0) = m ((c.tc : Thread Cert.DwSsmRefIdeal.nD Cert.DwSsmRefIdeal.τ).loc Cert.DwSsmRefIdeal.main_arg0)
        ∧ r.2.mem ((c.tc : Thread Cert.DwSsmRefIdeal.nD Cert.DwSsmRefIdeal.τ).loc Cert.DwSsmRefIdeal.main_arg1) = m ((c.tc : Thread Cert.DwSsmRefIdeal.nD Cert.DwSsmRefIdeal.τ).loc Cert.DwSsmRefIdeal.main_arg1)
        ∧ r.2.mem ((c.tc : Thread Cert.DwSsmRefIdeal.nD Cert.DwSsmRefIdeal.τ).loc Cert.DwSsmRefIdeal.main_arg2) = m ((c.tc : Thread Cert.DwSsmRefIdeal.nD Cert.DwSsmRefIdeal.τ).loc Cert.DwSsmRefIdeal.main_arg2)
       ) ∧ r.2.sem = fun _ => 0 :=
  (θ_run _ _ _).mono (fun r h => ⟨fun c => (h c).2, sem_eq_zero_of_no_sems rfl _⟩) (Cert.DwSsmRefIdeal.Value.run m ρ)

end Cert.DwSsmIdeal.Grad
-- ==== Proof.Dw5120Grad.lean ====
/- The weight gradient of a 1024 by 5120 weight: the kernel sums the product over four blocks of 2048 tokens, the reference
   takes it over the 8192 tokens at once. -/
module

public import proofs.«01_k».proof.Defs
public import proofs.«01_k».proof.Proof.Gen.Dw5120Ideal.Value
public import proofs.«01_k».proof.Proof.Gen.Dw5120RefIdeal.Run
public import proofs.«01_k».proof.Proof.Gen.Dw5120RefIdeal.Read
public import proofs.«01_k».proof.Proof.Gen.Dw5120Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Dw5120Ideal.Grad

open Cert.Dw5120Ideal Cert.Dw5120Ideal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S1024x8192, .bf16⟩ : BufTy).Contents (Elt Ideal)) (b : (⟨S8192x5120, .bf16⟩ : BufTy).Contents (Elt Ideal)) :
    (⟨S1024x5120, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![0, t.val % 4] ∧ win0_1.index t = ![t.val % 4, t.val / 4]
    ∧ win0_2.index t = ![0, t.val / 4] := (by decide +kernel : ∀ t : Fin grid0.N, _)

/-- One block's product, as a sum over the block's tokens. -/
def part (x : FVec Ideal S1024x2048 .bf16) (y : FVec Ideal S2048x1280 .bf16) : FVec Ideal S1024x1280 .f32 :=
  fun j => ∑ k : Fin 2048, mul (x (ix2 (j 0) k)) (y (ix2 k (j 1)))

theorem pay1_eq (x : FVec Ideal S1024x2048 .bf16) (y : FVec Ideal S2048x1280 .bf16) : k0_pay1 x y = part x y := by
  funext j; idx_vars j
  pointwise [k0_pay1, part]
  rfl

theorem pay2_at (x : FVec Ideal S1024x2048 .bf16) (y : FVec Ideal S2048x1280 .bf16) (z : FVec Ideal S1024x1280 .f32) (j : S1024x1280.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 16 := N_0
  refine (dats m 0 c).arrAt_eq_of_covers 2 _ (by decide +kernel) fun t hf y => ?_
  have h3 : t.val % 4 = 3 := (flush0_2 t).mp hf
  have ht : t.val < 16 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 16 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S1024x5120.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S1024x5120.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S1024x8192, .bf16⟩ : BufTy).Contents (Elt Ideal)) (b : (⟨S8192x5120, .bf16⟩ : BufTy).Contents (Elt Ideal)) :
    Cert.Dw5120RefIdeal.Read.val_main_v6 (F := Ideal) a b = grad a b := by
  funext i
  rw [Cert.Dw5120RefIdeal.Read.val_main_v6_apply, Cert.Dw5120RefIdeal.Read.val_main_v5_apply]
  refine Finset.sum_congr rfl fun k _ => ?_
  rw [Cert.Dw5120RefIdeal.Read.val_main_v4_apply, Cert.Dw5120RefIdeal.Read.val_main_v1_apply, Cert.Dw5120RefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_Dw5120Ideal_Dw5120RefIdeal (hDw5120Ideal := Cert.Dw5120Ideal.Gen.facts) (hDw5120RefIdeal := Cert.Dw5120RefIdeal.Gen.facts) := by
  pair_intro
  · exact Cert.Dw5120Ideal.Value.run_blocks m g
  · refine (θ_run _ _ _).mono (fun r h c => ?_) (Cert.Dw5120RefIdeal.Value.run m' g')
    obtain ⟨a0, a1, a2⟩ := hagree c
    obtain ⟨r6, args⟩ := h c
    refine ⟨r6.trans ?_, args⟩
    refine (Cert.Dw5120RefIdeal.Read.val_main_v6_eq _ _).trans ?_
    rw [a0, a1]
    exact (ref_eq _ _).trans (final m c).symm

/-- The reference leaves its arguments unchanged, and it has no semaphores. -/
theorem reference_frame (m : (ℓ : Loc Cert.Dw5120RefIdeal.nD Cert.Dw5120RefIdeal.τ Cert.Dw5120RefIdeal.sig) → Buf (Elt Ideal) ℓ) (ρ : Dev Cert.Dw5120RefIdeal.nD → PrngReg) :
    θ_run (Cert.Dw5120RefIdeal.defs (F := Ideal)) (onTc (τ := Cert.Dw5120RefIdeal.τ) (Cert.Dw5120RefIdeal.main (F := Ideal))) ⟨m, fun _ => 0, ρ⟩
      fun r => (∀ c : Dev Cert.Dw5120RefIdeal.nD,
        r.2.mem ((c.tc : Thread Cert.Dw5120RefIdeal.nD Cert.Dw5120RefIdeal.τ).loc Cert.Dw5120RefIdeal.main_arg0) = m ((c.tc : Thread Cert.Dw5120RefIdeal.nD Cert.Dw5120RefIdeal.τ).loc Cert.Dw5120RefIdeal.main_arg0)
        ∧ r.2.mem ((c.tc : Thread Cert.Dw5120RefIdeal.nD Cert.Dw5120RefIdeal.τ).loc Cert.Dw5120RefIdeal.main_arg1) = m ((c.tc : Thread Cert.Dw5120RefIdeal.nD Cert.Dw5120RefIdeal.τ).loc Cert.Dw5120RefIdeal.main_arg1)
        ∧ r.2.mem ((c.tc : Thread Cert.Dw5120RefIdeal.nD Cert.Dw5120RefIdeal.τ).loc Cert.Dw5120RefIdeal.main_arg2) = m ((c.tc : Thread Cert.Dw5120RefIdeal.nD Cert.Dw5120RefIdeal.τ).loc Cert.Dw5120RefIdeal.main_arg2)
       ) ∧ r.2.sem = fun _ => 0 :=
  (θ_run _ _ _).mono (fun r h => ⟨fun c => (h c).2, sem_eq_zero_of_no_sems rfl _⟩) (Cert.Dw5120RefIdeal.Value.run m ρ)

end Cert.Dw5120Ideal.Grad
-- ==== Proof.Dw3072Grad.lean ====
/- The weight gradient of a 1024 by 3072 weight: the kernel sums the product over four blocks of 2048 tokens, the reference
   takes it over the 8192 tokens at once. -/
module

public import proofs.«01_k».proof.Defs
public import proofs.«01_k».proof.Proof.Gen.Dw3072Ideal.Value
public import proofs.«01_k».proof.Proof.Gen.Dw3072RefIdeal.Run
public import proofs.«01_k».proof.Proof.Gen.Dw3072RefIdeal.Read
public import proofs.«01_k».proof.Proof.Gen.Dw3072Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Dw3072Ideal.Grad

open Cert.Dw3072Ideal Cert.Dw3072Ideal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S1024x8192, .bf16⟩ : BufTy).Contents (Elt Ideal)) (b : (⟨S8192x3072, .bf16⟩ : BufTy).Contents (Elt Ideal)) :
    (⟨S1024x3072, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![0, t.val % 4] ∧ win0_1.index t = ![t.val % 4, t.val / 4]
    ∧ win0_2.index t = ![0, t.val / 4] := (by decide +kernel : ∀ t : Fin grid0.N, _)

/-- One block's product, as a sum over the block's tokens. -/
def part (x : FVec Ideal S1024x2048 .bf16) (y : FVec Ideal S2048x1024 .bf16) : FVec Ideal S1024x1024 .f32 :=
  fun j => ∑ k : Fin 2048, mul (x (ix2 (j 0) k)) (y (ix2 k (j 1)))

theorem pay1_eq (x : FVec Ideal S1024x2048 .bf16) (y : FVec Ideal S2048x1024 .bf16) : k0_pay1 x y = part x y := by
  funext j; idx_vars j
  pointwise [k0_pay1, part]
  rfl

theorem pay2_at (x : FVec Ideal S1024x2048 .bf16) (y : FVec Ideal S2048x1024 .bf16) (z : FVec Ideal S1024x1024 .f32) (j : S1024x1024.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 12 := N_0
  refine (dats m 0 c).arrAt_eq_of_covers 2 _ (by decide +kernel) fun t hf y => ?_
  have h3 : t.val % 4 = 3 := (flush0_2 t).mp hf
  have ht : t.val < 12 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 12 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S1024x3072.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S1024x3072.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S1024x8192, .bf16⟩ : BufTy).Contents (Elt Ideal)) (b : (⟨S8192x3072, .bf16⟩ : BufTy).Contents (Elt Ideal)) :
    Cert.Dw3072RefIdeal.Read.val_main_v6 (F := Ideal) a b = grad a b := by
  funext i
  rw [Cert.Dw3072RefIdeal.Read.val_main_v6_apply, Cert.Dw3072RefIdeal.Read.val_main_v5_apply]
  refine Finset.sum_congr rfl fun k _ => ?_
  rw [Cert.Dw3072RefIdeal.Read.val_main_v4_apply, Cert.Dw3072RefIdeal.Read.val_main_v1_apply, Cert.Dw3072RefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_Dw3072Ideal_Dw3072RefIdeal (hDw3072Ideal := Cert.Dw3072Ideal.Gen.facts) (hDw3072RefIdeal := Cert.Dw3072RefIdeal.Gen.facts) := by
  pair_intro
  · exact Cert.Dw3072Ideal.Value.run_blocks m g
  · refine (θ_run _ _ _).mono (fun r h c => ?_) (Cert.Dw3072RefIdeal.Value.run m' g')
    obtain ⟨a0, a1, a2⟩ := hagree c
    obtain ⟨r6, args⟩ := h c
    refine ⟨r6.trans ?_, args⟩
    refine (Cert.Dw3072RefIdeal.Read.val_main_v6_eq _ _).trans ?_
    rw [a0, a1]
    exact (ref_eq _ _).trans (final m c).symm

/-- The reference leaves its arguments unchanged, and it has no semaphores. -/
theorem reference_frame (m : (ℓ : Loc Cert.Dw3072RefIdeal.nD Cert.Dw3072RefIdeal.τ Cert.Dw3072RefIdeal.sig) → Buf (Elt Ideal) ℓ) (ρ : Dev Cert.Dw3072RefIdeal.nD → PrngReg) :
    θ_run (Cert.Dw3072RefIdeal.defs (F := Ideal)) (onTc (τ := Cert.Dw3072RefIdeal.τ) (Cert.Dw3072RefIdeal.main (F := Ideal))) ⟨m, fun _ => 0, ρ⟩
      fun r => (∀ c : Dev Cert.Dw3072RefIdeal.nD,
        r.2.mem ((c.tc : Thread Cert.Dw3072RefIdeal.nD Cert.Dw3072RefIdeal.τ).loc Cert.Dw3072RefIdeal.main_arg0) = m ((c.tc : Thread Cert.Dw3072RefIdeal.nD Cert.Dw3072RefIdeal.τ).loc Cert.Dw3072RefIdeal.main_arg0)
        ∧ r.2.mem ((c.tc : Thread Cert.Dw3072RefIdeal.nD Cert.Dw3072RefIdeal.τ).loc Cert.Dw3072RefIdeal.main_arg1) = m ((c.tc : Thread Cert.Dw3072RefIdeal.nD Cert.Dw3072RefIdeal.τ).loc Cert.Dw3072RefIdeal.main_arg1)
        ∧ r.2.mem ((c.tc : Thread Cert.Dw3072RefIdeal.nD Cert.Dw3072RefIdeal.τ).loc Cert.Dw3072RefIdeal.main_arg2) = m ((c.tc : Thread Cert.Dw3072RefIdeal.nD Cert.Dw3072RefIdeal.τ).loc Cert.Dw3072RefIdeal.main_arg2)
       ) ∧ r.2.sem = fun _ => 0 :=
  (θ_run _ _ _).mono (fun r h => ⟨fun c => (h c).2, sem_eq_zero_of_no_sems rfl _⟩) (Cert.Dw3072RefIdeal.Value.run m ρ)

end Cert.Dw3072Ideal.Grad
-- ==== Proof.Dw512Grad.lean ====
/- The weight gradient of a 1024 by 512 weight: the kernel sums the product over four blocks of 2048 tokens, the reference
   takes it over the 8192 tokens at once. -/
module

public import proofs.«01_k».proof.Defs
public import proofs.«01_k».proof.Proof.Gen.Dw512Ideal.Value
public import proofs.«01_k».proof.Proof.Gen.Dw512RefIdeal.Run
public import proofs.«01_k».proof.Proof.Gen.Dw512RefIdeal.Read
public import proofs.«01_k».proof.Proof.Gen.Dw512Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Dw512Ideal.Grad

open Cert.Dw512Ideal Cert.Dw512Ideal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S1024x8192, .bf16⟩ : BufTy).Contents (Elt Ideal)) (b : (⟨S8192x512, .bf16⟩ : BufTy).Contents (Elt Ideal)) :
    (⟨S1024x512, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![0, t.val % 4] ∧ win0_1.index t = ![t.val % 4, 0]
    ∧ win0_2.index t = ![0, 0] := (by decide +kernel : ∀ t : Fin grid0.N, _)

/-- One block's product, as a sum over the block's tokens. -/
def part (x : FVec Ideal S1024x2048 .bf16) (y : FVec Ideal S2048x512 .bf16) : FVec Ideal S1024x512 .f32 :=
  fun j => ∑ k : Fin 2048, mul (x (ix2 (j 0) k)) (y (ix2 k (j 1)))

theorem pay1_eq (x : FVec Ideal S1024x2048 .bf16) (y : FVec Ideal S2048x512 .bf16) : k0_pay1 x y = part x y := by
  funext j; idx_vars j
  pointwise [k0_pay1, part]
  rfl

theorem pay2_at (x : FVec Ideal S1024x2048 .bf16) (y : FVec Ideal S2048x512 .bf16) (z : FVec Ideal S1024x512 .f32) (j : S1024x512.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 4 := N_0
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 4 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S1024x512.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S1024x512.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S1024x8192, .bf16⟩ : BufTy).Contents (Elt Ideal)) (b : (⟨S8192x512, .bf16⟩ : BufTy).Contents (Elt Ideal)) :
    Cert.Dw512RefIdeal.Read.val_main_v6 (F := Ideal) a b = grad a b := by
  funext i
  rw [Cert.Dw512RefIdeal.Read.val_main_v6_apply, Cert.Dw512RefIdeal.Read.val_main_v5_apply]
  refine Finset.sum_congr rfl fun k _ => ?_
  rw [Cert.Dw512RefIdeal.Read.val_main_v4_apply, Cert.Dw512RefIdeal.Read.val_main_v1_apply, Cert.Dw512RefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_Dw512Ideal_Dw512RefIdeal (hDw512Ideal := Cert.Dw512Ideal.Gen.facts) (hDw512RefIdeal := Cert.Dw512RefIdeal.Gen.facts) := by
  pair_intro
  · exact Cert.Dw512Ideal.Value.run_blocks m g
  · refine (θ_run _ _ _).mono (fun r h c => ?_) (Cert.Dw512RefIdeal.Value.run m' g')
    obtain ⟨a0, a1, a2⟩ := hagree c
    obtain ⟨r6, args⟩ := h c
    refine ⟨r6.trans ?_, args⟩
    refine (Cert.Dw512RefIdeal.Read.val_main_v6_eq _ _).trans ?_
    rw [a0, a1]
    exact (ref_eq _ _).trans (final m c).symm

/-- The reference leaves its arguments unchanged, and it has no semaphores. -/
theorem reference_frame (m : (ℓ : Loc Cert.Dw512RefIdeal.nD Cert.Dw512RefIdeal.τ Cert.Dw512RefIdeal.sig) → Buf (Elt Ideal) ℓ) (ρ : Dev Cert.Dw512RefIdeal.nD → PrngReg) :
    θ_run (Cert.Dw512RefIdeal.defs (F := Ideal)) (onTc (τ := Cert.Dw512RefIdeal.τ) (Cert.Dw512RefIdeal.main (F := Ideal))) ⟨m, fun _ => 0, ρ⟩
      fun r => (∀ c : Dev Cert.Dw512RefIdeal.nD,
        r.2.mem ((c.tc : Thread Cert.Dw512RefIdeal.nD Cert.Dw512RefIdeal.τ).loc Cert.Dw512RefIdeal.main_arg0) = m ((c.tc : Thread Cert.Dw512RefIdeal.nD Cert.Dw512RefIdeal.τ).loc Cert.Dw512RefIdeal.main_arg0)
        ∧ r.2.mem ((c.tc : Thread Cert.Dw512RefIdeal.nD Cert.Dw512RefIdeal.τ).loc Cert.Dw512RefIdeal.main_arg1) = m ((c.tc : Thread Cert.Dw512RefIdeal.nD Cert.Dw512RefIdeal.τ).loc Cert.Dw512RefIdeal.main_arg1)
        ∧ r.2.mem ((c.tc : Thread Cert.Dw512RefIdeal.nD Cert.Dw512RefIdeal.τ).loc Cert.Dw512RefIdeal.main_arg2) = m ((c.tc : Thread Cert.Dw512RefIdeal.nD Cert.Dw512RefIdeal.τ).loc Cert.Dw512RefIdeal.main_arg2)
       ) ∧ r.2.sem = fun _ => 0 :=
  (θ_run _ _ _).mono (fun r h => ⟨fun c => (h c).2, sem_eq_zero_of_no_sems rfl _⟩) (Cert.Dw512RefIdeal.Value.run m ρ)

end Cert.Dw512Ideal.Grad
-- ==== Proof.Dw128Grad.lean ====
/- The weight gradient of a 1024 by 128 weight: the kernel sums the product over four blocks of 2048 tokens, the reference
   takes it over the 8192 tokens at once. -/
module

public import proofs.«01_k».proof.Defs
public import proofs.«01_k».proof.Proof.Gen.Dw128Ideal.Value
public import proofs.«01_k».proof.Proof.Gen.Dw128RefIdeal.Run
public import proofs.«01_k».proof.Proof.Gen.Dw128RefIdeal.Read
public import proofs.«01_k».proof.Proof.Gen.Dw128Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Dw128Ideal.Grad

open Cert.Dw128Ideal Cert.Dw128Ideal.Gen Idealize.ShloMosaic Idealize.ShloMosaic.TcCoe Idealize.ShloMosaic.StableHlo Idealize.SL.Sem
open scoped BigOperators

variable (m : (ℓ : Loc nD τ sig) → Buf (Elt Ideal) ℓ)

/-- A product of two numbers. -/
def mul (x y : Ideal .bf16) : EReal := (show EReal from x) * (show EReal from y)

/-- The weight gradient: the product of the transposed activations and the derivatives, over all tokens. -/
def grad (a : (⟨S1024x8192, .bf16⟩ : BufTy).Contents (Elt Ideal)) (b : (⟨S8192x128, .bf16⟩ : BufTy).Contents (Elt Ideal)) :
    (⟨S1024x128, .f32⟩ : BufTy).Contents (Elt Ideal) :=
  fun j => ∑ k : Fin 8192, mul (a (ix2 (j 0) k)) (b (ix2 k (j 1)))

/-- The blocks the windows hold at each point. -/
theorem idx : ∀ t : Fin cfg0.N, win0_0.index t = ![0, t.val % 4] ∧ win0_1.index t = ![t.val % 4, 0]
    ∧ win0_2.index t = ![0, 0] := (by decide +kernel : ∀ t : Fin grid0.N, _)

/-- One block's product, as a sum over the block's tokens. -/
def part (x : FVec Ideal S1024x2048 .bf16) (y : FVec Ideal S2048x128 .bf16) : FVec Ideal S1024x128 .f32 :=
  fun j => ∑ k : Fin 2048, mul (x (ix2 (j 0) k)) (y (ix2 k (j 1)))

theorem pay1_eq (x : FVec Ideal S1024x2048 .bf16) (y : FVec Ideal S2048x128 .bf16) : k0_pay1 x y = part x y := by
  funext j; idx_vars j
  pointwise [k0_pay1, part]
  rfl

theorem pay2_at (x : FVec Ideal S1024x2048 .bf16) (y : FVec Ideal S2048x128 .bf16) (z : FVec Ideal S1024x128 .f32) (j : S1024x128.Idx) :
    k0_pay2 x y z j = z j + part x y j := by
  rw [← pay1_eq]
  idx_vars j
  pointwise [k0_pay2]

/-- The kernel's result after the run. -/
theorem final (c : Dev nD) : (dats m 0 c).arrAt 2 cfg0.N
    = grad (m ((c : Thread nD τ).loc main_arg0)) (m ((c : Thread nD τ).loc main_arg1)) := by
  have hN : cfg0.N = 4 := N_0
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2]
  rw [Pipeline.eq_sum_fin_of_reset_step_apply_of_flush (fun n h => outsAt0 m c n h) 4 (fun _ => 0)
    (fun t => part (iblk m c 0 t) (iblk m c 1 t))
    (fun t h j => by
      have ht : t.val < 4 := lt_of_lt_of_eq t.isLt N_0
      rw [outsAt0_A m c t h (by omega)]; frame_out
      rw [pay1_eq, zero_add])
    (fun t h j => by
      rw [outsAt0_B m c t h (by omega)]; frame_out
      rw [pay2_at])
    t h3 _, zero_add]
  refine Fin.sum_mul_add_congr fun s k hl => ?_
  have hs : s.val < 4 := s.isLt
  have hp : 4 * (t.val / 4) + s.val < cfg0.N := by omega
  have e0 : iblk m c 0 ⟨4 * (t.val / 4) + s.val, hp⟩ (ix2 (y 0) k)
      = m ((c : Thread nD τ).loc main_arg0) (ix2 ((((cfg0.win 2).blk t).view.emb y : S1024x128.Idx) 0) ⟨s.val * 2048 + k.val, hl⟩) := by
    blk_simp [iblk, V, idx ⟨4 * (t.val / 4) + s.val, hp⟩, idx t]
    refine congrArg _ ?_
    blk_ext [iblk, V, idx ⟨4 * (t.val / 4) + s.val, hp⟩, idx t]
    all_goals omega
  have e1 : iblk m c 1 ⟨4 * (t.val / 4) + s.val, hp⟩ (ix2 k (y 1))
      = m ((c : Thread nD τ).loc main_arg1) (ix2 ⟨s.val * 2048 + k.val, hl⟩ ((((cfg0.win 2).blk t).view.emb y : S1024x128.Idx) 1)) := by
    blk_simp [iblk, V, idx ⟨4 * (t.val / 4) + s.val, hp⟩, idx t]
    refine congrArg _ ?_
    blk_ext [iblk, V, idx ⟨4 * (t.val / 4) + s.val, hp⟩, idx t]
    all_goals omega
  exact congrArg₂ mul e0 e1

/-- The reference's result. -/
theorem ref_eq (a : (⟨S1024x8192, .bf16⟩ : BufTy).Contents (Elt Ideal)) (b : (⟨S8192x128, .bf16⟩ : BufTy).Contents (Elt Ideal)) :
    Cert.Dw128RefIdeal.Read.val_main_v6 (F := Ideal) a b = grad a b := by
  funext i
  rw [Cert.Dw128RefIdeal.Read.val_main_v6_apply, Cert.Dw128RefIdeal.Read.val_main_v5_apply]
  refine Finset.sum_congr rfl fun k _ => ?_
  rw [Cert.Dw128RefIdeal.Read.val_main_v4_apply, Cert.Dw128RefIdeal.Read.val_main_v1_apply, Cert.Dw128RefIdeal.Read.val_main_v0_apply]
  refine (mul_comm _ _).trans ?_
  refine congrArg₂ mul (congrArg a ?_) (congrArg b ?_) <;>
    (funext x; fin_cases x <;> rfl)

set_option maxHeartbeats 2000000 in
/-- The kernel's result is the reference's. -/
theorem algebraic : Cert.algebraic_Dw128Ideal_Dw128RefIdeal (hDw128Ideal := Cert.Dw128Ideal.Gen.facts) (hDw128RefIdeal := Cert.Dw128RefIdeal.Gen.facts) := by
  pair_intro
  · exact Cert.Dw128Ideal.Value.run_blocks m g
  · refine (θ_run _ _ _).mono (fun r h c => ?_) (Cert.Dw128RefIdeal.Value.run m' g')
    obtain ⟨a0, a1, a2⟩ := hagree c
    obtain ⟨r6, args⟩ := h c
    refine ⟨r6.trans ?_, args⟩
    refine (Cert.Dw128RefIdeal.Read.val_main_v6_eq _ _).trans ?_
    rw [a0, a1]
    exact (ref_eq _ _).trans (final m c).symm

/-- The reference leaves its arguments unchanged, and it has no semaphores. -/
theorem reference_frame (m : (ℓ : Loc Cert.Dw128RefIdeal.nD Cert.Dw128RefIdeal.τ Cert.Dw128RefIdeal.sig) → Buf (Elt Ideal) ℓ) (ρ : Dev Cert.Dw128RefIdeal.nD → PrngReg) :
    θ_run (Cert.Dw128RefIdeal.defs (F := Ideal)) (onTc (τ := Cert.Dw128RefIdeal.τ) (Cert.Dw128RefIdeal.main (F := Ideal))) ⟨m, fun _ => 0, ρ⟩
      fun r => (∀ c : Dev Cert.Dw128RefIdeal.nD,
        r.2.mem ((c.tc : Thread Cert.Dw128RefIdeal.nD Cert.Dw128RefIdeal.τ).loc Cert.Dw128RefIdeal.main_arg0) = m ((c.tc : Thread Cert.Dw128RefIdeal.nD Cert.Dw128RefIdeal.τ).loc Cert.Dw128RefIdeal.main_arg0)
        ∧ r.2.mem ((c.tc : Thread Cert.Dw128RefIdeal.nD Cert.Dw128RefIdeal.τ).loc Cert.Dw128RefIdeal.main_arg1) = m ((c.tc : Thread Cert.Dw128RefIdeal.nD Cert.Dw128RefIdeal.τ).loc Cert.Dw128RefIdeal.main_arg1)
        ∧ r.2.mem ((c.tc : Thread Cert.Dw128RefIdeal.nD Cert.Dw128RefIdeal.τ).loc Cert.Dw128RefIdeal.main_arg2) = m ((c.tc : Thread Cert.Dw128RefIdeal.nD Cert.Dw128RefIdeal.τ).loc Cert.Dw128RefIdeal.main_arg2)
       ) ∧ r.2.sem = fun _ => 0 :=
  (θ_run _ _ _).mono (fun r h => ⟨fun c => (h c).2, sem_eq_zero_of_no_sems rfl _⟩) (Cert.Dw128RefIdeal.Value.run m ρ)

end Cert.Dw128Ideal.Grad
-- ==== Proof.NormIdealFrame.lean ====
/- The frame of the input projection: what its body leaves in each staging buffer at each grid point, that the pipeline
   runs to completion with every argument unchanged, and each result as the array the pipeline wrote.

   The grid is 8 row blocks × 3 column blocks, the columns innermost. The body normalises its row block at the first
   column (point ≡ 0 mod 3), keeping the normalised rows in a scratch buffer and storing their transpose; at every
   column it multiplies the scratch by the weight's column block; at the last column (≡ 2 mod 3) it also stores a slice
   of the product. The transpose's block is written back at the last column, where the body stores nothing into it:
   its buffer then still holds what the first column stored. -/
module

public import proofs.«01_k».proof.Proof.Gen.NormIdeal.Launch
public import proofs.«01_k».proof.Proof.Gen.NormIdeal.Skeleton
public import proofs.«01_k».proof.Proof.Gen.NormIdeal.Points
public import Idealize.ShloMosaic.Lib.Pipeline.FrameBody
public import Idealize.ShloMosaic.Lib.Pipeline.TableIdle
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.NormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The region's entry and the windows' blocks -/

/-- Core `c`'s buffers when the region is entered: as launched. -/
abbrev V (c : Dev nD) (b : Ref sig .tc) : Buf (Elt F) ((c : Thread nD τ).loc b) := m ((c : Thread nD τ).loc b)

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any proof data that leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for any proof data that leaves it in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, for any proof data that leaves it in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, for any proof data that leaves it in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, for any proof data that leaves it in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The conditions, and where the windows are idle -/

/-- The first column: the points ≡ 0 (mod 3). -/
abbrev isFirst (i : grid0.Coords) : Prop := k0_cond1 i = 1#1
theorem isFirst_iff : ∀ t : Fin cfg0.N, isFirst (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [isFirst, k0_cond1, e0, e1]
    word_cmp
   : ∀ t : Fin grid0.N, isFirst (grid0.coords t) ↔ t.val % 3 = 0)

/-- The last column: the points ≡ 2 (mod 3). -/
abbrev isLast (i : grid0.Coords) : Prop := k0_cond2 i = 1#1
theorem isLast_iff : ∀ t : Fin cfg0.N, isLast (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [isLast, k0_cond2, e0, e1]
    word_cmp
   : ∀ t : Fin grid0.N, isLast (grid0.coords t) ↔ t.val % 3 = 2)

/-- The slice's window is idle exactly off the last column, the transpose's exactly off the first. -/
theorem idle_6 : ∀ t : Fin cfg0.N, cfg0.idle 6 (grid0.coords t) = !decide (t.val % 3 = 2) := by decide +kernel
theorem idle_7 : ∀ t : Fin cfg0.N, cfg0.idle 7 (grid0.coords t) = !decide (t.val % 3 = 0) := by decide +kernel
theorem flush_6 : ∀ t : Fin cfg0.N, (cfg0.win 6).flush t = decide (t.val % 3 = 2) := by decide +kernel
theorem flush_7 : ∀ t : Fin cfg0.N, (cfg0.win 7).flush t = decide (t.val % 3 = 2) := by decide +kernel

/-- The transpose's buffer is fresh (holds nothing stored) exactly before the first column of a row block. -/
def freshTab (n : ℕ) : Bool := decide (n % 3 = 0)
theorem fresh_7 (t : Fin cfg0.N) : cfg0.fresh 7 t.val = freshTab t.val :=
  Pipeline.Cfg.fresh_tab cfg0 7 freshTab rfl (by decide +kernel) t.val (Nat.le_of_lt t.isLt)

/-! ## The body's run, in each of its three cases -/

/-- What a store of the whole buffer leaves: its payload. -/
theorem read_store {Val : EltTy → Type} {S : Shape} {e : EltTy} {κ : Kind} {sp : Space} (v : View sig κ sp S e) (f : v.ty.Contents Val)
    {off : Fin S.rank → Nat} (inb : ∀ a, off a + S.size a ≤ S.size a) (x : S.Idx → Val e) (h : ∀ a, off a = 0) :
    v.read Val (v.writes Val f [(⟨Rect.unit off (no_index S.size) inb, x⟩ : View.Piece Val S e)]) = x := by
  obtain rfl := View.eq_zero_of_forall h
  exact View.read_writes_whole v f x

set_option maxHeartbeats 1000000 in
/-- First column: the rows are normalised into the scratch, the transpose and the product stored. -/
theorem run_first (c : Dev nD) (i : grid0.Coords) (a0 : Memref sig .tc .vmem S1024x1024 .f32) (ha0 : a0.IsWhole) (a1 : Memref sig .tc .vmem S1x1024 .f32) (ha1 : a1.IsWhole) (a2 : Memref sig .tc .vmem S1x1024 .f32) (ha2 : a2.IsWhole) (a3 : Memref sig .tc .vmem S1x1024 .f32) (ha3 : a3.IsWhole) (a4 : Memref sig .tc .vmem S1024x3328 .bf16) (ha4 : a4.IsWhole) (a5 : Memref sig .tc .vmem S1024x3328 .bf16) (ha5 : a5.IsWhole) (a6 : Memref sig .tc .vmem S1024x128 .f32) (ha6 : a6.IsWhole) (a7 : Memref sig .tc .vmem S1024x1024 .bf16) (ha7 : a7.IsWhole) (a8 : Memref sig .tc .vmem S1024x1024 .bf16) (ha8 : a8.IsWhole) (hc0 : isFirst i) (hc1 : ¬isLast i)
    (x0 : Vec F S1024x1024 .f32) (x1 : Vec F S1x1024 .f32) (x2 : Vec F S1x1024 .f32) (x3 : Vec F S1x1024 .f32) (x4 : Vec F S1024x3328 .bf16) (y6 : Vec F S1024x128 .f32) (E : Set ℕ) (K : PUnit → sProp (MT nD τ sig Unit (Elt F) ℕ (UR sig nD τ) ℕ)) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ owns (c : Thread nD τ) a6 fullShare y6 ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay5 (k0_pay2 x0 x1 x2 x3) x4) ∗ owns (c : Thread nD τ) a6 fullShare y6 ∗ owns (c : Thread nD τ) a7 fullShare (k0_pay3 x0 x1 x2 x3) ∗ owns (c : Thread nD τ) a8 fullShare (k0_pay2 x0 x1 x2 x3)) -∗ K ⟨⟩))
      ⊢ wp frame (wpE (defs₀ (F := F)) Variants.none c none) E (cc0_norm_proj i a0 ha0 a1 ha1 a2 ha2 a3 ha3 a4 ha4 a5 ha5 a6 ha6 a7 ha7 a8 ha8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := ha0.eq_unread hf0; obtain rfl := ha1.eq_unread hf1; obtain rfl := ha2.eq_unread hf2; obtain rfl := ha3.eq_unread hf3; obtain rfl := ha4.eq_unread hf4; obtain rfl := ha6.eq_unread hf6
  sl_exec (disch := first | sl_exact hc0 | sl_exact hc1)
  sl_step
  iapply Hk
  isplitl [H0]
  · iexists _; isplitr
    swap; · iexact H0
    ipureintro; exact ha0.read_unread _
  isplitl [H1]
  · iexists _; isplitr
    swap; · iexact H1
    ipureintro; exact ha1.read_unread _
  isplitl [H2]
  · iexists _; isplitr
    swap; · iexact H2
    ipureintro; exact ha2.read_unread _
  isplitl [H3]
  · iexists _; isplitr
    swap; · iexact H3
    ipureintro; exact ha3.read_unread _
  isplitl [H4]
  · iexists _; isplitr
    swap; · iexact H4
    ipureintro; exact ha4.read_unread _
  isplitl [H5]
  · iexists _; isplitr
    swap; · iexact H5
    ipureintro; frame_out [read_store]
  isplitl [H6]
  · iexists _; isplitr
    swap; · iexact H6
    ipureintro; exact ha6.read_unread _
  isplitl [H7]
  · iexists _; isplitr
    swap; · iexact H7
    ipureintro; frame_out [read_store]
  iexists _; isplitr
  swap; · iexact H8
  ipureintro; frame_out [read_store]

set_option maxHeartbeats 1000000 in
/-- Middle column: the product alone is stored. -/
theorem run_mid (c : Dev nD) (i : grid0.Coords) (a0 : Memref sig .tc .vmem S1024x1024 .f32) (ha0 : a0.IsWhole) (a1 : Memref sig .tc .vmem S1x1024 .f32) (ha1 : a1.IsWhole) (a2 : Memref sig .tc .vmem S1x1024 .f32) (ha2 : a2.IsWhole) (a3 : Memref sig .tc .vmem S1x1024 .f32) (ha3 : a3.IsWhole) (a4 : Memref sig .tc .vmem S1024x3328 .bf16) (ha4 : a4.IsWhole) (a5 : Memref sig .tc .vmem S1024x3328 .bf16) (ha5 : a5.IsWhole) (a6 : Memref sig .tc .vmem S1024x128 .f32) (ha6 : a6.IsWhole) (a7 : Memref sig .tc .vmem S1024x1024 .bf16) (ha7 : a7.IsWhole) (a8 : Memref sig .tc .vmem S1024x1024 .bf16) (ha8 : a8.IsWhole) (hc0 : ¬isFirst i) (hc1 : ¬isLast i)
    (x0 : Vec F S1024x1024 .f32) (x1 : Vec F S1x1024 .f32) (x2 : Vec F S1x1024 .f32) (x3 : Vec F S1x1024 .f32) (x4 : Vec F S1024x3328 .bf16) (y6 : Vec F S1024x128 .f32) (y7 y8 : Vec F S1024x1024 .bf16) (E : Set ℕ) (K : PUnit → sProp (MT nD τ sig Unit (Elt F) ℕ (UR sig nD τ) ℕ)) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ owns (c : Thread nD τ) a6 fullShare y6 ∗ owns (c : Thread nD τ) a7 fullShare y7 ∗ owns (c : Thread nD τ) a8 fullShare y8
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay5 y8 x4) ∗ owns (c : Thread nD τ) a6 fullShare y6 ∗ owns (c : Thread nD τ) a7 fullShare y7 ∗ owns (c : Thread nD τ) a8 fullShare y8) -∗ K ⟨⟩))
      ⊢ wp frame (wpE (defs₀ (F := F)) Variants.none c none) E (cc0_norm_proj i a0 ha0 a1 ha1 a2 ha2 a3 ha3 a4 ha4 a5 ha5 a6 ha6 a7 ha7 a8 ha8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := ha0.eq_unread hf0; obtain rfl := ha1.eq_unread hf1; obtain rfl := ha2.eq_unread hf2; obtain rfl := ha3.eq_unread hf3; obtain rfl := ha4.eq_unread hf4; obtain rfl := ha6.eq_unread hf6; obtain rfl := ha7.eq_unread hf7; obtain rfl := ha8.eq_unread hf8
  sl_exec (disch := first | sl_exact hc0 | sl_exact hc1)
  sl_step
  iapply Hk
  isplitl [H0]
  · iexists _; isplitr
    swap; · iexact H0
    ipureintro; exact ha0.read_unread _
  isplitl [H1]
  · iexists _; isplitr
    swap; · iexact H1
    ipureintro; exact ha1.read_unread _
  isplitl [H2]
  · iexists _; isplitr
    swap; · iexact H2
    ipureintro; exact ha2.read_unread _
  isplitl [H3]
  · iexists _; isplitr
    swap; · iexact H3
    ipureintro; exact ha3.read_unread _
  isplitl [H4]
  · iexists _; isplitr
    swap; · iexact H4
    ipureintro; exact ha4.read_unread _
  isplitl [H5]
  · iexists _; isplitr
    swap; · iexact H5
    ipureintro; frame_out [read_store]
  isplitl [H6]
  · iexists _; isplitr
    swap; · iexact H6
    ipureintro; exact ha6.read_unread _
  isplitl [H7]
  · iexists _; isplitr
    swap; · iexact H7
    ipureintro; exact ha7.read_unread _
  iexists _; isplitr
  swap; · iexact H8
  ipureintro; exact ha8.read_unread _

set_option maxHeartbeats 1000000 in
/-- Last column: the product and its slice are stored. -/
theorem run_last (c : Dev nD) (i : grid0.Coords) (a0 : Memref sig .tc .vmem S1024x1024 .f32) (ha0 : a0.IsWhole) (a1 : Memref sig .tc .vmem S1x1024 .f32) (ha1 : a1.IsWhole) (a2 : Memref sig .tc .vmem S1x1024 .f32) (ha2 : a2.IsWhole) (a3 : Memref sig .tc .vmem S1x1024 .f32) (ha3 : a3.IsWhole) (a4 : Memref sig .tc .vmem S1024x3328 .bf16) (ha4 : a4.IsWhole) (a5 : Memref sig .tc .vmem S1024x3328 .bf16) (ha5 : a5.IsWhole) (a6 : Memref sig .tc .vmem S1024x128 .f32) (ha6 : a6.IsWhole) (a7 : Memref sig .tc .vmem S1024x1024 .bf16) (ha7 : a7.IsWhole) (a8 : Memref sig .tc .vmem S1024x1024 .bf16) (ha8 : a8.IsWhole) (hc0 : ¬isFirst i) (hc1 : isLast i)
    (x0 : Vec F S1024x1024 .f32) (x1 : Vec F S1x1024 .f32) (x2 : Vec F S1x1024 .f32) (x3 : Vec F S1x1024 .f32) (x4 : Vec F S1024x3328 .bf16) (y7 y8 : Vec F S1024x1024 .bf16) (E : Set ℕ) (K : PUnit → sProp (MT nD τ sig Unit (Elt F) ℕ (UR sig nD τ) ℕ)) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ owns (c : Thread nD τ) a7 fullShare y7 ∗ owns (c : Thread nD τ) a8 fullShare y8
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay5 y8 x4) ∗ owns (c : Thread nD τ) a6 fullShare (k0_pay6 y8 x4) ∗ owns (c : Thread nD τ) a7 fullShare y7 ∗ owns (c : Thread nD τ) a8 fullShare y8) -∗ K ⟨⟩))
      ⊢ wp frame (wpE (defs₀ (F := F)) Variants.none c none) E (cc0_norm_proj i a0 ha0 a1 ha1 a2 ha2 a3 ha3 a4 ha4 a5 ha5 a6 ha6 a7 ha7 a8 ha8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := ha0.eq_unread hf0; obtain rfl := ha1.eq_unread hf1; obtain rfl := ha2.eq_unread hf2; obtain rfl := ha3.eq_unread hf3; obtain rfl := ha4.eq_unread hf4; obtain rfl := ha7.eq_unread hf7; obtain rfl := ha8.eq_unread hf8
  sl_exec (disch := first | sl_exact hc0 | sl_exact hc1)
  sl_step
  iapply Hk
  isplitl [H0]
  · iexists _; isplitr
    swap; · iexact H0
    ipureintro; exact ha0.read_unread _
  isplitl [H1]
  · iexists _; isplitr
    swap; · iexact H1
    ipureintro; exact ha1.read_unread _
  isplitl [H2]
  · iexists _; isplitr
    swap; · iexact H2
    ipureintro; exact ha2.read_unread _
  isplitl [H3]
  · iexists _; isplitr
    swap; · iexact H3
    ipureintro; exact ha3.read_unread _
  isplitl [H4]
  · iexists _; isplitr
    swap; · iexact H4
    ipureintro; exact ha4.read_unread _
  isplitl [H5]
  · iexists _; isplitr
    swap; · iexact H5
    ipureintro; frame_out [read_store]
  isplitl [H6]
  · iexists _; isplitr
    swap; · iexact H6
    ipureintro; frame_out [read_store]
  isplitl [H7]
  · iexists _; isplitr
    swap; · iexact H7
    ipureintro; exact ha7.read_unread _
  iexists _; isplitr
  swap; · iexact H8
  ipureintro; exact ha8.read_unread _

/-! ## What each buffer holds after each point -/

/-- The first column's point of `t`'s row block. -/
def rowStart (t : Fin cfg0.N) : Fin cfg0.N := ⟨t.val - t.val % 3, Nat.lt_of_le_of_lt (Nat.sub_le _ _) t.isLt⟩

theorem rowStart_first (t : Fin cfg0.N) (h : t.val % 3 = 0) : rowStart t = t := Fin.ext (by show t.val - t.val % 3 = t.val; omega)
theorem rowStart_pred (t : Fin cfg0.N) (h : ¬t.val % 3 = 0) (hp : t.val - 1 < cfg0.N) : rowStart ⟨t.val - 1, hp⟩ = rowStart t :=
  Fin.ext (by show t.val - 1 - (t.val - 1) % 3 = t.val - t.val % 3; omega)

/-- The normalised rows of `t`'s row block, as the scratch holds them. -/
def hrows (c : Dev nD) (t : Fin cfg0.N) : Vec F S1024x1024 .bf16 :=
  k0_pay2 (iblk m c 0 (rowStart t)) (iblk m c 1 (rowStart t)) (iblk m c 2 (rowStart t)) (iblk m c 3 (rowStart t))
/-- Their transpose, as its buffer holds it. -/
def htrans (c : Dev nD) (t : Fin cfg0.N) : Vec F S1024x1024 .bf16 :=
  k0_pay3 (iblk m c 0 (rowStart t)) (iblk m c 1 (rowStart t)) (iblk m c 2 (rowStart t)) (iblk m c 3 (rowStart t))

theorem hrows_pred (c : Dev nD) (t : Fin cfg0.N) (h : ¬t.val % 3 = 0) (hp : t.val - 1 < cfg0.N) : hrows m c ⟨t.val - 1, hp⟩ = hrows m c t := by
  unfold hrows; rw [rowStart_pred t h]
theorem htrans_pred (c : Dev nD) (t : Fin cfg0.N) (h : ¬t.val % 3 = 0) (hp : t.val - 1 < cfg0.N) : htrans m c ⟨t.val - 1, hp⟩ = htrans m c t := by
  unfold htrans; rw [rowStart_pred t h]

/-- The scratch buffer. -/
abbrev scr : Memref sig .tc .vmem S1024x1024 .bf16 := Memref.whole cc0_scratch0

theorem rest_eq (c : Dev nD) :
    (Pipeline.ΦA spec0 c : sProp (MT nD τ sig Unit (Elt F) ℕ (UR sig nD τ) ℕ)) = iprop(iprop((∃ d, owns (c : Thread nD τ) scr fullShare d)) ∗ (∃ r, prngReg c r)) := by
  unfold Pipeline.ΦA; rw [scopedRest0_eq]; simp only [scr, owns_whole]; try rfl

/-- The invariant before position `n`: after the first point the scratch holds the normalised rows. -/
def Inv (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scr fullShare (hrows m c ⟨n, hn⟩)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (hrows m c ⟨n, hn⟩)) ∗ (∃ r, prngReg c r)) := rfl
theorem Inv_pos (c : Dev nD) (n : ℕ) (h : n ≤ cfg0.N) (hz : n ≠ 0) :
    Inv m c n h = iprop(iprop(owns (c : Thread nD τ) scr fullShare (hrows m c ⟨n - 1, by omega⟩)) ∗ (∃ r, prngReg c r)) := by
  cases n with
  | zero => exact absurd rfl hz
  | succ n => rfl

/-- The proof data: the inputs' buffers keep their blocks; the product, its slice and the transpose as stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (hrows m c t) (iblk m c 4 t)
    | ⟨6, _⟩ => k0_pay6 (hrows m c t) (iblk m c 4 t)
    | ⟨7, _⟩ => htrans m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay5 (hrows m c t) (iblk m c 4 t) := by dsimp only [dats]
theorem after_6 (c : Dev nD) (t : Fin cfg0.N) : (dats m 0 c).after 6 t = k0_pay6 (hrows m c t) (iblk m c 4 t) := by dsimp only [dats]
theorem after_7 (c : Dev nD) (t : Fin cfg0.N) : (dats m 0 c).after 7 t = htrans m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-- Off the first column the transpose's buffer is carried. -/
theorem carry_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [idle_7] at hi
  have h : ¬t.val % 3 = 0 := by simpa using hi
  rw [after_7, after_7, htrans_pred m c t h]

/-- Off the first column the body finds in the transpose's buffer what the first column stored. -/
theorem before_7 (c : Dev nD) (t : Fin cfg0.N) (h : ¬t.val % 3 = 0) (d) : (dats m 0 c).before 7 t d = htrans m c t := by
  rw [Dat.before_out_traj _ 7 rfl (fun _ _ => rfl) (carry_7 m c) t.val t rfl d,
    if_neg (by rw [fresh_7, freshTab, decide_eq_false h]; exact Bool.false_ne_true), after_7, htrans_pred m c t h]

/-! ## The body obligation -/

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- At an idle point the buffer goes back as it was found. -/
theorem leaves_7_idle (c : Dev nD) (t : Fin cfg0.N) (h0 : ¬t.val % 3 = 0) :
    owns (c : Thread nD τ) (win0_7.stage (cfg0.slots t 7)) fullShare (htrans m c t) ⊢ ((dats m 0 c).leavesExact 7 t : sProp (MT nD τ sig Unit (Elt F) ℕ (UR sig nD τ) ℕ)) := by
  by_cases h : t.val % 3 = 2
  · rw [show (dats m 0 c).leavesExact 7 t = owns (c : Thread nD τ) (win0_7.stage (cfg0.slots t 7)) fullShare ((dats m 0 c).after 7 t) from by
      unfold Dat.leavesExact; rw [idle_7, flush_7, decide_eq_false h0, decide_eq_true h]; rfl, after_7]
  · rw [Dat.leavesExact_idle (dats m 0 c) 7 t (by rw [idle_7, decide_eq_false h0]; rfl) (by rw [flush_7, decide_eq_false h])]
    simp only [before_7 m c t h0]
    iintro H; iexists fun _ => (Scalar.ofBits .bf16 0 : F .bf16); iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Inv m c (t.val + 1) t.isLt from rfl, Inv_succ, Inv_castSucc]
  rw [show (dats m 0 c).leavesExact 0 t = owns (c : Thread nD τ) (win0_0.stage (cfg0.slots t 0)) fullShare ((dats m 0 c).after 0 t) from rfl, after_0]
  rw [show (dats m 0 c).leavesExact 1 t = owns (c : Thread nD τ) (win0_1.stage (cfg0.slots t 1)) fullShare ((dats m 0 c).after 1 t) from rfl, after_1]
  rw [show (dats m 0 c).leavesExact 2 t = owns (c : Thread nD τ) (win0_2.stage (cfg0.slots t 2)) fullShare ((dats m 0 c).after 2 t) from rfl, after_2]
  rw [show (dats m 0 c).leavesExact 3 t = owns (c : Thread nD τ) (win0_3.stage (cfg0.slots t 3)) fullShare ((dats m 0 c).after 3 t) from rfl, after_3]
  rw [show (dats m 0 c).leavesExact 4 t = owns (c : Thread nD τ) (win0_4.stage (cfg0.slots t 4)) fullShare ((dats m 0 c).after 4 t) from rfl, after_4]
  rw [show (dats m 0 c).leavesExact 5 t = owns (c : Thread nD τ) (win0_5.stage (cfg0.slots t 5)) fullShare ((dats m 0 c).after 5 t) from rfl, after_5]
  by_cases h0 : t.val % 3 = 0
  · have h1 : ¬t.val % 3 = 2 := by omega
    have hc0 := (isFirst_iff t).mpr h0
    have hc1 : ¬isLast (grid0.coords t) := fun h => h1 ((isLast_iff t).mp h)
    have hh : hrows m c t = k0_pay2 (iblk m c 0 t) (iblk m c 1 t) (iblk m c 2 t) (iblk m c 3 t) := by unfold hrows; rw [rowStart_first t h0]
    have hs : (Inv m c t.val (Nat.le_of_lt t.isLt) : sProp (MT nD τ sig Unit (Elt F) ℕ (UR sig nD τ) ℕ)) ⊢ iprop(iprop((∃ d, owns (c : Thread nD τ) scr fullShare d)) ∗ (∃ r, prngReg c r)) := by
      by_cases hz : t.val = 0
      · rw [Inv_zero m c _ _ hz, rest_eq]
      · rw [Inv_pos m c _ _ hz]
        iintro ⟨H, Hg⟩
        isplitl [H]; · iexists _; iexact H
        iexact Hg
    rw [Dat.leavesExact_idle (dats m 0 c) 6 t (by rw [idle_6, decide_eq_false h1]; rfl) (by rw [flush_6, decide_eq_false h1])]
    rw [show (dats m 0 c).leavesExact 7 t = owns (c : Thread nD τ) (win0_7.stage (cfg0.slots t 7)) fullShare ((dats m 0 c).after 7 t) from by
      unfold Dat.leavesExact; rw [idle_7, decide_eq_true h0]; rfl, after_7]
    rw [show htrans m c t = k0_pay3 (iblk m c 0 t) (iblk m c 1 t) (iblk m c 2 t) (iblk m c 3 t) from by unfold htrans; rw [rowStart_first t h0]]
    rw [hh]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := hs $$ HΦ
    icases HΦ' with ⟨HS, Hg⟩
    iapply (run_first c (grid0.coords t) _ _ _ _ _ _ _ _ _ _ _ _ _ _ _ _ _ _ hc0 hc1 (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  · have hz : t.val ≠ 0 := by omega
    have hc0 : ¬isFirst (grid0.coords t) := fun h => h0 ((isFirst_iff t).mp h)
    rw [Inv_pos m c _ _ hz, hrows_pred m c t h0]
    simp only [before_7 m c t h0]
    by_cases h1 : t.val % 3 = 2
    · have hc1 := (isLast_iff t).mpr h1
      rw [show (dats m 0 c).leavesExact 6 t = owns (c : Thread nD τ) (win0_6.stage (cfg0.slots t 6)) fullShare ((dats m 0 c).after 6 t) from by
        unfold Dat.leavesExact; rw [idle_6, decide_eq_true h1]; rfl, after_6]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) _ _ _ _ _ _ _ _ _ _ _ _ _ _ _ _ _ _ hc0 hc1 (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_7_idle m c t h0); iexact H7
    · have hc1 : ¬isLast (grid0.coords t) := fun h => h1 ((isLast_iff t).mp h)
      rw [Dat.leavesExact_idle (dats m 0 c) 6 t (by rw [idle_6, decide_eq_false h1]; rfl) (by rw [flush_6, decide_eq_false h1])]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) _ _ _ _ _ _ _ _ _ _ _ _ _ _ _ _ _ _ hc0 hc1 (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iapply (leaves_7_idle m c t h0); iexact H7

/-- The body's row at point `t`'s slots. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 24 := N_0; omega), rest_eq]
  iintro ⟨HS, Hg⟩
  isplitl [HS]
  · iexists _; iexact HS
  iexact Hg

/-! ## The run and the frame -/

set_option backward.isDefEq.respectTransparency.types false in
/-- The launch: every array of the pipeline ends as the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h0 => ⟨fun c => have h := h0.1; ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩, h0.2⟩) (run_quiescent m ρ)

/-- The run with each result named as the array the pipeline wrote. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h0 c => have h := h0.1; ⟨(h c).1 5, (h c).1 6, (h c).1 7,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩) (run_quiescent m ρ)

end Cert.NormIdeal.Gen

end
-- ==== Proof.NormArrays.lean ====
/- The input projection's results: the normalised rows, their transpose, and their product with the weight. The kernel
   and the reference associate every operation alike, so the values agree on all extended reals. -/
module

public import proofs.«01_k».proof.Proof.NormIdealFrame
public import proofs.«01_k».proof.Proof.Gen.NormRefIdeal.Run
public import proofs.«01_k».proof.Proof.Gen.NormRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.NormIdeal.NormArrays

open Cert.NormIdeal Cert.NormIdeal.Gen Idealize.ShloMosaic Idealize.ShloMosaic.TcCoe
open scoped BigOperators

/-- One normalised, modulated number: entry `j` of a token `x` with the norm's weight, the scale and the shift. -/
def nrm (x nw sc sh : Fin 1024 → EReal) (j : Fin 1024) : EReal :=
  x j * Ideal.rsqrt (Ideal.div (∑ l, x l * x l) (Ideal.ofBits .f32 0x44800000#32) + Ideal.ofBits .f32 0x358637BD#32) * nw j
    * (Ideal.ofBits .f32 0x3F800000#32 + sc j) + sh j

/-- Row `r` of an array. -/
def rowAt {n : ℕ} (φ : FTy) (x : FVec Ideal ⟨2, ![n, 1024]⟩ φ) (r : Fin n) (j : Fin 1024) : EReal := x (ix2 r j)

theorem pay1_at (x : FVec Ideal S1024x1024 .f32) (nw sc sh : FVec Ideal S1x1024 .f32) (r j : Fin 1024) :
    k0_pay1 (F := Ideal) x nw sc sh (ix2 r j) = nrm (rowAt .f32 x r) (rowAt .f32 nw 0) (rowAt .f32 sc 0) (rowAt .f32 sh 0) j := by
  pointwise [k0_pay1, nrm, rowAt]

theorem pay2_at (x : FVec Ideal S1024x1024 .f32) (nw sc sh : FVec Ideal S1x1024 .f32) (r j : Fin 1024) :
    k0_pay2 (F := Ideal) x nw sc sh (ix2 r j) = nrm (rowAt .f32 x r) (rowAt .f32 nw 0) (rowAt .f32 sc 0) (rowAt .f32 sh 0) j := by
  rw [← pay1_at]
  generalize hy : k0_pay1 (F := Ideal) x nw sc sh = y
  pointwise [k0_pay2, hy]

theorem pay3_at (x : FVec Ideal S1024x1024 .f32) (nw sc sh : FVec Ideal S1x1024 .f32) (r j : Fin 1024) :
    k0_pay3 (F := Ideal) x nw sc sh (ix2 j r) = nrm (rowAt .f32 x r) (rowAt .f32 nw 0) (rowAt .f32 sc 0) (rowAt .f32 sh 0) j := by
  rw [← pay1_at]
  generalize hy : k0_pay1 (F := Ideal) x nw sc sh = y
  pointwise [k0_pay3, hy]

/-- A product of two numbers. -/
def mul (x y : EReal) : EReal := x * y

theorem pay5_at (h : FVec Ideal S1024x1024 .bf16) (w : FVec Ideal S1024x3328 .bf16) (r : Fin 1024) (j : Fin 3328) :
    k0_pay5 (F := Ideal) h w (ix2 r j) = ∑ k : Fin 1024, mul (h (ix2 r k)) (w (ix2 k j)) := by
  pointwise [k0_pay5, k0_pay4, mul]

theorem pay6_at (h : FVec Ideal S1024x1024 .bf16) (w : FVec Ideal S1024x3328 .bf16) (r : Fin 1024) (j : Fin 128) :
    k0_pay6 (F := Ideal) h w (ix2 r j) = ∑ k : Fin 1024, mul (h (ix2 r k)) (w (ix2 k ⟨3072 + j.val, by omega⟩)) := by
  pointwise [k0_pay6, k0_pay4, mul]

/-! ## The arrays -/

/-- The rows, normalised: entry `j` of token `t`. -/
def hAt (x : FVec Ideal S8192x1024 .f32) (nw sc sh : FVec Ideal S1x1024 .f32) (t : Fin 8192) (j : Fin 1024) : EReal :=
  nrm (rowAt .f32 x t) (rowAt .f32 nw 0) (rowAt .f32 sc 0) (rowAt .f32 sh 0) j

/-- Entry `j` of token `t` in the product with the weight. -/
def pAt (x : FVec Ideal S8192x1024 .f32) (nw sc sh : FVec Ideal S1x1024 .f32) (w : FVec Ideal S1024x9984 .bf16) (t : Fin 8192) (j : Fin 9984) : EReal :=
  ∑ k : Fin 1024, mul (hAt x nw sc sh t k) (w (ix2 k j))

/-- The first result: the product. -/
def prod (x : FVec Ideal S8192x1024 .f32) (nw sc sh : FVec Ideal S1x1024 .f32) (w : FVec Ideal S1024x9984 .bf16) : FVec Ideal S8192x9984 .bf16 :=
  fun i => pAt x nw sc sh w (i 0) (i 1)
/-- The second result: the product's columns of the time step. -/
def prodDt (x : FVec Ideal S8192x1024 .f32) (nw sc sh : FVec Ideal S1x1024 .f32) (w : FVec Ideal S1024x9984 .bf16) : FVec Ideal S8192x128 .f32 :=
  fun i => pAt x nw sc sh w (i 0) ⟨9728 + (i 1).val, by have : (i 1).val < 128 := (i 1).isLt; omega⟩
/-- The third result: the normalised rows, transposed. -/
def rowsT (x : FVec Ideal S8192x1024 .f32) (nw sc sh : FVec Ideal S1x1024 .f32) : FVec Ideal S1024x8192 .bf16 :=
  fun i => hAt x nw sc sh (i 1) (i 0)

/-- The blocks the windows hold at each point. -/
theorem idx : ∀ t : Fin cfg0.N, win0_0.index t = ![t.val / 3, 0] ∧ win0_1.index t = ![0, 0] ∧ win0_2.index t = ![0, 0]
    ∧ win0_3.index t = ![0, 0] ∧ win0_4.index t = ![0, t.val % 3] ∧ win0_5.index t = ![t.val / 3, t.val % 3]
    ∧ win0_6.index t = ![t.val / 3, 0] ∧ win0_7.index t = ![0, t.val / 3] := (by decide +kernel : ∀ t : Fin grid0.N, _)

/-- Row `r` of the row block of the point `t` is this row of the array. -/
def row (t : Fin cfg0.N) (r : Fin 1024) : Fin 8192 :=
  ⟨t.val / 3 * 1024 + r.val, by have := t.isLt; have h : cfg0.N = 24 := N_0; omega⟩

theorem row_start (t : Fin cfg0.N) (r : Fin 1024) : row (rowStart t) r = row t r :=
  Fin.ext (by show (t.val - t.val % 3) / 3 * 1024 + r.val = t.val / 3 * 1024 + r.val; omega)

variable (m : (ℓ : Loc nD τ sig) → Buf (Elt Ideal) ℓ)

theorem in0 (c : Dev nD) (t : Fin cfg0.N) (r : Fin 1024) :
    rowAt .f32 (iblk m c 0 t) r = rowAt .f32 (m ((c : Thread nD τ).loc main_arg0)) (row t r) := by
  funext j
  show iblk m c 0 t (ix2 r j) = _
  blk_simp [iblk, V, idx t, rowAt]
  refine congrArg _ ?_
  blk_ext [iblk, V, idx t]
  rfl
theorem in1 (c : Dev nD) (t : Fin cfg0.N) : rowAt .f32 (iblk m c 1 t) 0 = rowAt .f32 (m ((c : Thread nD τ).loc main_arg1)) 0 := by
  funext j
  show iblk m c 1 t (ix2 0 j) = _
  blk_simp [iblk, V, idx t, rowAt]
  refine congrArg _ ?_
  blk_ext [iblk, V, idx t]
theorem in2 (c : Dev nD) (t : Fin cfg0.N) : rowAt .f32 (iblk m c 2 t) 0 = rowAt .f32 (m ((c : Thread nD τ).loc main_arg2)) 0 := by
  funext j
  show iblk m c 2 t (ix2 0 j) = _
  blk_simp [iblk, V, idx t, rowAt]
  refine congrArg _ ?_
  blk_ext [iblk, V, idx t]
theorem in3 (c : Dev nD) (t : Fin cfg0.N) : rowAt .f32 (iblk m c 3 t) 0 = rowAt .f32 (m ((c : Thread nD τ).loc main_arg3)) 0 := by
  funext j
  show iblk m c 3 t (ix2 0 j) = _
  blk_simp [iblk, V, idx t, rowAt]
  refine congrArg _ ?_
  blk_ext [iblk, V, idx t]
theorem in4 (c : Dev nD) (t : Fin cfg0.N) (k : Fin 1024) (j : Fin 3328) (n : Fin 9984) (hn : n.val = t.val % 3 * 3328 + j.val) :
    iblk m c 4 t (ix2 k j) = m ((c : Thread nD τ).loc main_arg4) (ix2 k n) := by
  blk_simp [iblk, V, idx t]
  refine congrArg _ ?_
  blk_ext [iblk, V, idx t]
  all_goals (try simp [hn])

/-- What the scratch holds at the point `t`: the normalised rows of its row block. -/
theorem hrows_at (c : Dev nD) (t : Fin cfg0.N) (r k : Fin 1024) :
    hrows m c t (ix2 r k) = hAt (m ((c : Thread nD τ).loc main_arg0)) (m ((c : Thread nD τ).loc main_arg1)) (m ((c : Thread nD τ).loc main_arg2))
      (m ((c : Thread nD τ).loc main_arg3)) (row t r) k := by
  unfold hrows
  rw [pay2_at, in0, in1, in2, in3, row_start]
  rfl
theorem htrans_at (c : Dev nD) (t : Fin cfg0.N) (r k : Fin 1024) :
    htrans m c t (ix2 k r) = hAt (m ((c : Thread nD τ).loc main_arg0)) (m ((c : Thread nD τ).loc main_arg1)) (m ((c : Thread nD τ).loc main_arg2))
      (m ((c : Thread nD τ).loc main_arg3)) (row t r) k := by
  unfold htrans
  rw [pay3_at, in0, in1, in2, in3, row_start]
  rfl

theorem prod_at (c : Dev nD) (t : Fin cfg0.N) (r : Fin 1024) (j : Fin 3328) (n : Fin 9984) (hn : n.val = t.val % 3 * 3328 + j.val) :
    (∑ k : Fin 1024, mul (hrows m c t (ix2 r k)) (iblk m c 4 t (ix2 k j)))
      = pAt (m ((c : Thread nD τ).loc main_arg0)) (m ((c : Thread nD τ).loc main_arg1)) (m ((c : Thread nD τ).loc main_arg2))
        (m ((c : Thread nD τ).loc main_arg3)) (m ((c : Thread nD τ).loc main_arg4)) (row t r) n := by
  refine Finset.sum_congr rfl fun k _ => ?_
  rw [hrows_at, in4 m c t k j n hn]

/-- The kernel's first result after the run. -/
theorem final5 (c : Dev nD) : (dats m 0 c).arrAt 5 cfg0.N
    = prod (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after_5]
  idx_vars y
  rw [pay5_at]
  refine (prod_at m c t y0 y1 _ ?_).trans (congrArg (fun R => pAt _ _ _ _ _ R _) (Fin.ext ?_))
  all_goals ((try unfold row); blk_simp [idx t])

/-- The kernel's second result after the run. -/
theorem final6 (c : Dev nD) : (dats m 0 c).arrAt 6 cfg0.N
    = prodDt (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h : t.val % 3 = 2 := by rw [flush_6] at hf; exact of_decide_eq_true hf
  blk_simp
  rw [after_6]
  idx_vars y
  rw [pay6_at]
  refine (prod_at m c t y0 _ _ ?_).trans (congrArg (fun R => pAt _ _ _ _ _ R _) (Fin.ext ?_))
  all_goals ((try unfold row); blk_simp [idx t])
  all_goals (try dsimp only) <;> omega

/-- The kernel's third result after the run. -/
theorem final7 (c : Dev nD) : (dats m 0 c).arrAt 7 cfg0.N
    = rowsT (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  blk_simp
  rw [after_7]
  idx_vars y
  rw [htrans_at]
  unfold rowsT
  refine congrArg₂ (hAt _ _ _ _) (Fin.ext ?_) (Fin.ext ?_)
  all_goals ((try unfold row); blk_simp [idx t])

/-! ## The reference -/

section Reference
open Cert.NormRefIdeal.Read

variable (x0 : (⟨Cert.NormRefIdeal.S8192x1024, .f32⟩ : BufTy).Contents (Elt Ideal)) (x1 x2 x3 : (⟨Cert.NormRefIdeal.S1x1024, .f32⟩ : BufTy).Contents (Elt Ideal))
  (x4 : (⟨Cert.NormRefIdeal.S1024x9984, .bf16⟩ : BufTy).Contents (Elt Ideal))

theorem v17_at (t : Fin 8192) (j : Fin 1024) : val_main_v17 (F := Ideal) x0 x1 x2 x3 (ix2 t j) = hAt x0 x1 x2 x3 t j := by
  pointwise [hAt, nrm, rowAt, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]

theorem v19_at (t : Fin 8192) (j : Fin 9984) : val_main_v19 (F := Ideal) x0 x1 x2 x3 x4 (ix2 t j) = pAt x0 x1 x2 x3 x4 t j := by
  unfold pAt
  simp only [← v17_at]
  unfold val_main_v19
  generalize val_main_v17 (F := Ideal) x0 x1 x2 x3 = h
  pointwise [val_main_v18, mul]

theorem v20_eq : val_main_v20 (F := Ideal) x0 x1 x2 x3 x4 = prod x0 x1 x2 x3 x4 := by
  funext i
  idx_vars i
  exact v19_at x0 x1 x2 x3 x4 i0 i1
theorem v21_eq : val_main_v21 (F := Ideal) x0 x1 x2 x3 x4 = prodDt x0 x1 x2 x3 x4 := by
  funext i
  idx_vars i
  rw [val_main_v21_apply]
  refine Eq.trans (congrArg _ ?_) (v19_at x0 x1 x2 x3 x4 i0 ⟨9728 + i1.val, by omega⟩)
  funext a
  fin_cases a <;> rfl
theorem v23_eq : val_main_v23 (F := Ideal) x0 x1 x2 x3 = rowsT x0 x1 x2 x3 := by
  funext i
  idx_vars i
  rw [val_main_v23_apply, val_main_v22_apply]
  refine Eq.trans (congrArg (val_main_v17 (F := Ideal) x0 x1 x2 x3) ?_) (v17_at x0 x1 x2 x3 i1 i0)
  funext a
  fin_cases a <;> rfl

end Reference

end Cert.NormIdeal.NormArrays

end
-- ==== Proof.NormClaim.lean ====
/- The value claim of the input projection, and the reference's frame. -/
module

public import proofs.«01_k».proof.Defs
public import proofs.«01_k».proof.Proof.NormArrays
public import Idealize.ShloMosaic.Lib.Claim

@[expose] public section

noncomputable section

namespace Cert.NormIdeal.NormClaim

open Idealize.ShloMosaic Idealize.ShloMosaic.StableHlo Idealize.SL.Sem Cert.NormIdeal.NormArrays

set_option maxHeartbeats 2000000 in
/-- The kernel's results are the reference's. -/
theorem algebraic : Cert.algebraic_NormIdeal_NormRefIdeal (hNormIdeal := Cert.NormIdeal.Gen.facts)
    (hNormRefIdeal := Cert.NormRefIdeal.Gen.facts) := by
  pair_intro
  · exact Cert.NormIdeal.Gen.run_blocks m g
  · refine (θ_run _ _ _).mono (fun r h c => ?_) (Cert.NormRefIdeal.Value.run m' g')
    obtain ⟨a0, a1, a2, a3, a4⟩ := hagree c
    obtain ⟨r20, r21, r23, args⟩ := h c
    refine ⟨r20.trans ?_, r21.trans ?_, r23.trans ?_, args⟩
    · refine (Cert.NormRefIdeal.Read.val_main_v20_eq _ _ _ _ _).trans ?_
      rw [a0, a1, a2, a3, a4]
      exact (v20_eq _ _ _ _ _).trans (final5 m c).symm
    · refine (Cert.NormRefIdeal.Read.val_main_v21_eq _ _ _ _ _).trans ?_
      rw [a0, a1, a2, a3, a4]
      exact (v21_eq _ _ _ _ _).trans (final6 m c).symm
    · refine (Cert.NormRefIdeal.Read.val_main_v23_eq _ _ _ _).trans ?_
      rw [a0, a1, a2, a3]
      exact (v23_eq _ _ _ _).trans (final7 m c).symm

/-- The reference leaves its arguments unchanged, and it has no semaphores. -/
theorem reference_frame (m : (ℓ : Loc Cert.NormRefIdeal.nD Cert.NormRefIdeal.τ Cert.NormRefIdeal.sig) → Buf (Elt Ideal) ℓ)
    (ρ : Dev Cert.NormRefIdeal.nD → PrngReg) :
    θ_run (Cert.NormRefIdeal.defs (F := Ideal)) (onTc (τ := Cert.NormRefIdeal.τ) (Cert.NormRefIdeal.main (F := Ideal))) ⟨m, fun _ => 0, ρ⟩
      fun r => (∀ c : Dev Cert.NormRefIdeal.nD,
        r.2.mem ((c.tc : Thread Cert.NormRefIdeal.nD Cert.NormRefIdeal.τ).loc Cert.NormRefIdeal.main_arg0)
          = m ((c.tc : Thread Cert.NormRefIdeal.nD Cert.NormRefIdeal.τ).loc Cert.NormRefIdeal.main_arg0)
        ∧ r.2.mem ((c.tc : Thread Cert.NormRefIdeal.nD Cert.NormRefIdeal.τ).loc Cert.NormRefIdeal.main_arg1)
          = m ((c.tc : Thread Cert.NormRefIdeal.nD Cert.NormRefIdeal.τ).loc Cert.NormRefIdeal.main_arg1)
        ∧ r.2.mem ((c.tc : Thread Cert.NormRefIdeal.nD Cert.NormRefIdeal.τ).loc Cert.NormRefIdeal.main_arg2)
          = m ((c.tc : Thread Cert.NormRefIdeal.nD Cert.NormRefIdeal.τ).loc Cert.NormRefIdeal.main_arg2)
        ∧ r.2.mem ((c.tc : Thread Cert.NormRefIdeal.nD Cert.NormRefIdeal.τ).loc Cert.NormRefIdeal.main_arg3)
          = m ((c.tc : Thread Cert.NormRefIdeal.nD Cert.NormRefIdeal.τ).loc Cert.NormRefIdeal.main_arg3)
        ∧ r.2.mem ((c.tc : Thread Cert.NormRefIdeal.nD Cert.NormRefIdeal.τ).loc Cert.NormRefIdeal.main_arg4)
          = m ((c.tc : Thread Cert.NormRefIdeal.nD Cert.NormRefIdeal.τ).loc Cert.NormRefIdeal.main_arg4)
       ) ∧ r.2.sem = fun _ => 0 :=
  (θ_run _ _ _).mono (fun r h => ⟨fun c => (h c).2.2.2, sem_eq_zero_of_no_sems rfl _⟩)
    (Cert.NormRefIdeal.Value.run m ρ)

end Cert.NormIdeal.NormClaim

end
-- ==== Proof.ConvSpec.lean ====
module
public import Idealize.ShloMosaic.Lib.Pipeline.ValueKit
public import Idealize.ShloMosaic.Lib.Pointwise

/-! # The gradient of the convolution, row by row

The convolution looks back three rows: row `n` of its output is the sum of the rows `n - 3` to `n` of its input, each
multiplied with a row of weights, and a bias; `silu` follows. The gradient at the convolution's output is the cotangent
times the derivative of `silu`, and the three results are sums of its products with the weights and with the input. -/

@[expose] public section

namespace Cert.ConvSpec

open Idealize.ShloMosaic

noncomputable section

abbrev SP : Shape := ⟨2, ![8192, 9984]⟩
abbrev SX : Shape := ⟨2, ![8192, 3072]⟩
abbrev SW : Shape := ⟨2, ![4, 3072]⟩
abbrev SB : Shape := ⟨2, ![1, 3072]⟩

/-- The logistic function, as it is computed. -/
def sg (x : EReal) : EReal := Ideal.div 1 (1 + Ideal.exp (-x))

/-- The derivative of `silu`, as it is computed. -/
def dsilu (x : EReal) : EReal := sg x + x * (sg x * (1 - sg x))

variable (p : Vec Ideal SP .bf16) (d : Vec Ideal SX .f32) (w : Vec Ideal SW .f32) (b : Vec Ideal SB .f32)

/-- The convolution's input with sixteen rows of zeros before it. -/
def X (n : ℕ) (j : Fin 3072) : EReal :=
  if n < 16 then 0 else p (ix2 (Fin.ofNat 8192 (n - 16)) ⟨6144 + j.val, by omega⟩)

theorem X_lo {n : ℕ} (h : n < 16) (j : Fin 3072) : X p n j = 0 := if_pos h

theorem X_hi {n : ℕ} (k : Fin 8192) (h : n = k.val + 16) (j : Fin 3072) : X p n j = p (ix2 k ⟨6144 + j.val, by omega⟩) := by
  subst h
  have e : Fin.ofNat 8192 (k.val + 16 - 16) = k := Fin.ext (by show (k.val + 16 - 16) % 8192 = k.val; have := k.isLt; omega)
  unfold X
  rw [if_neg (by omega), e]

/-- The convolution's output. -/
def pre (n : ℕ) (j : Fin 3072) : EReal :=
  w (ix2 0 j) * X p (n + 13) j + w (ix2 1 j) * X p (n + 14) j + w (ix2 2 j) * X p (n + 15) j + w (ix2 3 j) * X p (n + 16) j + b (ix2 0 j)

/-- The gradient at the convolution's output, with zeros after its last row. -/
def G (n : ℕ) (j : Fin 3072) : EReal :=
  if n < 8192 then d (ix2 (Fin.ofNat 8192 n) j) * dsilu (pre p w b n j) else 0

theorem G_lo (n : Fin 8192) (j : Fin 3072) : G p d w b n.val j = d (ix2 n j) * dsilu (pre p w b n.val j) := by
  have e : Fin.ofNat 8192 n.val = n := Fin.ext (Nat.mod_eq_of_lt n.isLt)
  unfold G
  rw [if_pos n.isLt, e]

theorem G_hi {n : ℕ} (h : 8192 ≤ n) (j : Fin 3072) : G p d w b n j = 0 := if_neg (by omega)

/-- The gradient at the input. -/
def dx : Vec Ideal SX .bf16 := fun y =>
  w (ix2 0 (y 1)) * G p d w b ((y 0).val + 3) (y 1) + w (ix2 1 (y 1)) * G p d w b ((y 0).val + 2) (y 1)
    + w (ix2 2 (y 1)) * G p d w b ((y 0).val + 1) (y 1) + w (ix2 3 (y 1)) * G p d w b (y 0).val (y 1)

/-- The gradient at the weights. -/
def dw : Vec Ideal SW .f32 := fun y => ∑ n : Fin 8192, G p d w b n.val (y 1) * X p (n.val + 13 + (y 0).val) (y 1)

/-- The gradient at the bias. -/
def db : Vec Ideal SB .f32 := fun y => ∑ n : Fin 8192, G p d w b n.val (y 1)

end

end Cert.ConvSpec
-- ==== Proof.ConvBlock.lean ====
module
public import proofs.«01_k».proof.Proof.Gen.ConvIdeal.Value
public import Idealize.ShloMosaic.Lib.Pipeline.ValueKit
public import Idealize.ShloMosaic.Lib.Pointwise
public import Idealize.ShloMosaic.Lib.WritesUnit

/-! # One block of the convolution's gradient

The kernel goes through a block of 1024 rows in 32 chunks of 32. A chunk multiplies the cotangent with the saved
derivative of `silu`, with eight further rows to look ahead, and looks back at the input through a window that starts
sixteen rows earlier. Below, a block is read as one run of rows with what comes before and after it, and the three
results are sums over it. -/

@[expose] public section

set_option maxRecDepth 65536
set_option maxHeartbeats 4000000

namespace Cert.ConvIdeal.ConvBlock

open Cert.ConvIdeal Cert.ConvIdeal.Gen Idealize.ShloMosaic Idealize.ShloMosaic.TcCoe

noncomputable section

variable (i : grid0.Coords) (x0 : Vec Ideal S1024x1024 .bf16) (x1 : Vec Ideal S16x1024 .bf16) (x2 : Vec Ideal S1024x1024 .f32)
  (x3 : Vec Ideal S8x1024 .f32) (x4 : Vec Ideal S1024x1024 .bf16) (x5 : Vec Ideal S16x1024 .bf16) (x6 : Vec Ideal S4x1024 .f32)

/-- The input's rows: the sixteen before the block, nothing at the start of the sequence, and then the block's. -/
def Xe (n : ℕ) (j : Fin 1024) : EReal :=
  if n < 16 then (if (i 1).val = 0 then 0 else x1 (ix2 (Fin.ofNat 16 n) j)) else x0 (ix2 (Fin.ofNat 1024 (n - 16)) j)

/-- The gradient at the convolution's output: the block's rows and the eight after it, nothing at the sequence's end. -/
def De (n : ℕ) (j : Fin 1024) : EReal :=
  if n < 1024 then x2 (ix2 (Fin.ofNat 1024 n) j) * x4 (ix2 (Fin.ofNat 1024 n) j)
  else (if (i 1).val = 7 then 0 else x3 (ix2 (Fin.ofNat 8 (n - 1024)) j)) * x5 (ix2 (Fin.ofNat 16 (n - 1024)) j)

theorem inb48 {o : ℕ} (h : o + 48 ≤ 1024) : ∀ a, (![o, 0] : Fin 2 → ℕ) a + (![48, 1024] : Fin 2 → ℕ) a ≤ S1024x1024.size a := by
  intro a; fin_cases a
  · exact h
  · exact le_refl 1024

theorem inb40 {o : ℕ} (h : o + 48 ≤ 1024) : ∀ a, (![o, 0] : Fin 2 → ℕ) a + (![40, 1024] : Fin 2 → ℕ) a ≤ S1024x1024.size a := by
  intro a; fin_cases a
  · show o + 40 ≤ 1024; omega
  · exact le_refl 1024

/-- A chunk's window on the input. -/
def W : ℕ → FVec Ideal S48x1024 .f32
  | 0 => k0_pay7 i x1 (View.ld x0 (Rect.unit ![0, 0] ![32, 1024] inb_S1024x1024_S32x1024_0_0))
  | r + 1 => if h : (32 * r + 16) + 48 ≤ 1024 then k0_pay18 (View.ld x0 (Rect.unit ![32 * r + 16, 0] ![48, 1024] (inb48 h)))
    else broadcast S48x1024 (Scalar.ofBits .f32 0x00000000#32)

/-- A chunk's gradient rows. -/
def D (r : ℕ) : FVec Ideal S40x1024 .f32 :=
  if h : 32 * r + 48 ≤ 1024 then
    k0_pay19 (View.ld x2 (Rect.unit ![32 * r, 0] ![40, 1024] (inb40 h))) (View.ld x4 (Rect.unit ![32 * r, 0] ![48, 1024] (inb48 h)))
  else k0_pay340 (k0_pay339 (BitVec.ofNat 32 (i 1).val) (View.ld x2 (Rect.unit ![992, 0] ![32, 1024] inb_S1024x1024_S32x1024_992_0)) x3)
    (View.ld x4 (Rect.unit ![992, 0] ![32, 1024] inb_S1024x1024_S32x1024_992_0)) x5

/-- The first 32 of a chunk's gradient rows. -/
def own (d : FVec Ideal S40x1024 .f32) : FVec Ideal S32x1024 .f32 :=
  extractStridedSlice S32x1024 ![0, 0] d slices_S40x1024_o0_0_S32x1024

/-- A chunk's rows of the first result. -/
def dxc (d : FVec Ideal S40x1024 .f32) : FVec Ideal S32x1024 .bf16 :=
  k0_pay29 x6 d k0_pay20 (k0_pay22 x6) (extractStridedSlice S32x1024 ![3, 0] d slices_S40x1024_o3_0_S32x1024)

/-- A row carried through the first `n` chunks. -/
def chain (f : FVec Ideal S1x1024 .f32 → FVec Ideal S48x1024 .f32 → FVec Ideal S40x1024 .f32 → FVec Ideal S1x1024 .f32) :
    ℕ → FVec Ideal S1x1024 .f32
  | 0 => k0_pay3
  | n + 1 => f (chain f n) (W i x0 x1 n) (D i x2 x3 x4 x5 n)

/-- The weights' gradient of one block. -/
def dw (xo : Vec Ideal S4x1024 .f32) : FVec Ideal S4x1024 .f32 :=
  k0_pay349 (chain i x0 x1 x2 x3 x4 x5 (fun a w d => k0_pay24 a w (own d)) 32) (chain i x0 x1 x2 x3 x4 x5 (fun a w d => k0_pay25 a w (own d)) 32)
    (chain i x0 x1 x2 x3 x4 x5 (fun a w d => k0_pay26 a w (own d)) 32) (chain i x0 x1 x2 x3 x4 x5 (fun a w d => k0_pay27 a w (own d)) 32) xo

/-- The bias's gradient of one block. -/
def db (xo : Vec Ideal S1x1024 .f32) : FVec Ideal S1x1024 .f32 :=
  addf (shapeCast S1x1024 xo shapeCasts_S1x1024_S1x1024) (chain i x0 x1 x2 x3 x4 x5 (fun a _ d => k0_pay28 a (own d)) 32)

theorem inbT (r : Fin 32) : ∀ a, (![32 * r.val, 0] : Fin 2 → ℕ) a + (![32, 1024] : Fin 2 → ℕ) a ≤ S1024x1024.size a := by
  intro a; fin_cases a
  · show 32 * r.val + 32 ≤ 1024; omega
  · exact le_refl 1024

/-- The first result's rows of one block. -/
def dx (v : View sig .tc .vmem S1024x1024 .bf16) (f : v.ty.Contents (Elt Ideal)) : Vec Ideal S1024x1024 .bf16 :=
  v.read (Elt Ideal) (v.writes (Elt Ideal) f (View.tilePieces ![32, 1024] (fun r : Fin 32 => ![32 * r.val, 0]) inbT
    (fun r => dxc x6 (D i x2 x3 x4 x5 r.val)) 32 (le_refl 32)))

theorem out_B_8 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : ¬cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) (xo8 : Vec Ideal S4x1024 .f32) (xo9 : Vec Ideal S1x1024 .f32) :
    out0_B_8 c i arg2 harg2 arg3 harg3 arg4 harg4 arg5 harg5 arg6 harg6 arg7 harg7 arg8 harg8 arg9 harg9 arg10 harg10 arg11 harg11 hc0 x0 x1 x2 x3 x4 x5 x6 xo8 xo9 = dw i x0 x1 x2 x3 x4 x5 xo8 := by
  frame_out
  rfl

theorem out_B_9 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : ¬cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) (xo8 : Vec Ideal S4x1024 .f32) (xo9 : Vec Ideal S1x1024 .f32) :
    out0_B_9 c i arg2 harg2 arg3 harg3 arg4 harg4 arg5 harg5 arg6 harg6 arg7 harg7 arg8 harg8 arg9 harg9 arg10 harg10 arg11 harg11 hc0 x0 x1 x2 x3 x4 x5 x6 xo8 xo9 = db i x0 x1 x2 x3 x4 x5 xo9 := by
  frame_out
  rfl

theorem out_B_7 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : ¬cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) (xo8 : Vec Ideal S4x1024 .f32) (xo9 : Vec Ideal S1x1024 .f32) :
    out0_B_7 c i arg2 harg2 arg3 harg3 arg4 harg4 arg5 harg5 arg6 harg6 arg7 harg7 arg8 harg8 arg9 harg9 arg10 harg10 arg11 harg11 hc0 x0 x1 x2 x3 x4 x5 x6 xo8 xo9 = dx i x2 x3 x4 x5 x6 VO0_7 VO0_7.junk := by
  frame_out
  rfl

theorem out_A_7 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) :
    out0_A_7 c i arg2 harg2 arg3 harg3 arg4 harg4 arg5 harg5 arg6 harg6 arg7 harg7 arg8 harg8 arg9 harg9 arg10 harg10 arg11 harg11 hc0 x0 x1 x2 x3 x4 x5 x6 = dx i x2 x3 x4 x5 x6 VO0_7 VO0_7.junk := by
  frame_out
  rfl

theorem out_A_8 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) :
    out0_A_8 c i arg2 harg2 arg3 harg3 arg4 harg4 arg5 harg5 arg6 harg6 arg7 harg7 arg8 harg8 arg9 harg9 arg10 harg10 arg11 harg11 hc0 x0 x1 x2 x3 x4 x5 x6 = dw i x0 x1 x2 x3 x4 x5 (k0_pay1 (F := Ideal)) := by
  frame_out
  rfl

theorem out_A_9 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S16x1024 .bf16) (harg7 : arg7.IsWhole) (arg8 : Memref sig .tc .vmem S4x1024 .f32) (harg8 : arg8.IsWhole) (arg9 : Memref sig .tc .vmem S1024x1024 .bf16) (harg9 : arg9.IsWhole) (arg10 : Memref sig .tc .vmem S4x1024 .f32) (harg10 : arg10.IsWhole) (arg11 : Memref sig .tc .vmem S1x1024 .f32) (harg11 : arg11.IsWhole) (hc0 : cond0_0 i) (x0 : Vec Ideal S1024x1024 .bf16) (x1 : Vec Ideal S16x1024 .bf16) (x2 : Vec Ideal S1024x1024 .f32) (x3 : Vec Ideal S8x1024 .f32) (x4 : Vec Ideal S1024x1024 .bf16) (x5 : Vec Ideal S16x1024 .bf16) (x6 : Vec Ideal S4x1024 .f32) :
    out0_A_9 c i arg2 harg2 arg3 harg3 arg4 harg4 arg5 harg5 arg6 harg6 arg7 harg7 arg8 harg8 arg9 harg9 arg10 harg10 arg11 harg11 hc0 x0 x1 x2 x3 x4 x5 x6 = db i x0 x1 x2 x3 x4 x5 (k0_pay2 (F := Ideal)) := by
  frame_out
  rfl

end

end Cert.ConvIdeal.ConvBlock
-- ==== Proof.ConvValue.lean ====
module
public import proofs.«01_k».proof.Proof.ConvBlock
public import proofs.«01_k».proof.Proof.RealLift

/-! # The block's results as sums over its rows

Each chunk reads the block's rows at its own offset, and what is carried through the chunks is a sum over all of them. -/

@[expose] public section

set_option maxRecDepth 65536
set_option maxHeartbeats 4000000

namespace Cert.ConvIdeal.ConvBlock

open Cert.ConvIdeal Cert.ConvIdeal.Gen Idealize.ShloMosaic Idealize.ShloMosaic.TcCoe

noncomputable section

variable (i : grid0.Coords) (x0 : Vec Ideal S1024x1024 .bf16) (x1 : Vec Ideal S16x1024 .bf16) (x2 : Vec Ideal S1024x1024 .f32)
  (x3 : Vec Ideal S8x1024 .f32) (x4 : Vec Ideal S1024x1024 .bf16) (x5 : Vec Ideal S16x1024 .bf16) (x6 : Vec Ideal S4x1024 .f32)

theorem pay24_at (acc : FVec Ideal S1x1024 .f32) (w : FVec Ideal S48x1024 .f32) (d : FVec Ideal S40x1024 .f32) (j : Fin 1024) :
    k0_pay24 acc w (own d) (ix2 0 j) = acc (ix2 0 j) + ∑ a : Fin 32, d (ix2 ⟨a.val, by omega⟩ j) * w (ix2 ⟨13 + a.val, by omega⟩ j) := by
  pointwise [k0_pay24, own]

theorem pay25_at (acc : FVec Ideal S1x1024 .f32) (w : FVec Ideal S48x1024 .f32) (d : FVec Ideal S40x1024 .f32) (j : Fin 1024) :
    k0_pay25 acc w (own d) (ix2 0 j) = acc (ix2 0 j) + ∑ a : Fin 32, d (ix2 ⟨a.val, by omega⟩ j) * w (ix2 ⟨14 + a.val, by omega⟩ j) := by
  pointwise [k0_pay25, own]

theorem pay26_at (acc : FVec Ideal S1x1024 .f32) (w : FVec Ideal S48x1024 .f32) (d : FVec Ideal S40x1024 .f32) (j : Fin 1024) :
    k0_pay26 acc w (own d) (ix2 0 j) = acc (ix2 0 j) + ∑ a : Fin 32, d (ix2 ⟨a.val, by omega⟩ j) * w (ix2 ⟨15 + a.val, by omega⟩ j) := by
  pointwise [k0_pay26, own]

theorem pay27_at (acc : FVec Ideal S1x1024 .f32) (w : FVec Ideal S48x1024 .f32) (d : FVec Ideal S40x1024 .f32) (j : Fin 1024) :
    k0_pay27 acc w (own d) (ix2 0 j) = acc (ix2 0 j) + ∑ a : Fin 32, d (ix2 ⟨a.val, by omega⟩ j) * w (ix2 ⟨16 + a.val, by omega⟩ j) := by
  pointwise [k0_pay27, own]

theorem pay28_at (acc : FVec Ideal S1x1024 .f32) (d : FVec Ideal S40x1024 .f32) (j : Fin 1024) :
    k0_pay28 acc (own d) (ix2 0 j) = acc (ix2 0 j) + ∑ a : Fin 32, d (ix2 ⟨a.val, by omega⟩ j) := by
  pointwise [k0_pay28, own]

theorem dxc_at (d : FVec Ideal S40x1024 .f32) (a : Fin 32) (j : Fin 1024) :
    dxc x6 d (ix2 a j) = x6 (ix2 0 j) * d (ix2 ⟨3 + a.val, by omega⟩ j) + x6 (ix2 1 j) * d (ix2 ⟨2 + a.val, by omega⟩ j)
      + x6 (ix2 2 j) * d (ix2 ⟨1 + a.val, by omega⟩ j) + x6 (ix2 3 j) * d (ix2 ⟨a.val, by omega⟩ j) := by
  pointwise [dxc, k0_pay29, k0_pay20, k0_pay22]

theorem select_first (k : Fin 8) (a b : EReal) :
    Scalar.select (Scalar.cmpi .eq (BitVec.ofNat 32 k.val) 0#32) a b = if k.val = 0 then a else b := by
  fin_cases k <;> rfl

theorem select_last (k : Fin 8) (a b : EReal) :
    Scalar.select (Scalar.cmpi .eq (BitVec.ofNat 32 k.val) 7#32) a b = if k.val = 7 then a else b := by
  fin_cases k <;> rfl

theorem ofNat_eq (n : ℕ) [NeZero n] (k : ℕ) (h : k < n) : Fin.ofNat n k = ⟨k, h⟩ := Fin.ext (Nat.mod_eq_of_lt h)

theorem W_zero_at (a : Fin 48) (j : Fin 1024) : W i x0 x1 0 (ix2 a j) = Xe i x0 x1 a.val j := by
  pointwise [W, k0_pay7]
  unfold Xe
  by_cases h : a.val < 16
  · rw [dif_pos h, if_pos h, ofNat_eq 16 a.val h]
    exact select_first (i 1) _ _
  · rw [dif_neg h, if_neg h, ofNat_eq 1024 (a.val - 16) (by omega)]

theorem W_succ_at (r : ℕ) (h : (32 * r + 16) + 48 ≤ 1024) (a : Fin 48) (j : Fin 1024) :
    W i x0 x1 (r + 1) (ix2 a j) = Xe i x0 x1 (32 * (r + 1) + a.val) j := by
  have e : W i x0 x1 (r + 1) = k0_pay18 (View.ld x0 (Rect.unit ![32 * r + 16, 0] ![48, 1024] (inb48 h))) := dif_pos h
  rw [e]
  pointwise [k0_pay18]
  unfold Xe
  rw [if_neg (by omega), ofNat_eq 1024 _ (by omega : 32 * (r + 1) + a.val - 16 < 1024)]
  exact congrArg (fun k => x0 (ix2 k j)) (Fin.ext (by show 32 * r + 16 + a.val = 32 * (r + 1) + a.val - 16; omega))

theorem W_at (r : ℕ) (h : r < 32) (a : Fin 48) (j : Fin 1024) : W i x0 x1 r (ix2 a j) = Xe i x0 x1 (32 * r + a.val) j := by
  cases r with
  | zero => rw [W_zero_at, Nat.mul_zero, Nat.zero_add]
  | succ r => exact W_succ_at i x0 x1 r (by omega) a j

theorem D_at (r : ℕ) (h : r < 32) (a : Fin 40) (j : Fin 1024) : D i x2 x3 x4 x5 r (ix2 a j) = De i x2 x3 x4 x5 (32 * r + a.val) j := by
  unfold D
  by_cases hr : 32 * r + 48 ≤ 1024
  · rw [dif_pos hr]
    pointwise [k0_pay19]
    unfold De
    rw [if_pos (by omega), ofNat_eq 1024 _ (by omega : 32 * r + a.val < 1024)]
  · obtain rfl : r = 31 := by omega
    rw [dif_neg hr]
    pointwise [k0_pay339, k0_pay340]
    unfold De
    by_cases ha : a.val < 32
    · rw [dif_pos ha, dif_pos ha, if_pos (by omega), ofNat_eq 1024 _ (by omega : 32 * 31 + a.val < 1024)]
    · rw [dif_neg ha, dif_neg ha]
      refine Eq.trans ?_ (if_neg (show ¬(992 + a.val < 1024) by omega)).symm
      rw [ofNat_eq 8 (992 + a.val - 1024) (by omega), ofNat_eq 16 (992 + a.val - 1024) (by omega)]
      have e : a.val - 32 = 992 + a.val - 1024 := by omega
      refine congrArg₂ (· * ·) ((select_last (i 1) _ _).trans ?_) (congrArg (fun k => x5 (ix2 k j)) (Fin.ext e))
      exact congrArg (fun z => if (i 1).val = 7 then (0 : EReal) else z) (congrArg (fun k => x3 (ix2 k j)) (Fin.ext e))

/-- What a row carried through the chunks holds in the end: the sum over all the block's rows. -/
theorem chain_at (f : FVec Ideal S1x1024 .f32 → FVec Ideal S48x1024 .f32 → FVec Ideal S40x1024 .f32 → FVec Ideal S1x1024 .f32)
    (j : Fin 1024) (g : ℕ → EReal)
    (hf : ∀ acc r, r < 32 → f acc (W i x0 x1 r) (D i x2 x3 x4 x5 r) (ix2 0 j) = acc (ix2 0 j) + ∑ a : Fin 32, g (32 * r + a.val)) :
    chain i x0 x1 x2 x3 x4 x5 f 32 (ix2 0 j) = ∑ n : Fin 1024, g n.val := by
  have h : ∀ n, n ≤ 32 → chain i x0 x1 x2 x3 x4 x5 f n (ix2 0 j) = ∑ r ∈ Finset.range n, ∑ a : Fin 32, g (32 * r + a.val) := by
    intro n
    induction n with
    | zero => intro _; rw [Finset.range_zero, Finset.sum_empty]; pointwise [chain, k0_pay3]
    | succ n ih =>
      intro hn
      rw [Finset.sum_range_succ, ← ih (by omega)]
      exact hf _ n (by omega)
  rw [h 32 (le_refl 32), Finset.sum_range]
  exact Fin.sum_mul_add_congr fun s r hl => congrArg g (by show 32 * s.val + r.val = s.val * 32 + r.val; omega)

theorem db_at (xo : Vec Ideal S1x1024 .f32) (j : Fin 1024) :
    db i x0 x1 x2 x3 x4 x5 xo (ix2 0 j) = xo (ix2 0 j) + ∑ n : Fin 1024, De i x2 x3 x4 x5 n.val j := by
  pointwise [db]
  refine congrArg (xo (ix2 0 j) + ·) (chain_at i x0 x1 x2 x3 x4 x5 _ j (fun n => De i x2 x3 x4 x5 n j) fun acc r hr => ?_)
  rw [pay28_at]
  exact congrArg (acc (ix2 0 j) + ·) (Finset.sum_congr rfl fun a _ => D_at i x2 x3 x4 x5 r hr _ j)

theorem dw_at (xo : Vec Ideal S4x1024 .f32) (k : Fin 4) (j : Fin 1024) :
    dw i x0 x1 x2 x3 x4 x5 xo (ix2 k j)
      = xo (ix2 k j) + ∑ n : Fin 1024, De i x2 x3 x4 x5 n.val j * Xe i x0 x1 (n.val + 13 + k.val) j := by
  have step : ∀ (o : ℕ) (ho : o ≤ 16) (acc : EReal) (r : ℕ) (hr : r < 32),
      acc + ∑ a : Fin 32, D i x2 x3 x4 x5 r (ix2 ⟨a.val, by omega⟩ j) * W i x0 x1 r (ix2 ⟨o + a.val, by omega⟩ j)
        = acc + ∑ a : Fin 32, (fun n => De i x2 x3 x4 x5 n j * Xe i x0 x1 (n + o) j) (32 * r + a.val) := fun o ho acc r hr =>
    congrArg (acc + ·) (Finset.sum_congr rfl fun a _ => by
      rw [D_at i x2 x3 x4 x5 r hr, W_at i x0 x1 r hr]
      show _ * Xe i x0 x1 (32 * r + (o + a.val)) j = _ * Xe i x0 x1 (32 * r + a.val + o) j
      rw [show 32 * r + (o + a.val) = 32 * r + a.val + o by omega])
  fin_cases k
  · pointwise [dw, k0_pay349]
    refine congrArg (xo (ix2 0 j) + ·) (chain_at i x0 x1 x2 x3 x4 x5 _ j (fun n => De i x2 x3 x4 x5 n j * Xe i x0 x1 (n + 13) j) fun acc r hr => ?_)
    rw [pay24_at]
    exact step 13 (by decide) _ r hr
  · pointwise [dw, k0_pay349]
    refine congrArg (xo (ix2 1 j) + ·) (chain_at i x0 x1 x2 x3 x4 x5 _ j (fun n => De i x2 x3 x4 x5 n j * Xe i x0 x1 (n + 14) j) fun acc r hr => ?_)
    rw [pay25_at]
    exact step 14 (by decide) _ r hr
  · pointwise [dw, k0_pay349]
    refine congrArg (xo (ix2 2 j) + ·) (chain_at i x0 x1 x2 x3 x4 x5 _ j (fun n => De i x2 x3 x4 x5 n j * Xe i x0 x1 (n + 15) j) fun acc r hr => ?_)
    rw [pay26_at]
    exact step 15 (by decide) _ r hr
  · pointwise [dw, k0_pay349]
    refine congrArg (xo (ix2 3 j) + ·) (chain_at i x0 x1 x2 x3 x4 x5 _ j (fun n => De i x2 x3 x4 x5 n j * Xe i x0 x1 (n + 16) j) fun acc r hr => ?_)
    rw [pay27_at]
    exact step 16 (by decide) _ r hr

theorem dx_at (v : View sig .tc .vmem S1024x1024 .bf16) (f : v.ty.Contents (Elt Ideal)) (n : Fin 1024) (j : Fin 1024) :
    dx i x2 x3 x4 x5 x6 v f (ix2 n j)
      = x6 (ix2 0 j) * De i x2 x3 x4 x5 (n.val + 3) j + x6 (ix2 1 j) * De i x2 x3 x4 x5 (n.val + 2) j
        + x6 (ix2 2 j) * De i x2 x3 x4 x5 (n.val + 1) j + x6 (ix2 3 j) * De i x2 x3 x4 x5 n.val j := by
  have hn := n.isLt
  have hdm := Nat.div_add_mod n.val 32
  have hm := Nat.mod_lt n.val (by decide : 32 > 0)
  unfold dx
  rw [View.read_tilePieces v f ![32, 1024] _ inbT _ 32 (le_refl 32) (ix2 n j) ⟨n.val / 32, by omega⟩ (by show n.val / 32 < 32; omega)
    (ix2 ⟨n.val % 32, hm⟩ j) (by
      intro a; fin_cases a
      · show n.val = 32 * (n.val / 32) + n.val % 32; omega
      · show j.val = 0 + j.val; omega) 0 (by
      intro q hq
      have hq' : q.val ≠ n.val / 32 := fun h => hq (Fin.ext h)
      show n.val < 32 * q.val ∨ 32 * q.val + 32 ≤ n.val
      omega)]
  refine (dxc_at x6 _ ⟨n.val % 32, hm⟩ j).trans ?_
  rw [D_at i x2 x3 x4 x5 _ (by show n.val / 32 < 32; omega), D_at i x2 x3 x4 x5 _ (by show n.val / 32 < 32; omega), D_at i x2 x3 x4 x5 _ (by show n.val / 32 < 32; omega), D_at i x2 x3 x4 x5 _ (by show n.val / 32 < 32; omega)]
  dsimp only
  rw [show 32 * (n.val / 32) + (3 + n.val % 32) = n.val + 3 by omega, show 32 * (n.val / 32) + (2 + n.val % 32) = n.val + 2 by omega,
    show 32 * (n.val / 32) + (1 + n.val % 32) = n.val + 1 by omega, show 32 * (n.val / 32) + n.val % 32 = n.val by omega]

end

end Cert.ConvIdeal.ConvBlock
-- ==== Proof.ConvArrays.lean ====
module
public import proofs.«01_k».proof.Proof.ConvSpec
public import proofs.«01_k».proof.Proof.ConvValue
public import Idealize.ShloMosaic.Lib.Claim

/-! # The kernel's arrays after the run -/

@[expose] public section

set_option maxRecDepth 65536
set_option maxHeartbeats 4000000

namespace Cert.ConvIdeal.ConvArrays

open Cert.ConvIdeal Cert.ConvIdeal.Gen Idealize.ShloMosaic Idealize.ShloMosaic.TcCoe
open Cert.ConvIdeal.ConvBlock (Xe De ofNat_eq)

noncomputable section

variable (m : (ℓ : Loc nD τ sig) → Buf (Elt Ideal) ℓ)

/-- The arguments at launch. -/
abbrev P (c : Dev nD) : Vec Ideal ConvSpec.SP .bf16 := m ((c : Thread nD τ).loc main_arg0)
abbrev C (c : Dev nD) : Vec Ideal ConvSpec.SX .f32 := m ((c : Thread nD τ).loc main_arg1)
abbrev Wt (c : Dev nD) : Vec Ideal ConvSpec.SW .f32 := m ((c : Thread nD τ).loc main_arg2)
abbrev B (c : Dev nD) : Vec Ideal ConvSpec.SB .f32 := m ((c : Thread nD τ).loc main_arg3)

/-! ## The saved derivative -/

theorem V_v24 (c : Dev nD) (n : Fin 8192) (j : Fin 3072) :
    StableHlo.after hostOps0 (fun b => m (c, b)) (Proc.tc.devRef main_v24) (ix2 n j) = ConvSpec.pre (P m c) (Wt m c) (B m c) n.val j := by
  entry_read
  pointwise []
  unfold ConvSpec.pre
  refine congrArg₂ (· + ·) (congrArg₂ (· + ·) (congrArg₂ (· + ·) (congrArg₂ (· + ·) (congrArg (Wt m c (ix2 0 j) * ·) ?_) (congrArg (Wt m c (ix2 1 j) * ·) ?_))
    (congrArg (Wt m c (ix2 2 j) * ·) ?_)) (congrArg (Wt m c (ix2 3 j) * ·) ?_)) rfl
  · by_cases h : n.val < 3
    · exact (dif_pos h).trans (ConvSpec.X_lo _ (by omega) j).symm
    · refine (dif_neg h).trans ?_
      refine Eq.trans ?_ (ConvSpec.X_hi (P m c) ⟨n.val - 3, by omega⟩ (by show n.val + 13 = n.val - 3 + 16; omega) j).symm
      rfl
  · by_cases h : 1 + n.val < 3
    · exact (dif_pos h).trans (ConvSpec.X_lo _ (by omega) j).symm
    · refine (dif_neg h).trans ?_
      refine Eq.trans ?_ (ConvSpec.X_hi (P m c) ⟨1 + n.val - 3, by omega⟩ (by show n.val + 14 = 1 + n.val - 3 + 16; omega) j).symm
      rfl
  · by_cases h : 2 + n.val < 3
    · exact (dif_pos h).trans (ConvSpec.X_lo _ (by omega) j).symm
    · refine (dif_neg h).trans ?_
      refine Eq.trans ?_ (ConvSpec.X_hi (P m c) ⟨2 + n.val - 3, by omega⟩ (by show n.val + 15 = 2 + n.val - 3 + 16; omega) j).symm
      rfl
  · exact (ConvSpec.X_hi (P m c) n rfl j).symm

theorem V_v28 (c : Dev nD) (n : Fin 8192) (j : Fin 3072) :
    V m c main_v28 (ix2 n j) = ConvSpec.dsilu (ConvSpec.pre (P m c) (Wt m c) (B m c) n.val j) := by
  rw [← V_v24]
  unfold V
  simp only [List.flatten_cons, List.flatten_nil, List.append_nil, StableHlo.after_append]
  generalize StableHlo.after hostOps0 (fun b => m (c, b)) = σ
  simp only [hostOps0_1, hostOps0_2, hostOps0_3, hostOps0_4, StableHlo.after_cons, StableHlo.after_nil]
  after_results_simp
  after_results_loop
  simp only [StableHlo.TRef.ofBuf_toBuf]
  generalize σ (Proc.tc.devRef main_v24) = x
  have e24 : ∀ h1 h2 h3, (StableHlo.TRef.of main_v24 h1 h2 h3 : StableHlo.TRef sig ⟨S8192x3072, .f32⟩).ofBuf x = x := fun _ _ _ => rfl
  have e26 : ∀ h1 h2 h3 (z : (⟨S8192x3072, .f32⟩ : BufTy).Contents (Elt Ideal)), (StableHlo.TRef.of main_v26 h1 h2 h3 : StableHlo.TRef sig ⟨S8192x3072, .f32⟩).ofBuf z = z := fun _ _ _ _ => rfl
  have e27 : ∀ h1 h2 h3 (z : (⟨S8192x3072, .f32⟩ : BufTy).Contents (Elt Ideal)), (StableHlo.TRef.of main_v27 h1 h2 h3 : StableHlo.TRef sig ⟨S8192x3072, .f32⟩).toBuf z = z := fun _ _ _ _ => rfl
  simp only [e24]
  erw [e26, e27]
  pointwise [ConvSpec.dsilu, ConvSpec.sg]

/-! ## The blocks -/

theorem coord (t : Fin cfg0.N) : (grid0.coords t 1).val = t.val % 8 :=
  (by decide +kernel : ∀ t : Fin grid0.N, (grid0.coords t 1).val = t.val % 8) t

theorem idx : ∀ t : Fin cfg0.N, win0_0.index t = ![t.val % 8, 6 + t.val / 8] ∧ win0_1.index t = ![64 * (t.val % 8) - 1, 6 + t.val / 8]
    ∧ win0_2.index t = ![t.val % 8, t.val / 8] ∧ win0_3.index t = ![min ((t.val % 8 + 1) * 128) 1023, t.val / 8]
    ∧ win0_4.index t = ![t.val % 8, t.val / 8] ∧ win0_5.index t = ![min ((t.val % 8 + 1) * 64) 511, t.val / 8]
    ∧ win0_6.index t = ![0, t.val / 8] ∧ win0_7.index t = ![t.val % 8, t.val / 8] ∧ win0_8.index t = ![0, t.val / 8]
    ∧ win0_9.index t = ![0, t.val / 8] := (by decide +kernel : ∀ t : Fin grid0.N, _)

theorem lt24 (t : Fin cfg0.N) : t.val < 24 := lt_of_lt_of_eq t.isLt N_0

/-- The array's column of a block's column. -/
def col (t : Fin cfg0.N) (j : Fin 1024) : Fin 3072 := ⟨1024 * (t.val / 8) + j.val, by have := lt24 t; omega⟩

theorem in0 (c : Dev nD) (t : Fin cfg0.N) (a : Fin 1024) (j : Fin 1024) (n : Fin 8192) (hn : n.val = 1024 * (t.val % 8) + a.val) :
    X0_0 m c t (ix2 a j) = P m c (ix2 n ⟨6144 + (col t j).val, by omega⟩) := by
  unfold X0_0 Pipeline.Window.fill
  rw [dif_pos (moved0_0 t (ix2 a j))]
  blk_simp [iblk, V, idx t]
  refine (congrFun (V_main_arg0 m c) _).trans (congrArg (P m c) ?_)
  blk_ext [iblk, V, idx t]
  dsimp only [col]; omega

theorem in1 (c : Dev nD) (t : Fin cfg0.N) (a : Fin 16) (j : Fin 1024) (n : Fin 8192) (hn : n.val = 16 * (64 * (t.val % 8) - 1) + a.val) :
    X0_1 m c t (ix2 a j) = P m c (ix2 n ⟨6144 + (col t j).val, by omega⟩) := by
  unfold X0_1 Pipeline.Window.fill
  rw [dif_pos (moved0_1 t (ix2 a j))]
  blk_simp [iblk, V, idx t]
  refine (congrFun (V_main_arg0 m c) _).trans (congrArg (P m c) ?_)
  blk_ext [iblk, V, idx t]
  dsimp only [col]; omega

theorem in2 (c : Dev nD) (t : Fin cfg0.N) (a : Fin 1024) (j : Fin 1024) (n : Fin 8192) (hn : n.val = 1024 * (t.val % 8) + a.val) :
    iblk m c 2 t (ix2 a j) = C m c (ix2 n (col t j)) := by
  blk_simp [iblk, V, idx t]
  refine (congrFun (V_main_arg1 m c) _).trans (congrArg (C m c) ?_)
  blk_ext [iblk, V, idx t]
  dsimp only [col]; omega

theorem in3 (c : Dev nD) (t : Fin cfg0.N) (a : Fin 8) (j : Fin 1024) (n : Fin 8192) (hn : n.val = 8 * min ((t.val % 8 + 1) * 128) 1023 + a.val) :
    iblk m c 3 t (ix2 a j) = C m c (ix2 n (col t j)) := by
  blk_simp [iblk, V, idx t]
  refine (congrFun (V_main_arg1 m c) _).trans (congrArg (C m c) ?_)
  blk_ext [iblk, V, idx t]
  dsimp only [col]; omega

theorem in4 (c : Dev nD) (t : Fin cfg0.N) (a : Fin 1024) (j : Fin 1024) (n : Fin 8192) (hn : n.val = 1024 * (t.val % 8) + a.val) :
    iblk m c 4 t (ix2 a j) = V m c main_v28 (ix2 n (col t j)) := by
  blk_simp [iblk, V, idx t]
  refine congrArg (V m c main_v28) ?_
  blk_ext [iblk, V, idx t]
  dsimp only [col]; omega

theorem in5 (c : Dev nD) (t : Fin cfg0.N) (a : Fin 16) (j : Fin 1024) (n : Fin 8192) (hn : n.val = 16 * min ((t.val % 8 + 1) * 64) 511 + a.val) :
    iblk m c 5 t (ix2 a j) = V m c main_v28 (ix2 n (col t j)) := by
  blk_simp [iblk, V, idx t]
  refine congrArg (V m c main_v28) ?_
  blk_ext [iblk, V, idx t]
  dsimp only [col]; omega

theorem in6 (c : Dev nD) (t : Fin cfg0.N) (a : Fin 4) (j : Fin 1024) :
    iblk m c 6 t (ix2 a j) = Wt m c (ix2 a (col t j)) := by
  blk_simp [iblk, V, idx t]
  refine (congrFun (V_main_arg2 m c) _).trans (congrArg (Wt m c) ?_)
  blk_ext [iblk, V, idx t]
  dsimp only [col]; omega

/-- A block's rows of the input, with those before it, are the array's. -/
theorem xe (c : Dev nD) (t : Fin cfg0.N) (n : ℕ) (hn : n < 1040) (j : Fin 1024) :
    Xe (grid0.coords t) (X0_0 m c t) (X0_1 m c t) n j = ConvSpec.X (P m c) (1024 * (t.val % 8) + n) (col t j) := by
  unfold Xe ConvSpec.X
  rw [coord t]
  by_cases h : n < 16
  · rw [if_pos h]
    by_cases hi : t.val % 8 = 0
    · rw [if_pos hi, if_pos (by omega)]
    · rw [if_neg hi, if_neg (by omega)]
      refine in1 m c t _ j _ ?_
      rw [ofNat_eq 8192 (1024 * (t.val % 8) + n - 16) (by omega), ofNat_eq 16 n h]
      show 1024 * (t.val % 8) + n - 16 = 16 * (64 * (t.val % 8) - 1) + n
      omega
  · rw [if_neg h, if_neg (by omega)]
    refine in0 m c t _ j _ ?_
    rw [ofNat_eq 8192 (1024 * (t.val % 8) + n - 16) (by omega), ofNat_eq 1024 (n - 16) (by omega)]
    show 1024 * (t.val % 8) + n - 16 = 1024 * (t.val % 8) + (n - 16)
    omega

/-- A block's rows of the gradient at the convolution's output, with those after it, are the array's. -/
theorem de (c : Dev nD) (t : Fin cfg0.N) (n : ℕ) (hn : n < 1032) (j : Fin 1024) :
    De (grid0.coords t) (iblk m c 2 t) (iblk m c 3 t) (iblk m c 4 t) (iblk m c 5 t) n j
      = ConvSpec.G (P m c) (C m c) (Wt m c) (B m c) (1024 * (t.val % 8) + n) (col t j) := by
  unfold De ConvSpec.G
  rw [coord t]
  by_cases h : n < 1024
  · rw [if_pos h, if_pos (by omega)]
    have e : (Fin.ofNat 8192 (1024 * (t.val % 8) + n)).val = 1024 * (t.val % 8) + (Fin.ofNat 1024 n).val := by
      rw [ofNat_eq 8192 (1024 * (t.val % 8) + n) (by omega), ofNat_eq 1024 n h]
    refine congrArg₂ (· * ·) (in2 m c t _ j _ e) ((in4 m c t _ j _ e).trans ((V_v28 m c _ _).trans ?_))
    rw [ofNat_eq 8192 (1024 * (t.val % 8) + n) (by omega)]
  · rw [if_neg h]
    by_cases hi : t.val % 8 = 7
    · rw [if_pos hi, if_neg (by omega)]
      exact zero_mul _
    · rw [if_neg hi, if_pos (by omega)]
      have e1 : (Fin.ofNat 8192 (1024 * (t.val % 8) + n)).val = 8 * min ((t.val % 8 + 1) * 128) 1023 + (Fin.ofNat 8 (n - 1024)).val := by
        rw [ofNat_eq 8192 (1024 * (t.val % 8) + n) (by omega), ofNat_eq 8 (n - 1024) (by omega)]
        show 1024 * (t.val % 8) + n = 8 * min ((t.val % 8 + 1) * 128) 1023 + (n - 1024)
        omega
      have e2 : (Fin.ofNat 8192 (1024 * (t.val % 8) + n)).val = 16 * min ((t.val % 8 + 1) * 64) 511 + (Fin.ofNat 16 (n - 1024)).val := by
        rw [ofNat_eq 8192 (1024 * (t.val % 8) + n) (by omega), ofNat_eq 16 (n - 1024) (by omega)]
        show 1024 * (t.val % 8) + n = 16 * min ((t.val % 8 + 1) * 64) 511 + (n - 1024)
        omega
      refine congrArg₂ (· * ·) (in3 m c t _ j _ e1) ((in5 m c t _ j _ e2).trans ((V_v28 m c _ _).trans ?_))
      rw [ofNat_eq 8192 (1024 * (t.val % 8) + n) (by omega)]

/-! ## The results -/

/-- The first result: each block's rows are the array's. -/
theorem dx_block (c : Dev nD) (t : Fin cfg0.N) (v : View sig .tc .vmem S1024x1024 .bf16) (f : v.ty.Contents (Elt Ideal)) (a j : Fin 1024)
    (n : Fin 8192) (hn : n.val = 1024 * (t.val % 8) + a.val) :
    ConvBlock.dx (grid0.coords t) (iblk m c 2 t) (iblk m c 3 t) (iblk m c 4 t) (iblk m c 5 t) (iblk m c 6 t) v f (ix2 a j)
      = ConvSpec.dx (P m c) (C m c) (Wt m c) (B m c) (ix2 n (col t j)) := by
  refine (ConvBlock.dx_at _ _ _ _ _ _ v f a j).trans ?_
  rw [de m c t _ (by omega) j, de m c t _ (by omega) j, de m c t _ (by omega) j, de m c t _ (by omega) j, in6, in6, in6, in6]
  unfold ConvSpec.dx
  show _ = _ * ConvSpec.G _ _ _ _ (n.val + 3) (col t j) + _ * ConvSpec.G _ _ _ _ (n.val + 2) (col t j)
    + _ * ConvSpec.G _ _ _ _ (n.val + 1) (col t j) + _ * ConvSpec.G _ _ _ _ n.val (col t j)
  rw [hn]
  rfl

theorem final7 (c : Dev nD) : (dats m 0 c).arrAt 7 cfg0.N = ConvSpec.dx (P m c) (C m c) (Wt m c) (B m c) := by
  refine (dats m 0 c).arrAt_eq_of_covers 7 _ (by decide +kernel) fun t hf y => ?_
  blk_simp
  rw [after0_7]
  have e : (outsAt0 m c t.val t.isLt).1
      = ConvBlock.dx (grid0.coords t) (iblk m c 2 t) (iblk m c 3 t) (iblk m c 4 t) (iblk m c 5 t) (iblk m c 6 t) VO0_7 VO0_7.junk := by
    by_cases h : t.val % 8 = 0
    · rw [outsAt0_A m c t h]; dsimp only; rw [ConvBlock.out_A_7]
    · rw [outsAt0_B m c t h]; dsimp only; rw [ConvBlock.out_B_7]
  rw [e]
  idx_vars y
  have ht := lt24 t
  refine (dx_block m c t _ _ y0 y1 ⟨1024 * (t.val % 8) + y0.val, by omega⟩ rfl).trans (congrArg (ConvSpec.dx (P m c) (C m c) (Wt m c) (B m c)) ?_)
  blk_ext [idx t]
  dsimp only [col]; omega

/-- What a point adds to the second result's block. -/
def term8 (c : Dev nD) (t : Fin cfg0.N) : S4x1024.Idx → EReal := fun j =>
  ∑ n : Fin 1024, De (grid0.coords t) (iblk m c 2 t) (iblk m c 3 t) (iblk m c 4 t) (iblk m c 5 t) n.val (j 1)
    * Xe (grid0.coords t) (X0_0 m c t) (X0_1 m c t) (n.val + 13 + (j 0).val) (j 1)

/-- What a point adds to the third result's block. -/
def term9 (c : Dev nD) (t : Fin cfg0.N) : S1x1024.Idx → EReal := fun j =>
  ∑ n : Fin 1024, De (grid0.coords t) (iblk m c 2 t) (iblk m c 3 t) (iblk m c 4 t) (iblk m c 5 t) n.val (j 1)

theorem final8 (c : Dev nD) : (dats m 0 c).arrAt 8 cfg0.N = ConvSpec.dw (P m c) (C m c) (Wt m c) (B m c) := by
  have hN : cfg0.N = 24 := N_0
  refine (dats m 0 c).arrAt_eq_of_covers 8 _ (by decide +kernel) fun t hf y => ?_
  have h7 : t.val % 8 = 7 := (flush0_8 t).mp hf
  have ht := lt24 t
  blk_simp
  rw [after0_8]
  rw [Pipeline.eq_sum_fin_of_reset_step_apply_of_flush (fun n h => (outsAt0 m c n h).2.1) 8 (fun _ => 0) (term8 m c)
    (fun t h j => by
      rw [outsAt0_A m c t (by omega)]; dsimp only; rw [ConvBlock.out_A_8]
      idx_vars j
      refine (ConvBlock.dw_at _ _ _ _ _ _ _ _ j0 j1).trans ?_
      exact congrArg (· + _) (by pointwise [k0_pay1]))
    (fun t h j => by
      rw [outsAt0_B m c t (by omega)]; dsimp only; rw [ConvBlock.out_B_8]
      idx_vars j
      exact ConvBlock.dw_at _ _ _ _ _ _ _ _ j0 j1)
    t h7 _, zero_add]
  idx_vars y
  rw [show (((cfg0.win 8).blk t).view.emb (ix2 y0 y1) : S4x3072.Idx) = ix2 y0 (col t y1) from by
    blk_ext [idx t]
    dsimp only [col]; omega]
  refine Fin.sum_mul_add_congr fun s n hl => ?_
  have hs : s.val < 8 := s.isLt
  have hp : 8 * (t.val / 8) + s.val < cfg0.N := by omega
  have hq : (8 * (t.val / 8) + s.val) % 8 = s.val := by omega
  have hc : col (⟨8 * (t.val / 8) + s.val, hp⟩ : Fin cfg0.N) y1 = col t y1 := by
    ext
    show 1024 * ((8 * (t.val / 8) + s.val) / 8) + y1.val = 1024 * (t.val / 8) + y1.val
    omega
  refine congrArg₂ (· * ·) ((de m c ⟨8 * (t.val / 8) + s.val, hp⟩ n.val (by omega) y1).trans ?_)
    ((xe m c ⟨8 * (t.val / 8) + s.val, hp⟩ (n.val + 13 + y0.val) (by omega) y1).trans ?_)
  · rw [hc]
    show ConvSpec.G _ _ _ _ (1024 * ((8 * (t.val / 8) + s.val) % 8) + n.val) _ = ConvSpec.G _ _ _ _ (s.val * 1024 + n.val) _
    rw [hq, Nat.mul_comm]
    rfl
  · rw [hc]
    show ConvSpec.X _ (1024 * ((8 * (t.val / 8) + s.val) % 8) + (n.val + 13 + y0.val)) _ = ConvSpec.X _ (s.val * 1024 + n.val + 13 + y0.val) _
    rw [hq, Nat.mul_comm]
    simp only [Nat.add_assoc]
    rfl

theorem final9 (c : Dev nD) : (dats m 0 c).arrAt 9 cfg0.N = ConvSpec.db (P m c) (C m c) (Wt m c) (B m c) := by
  have hN : cfg0.N = 24 := N_0
  refine (dats m 0 c).arrAt_eq_of_covers 9 _ (by decide +kernel) fun t hf y => ?_
  have h7 : t.val % 8 = 7 := (flush0_9 t).mp hf
  have ht := lt24 t
  blk_simp
  rw [after0_9]
  rw [Pipeline.eq_sum_fin_of_reset_step_apply_of_flush (fun n h => (outsAt0 m c n h).2.2) 8 (fun _ => 0) (term9 m c)
    (fun t h j => by
      rw [outsAt0_A m c t (by omega)]; dsimp only; rw [ConvBlock.out_A_9]
      idx_vars j
      obtain rfl : j0 = 0 := Subsingleton.elim _ _
      refine (ConvBlock.db_at _ _ _ _ _ _ _ _ j1).trans ?_
      exact congrArg (· + _) (by pointwise [k0_pay2]))
    (fun t h j => by
      rw [outsAt0_B m c t (by omega)]; dsimp only; rw [ConvBlock.out_B_9]
      idx_vars j
      obtain rfl : j0 = 0 := Subsingleton.elim _ _
      exact ConvBlock.db_at _ _ _ _ _ _ _ _ j1)
    t h7 _, zero_add]
  idx_vars y
  rw [show (((cfg0.win 9).blk t).view.emb (ix2 y0 y1) : S1x3072.Idx) = ix2 y0 (col t y1) from by
    blk_ext [idx t]
    dsimp only [col]; omega]
  refine Fin.sum_mul_add_congr fun s n hl => ?_
  have hs : s.val < 8 := s.isLt
  have hp : 8 * (t.val / 8) + s.val < cfg0.N := by omega
  have hq : (8 * (t.val / 8) + s.val) % 8 = s.val := by omega
  have hc : col (⟨8 * (t.val / 8) + s.val, hp⟩ : Fin cfg0.N) y1 = col t y1 := by
    ext
    show 1024 * ((8 * (t.val / 8) + s.val) / 8) + y1.val = 1024 * (t.val / 8) + y1.val
    omega
  refine (de m c ⟨8 * (t.val / 8) + s.val, hp⟩ n.val (by omega) y1).trans ?_
  rw [hc]
  show ConvSpec.G _ _ _ _ (1024 * ((8 * (t.val / 8) + s.val) % 8) + n.val) _ = ConvSpec.G _ _ _ _ (s.val * 1024 + n.val) _
  rw [hq, Nat.mul_comm]
  rfl

end

end Cert.ConvIdeal.ConvArrays
-- ==== Proof.ConvRef.lean ====
module
public import proofs.«01_k».proof.Proof.ConvSpec
public import proofs.«01_k».proof.Proof.RealLift
public import proofs.«01_k».proof.Proof.Gen.ConvRefIdeal.Read

/-! # What the reference computes, row by row -/

@[expose] public section

set_option maxRecDepth 16384

namespace Cert.ConvRefIdeal.ConvRef

open Cert.ConvRefIdeal Cert.ConvRefIdeal.Gen Cert.ConvRefIdeal.Read Idealize.ShloMosaic Cert.RealLift

noncomputable section

variable (p : Vec Ideal ConvSpec.SP .bf16) (d : Vec Ideal ConvSpec.SX .f32) (w : Vec Ideal ConvSpec.SW .f32) (b : Vec Ideal ConvSpec.SB .f32)

/-! ## The derivative of `silu` -/

/-- The cotangent times the derivative, summand by summand, is the cotangent times the derivative. At an infinite
argument the logistic function is zero or one, so its own derivative is zero. -/
theorem mul_dsilu (x : EReal) (r : ℝ) :
    (r : EReal) * ConvSpec.sg x + (x * (r : EReal)) * (ConvSpec.sg x * (1 - ConvSpec.sg x)) = (r : EReal) * ConvSpec.dsilu x := by
  unfold ConvSpec.dsilu
  induction x with
  | bot =>
    have e : ConvSpec.sg ⊥ = 0 := by
      unfold ConvSpec.sg Ideal.div
      have h : (1 : EReal) + ⊤ = ⊤ := by rw [rone]; exact EReal.coe_add_top 1
      simp [h]
    rw [e]; simp
  | top =>
    have e : ConvSpec.sg ⊤ = 1 := by
      unfold ConvSpec.sg
      unfold Ideal.div
      simp
    rw [e]
    have h : (1 : EReal) - 1 = 0 := by
      show ((1 : ℝ) : EReal) - ((1 : ℝ) : EReal) = 0
      rw [rsub, sub_self]; rfl
    rw [h]; simp
  | coe x =>
    have e : ConvSpec.sg (x : EReal) = ((1 / (1 + Real.exp (-x)) : ℝ) : EReal) := by
      unfold ConvSpec.sg
      rw [rneg, Ideal.exp_coe, rone, radd, rdiv _ _ (by positivity)]
    rw [e, rone]
    simp only [rmul, rsub, radd]
    congr 1
    ring

/-! ## The input, shifted -/

theorem idx2 {a b : ℕ} (x : (⟨2, ![a, b]⟩ : Shape).Idx) (r : Fin a) (c : Fin b) (h0 : x 0 = r) (h1 : x 1 = c) : x = ix2 r c := by
  subst h0 h1
  funext q
  fin_cases q <;> rfl

theorem x_at (r : Fin 8195) (j : Fin 3072) : val_main_v3 (F := Ideal) p (ix2 r j) = ConvSpec.X p (r.val + 13) j := by
  unfold val_main_v3 val_main_v2 val_main_v1 val_main_v0 val_main_cst
  pointwise []
  by_cases h : r.val < 3
  · exact (dif_pos h).trans (ConvSpec.X_lo _ (by omega) j).symm
  · refine (dif_neg h).trans ?_
    refine Eq.trans ?_ (ConvSpec.X_hi p ⟨r.val - 3, by omega⟩ (by show r.val + 13 = r.val - 3 + 16; omega) j).symm
    rfl

theorem v6_at (n : Fin 8192) (j : Fin 3072) : val_main_v6 (F := Ideal) p (ix2 n j) = ConvSpec.X p (n.val + 13) j := by
  rw [val_main_v6_apply]
  exact (congrArg _ (idx2 _ _ _ rfl rfl)).trans (x_at p ⟨n.val, by omega⟩ j)

theorem v10_at (n : Fin 8192) (j : Fin 3072) : val_main_v10 (F := Ideal) p (ix2 n j) = ConvSpec.X p (n.val + 14) j := by
  rw [val_main_v10_apply]
  exact (congrArg _ (idx2 _ _ _ rfl rfl)).trans ((x_at p ⟨1 + n.val, by omega⟩ j).trans (congrArg (ConvSpec.X p · j) (by show _ + n.val + 13 = _; omega)))

theorem v15_at (n : Fin 8192) (j : Fin 3072) : val_main_v15 (F := Ideal) p (ix2 n j) = ConvSpec.X p (n.val + 15) j := by
  rw [val_main_v15_apply]
  exact (congrArg _ (idx2 _ _ _ rfl rfl)).trans ((x_at p ⟨2 + n.val, by omega⟩ j).trans (congrArg (ConvSpec.X p · j) (by show _ + n.val + 13 = _; omega)))

theorem v20_at (n : Fin 8192) (j : Fin 3072) : val_main_v20 (F := Ideal) p (ix2 n j) = ConvSpec.X p (n.val + 16) j := by
  rw [val_main_v20_apply]
  exact (congrArg _ (idx2 _ _ _ rfl rfl)).trans ((x_at p ⟨3 + n.val, by omega⟩ j).trans (congrArg (ConvSpec.X p · j) (by show _ + n.val + 13 = _; omega)))

theorem v25_at (n : Fin 8192) (j : Fin 3072) : val_main_v25 (F := Ideal) p w b (ix2 n j) = ConvSpec.pre p w b n.val j := by
  unfold val_main_v25 val_main_v24 val_main_v23 val_main_v22 val_main_v21 val_main_v19 val_main_v18 val_main_v17 val_main_v16 val_main_v14
    val_main_v13 val_main_v12 val_main_v11 val_main_v9 val_main_v8 val_main_v7 val_main_v5
  pointwise []
  rw [v6_at, v10_at, v15_at, v20_at]
  rfl

/-- The gradient at the convolution's output, at a cotangent of real numbers. -/
theorem v27_at (r : ConvSpec.SX.Idx → ℝ) (n : Fin 8192) (j : Fin 3072) :
    val_main_v27 (F := Ideal) p (lift .f32 r) w b (ix2 n j) = ConvSpec.G p (lift .f32 r) w b n.val j := by
  rw [ConvSpec.G_lo, ← v25_at]
  refine Eq.trans ?_ (mul_dsilu _ (r (ix2 n j)))
  unfold val_main_v27 val_main_call1_v2 val_main_call1_v1 val_main_call1_v0 val_main_v26_1 val_main_call0_v7 val_main_call0_v6 val_main_call0_cst_1
    val_main_v26_2 val_main_call0_v4 val_main_call0_cst_0 val_main_call0_v3 val_main_call0_v2 val_main_call0_cst val_main_call0_v1 val_main_call0_v0
  pointwise [ConvSpec.sg, lift]

/-- A row of the gradient times a weight; past the last row it is zero. -/
theorem row_at (r : ConvSpec.SX.Idx → ℝ) (j : Fin 3072) (x : EReal) (q n : ℕ) (e : q = n) (Q : Prop) [Decidable Q]
    (hq : Q ↔ n < 8192) (h8 : Q → q < 8192) :
    (if h : Q then x * val_main_v27 (F := Ideal) p (lift .f32 r) w b (ix2 ⟨q, h8 h⟩ j) else 0) = x * ConvSpec.G p (lift .f32 r) w b n j := by
  subst e
  by_cases h : Q
  · rw [dif_pos h, v27_at]
  · rw [dif_neg h, ConvSpec.G_hi p _ w b (not_lt.mp (mt hq.mpr h)), mul_zero]

/-! ## The results -/

theorem v65_at (r : ConvSpec.SX.Idx → ℝ) (n : Fin 8192) (j : Fin 3072) :
    val_main_v65 (F := Ideal) p (lift .f32 r) w b (ix2 n j) = ConvSpec.dx p (lift .f32 r) w b (ix2 n j) := by
  unfold val_main_v65 val_main_v61 val_main_v60 val_main_v56 val_main_v55 val_main_v52 val_main_v51 val_main_v47 val_main_v46 val_main_v43 val_main_v42 val_main_v38 val_main_v37
    val_main_v35 val_main_v31 val_main_v30 val_main_v19 val_main_v14 val_main_v9 val_main_v5
    val_main_cst_3 val_main_cst_6 val_main_cst_9 val_main_cst_12
  pointwise []
  refine (congrArg₂ (· + ·) (congrArg₂ (· + ·) (congrArg₂ (· + ·) (congrArg (w (ix2 3 j) * ·) (v27_at p w b r n j))
    (row_at p w b r j (w (ix2 2 j)) (3 + n.val - 2) (n.val + 1) (by omega) _ (by omega) (fun h => h.2)))
    (row_at p w b r j (w (ix2 1 j)) (3 + n.val - 1) (n.val + 2) (by omega) _ (by omega) (fun h => h.2)))
    (row_at p w b r j (w (ix2 0 j)) (3 + n.val) (n.val + 3) (by omega) _ (by omega) (fun h => h))).trans ?_
  show _ = w (ix2 0 j) * ConvSpec.G p (lift .f32 r) w b (n.val + 3) j + w (ix2 1 j) * ConvSpec.G p (lift .f32 r) w b (n.val + 2) j
    + w (ix2 2 j) * ConvSpec.G p (lift .f32 r) w b (n.val + 1) j + w (ix2 3 j) * ConvSpec.G p (lift .f32 r) w b n.val j
  generalize w (ix2 0 j) * ConvSpec.G p (lift .f32 r) w b (n.val + 3) j = x0
  generalize w (ix2 1 j) * ConvSpec.G p (lift .f32 r) w b (n.val + 2) j = x1
  generalize w (ix2 2 j) * ConvSpec.G p (lift .f32 r) w b (n.val + 1) j = x2
  generalize w (ix2 3 j) * ConvSpec.G p (lift .f32 r) w b n.val j = x3
  show x3 + x2 + x1 + x0 = x0 + x1 + x2 + x3
  abel

theorem v34_at (r : ConvSpec.SX.Idx → ℝ) (i : Fin 1) (j : Fin 3072) :
    val_main_v34 (F := Ideal) p (lift .f32 r) w b (ix2 i j) = ConvSpec.dw p (lift .f32 r) w b (ix2 3 j) := by
  obtain rfl : i = 0 := Subsingleton.elim _ _
  rw [val_main_v34_apply, val_main_v33_apply]
  refine (congrArg (· + _) (by pointwise [val_main_cst_2] : _ = (0 : EReal))).trans ((zero_add _).trans ?_)
  refine Finset.sum_congr rfl fun n _ => ?_
  rw [idx2 (idx_main_v33 (idx_main_v34 (ix2 0 j)) n) n j rfl (Fin.ext (by show 0 * 3072 + j.val = j.val; omega)), val_main_v32_apply, v27_at, v20_at]
  rfl

theorem v41_at (r : ConvSpec.SX.Idx → ℝ) (i : Fin 1) (j : Fin 3072) :
    val_main_v41 (F := Ideal) p (lift .f32 r) w b (ix2 i j) = ConvSpec.dw p (lift .f32 r) w b (ix2 2 j) := by
  obtain rfl : i = 0 := Subsingleton.elim _ _
  rw [val_main_v41_apply, val_main_v40_apply]
  refine (congrArg (· + _) (by pointwise [val_main_cst_5] : _ = (0 : EReal))).trans ((zero_add _).trans ?_)
  refine Finset.sum_congr rfl fun n _ => ?_
  rw [idx2 (idx_main_v40 (idx_main_v41 (ix2 0 j)) n) n j rfl (Fin.ext (by show 0 * 3072 + j.val = j.val; omega)), val_main_v39_apply, v27_at, v15_at]
  rfl

theorem v50_at (r : ConvSpec.SX.Idx → ℝ) (i : Fin 1) (j : Fin 3072) :
    val_main_v50 (F := Ideal) p (lift .f32 r) w b (ix2 i j) = ConvSpec.dw p (lift .f32 r) w b (ix2 1 j) := by
  obtain rfl : i = 0 := Subsingleton.elim _ _
  rw [val_main_v50_apply, val_main_v49_apply]
  refine (congrArg (· + _) (by pointwise [val_main_cst_8] : _ = (0 : EReal))).trans ((zero_add _).trans ?_)
  refine Finset.sum_congr rfl fun n _ => ?_
  rw [idx2 (idx_main_v49 (idx_main_v50 (ix2 0 j)) n) n j rfl (Fin.ext (by show 0 * 3072 + j.val = j.val; omega)), val_main_v48_apply, v27_at, v10_at]
  rfl

theorem v59_at (r : ConvSpec.SX.Idx → ℝ) (i : Fin 1) (j : Fin 3072) :
    val_main_v59 (F := Ideal) p (lift .f32 r) w b (ix2 i j) = ConvSpec.dw p (lift .f32 r) w b (ix2 0 j) := by
  obtain rfl : i = 0 := Subsingleton.elim _ _
  rw [val_main_v59_apply, val_main_v58_apply]
  refine (congrArg (· + _) (by pointwise [val_main_cst_11] : _ = (0 : EReal))).trans ((zero_add _).trans ?_)
  refine Finset.sum_congr rfl fun n _ => ?_
  rw [idx2 (idx_main_v58 (idx_main_v59 (ix2 0 j)) n) n j rfl (Fin.ext (by show 0 * 3072 + j.val = j.val; omega)), val_main_v57_apply, v27_at, v6_at]
  rfl

theorem v63_at (r : ConvSpec.SX.Idx → ℝ) (k : Fin 4) (j : Fin 3072) :
    val_main_v63 (F := Ideal) p (lift .f32 r) w b (ix2 k j) = ConvSpec.dw p (lift .f32 r) w b (ix2 k j) := by
  unfold val_main_v63 val_main_v62 val_main_v54 val_main_v53 val_main_v45 val_main_v44 val_main_v36 val_main_cst_4 val_main_cst_7 val_main_cst_10 val_main_cst_13
  pointwise []
  simp only [v34_at, v41_at, v50_at, v59_at]
  fin_cases k <;> simp

theorem v29_at (r : ConvSpec.SX.Idx → ℝ) (j : Fin 3072) :
    val_main_v29 (F := Ideal) p (lift .f32 r) w b (ix2 0 j) = ConvSpec.db p (lift .f32 r) w b (ix2 0 j) := by
  rw [val_main_v29_apply, val_main_v28_apply]
  refine (congrArg (· + _) (by pointwise [val_main_cst_1] : _ = (0 : EReal))).trans ((zero_add _).trans ?_)
  refine Finset.sum_congr rfl fun n _ => ?_
  exact (congrArg _ (idx2 _ n j rfl (Fin.ext (by show 0 * 3072 + j.val = j.val; omega)))).trans (v27_at p w b r n j)

theorem ref_dx (r : ConvSpec.SX.Idx → ℝ) : val_main_v66 (F := Ideal) p (lift .f32 r) w b = ConvSpec.dx p (lift .f32 r) w b := by
  funext y
  rw [idx2 y (y 0) (y 1) rfl rfl]
  exact v65_at p w b r (y 0) (y 1)

theorem ref_dw (r : ConvSpec.SX.Idx → ℝ) : val_main_v63 (F := Ideal) p (lift .f32 r) w b = ConvSpec.dw p (lift .f32 r) w b := by
  funext y
  rw [idx2 y (y 0) (y 1) rfl rfl]
  exact v63_at p w b r (y 0) (y 1)

theorem ref_db (r : ConvSpec.SX.Idx → ℝ) : val_main_v29 (F := Ideal) p (lift .f32 r) w b = ConvSpec.db p (lift .f32 r) w b := by
  funext y
  rw [idx2 y 0 (y 1) (Subsingleton.elim (α := Fin 1) _ _) rfl]
  exact v29_at p w b r (y 1)

end

end Cert.ConvRefIdeal.ConvRef
-- ==== Proof.ConvClaim.lean ====
/-
  The value claim of the convolution's gradient: at a cotangent without infinities, the call's three results are the reference's.
-/
module

public import proofs.«01_k».proof.Defs
public import proofs.«01_k».proof.Proof.ConvArrays
public import proofs.«01_k».proof.Proof.ConvRef
public import proofs.«01_k».proof.Proof.TailPre
public import proofs.«01_k».proof.Proof.Gen.Pre_conv_finite
public import proofs.«01_k».proof.Proof.Gen.ConvIdeal.Value
public import proofs.«01_k».proof.Proof.Gen.ConvRefIdeal.Run

@[expose] public section

noncomputable section

namespace Cert.ConvIdeal.ConvClaim

open Idealize.ShloMosaic Idealize.ShloMosaic.StableHlo Idealize.SL.Sem Cert.ConvIdeal.ConvArrays Cert.RealLift
open Cert.ConvRefIdeal.ConvRef (ref_dx ref_dw ref_db)
open Cert.KernelIdeal.TailPre (lt_of_cmp)

/-- Where the precondition holds, the cotangent is an array of real numbers. -/
theorem holds [hp : Cert.Pre_conv_finite.Facts] {m : (ℓ : Loc nD τ sig) → Buf (Elt Ideal) ℓ} (h : Cert.Pre_ConvIdeal_conv_finite m) (c : Dev nD) :
    C m c = lift .f32 fun i => (C m c i : EReal).toReal :=
  eq_lift_of_lt_top (φ := .f32) _ fun i => lt_of_lt_of_eq (lt_of_cmp (congrFun (h c) i)) c_inf

set_option maxHeartbeats 2000000 in
/-- The value claim of the convolution's gradient: the call's results are the reference's. -/
theorem algebraic : Cert.algebraic_ConvIdeal_ConvRefIdeal_pre_conv_finite (hConvIdeal := Cert.ConvIdeal.Gen.facts)
    (hConvRefIdeal := Cert.ConvRefIdeal.Gen.facts) (hPre_conv_finite := Cert.Pre_conv_finite.Gen.facts) := by
  pair_intro
  · exact Cert.ConvIdeal.Value.run_blocks m g
  · refine (θ_run _ _ _).mono (fun r h c => ?_) (Cert.ConvRefIdeal.Value.run m' g')
    have H := holds (hp := Cert.Pre_conv_finite.Gen.facts) hpre c
    obtain ⟨a0, a1, a2, a3⟩ := hagree c
    obtain ⟨r66, r63, r29, args⟩ := h c
    have e1 := a1.trans H
    refine ⟨r66.trans ?_, r63.trans ?_, r29.trans ?_, args⟩
    · refine (Cert.ConvRefIdeal.Read.val_main_v66_eq m' c).trans ?_
      rw [a0, e1, a2, a3]
      exact (ref_dx _ _ _ _).trans ((congrArg (ConvSpec.dx (P m c) · (Wt m c) (B m c)) H.symm).trans (final7 m c).symm)
    · refine (Cert.ConvRefIdeal.Read.val_main_v63_eq m' c).trans ?_
      rw [a0, e1, a2, a3]
      exact (ref_dw _ _ _ _).trans ((congrArg (ConvSpec.dw (P m c) · (Wt m c) (B m c)) H.symm).trans (final8 m c).symm)
    · refine (Cert.ConvRefIdeal.Read.val_main_v29_eq m' c).trans ?_
      rw [a0, e1, a2, a3]
      exact (ref_db _ _ _ _).trans ((congrArg (ConvSpec.db (P m c) · (Wt m c) (B m c)) H.symm).trans (final9 m c).symm)

/-- The reference leaves its arguments unchanged, and it has no semaphores. -/
theorem reference_frame (m : (ℓ : Loc Cert.ConvRefIdeal.nD Cert.ConvRefIdeal.τ Cert.ConvRefIdeal.sig) → Buf (Elt Ideal) ℓ)
    (ρ : Dev Cert.ConvRefIdeal.nD → PrngReg) :
    θ_run (Cert.ConvRefIdeal.defs (F := Ideal)) (onTc (τ := Cert.ConvRefIdeal.τ) (Cert.ConvRefIdeal.main (F := Ideal))) ⟨m, fun _ => 0, ρ⟩
      fun r => (∀ c : Dev Cert.ConvRefIdeal.nD,
        r.2.mem ((c.tc : Thread Cert.ConvRefIdeal.nD Cert.ConvRefIdeal.τ).loc Cert.ConvRefIdeal.main_arg0)
          = m ((c.tc : Thread Cert.ConvRefIdeal.nD Cert.ConvRefIdeal.τ).loc Cert.ConvRefIdeal.main_arg0)
        ∧ r.2.mem ((c.tc : Thread Cert.ConvRefIdeal.nD Cert.ConvRefIdeal.τ).loc Cert.ConvRefIdeal.main_arg1)
          = m ((c.tc : Thread Cert.ConvRefIdeal.nD Cert.ConvRefIdeal.τ).loc Cert.ConvRefIdeal.main_arg1)
        ∧ r.2.mem ((c.tc : Thread Cert.ConvRefIdeal.nD Cert.ConvRefIdeal.τ).loc Cert.ConvRefIdeal.main_arg2)
          = m ((c.tc : Thread Cert.ConvRefIdeal.nD Cert.ConvRefIdeal.τ).loc Cert.ConvRefIdeal.main_arg2)
        ∧ r.2.mem ((c.tc : Thread Cert.ConvRefIdeal.nD Cert.ConvRefIdeal.τ).loc Cert.ConvRefIdeal.main_arg3)
          = m ((c.tc : Thread Cert.ConvRefIdeal.nD Cert.ConvRefIdeal.τ).loc Cert.ConvRefIdeal.main_arg3)
       ) ∧ r.2.sem = fun _ => 0 :=
  (θ_run _ _ _).mono (fun r h => ⟨fun c => (h c).2.2.2, sem_eq_zero_of_no_sems rfl _⟩)
    (Cert.ConvRefIdeal.Value.run m ρ)

end Cert.ConvIdeal.ConvClaim

end
-- ==== Proof.Logistic.lean ====
module
public import proofs.«01_k».proof.Proof.ConvSpec
public import proofs.«01_k».proof.Proof.RealLift

/-! # The logistic function by the hyperbolic tangent

The kernel computes the logistic function as half of one plus the hyperbolic tangent of half its argument. On the real
numbers the two are equal; at the infinities both are zero and one. -/

@[expose] public section

namespace Cert.Logistic

open Idealize.ShloMosaic Cert.RealLift

noncomputable section

theorem sg_bot : ConvSpec.sg ⊥ = 0 := by
  unfold ConvSpec.sg Ideal.div
  have h : (1 : EReal) + ⊤ = ⊤ := by rw [rone]; exact EReal.coe_add_top 1
  simp [h]

theorem sg_top : ConvSpec.sg ⊤ = 1 := by
  unfold ConvSpec.sg Ideal.div
  simp

theorem sg_coe (x : ℝ) : ConvSpec.sg (x : EReal) = ((sg x : ℝ) : EReal) := by
  unfold ConvSpec.sg
  rw [rneg, Ideal.exp_coe, rone, radd]
  exact rsg x

/-- The logistic function, as the kernel computes it. -/
def sgt (x : EReal) : EReal :=
  Ideal.ofBits .f32 0x3F000000#32 * Ideal.tanh (Ideal.ofBits .f32 0x3F000000#32 * x) + Ideal.ofBits .f32 0x3F000000#32

theorem sgt_eq (x : EReal) : sgt x = ConvSpec.sg x := by
  unfold sgt
  rw [c_half]
  have hp : (0 : ℝ) < 1 / 2 := by norm_num
  induction x with
  | bot =>
    rw [sg_bot, EReal.coe_mul_bot_of_pos hp, Ideal.tanh_bot]
    have e : (-1 : EReal) = ((-1 : ℝ) : EReal) := rfl
    rw [e, rmul, radd]
    have : (1 / 2 * (-1) + 1 / 2 : ℝ) = 0 := by norm_num
    rw [this]; rfl
  | top =>
    rw [sg_top, EReal.coe_mul_top_of_pos hp, Ideal.tanh_top, rone, rmul, radd]
    have : (1 / 2 * 1 + 1 / 2 : ℝ) = 1 := by norm_num
    rw [this]
  | coe x =>
    rw [sg_coe, rmul, Ideal.tanh_coe, rmul, radd, sg_tanh]

theorem one_sub_one : (1 : EReal) - 1 = 0 := by
  show ((1 : ℝ) : EReal) - ((1 : ℝ) : EReal) = 0
  rw [rsub, sub_self]; rfl

/-- The derivative of `silu`, as the kernel computes it. -/
theorem dsilu_eq (x : EReal) : ConvSpec.sg x * (1 + x * (1 - ConvSpec.sg x)) = ConvSpec.dsilu x := by
  unfold ConvSpec.dsilu
  induction x with
  | bot => rw [sg_bot]; simp
  | top => rw [sg_top, one_sub_one]; simp
  | coe x =>
    rw [sg_coe, rone]
    simp only [rmul, rsub, radd]
    congr 1
    ring

end

end Cert.Logistic
-- ==== Proof.ConvFwdBlock.lean ====
module
public import proofs.«01_k».proof.Proof.Gen.ConvFwdIdeal.Value
public import proofs.«01_k».proof.Proof.Logistic
public import Idealize.ShloMosaic.Lib.Pipeline.ValueKit
public import Idealize.ShloMosaic.Lib.Pointwise
public import Idealize.ShloMosaic.Lib.WritesUnit

/-! # One block of the convolution

The kernel goes through a block of 1024 rows in 32 chunks of 32. A chunk looks back at the input through a window that
starts sixteen rows earlier, takes the four products with the rows of weights, and applies `silu`; it stores the
derivative of `silu` beside it. -/

@[expose] public section

set_option maxRecDepth 65536
set_option maxHeartbeats 4000000

namespace Cert.ConvFwdIdeal.ConvFwdBlock

open Cert.ConvFwdIdeal Cert.ConvFwdIdeal.Gen Idealize.ShloMosaic Idealize.ShloMosaic.TcCoe

noncomputable section

variable (i : grid0.Coords) (x0 : Vec Ideal S1024x1024 .bf16) (x1 : Vec Ideal S16x1024 .bf16) (x2 : Vec Ideal S4x1024 .f32)
  (x3 : Vec Ideal S1x1024 .f32)

/-- The input's rows: the sixteen before the block, nothing at the start of the sequence, and then the block's. -/
def Xe (n : ℕ) (j : Fin 1024) : EReal :=
  if n < 16 then (if (i 1).val = 0 then 0 else x1 (ix2 (Fin.ofNat 16 n) j)) else x0 (ix2 (Fin.ofNat 1024 (n - 16)) j)

/-- The convolution's output at a block's row. -/
def preE (n : ℕ) (j : Fin 1024) : EReal :=
  x3 (ix2 0 j) + x2 (ix2 0 j) * Xe i x0 x1 (n + 13) j + x2 (ix2 1 j) * Xe i x0 x1 (n + 14) j + x2 (ix2 2 j) * Xe i x0 x1 (n + 15) j
    + x2 (ix2 3 j) * Xe i x0 x1 (n + 16) j

theorem inb48 {o : ℕ} (h : o + 48 ≤ 1024) : ∀ a, (![o, 0] : Fin 2 → ℕ) a + (![48, 1024] : Fin 2 → ℕ) a ≤ S1024x1024.size a := by
  intro a; fin_cases a
  · exact h
  · exact le_refl 1024

/-- A chunk's window on the input. -/
def W : ℕ → FVec Ideal S48x1024 .f32
  | 0 => concatenate S48x1024 0 [⟨S16x1024, Scalar.select (Scalar.cmpi .eq (BitVec.ofNat 32 (i 1).val) 0#32)
      (broadcast S16x1024 (Scalar.ofBits .f32 0x00000000#32)) (extf .f32 x1 bitsLt_bf16_f32)⟩,
      ⟨S32x1024, extf .f32 (View.ld x0 (Rect.unit ![0, 0] ![32, 1024] inb_S1024x1024_S32x1024_0_0)) bitsLt_bf16_f32⟩]
      concatenates_S16x1024_S32x1024_S48x1024_d0
  | r + 1 => if h : (32 * r + 16) + 48 ≤ 1024 then extf .f32 (View.ld x0 (Rect.unit ![32 * r + 16, 0] ![48, 1024] (inb48 h))) bitsLt_bf16_f32
    else broadcast S48x1024 (Scalar.ofBits .f32 0x00000000#32)

/-- The convolution on a window. -/
def acc (w : FVec Ideal S48x1024 .f32) : FVec Ideal S32x1024 .f32 :=
  addf (addf (addf (addf (broadcastTo S32x1024 x3 broadcasts_S1x1024_S32x1024)
    (mulf (broadcastTo S32x1024 (extractStridedSlice S1x1024 ![0, 0] x2 slices_S4x1024_o0_0_S1x1024) broadcasts_S1x1024_S32x1024)
      (extractStridedSlice S32x1024 ![13, 0] w slices_S48x1024_o13_0_S32x1024)))
    (mulf (broadcastTo S32x1024 (extractStridedSlice S1x1024 ![1, 0] x2 slices_S4x1024_o1_0_S1x1024) broadcasts_S1x1024_S32x1024)
      (extractStridedSlice S32x1024 ![14, 0] w slices_S48x1024_o14_0_S32x1024)))
    (mulf (broadcastTo S32x1024 (extractStridedSlice S1x1024 ![2, 0] x2 slices_S4x1024_o2_0_S1x1024) broadcasts_S1x1024_S32x1024)
      (extractStridedSlice S32x1024 ![15, 0] w slices_S48x1024_o15_0_S32x1024)))
    (mulf (broadcastTo S32x1024 (extractStridedSlice S1x1024 ![3, 0] x2 slices_S4x1024_o3_0_S1x1024) broadcasts_S1x1024_S32x1024)
      (extractStridedSlice S32x1024 ![16, 0] w slices_S48x1024_o16_0_S32x1024))

/-- The logistic function of a chunk. -/
def sgv (a : FVec Ideal S32x1024 .f32) : FVec Ideal S32x1024 .f32 :=
  addf (mulf (broadcast S32x1024 (Scalar.ofBits .f32 0x3F000000#32)) (tanh (mulf (broadcast S32x1024 (Scalar.ofBits .f32 0x3F000000#32)) a)))
    (broadcast S32x1024 (Scalar.ofBits .f32 0x3F000000#32))

/-- A chunk of the first result. -/
def act (a : FVec Ideal S32x1024 .f32) : FVec Ideal S32x1024 .f32 := mulf a (sgv a)

/-- A chunk of the second result. -/
def dsl (a : FVec Ideal S32x1024 .f32) : FVec Ideal S32x1024 .bf16 :=
  truncf .bf16 (mulf (sgv a) (addf (broadcast S32x1024 (Scalar.ofBits .f32 0x3F800000#32))
    (mulf a (subf (broadcast S32x1024 (Scalar.ofBits .f32 0x3F800000#32)) (sgv a))))) bitsLt_bf16_f32

theorem inbT (r : Fin 32) : ∀ a, (![32 * r.val, 0] : Fin 2 → ℕ) a + (![32, 1024] : Fin 2 → ℕ) a ≤ S1024x1024.size a := by
  intro a; fin_cases a
  · show 32 * r.val + 32 ≤ 1024; omega
  · exact le_refl 1024

/-- The first result's rows of one block. -/
def out4 (v : View sig .tc .vmem S1024x1024 .f32) (f : v.ty.Contents (Elt Ideal)) : Vec Ideal S1024x1024 .f32 :=
  v.read (Elt Ideal) (v.writes (Elt Ideal) f (View.tilePieces ![32, 1024] (fun r : Fin 32 => ![32 * r.val, 0]) inbT
    (fun r => act (acc x2 x3 (W i x0 x1 r.val))) 32 (le_refl 32)))

/-- The second result's rows of one block. -/
def out5 (v : View sig .tc .vmem S1024x1024 .bf16) (f : v.ty.Contents (Elt Ideal)) : Vec Ideal S1024x1024 .bf16 :=
  v.read (Elt Ideal) (v.writes (Elt Ideal) f (View.tilePieces ![32, 1024] (fun r : Fin 32 => ![32 * r.val, 0]) inbT
    (fun r => dsl (acc x2 x3 (W i x0 x1 r.val))) 32 (le_refl 32)))

theorem out_A_4 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) :
    out0_A_4 c i arg2 harg2 arg3 harg3 arg4 harg4 arg5 harg5 arg6 harg6 arg7 harg7 x0 x1 x2 x3 = out4 i x0 x1 x2 x3 VO0_4 VO0_4.junk := by
  frame_out
  rfl

theorem out_A_5 (c : Dev nD) (i : grid0.Coords) (arg2 : Memref sig .tc .vmem S1024x1024 .bf16) (harg2 : arg2.IsWhole) (arg3 : Memref sig .tc .vmem S16x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) :
    out0_A_5 c i arg2 harg2 arg3 harg3 arg4 harg4 arg5 harg5 arg6 harg6 arg7 harg7 x0 x1 x2 x3 = out5 i x0 x1 x2 x3 VO0_5 VO0_5.junk := by
  frame_out
  rfl

theorem select_first (k : Fin 8) (a b : EReal) :
    Scalar.select (Scalar.cmpi .eq (BitVec.ofNat 32 k.val) 0#32) a b = if k.val = 0 then a else b := by
  fin_cases k <;> rfl

theorem ofNat_eq (n : ℕ) [NeZero n] (k : ℕ) (h : k < n) : Fin.ofNat n k = ⟨k, h⟩ := Fin.ext (Nat.mod_eq_of_lt h)

theorem W_zero_at (a : Fin 48) (j : Fin 1024) : W i x0 x1 0 (ix2 a j) = Xe i x0 x1 a.val j := by
  pointwise [W]
  unfold Xe
  by_cases h : a.val < 16
  · rw [dif_pos h, if_pos h, ofNat_eq 16 a.val h]
    exact select_first (i 1) _ _
  · rw [dif_neg h, if_neg h, ofNat_eq 1024 (a.val - 16) (by omega)]

theorem W_succ_at (r : ℕ) (h : (32 * r + 16) + 48 ≤ 1024) (a : Fin 48) (j : Fin 1024) :
    W i x0 x1 (r + 1) (ix2 a j) = Xe i x0 x1 (32 * (r + 1) + a.val) j := by
  have e : W i x0 x1 (r + 1) = extf .f32 (View.ld x0 (Rect.unit ![32 * r + 16, 0] ![48, 1024] (inb48 h))) bitsLt_bf16_f32 := dif_pos h
  rw [e]
  pointwise []
  unfold Xe
  rw [if_neg (by omega), ofNat_eq 1024 _ (by omega : 32 * (r + 1) + a.val - 16 < 1024)]
  exact congrArg (fun k => x0 (ix2 k j)) (Fin.ext (by show 32 * r + 16 + a.val = 32 * (r + 1) + a.val - 16; omega))

theorem W_at (r : ℕ) (h : r < 32) (a : Fin 48) (j : Fin 1024) : W i x0 x1 r (ix2 a j) = Xe i x0 x1 (32 * r + a.val) j := by
  cases r with
  | zero => rw [W_zero_at, Nat.mul_zero, Nat.zero_add]
  | succ r => exact W_succ_at i x0 x1 r (by omega) a j

theorem acc_at (r : ℕ) (h : r < 32) (a : Fin 32) (j : Fin 1024) :
    acc x2 x3 (W i x0 x1 r) (ix2 a j) = preE i x0 x1 x2 x3 (32 * r + a.val) j := by
  have e : acc x2 x3 (W i x0 x1 r) (ix2 a j)
      = x3 (ix2 0 j) + x2 (ix2 0 j) * W i x0 x1 r (ix2 ⟨13 + a.val, by omega⟩ j) + x2 (ix2 1 j) * W i x0 x1 r (ix2 ⟨14 + a.val, by omega⟩ j)
        + x2 (ix2 2 j) * W i x0 x1 r (ix2 ⟨15 + a.val, by omega⟩ j) + x2 (ix2 3 j) * W i x0 x1 r (ix2 ⟨16 + a.val, by omega⟩ j) := by
    generalize W i x0 x1 r = w
    pointwise [acc]
  rw [e, W_at i x0 x1 r h, W_at i x0 x1 r h, W_at i x0 x1 r h, W_at i x0 x1 r h]
  unfold preE
  dsimp only
  rw [show 32 * r + (13 + a.val) = 32 * r + a.val + 13 by omega, show 32 * r + (14 + a.val) = 32 * r + a.val + 14 by omega,
    show 32 * r + (15 + a.val) = 32 * r + a.val + 15 by omega, show 32 * r + (16 + a.val) = 32 * r + a.val + 16 by omega]

theorem act_at (x : FVec Ideal S32x1024 .f32) (a : Fin 32) (j : Fin 1024) :
    act x (ix2 a j) = x (ix2 a j) * ConvSpec.sg (x (ix2 a j)) := by
  refine Eq.trans ?_ (congrArg (_ * ·) (Logistic.sgt_eq _))
  pointwise [act, sgv, Logistic.sgt]

theorem dsl_at (x : FVec Ideal S32x1024 .f32) (a : Fin 32) (j : Fin 1024) :
    dsl x (ix2 a j) = ConvSpec.dsilu (x (ix2 a j)) := by
  refine Eq.trans ?_ (Logistic.dsilu_eq _)
  rw [← Logistic.sgt_eq]
  pointwise [dsl, sgv, Logistic.sgt]

theorem out4_at (v : View sig .tc .vmem S1024x1024 .f32) (f : v.ty.Contents (Elt Ideal)) (n : Fin 1024) (j : Fin 1024) :
    out4 i x0 x1 x2 x3 v f (ix2 n j) = preE i x0 x1 x2 x3 n.val j * ConvSpec.sg (preE i x0 x1 x2 x3 n.val j) := by
  have hn := n.isLt
  have hdm := Nat.div_add_mod n.val 32
  have hm := Nat.mod_lt n.val (by decide : 32 > 0)
  unfold out4
  rw [View.read_tilePieces v f ![32, 1024] _ inbT _ 32 (le_refl 32) (ix2 n j) ⟨n.val / 32, by omega⟩ (by show n.val / 32 < 32; omega)
    (ix2 ⟨n.val % 32, hm⟩ j) (by
      intro a; fin_cases a
      · show n.val = 32 * (n.val / 32) + n.val % 32; omega
      · show j.val = 0 + j.val; omega) 0 (by
      intro q hq
      have hq' : q.val ≠ n.val / 32 := fun h => hq (Fin.ext h)
      show n.val < 32 * q.val ∨ 32 * q.val + 32 ≤ n.val
      omega)]
  refine (act_at _ ⟨n.val % 32, hm⟩ j).trans ?_
  rw [acc_at i x0 x1 x2 x3 _ (by show n.val / 32 < 32; omega)]
  dsimp only
  rw [hdm]

theorem out5_at (v : View sig .tc .vmem S1024x1024 .bf16) (f : v.ty.Contents (Elt Ideal)) (n : Fin 1024) (j : Fin 1024) :
    out5 i x0 x1 x2 x3 v f (ix2 n j) = ConvSpec.dsilu (preE i x0 x1 x2 x3 n.val j) := by
  have hn := n.isLt
  have hdm := Nat.div_add_mod n.val 32
  have hm := Nat.mod_lt n.val (by decide : 32 > 0)
  unfold out5
  rw [View.read_tilePieces v f ![32, 1024] _ inbT _ 32 (le_refl 32) (ix2 n j) ⟨n.val / 32, by omega⟩ (by show n.val / 32 < 32; omega)
    (ix2 ⟨n.val % 32, hm⟩ j) (by
      intro a; fin_cases a
      · show n.val = 32 * (n.val / 32) + n.val % 32; omega
      · show j.val = 0 + j.val; omega) 0 (by
      intro q hq
      have hq' : q.val ≠ n.val / 32 := fun h => hq (Fin.ext h)
      show n.val < 32 * q.val ∨ 32 * q.val + 32 ≤ n.val
      omega)]
  refine (dsl_at _ ⟨n.val % 32, hm⟩ j).trans ?_
  rw [acc_at i x0 x1 x2 x3 _ (by show n.val / 32 < 32; omega)]
  dsimp only
  rw [hdm]

end

end Cert.ConvFwdIdeal.ConvFwdBlock
-- ==== Proof.ConvFwdArrays.lean ====
module
public import proofs.«01_k».proof.Proof.ConvFwdBlock
public import Idealize.ShloMosaic.Lib.Claim

/-! # The convolution's arrays after the run -/

@[expose] public section

set_option maxRecDepth 65536
set_option maxHeartbeats 4000000

namespace Cert.ConvFwdIdeal.ConvFwdArrays

open Cert.ConvFwdIdeal Cert.ConvFwdIdeal.Gen Idealize.ShloMosaic Idealize.ShloMosaic.TcCoe
open Cert.ConvFwdIdeal.ConvFwdBlock (Xe preE ofNat_eq)

noncomputable section

variable (m : (ℓ : Loc nD τ sig) → Buf (Elt Ideal) ℓ)

/-- The arguments at launch. -/
abbrev P (c : Dev nD) : Vec Ideal ConvSpec.SP .bf16 := m ((c : Thread nD τ).loc main_arg0)
abbrev Wt (c : Dev nD) : Vec Ideal ConvSpec.SW .f32 := m ((c : Thread nD τ).loc main_arg1)
abbrev B (c : Dev nD) : Vec Ideal ConvSpec.SB .f32 := m ((c : Thread nD τ).loc main_arg2)

/-- The activation: `silu` of the convolution. -/
def actOf (p : Vec Ideal ConvSpec.SP .bf16) (w : Vec Ideal ConvSpec.SW .f32) (b : Vec Ideal ConvSpec.SB .f32) : Vec Ideal ConvSpec.SX .f32 :=
  fun y => ConvSpec.pre p w b (y 0).val (y 1) * ConvSpec.sg (ConvSpec.pre p w b (y 0).val (y 1))

/-- The saved derivative of `silu`. -/
def dslOf (p : Vec Ideal ConvSpec.SP .bf16) (w : Vec Ideal ConvSpec.SW .f32) (b : Vec Ideal ConvSpec.SB .f32) : Vec Ideal ConvSpec.SX .bf16 :=
  fun y => ConvSpec.dsilu (ConvSpec.pre p w b (y 0).val (y 1))

theorem coord (t : Fin cfg0.N) : (grid0.coords t 1).val = t.val % 8 :=
  (by decide +kernel : ∀ t : Fin grid0.N, (grid0.coords t 1).val = t.val % 8) t

theorem idx : ∀ t : Fin cfg0.N, win0_0.index t = ![t.val % 8, 6 + t.val / 8] ∧ win0_1.index t = ![64 * (t.val % 8) - 1, 6 + t.val / 8]
    ∧ win0_2.index t = ![0, t.val / 8] ∧ win0_3.index t = ![0, t.val / 8] ∧ win0_4.index t = ![t.val % 8, t.val / 8]
    ∧ win0_5.index t = ![t.val % 8, t.val / 8] := (by decide +kernel : ∀ t : Fin grid0.N, _)

theorem lt24 (t : Fin cfg0.N) : t.val < 24 := lt_of_lt_of_eq t.isLt N_0

/-- The array's column of a block's column. -/
def col (t : Fin cfg0.N) (j : Fin 1024) : Fin 3072 := ⟨1024 * (t.val / 8) + j.val, by have := lt24 t; omega⟩

theorem in0 (c : Dev nD) (t : Fin cfg0.N) (a : Fin 1024) (j : Fin 1024) (n : Fin 8192) (hn : n.val = 1024 * (t.val % 8) + a.val) :
    X0_0 m c t (ix2 a j) = P m c (ix2 n ⟨6144 + (col t j).val, by omega⟩) := by
  unfold X0_0 Pipeline.Window.fill
  rw [dif_pos (moved0_0 t (ix2 a j))]
  blk_simp [iblk, V, idx t]
  refine (congrFun (V_main_arg0 m c) _).trans (congrArg (P m c) ?_)
  blk_ext [iblk, V, idx t]
  dsimp only [col]; omega

theorem in1 (c : Dev nD) (t : Fin cfg0.N) (a : Fin 16) (j : Fin 1024) (n : Fin 8192) (hn : n.val = 16 * (64 * (t.val % 8) - 1) + a.val) :
    X0_1 m c t (ix2 a j) = P m c (ix2 n ⟨6144 + (col t j).val, by omega⟩) := by
  unfold X0_1 Pipeline.Window.fill
  rw [dif_pos (moved0_1 t (ix2 a j))]
  blk_simp [iblk, V, idx t]
  refine (congrFun (V_main_arg0 m c) _).trans (congrArg (P m c) ?_)
  blk_ext [iblk, V, idx t]
  dsimp only [col]; omega

theorem in2 (c : Dev nD) (t : Fin cfg0.N) (a : Fin 4) (j : Fin 1024) :
    iblk m c 2 t (ix2 a j) = Wt m c (ix2 a (col t j)) := by
  blk_simp [iblk, V, idx t]
  refine (congrFun (V_main_arg1 m c) _).trans (congrArg (Wt m c) ?_)
  blk_ext [iblk, V, idx t]
  dsimp only [col]; omega

theorem in3 (c : Dev nD) (t : Fin cfg0.N) (a : Fin 1) (j : Fin 1024) :
    iblk m c 3 t (ix2 a j) = B m c (ix2 a (col t j)) := by
  blk_simp [iblk, V, idx t]
  refine (congrFun (V_main_arg2 m c) _).trans (congrArg (B m c) ?_)
  blk_ext [iblk, V, idx t]
  dsimp only [col]; omega

/-- A block's rows of the input, with those before it, are the array's. -/
theorem xe (c : Dev nD) (t : Fin cfg0.N) (n : ℕ) (hn : n < 1040) (j : Fin 1024) :
    Xe (grid0.coords t) (X0_0 m c t) (X0_1 m c t) n j = ConvSpec.X (P m c) (1024 * (t.val % 8) + n) (col t j) := by
  unfold Xe ConvSpec.X
  rw [coord t]
  by_cases h : n < 16
  · rw [if_pos h]
    by_cases hi : t.val % 8 = 0
    · rw [if_pos hi, if_pos (by omega)]
    · rw [if_neg hi, if_neg (by omega)]
      refine in1 m c t _ j _ ?_
      rw [ofNat_eq 8192 (1024 * (t.val % 8) + n - 16) (by omega), ofNat_eq 16 n h]
      show 1024 * (t.val % 8) + n - 16 = 16 * (64 * (t.val % 8) - 1) + n
      omega
  · rw [if_neg h, if_neg (by omega)]
    refine in0 m c t _ j _ ?_
    rw [ofNat_eq 8192 (1024 * (t.val % 8) + n - 16) (by omega), ofNat_eq 1024 (n - 16) (by omega)]
    show 1024 * (t.val % 8) + n - 16 = 1024 * (t.val % 8) + (n - 16)
    omega

theorem sum5 (b x y z u : EReal) : b + x + y + z + u = x + y + z + u + b := by abel

/-- A block's rows of the convolution's output are the array's. The kernel begins its sum with the bias. -/
theorem pree (c : Dev nD) (t : Fin cfg0.N) (a : Fin 1024) (j : Fin 1024) :
    preE (grid0.coords t) (X0_0 m c t) (X0_1 m c t) (iblk m c 2 t) (iblk m c 3 t) a.val j
      = ConvSpec.pre (P m c) (Wt m c) (B m c) (1024 * (t.val % 8) + a.val) (col t j) := by
  unfold preE
  rw [xe m c t _ (by omega), xe m c t _ (by omega), xe m c t _ (by omega), xe m c t _ (by omega), in2, in2, in2, in2, in3]
  unfold ConvSpec.pre
  simp only [Nat.add_assoc]
  exact sum5 _ _ _ _ _

theorem final4 (c : Dev nD) : (dats m 0 c).arrAt 4 cfg0.N = actOf (P m c) (Wt m c) (B m c) := by
  refine (dats m 0 c).arrAt_eq_of_covers 4 _ (by decide +kernel) fun t hf y => ?_
  blk_simp
  rw [after0_4]
  have e : (outsAt0 m c t).1
      = ConvFwdBlock.out4 (grid0.coords t) (X0_0 m c t) (X0_1 m c t) (iblk m c 2 t) (iblk m c 3 t) VO0_4 VO0_4.junk := by
    dsimp only [outsAt0]; rw [ConvFwdBlock.out_A_4]
  rw [e]
  idx_vars y
  have ht := lt24 t
  refine (ConvFwdBlock.out4_at _ _ _ _ _ _ _ y0 y1).trans ?_
  rw [pree]
  refine Eq.trans ?_ (congrArg (actOf (P m c) (Wt m c) (B m c)) (?_ : ix2 ⟨1024 * (t.val % 8) + y0.val, by omega⟩ (col t y1) = _))
  · rfl
  · blk_ext [idx t]
    dsimp only [col]; omega

theorem final5 (c : Dev nD) : (dats m 0 c).arrAt 5 cfg0.N = dslOf (P m c) (Wt m c) (B m c) := by
  refine (dats m 0 c).arrAt_eq_of_covers 5 _ (by decide +kernel) fun t hf y => ?_
  blk_simp
  rw [after0_5]
  have e : (outsAt0 m c t).2
      = ConvFwdBlock.out5 (grid0.coords t) (X0_0 m c t) (X0_1 m c t) (iblk m c 2 t) (iblk m c 3 t) VO0_5 VO0_5.junk := by
    dsimp only [outsAt0]; rw [ConvFwdBlock.out_A_5]
  rw [e]
  idx_vars y
  have ht := lt24 t
  refine (ConvFwdBlock.out5_at _ _ _ _ _ _ _ y0 y1).trans ?_
  rw [pree]
  refine Eq.trans ?_ (congrArg (dslOf (P m c) (Wt m c) (B m c)) (?_ : ix2 ⟨1024 * (t.val % 8) + y0.val, by omega⟩ (col t y1) = _))
  · rfl
  · blk_ext [idx t]
    dsimp only [col]; omega

end

end Cert.ConvFwdIdeal.ConvFwdArrays
-- ==== Proof.ConvFwdClaim.lean ====
/-
  The value claim of the convolution: the activation and the saved derivative of `silu` are the reference's.
-/
module

public import proofs.«01_k».proof.Defs
public import proofs.«01_k».proof.Proof.ConvFwdArrays
public import proofs.«01_k».proof.Proof.Gen.ConvFwdIdeal.Value
public import proofs.«01_k».proof.Proof.Gen.ConvFwdRefIdeal.Run
public import proofs.«01_k».proof.Proof.Gen.ConvFwdRefIdeal.Read

@[expose] public section

set_option maxRecDepth 16384

noncomputable section

namespace Cert.ConvFwdRefIdeal.ConvFwdRef

open Cert.ConvFwdRefIdeal Cert.ConvFwdRefIdeal.Gen Cert.ConvFwdRefIdeal.Read Idealize.ShloMosaic
open Cert.ConvFwdIdeal.ConvFwdArrays (actOf dslOf)

variable (p : Vec Ideal ConvSpec.SP .bf16) (w : Vec Ideal ConvSpec.SW .f32) (b : Vec Ideal ConvSpec.SB .f32)

theorem idx2 {a b : ℕ} (x : (⟨2, ![a, b]⟩ : Shape).Idx) (r : Fin a) (c : Fin b) (h0 : x 0 = r) (h1 : x 1 = c) : x = ix2 r c := by
  subst h0 h1
  funext q
  fin_cases q <;> rfl

/-- The reference's padded input. -/
theorem x_at (r : Fin 8195) (j : Fin 3072) : val_main_v3 (F := Ideal) p (ix2 r j) = ConvSpec.X p (r.val + 13) j := by
  unfold val_main_v3 val_main_v2 val_main_v1 val_main_v0 val_main_cst
  pointwise []
  by_cases h : r.val < 3
  · exact (dif_pos h).trans (ConvSpec.X_lo _ (by omega) j).symm
  · refine (dif_neg h).trans ?_
    refine Eq.trans ?_ (ConvSpec.X_hi p ⟨r.val - 3, by omega⟩ (by show r.val + 13 = r.val - 3 + 16; omega) j).symm
    rfl

theorem v5_at (n : Fin 8192) (j : Fin 3072) : val_main_v5 (F := Ideal) p (ix2 n j) = ConvSpec.X p (n.val + 13) j := by
  rw [val_main_v5_apply]
  exact (congrArg _ (idx2 _ _ _ rfl rfl)).trans (x_at p ⟨n.val, by omega⟩ j)

theorem v9_at (n : Fin 8192) (j : Fin 3072) : val_main_v9 (F := Ideal) p (ix2 n j) = ConvSpec.X p (n.val + 14) j := by
  rw [val_main_v9_apply]
  exact (congrArg _ (idx2 _ _ _ rfl rfl)).trans ((x_at p ⟨1 + n.val, by omega⟩ j).trans (congrArg (ConvSpec.X p · j) (by show _ + n.val + 13 = _; omega)))

theorem v14_at (n : Fin 8192) (j : Fin 3072) : val_main_v14 (F := Ideal) p (ix2 n j) = ConvSpec.X p (n.val + 15) j := by
  rw [val_main_v14_apply]
  exact (congrArg _ (idx2 _ _ _ rfl rfl)).trans ((x_at p ⟨2 + n.val, by omega⟩ j).trans (congrArg (ConvSpec.X p · j) (by show _ + n.val + 13 = _; omega)))

theorem v19_at (n : Fin 8192) (j : Fin 3072) : val_main_v19 (F := Ideal) p (ix2 n j) = ConvSpec.X p (n.val + 16) j := by
  rw [val_main_v19_apply]
  exact (congrArg _ (idx2 _ _ _ rfl rfl)).trans ((x_at p ⟨3 + n.val, by omega⟩ j).trans (congrArg (ConvSpec.X p · j) (by show _ + n.val + 13 = _; omega)))

theorem v24_at (n : Fin 8192) (j : Fin 3072) : val_main_v24 (F := Ideal) p w b (ix2 n j) = ConvSpec.pre p w b n.val j := by
  unfold val_main_v24 val_main_v23 val_main_v22 val_main_v21 val_main_v20 val_main_v18 val_main_v17 val_main_v16 val_main_v15 val_main_v13
    val_main_v12 val_main_v11 val_main_v10 val_main_v8 val_main_v7 val_main_v6 val_main_v4
  pointwise []
  rw [v5_at, v9_at, v14_at, v19_at]
  rfl

theorem ref_act : val_main_v25_0 (F := Ideal) p w b = actOf p w b := by
  funext y; idx_vars y
  refine Eq.trans ?_ (congrArg (fun z => z * ConvSpec.sg z) (v24_at p w b y0 y1))
  unfold val_main_v25_0 val_main_v25_2 val_main_call0_v4 val_main_call0_cst_0 val_main_call0_v3 val_main_call0_v2 val_main_call0_cst
    val_main_call0_v1 val_main_call0_v0
  pointwise [ConvSpec.sg]

theorem ref_dsl : val_main_v28 (F := Ideal) p w b = dslOf p w b := by
  funext y; idx_vars y
  refine Eq.trans ?_ (congrArg ConvSpec.dsilu (v24_at p w b y0 y1))
  unfold val_main_v28 val_main_v27 val_main_call1_v2 val_main_call1_v1 val_main_call1_v0 val_main_v26 val_main_cst_0 val_main_v25_1
    val_main_call0_v7 val_main_call0_v6 val_main_call0_cst_1 val_main_v25_2 val_main_call0_v4 val_main_call0_cst_0 val_main_call0_v3
    val_main_call0_v2 val_main_call0_cst val_main_call0_v1 val_main_call0_v0
  pointwise [ConvSpec.sg, ConvSpec.dsilu]

end Cert.ConvFwdRefIdeal.ConvFwdRef

namespace Cert.ConvFwdIdeal.ConvFwdClaim

open Idealize.ShloMosaic Idealize.ShloMosaic.StableHlo Idealize.SL.Sem Cert.ConvFwdIdeal.ConvFwdArrays
open Cert.ConvFwdRefIdeal.ConvFwdRef (ref_act ref_dsl)

set_option maxHeartbeats 2000000 in
/-- The value claim of the convolution: the call's results are the reference's. -/
theorem algebraic : Cert.algebraic_ConvFwdIdeal_ConvFwdRefIdeal (hConvFwdIdeal := Cert.ConvFwdIdeal.Gen.facts)
    (hConvFwdRefIdeal := Cert.ConvFwdRefIdeal.Gen.facts) := by
  pair_intro
  · exact Cert.ConvFwdIdeal.Value.run_blocks m g
  · refine (θ_run _ _ _).mono (fun r h c => ?_) (Cert.ConvFwdRefIdeal.Value.run m' g')
    obtain ⟨a0, a1, a2⟩ := hagree c
    obtain ⟨r25, r28, args⟩ := h c
    refine ⟨r25.trans ?_, r28.trans ?_, args⟩
    · refine (Cert.ConvFwdRefIdeal.Read.val_main_v25_0_eq m' c).trans ?_
      rw [a0, a1, a2]
      exact (ref_act _ _ _).trans (final4 m c).symm
    · refine (Cert.ConvFwdRefIdeal.Read.val_main_v28_eq m' c).trans ?_
      rw [a0, a1, a2]
      exact (ref_dsl _ _ _).trans (final5 m c).symm

/-- The reference leaves its arguments unchanged, and it has no semaphores. -/
theorem reference_frame (m : (ℓ : Loc Cert.ConvFwdRefIdeal.nD Cert.ConvFwdRefIdeal.τ Cert.ConvFwdRefIdeal.sig) → Buf (Elt Ideal) ℓ) (ρ : Dev Cert.ConvFwdRefIdeal.nD → PrngReg) :
    θ_run (Cert.ConvFwdRefIdeal.defs (F := Ideal)) (onTc (τ := Cert.ConvFwdRefIdeal.τ) (Cert.ConvFwdRefIdeal.main (F := Ideal))) ⟨m, fun _ => 0, ρ⟩
      fun r => (∀ c : Dev Cert.ConvFwdRefIdeal.nD,
        r.2.mem ((c.tc : Thread Cert.ConvFwdRefIdeal.nD Cert.ConvFwdRefIdeal.τ).loc Cert.ConvFwdRefIdeal.main_arg0)
          = m ((c.tc : Thread Cert.ConvFwdRefIdeal.nD Cert.ConvFwdRefIdeal.τ).loc Cert.ConvFwdRefIdeal.main_arg0)
        ∧ r.2.mem ((c.tc : Thread Cert.ConvFwdRefIdeal.nD Cert.ConvFwdRefIdeal.τ).loc Cert.ConvFwdRefIdeal.main_arg1)
          = m ((c.tc : Thread Cert.ConvFwdRefIdeal.nD Cert.ConvFwdRefIdeal.τ).loc Cert.ConvFwdRefIdeal.main_arg1)
        ∧ r.2.mem ((c.tc : Thread Cert.ConvFwdRefIdeal.nD Cert.ConvFwdRefIdeal.τ).loc Cert.ConvFwdRefIdeal.main_arg2)
          = m ((c.tc : Thread Cert.ConvFwdRefIdeal.nD Cert.ConvFwdRefIdeal.τ).loc Cert.ConvFwdRefIdeal.main_arg2)
       ) ∧ r.2.sem = fun _ => 0 :=
  (θ_run _ _ _).mono (fun r h => ⟨fun c => (h c).2.2, sem_eq_zero_of_no_sems rfl _⟩) (Cert.ConvFwdRefIdeal.Value.run m ρ)

end Cert.ConvFwdIdeal.ConvFwdClaim

end
-- ==== Proof.AdaGradClaim.lean ====
/-
  The value claim of the gradient of the conditioning's weight.
-/
module

public import proofs.«01_k».proof.Defs
public import proofs.«01_k».proof.Proof.Logistic
public import proofs.«01_k».proof.Proof.Gen.AdaGradIdeal.Value
public import proofs.«01_k».proof.Proof.Gen.AdaGradRefIdeal.Run
public import proofs.«01_k».proof.Proof.Gen.AdaGradRefIdeal.Read
public import Idealize.ShloMosaic.Lib.Pointwise
public import Idealize.ShloMosaic.Lib.Claim

@[expose] public section

set_option maxRecDepth 16384

noncomputable section

namespace Cert.AdaGradIdeal.AdaGradClaim

open Cert.AdaGradIdeal Cert.AdaGradIdeal.Gen Idealize.ShloMosaic Idealize.ShloMosaic.TcCoe Idealize.ShloMosaic.StableHlo Idealize.SL.Sem
open scoped BigOperators

/-- `silu`, as the conditioning applies it. -/
def silu (x : EReal) : EReal := x * ConvSpec.sg x

/-- The gradient of the conditioning's weight: the activations' transpose times the cotangent, over the eight samples. -/
def grad (x : Vec Ideal S8x1024 .f32) (d : Vec Ideal S8x768 .f32) : Vec Ideal S1024x768 .f32 :=
  fun y => ∑ k : Fin 8, silu (x (ix2 k (y 0))) * (d (ix2 k (y 1)) : EReal)

theorem pay_eq (x : Vec Ideal S8x1024 .f32) (d : Vec Ideal S8x768 .f32) : k0_pay1 x d = grad x d := by
  funext y; idx_vars y
  refine Eq.trans ?_ (Finset.sum_congr rfl fun k _ =>
    congrArg (fun z => x (ix2 k y0) * z * (d (ix2 k y1) : EReal)) (Logistic.sgt_eq (x (ix2 k y0))))
  pointwise [k0_pay1, Logistic.sgt]

theorem ref_silu (x : Vec Ideal S8x1024 .f32) (k : Fin 8) (j : Fin 1024) : Cert.AdaGradRefIdeal.Read.val_main_v1 (F := Ideal) x (ix2 k j) = silu (x (ix2 k j)) := by
  unfold Cert.AdaGradRefIdeal.Read.val_main_v1 Cert.AdaGradRefIdeal.Read.val_main_call0_v5 Cert.AdaGradRefIdeal.Read.val_main_call0_v4 Cert.AdaGradRefIdeal.Read.val_main_call0_cst_0 Cert.AdaGradRefIdeal.Read.val_main_call0_v3
    Cert.AdaGradRefIdeal.Read.val_main_call0_v2 Cert.AdaGradRefIdeal.Read.val_main_call0_cst Cert.AdaGradRefIdeal.Read.val_main_call0_v1 Cert.AdaGradRefIdeal.Read.val_main_call0_v0
  pointwise [silu, ConvSpec.sg]

theorem ref_eq (x : Vec Ideal S8x1024 .f32) (d : Vec Ideal S8x768 .f32) : Cert.AdaGradRefIdeal.Read.val_main_v4 (F := Ideal) x d = grad x d := by
  funext y; idx_vars y
  rw [Cert.AdaGradRefIdeal.Read.val_main_v4_apply, Cert.AdaGradRefIdeal.Read.val_main_v3_apply]
  refine Finset.sum_congr rfl fun k _ => ?_
  rw [mul_comm]
  exact congrArg₂ (· * ·) ((congrArg _ (by funext a; fin_cases a <;> rfl)).trans (ref_silu x k y0))
    (congrArg d (by funext a; fin_cases a <;> rfl))

/-- The value claim: the call's result is the reference's. -/
theorem algebraic : Cert.algebraic_AdaGradIdeal_AdaGradRefIdeal (hAdaGradIdeal := Cert.AdaGradIdeal.Gen.facts)
    (hAdaGradRefIdeal := Cert.AdaGradRefIdeal.Gen.facts) := by
  pair_intro
  · exact Cert.AdaGradIdeal.Value.run m g
  · refine (θ_run _ _ _).mono (fun r h c => ?_) (Cert.AdaGradRefIdeal.Value.run m' g')
    obtain ⟨a0, a1⟩ := hagree c
    obtain ⟨r4, args⟩ := h c
    refine ⟨r4.trans ?_, args⟩
    refine (Cert.AdaGradRefIdeal.Read.val_main_v4_eq _ _).trans ?_
    rw [a0, a1]
    exact (ref_eq _ _).trans (pay_eq _ _).symm

/-- The reference leaves its arguments unchanged, and it has no semaphores. -/
theorem reference_frame (m : (ℓ : Loc Cert.AdaGradRefIdeal.nD Cert.AdaGradRefIdeal.τ Cert.AdaGradRefIdeal.sig) → Buf (Elt Ideal) ℓ) (ρ : Dev Cert.AdaGradRefIdeal.nD → PrngReg) :
    θ_run (Cert.AdaGradRefIdeal.defs (F := Ideal)) (onTc (τ := Cert.AdaGradRefIdeal.τ) (Cert.AdaGradRefIdeal.main (F := Ideal))) ⟨m, fun _ => 0, ρ⟩
      fun r => (∀ c : Dev Cert.AdaGradRefIdeal.nD,
        r.2.mem ((c.tc : Thread Cert.AdaGradRefIdeal.nD Cert.AdaGradRefIdeal.τ).loc Cert.AdaGradRefIdeal.main_arg0)
          = m ((c.tc : Thread Cert.AdaGradRefIdeal.nD Cert.AdaGradRefIdeal.τ).loc Cert.AdaGradRefIdeal.main_arg0)
        ∧ r.2.mem ((c.tc : Thread Cert.AdaGradRefIdeal.nD Cert.AdaGradRefIdeal.τ).loc Cert.AdaGradRefIdeal.main_arg1)
          = m ((c.tc : Thread Cert.AdaGradRefIdeal.nD Cert.AdaGradRefIdeal.τ).loc Cert.AdaGradRefIdeal.main_arg1)
       ) ∧ r.2.sem = fun _ => 0 :=
  (θ_run _ _ _).mono (fun r h => ⟨fun c => (h c).2, sem_eq_zero_of_no_sems rfl _⟩) (Cert.AdaGradRefIdeal.Value.run m ρ)

end Cert.AdaGradIdeal.AdaGradClaim

end
-- ==== Proof.AdaModClaim.lean ====
/-
  The value claim of the conditioning.
-/
module

public import proofs.«01_k».proof.Defs
public import proofs.«01_k».proof.Proof.Logistic
public import proofs.«01_k».proof.Proof.Gen.AdaModIdeal.Value
public import proofs.«01_k».proof.Proof.Gen.AdaModRefIdeal.Run
public import proofs.«01_k».proof.Proof.Gen.AdaModRefIdeal.Read
public import Idealize.ShloMosaic.Lib.Pointwise
public import Idealize.ShloMosaic.Lib.Claim

@[expose] public section

set_option maxRecDepth 16384

noncomputable section

namespace Cert.AdaModIdeal.AdaModClaim

open Cert.AdaModIdeal Cert.AdaModIdeal.Gen Idealize.ShloMosaic Idealize.ShloMosaic.TcCoe Idealize.ShloMosaic.StableHlo Idealize.SL.Sem
open scoped BigOperators

/-- `silu`, as the conditioning applies it. -/
def silu (x : EReal) : EReal := x * ConvSpec.sg x

/-- The conditioning: the activations times the weight, plus the bias. -/
def cond (x : Vec Ideal S8x1024 .f32) (w : Vec Ideal S1024x768 .f32) (b : Vec Ideal S1x768 .f32) : Vec Ideal S8x768 .f32 :=
  fun y => (∑ k : Fin 1024, silu (x (ix2 (y 0) k)) * (w (ix2 k (y 1)) : EReal)) + b (ix2 0 (y 1))

theorem pay_eq (x : Vec Ideal S8x1024 .f32) (w : Vec Ideal S1024x768 .f32) (b : Vec Ideal S1x768 .f32) : k0_pay1 x w b = cond x w b := by
  funext y; idx_vars y
  refine Eq.trans ?_ (congrArg (· + (b (ix2 0 y1) : EReal)) (Finset.sum_congr rfl fun k _ =>
    congrArg (fun z => x (ix2 y0 k) * z * (w (ix2 k y1) : EReal)) (Logistic.sgt_eq (x (ix2 y0 k)))))
  pointwise [k0_pay1, Logistic.sgt]

theorem ref_silu (x : Vec Ideal S8x1024 .f32) (k : Fin 8) (j : Fin 1024) : Cert.AdaModRefIdeal.Read.val_main_v0 (F := Ideal) x (ix2 k j) = silu (x (ix2 k j)) := by
  unfold Cert.AdaModRefIdeal.Read.val_main_v0 Cert.AdaModRefIdeal.Read.val_main_call0_v5 Cert.AdaModRefIdeal.Read.val_main_call0_v4 Cert.AdaModRefIdeal.Read.val_main_call0_cst_0 Cert.AdaModRefIdeal.Read.val_main_call0_v3
    Cert.AdaModRefIdeal.Read.val_main_call0_v2 Cert.AdaModRefIdeal.Read.val_main_call0_cst Cert.AdaModRefIdeal.Read.val_main_call0_v1 Cert.AdaModRefIdeal.Read.val_main_call0_v0
  pointwise [silu, ConvSpec.sg]

theorem ref_eq (x : Vec Ideal S8x1024 .f32) (w : Vec Ideal S1024x768 .f32) (b : Vec Ideal S1x768 .f32) :
    Cert.AdaModRefIdeal.Read.val_main_v3 (F := Ideal) x w b = cond x w b := by
  funext y; idx_vars y
  rw [Cert.AdaModRefIdeal.Read.val_main_v3_apply, Cert.AdaModRefIdeal.Read.val_main_v1_apply, Cert.AdaModRefIdeal.Read.val_main_v2_apply]
  refine congrArg₂ (fun p q : EReal => p + q) (Finset.sum_congr rfl fun k _ => ?_) (congrArg b (by funext a; fin_cases a <;> rfl))
  exact congrArg₂ (· * ·) ((congrArg _ (by funext a; fin_cases a <;> rfl)).trans (ref_silu x y0 k))
    (congrArg w (by funext a; fin_cases a <;> rfl))

/-- The value claim: the call's result is the reference's. -/
theorem algebraic : Cert.algebraic_AdaModIdeal_AdaModRefIdeal (hAdaModIdeal := Cert.AdaModIdeal.Gen.facts)
    (hAdaModRefIdeal := Cert.AdaModRefIdeal.Gen.facts) := by
  pair_intro
  · exact Cert.AdaModIdeal.Value.run m g
  · refine (θ_run _ _ _).mono (fun r h c => ?_) (Cert.AdaModRefIdeal.Value.run m' g')
    obtain ⟨a0, a1, a2⟩ := hagree c
    obtain ⟨r3, args⟩ := h c
    refine ⟨r3.trans ?_, args⟩
    refine (Cert.AdaModRefIdeal.Read.val_main_v3_eq _ _ _).trans ?_
    rw [a0, a1, a2]
    exact (ref_eq _ _ _).trans (pay_eq _ _ _).symm

/-- The reference leaves its arguments unchanged, and it has no semaphores. -/
theorem reference_frame (m : (ℓ : Loc Cert.AdaModRefIdeal.nD Cert.AdaModRefIdeal.τ Cert.AdaModRefIdeal.sig) → Buf (Elt Ideal) ℓ) (ρ : Dev Cert.AdaModRefIdeal.nD → PrngReg) :
    θ_run (Cert.AdaModRefIdeal.defs (F := Ideal)) (onTc (τ := Cert.AdaModRefIdeal.τ) (Cert.AdaModRefIdeal.main (F := Ideal))) ⟨m, fun _ => 0, ρ⟩
      fun r => (∀ c : Dev Cert.AdaModRefIdeal.nD,
        r.2.mem ((c.tc : Thread Cert.AdaModRefIdeal.nD Cert.AdaModRefIdeal.τ).loc Cert.AdaModRefIdeal.main_arg0)
          = m ((c.tc : Thread Cert.AdaModRefIdeal.nD Cert.AdaModRefIdeal.τ).loc Cert.AdaModRefIdeal.main_arg0)
        ∧ r.2.mem ((c.tc : Thread Cert.AdaModRefIdeal.nD Cert.AdaModRefIdeal.τ).loc Cert.AdaModRefIdeal.main_arg1)
          = m ((c.tc : Thread Cert.AdaModRefIdeal.nD Cert.AdaModRefIdeal.τ).loc Cert.AdaModRefIdeal.main_arg1)
        ∧ r.2.mem ((c.tc : Thread Cert.AdaModRefIdeal.nD Cert.AdaModRefIdeal.τ).loc Cert.AdaModRefIdeal.main_arg2)
          = m ((c.tc : Thread Cert.AdaModRefIdeal.nD Cert.AdaModRefIdeal.τ).loc Cert.AdaModRefIdeal.main_arg2)
       ) ∧ r.2.sem = fun _ => 0 :=
  (θ_run _ _ _).mono (fun r h => ⟨fun c => (h c).2, sem_eq_zero_of_no_sems rfl _⟩) (Cert.AdaModRefIdeal.Value.run m ρ)

end Cert.AdaModIdeal.AdaModClaim

end
-- ==== Proof.AdamAdaClaim.lean ====
/-
  The value claim of the optimiser's step at the conditioning's weight.
-/
module

public import proofs.«01_k».proof.Defs
public import proofs.«01_k».proof.Proof.Gen.AdamAdaIdeal.Value
public import proofs.«01_k».proof.Proof.Gen.AdamAdaRefIdeal.Run
public import proofs.«01_k».proof.Proof.Gen.AdamAdaRefIdeal.Read
public import Idealize.ShloMosaic.Lib.Pointwise
public import Idealize.ShloMosaic.Lib.Claim

@[expose] public section

set_option maxRecDepth 16384

noncomputable section

namespace Cert.AdamAdaIdeal.AdamAdaClaim

open Cert.AdamAdaIdeal Cert.AdamAdaIdeal.Gen Idealize.ShloMosaic Idealize.ShloMosaic.TcCoe Idealize.ShloMosaic.StableHlo Idealize.SL.Sem
open scoped BigOperators

/-- The new first moment. -/
theorem ref_m (g m : (⟨S1024x768, .f32⟩ : BufTy).Contents (Elt Ideal)) : Cert.AdamAdaRefIdeal.Read.val_main_v4 (F := Ideal) g m = Value.G5 (F := Ideal) g m := by
  funext y
  rfl

/-- The new second moment. -/
theorem ref_v (g v : (⟨S1024x768, .f32⟩ : BufTy).Contents (Elt Ideal)) : Cert.AdamAdaRefIdeal.Read.val_main_v10 (F := Ideal) g v = Value.G6 (F := Ideal) g v := by
  funext y
  rfl

/-- The step. -/
theorem ref_delta (w g m v : (⟨S1024x768, .f32⟩ : BufTy).Contents (Elt Ideal)) : Cert.AdamAdaRefIdeal.Read.val_main_v23 (F := Ideal) w g m v = Value.G4 (F := Ideal) g m v w := by
  funext y
  rfl

set_option maxHeartbeats 2000000 in
/-- The value claim: the call's results are the reference's. -/
theorem algebraic : Cert.algebraic_AdamAdaIdeal_AdamAdaRefIdeal (hAdamAdaIdeal := Cert.AdamAdaIdeal.Gen.facts)
    (hAdamAdaRefIdeal := Cert.AdamAdaRefIdeal.Gen.facts) := by
  pair_intro
  · exact Cert.AdamAdaIdeal.Value.run m g
  · refine (θ_run _ _ _).mono (fun r h c => ?_) (Cert.AdamAdaRefIdeal.Value.run m' g')
    obtain ⟨a0, a1, a2, a3⟩ := hagree c
    obtain ⟨r23, r4, r10, args⟩ := h c
    refine ⟨r23.trans ?_, r4.trans ?_, r10.trans ?_, args⟩
    · refine (Cert.AdamAdaRefIdeal.Read.val_main_v23_eq _ _ _ _).trans ?_
      rw [a0, a1, a2, a3]
      exact ref_delta _ _ _ _
    · refine (Cert.AdamAdaRefIdeal.Read.val_main_v4_eq _ _).trans ?_
      rw [a1, a2]
      exact ref_m _ _
    · refine (Cert.AdamAdaRefIdeal.Read.val_main_v10_eq _ _).trans ?_
      rw [a1, a3]
      exact ref_v _ _

/-- The reference leaves its arguments unchanged, and it has no semaphores. -/
theorem reference_frame (m : (ℓ : Loc Cert.AdamAdaRefIdeal.nD Cert.AdamAdaRefIdeal.τ Cert.AdamAdaRefIdeal.sig) → Buf (Elt Ideal) ℓ) (ρ : Dev Cert.AdamAdaRefIdeal.nD → PrngReg) :
    θ_run (Cert.AdamAdaRefIdeal.defs (F := Ideal)) (onTc (τ := Cert.AdamAdaRefIdeal.τ) (Cert.AdamAdaRefIdeal.main (F := Ideal))) ⟨m, fun _ => 0, ρ⟩
      fun r => (∀ c : Dev Cert.AdamAdaRefIdeal.nD,
        r.2.mem ((c.tc : Thread Cert.AdamAdaRefIdeal.nD Cert.AdamAdaRefIdeal.τ).loc Cert.AdamAdaRefIdeal.main_arg0)
          = m ((c.tc : Thread Cert.AdamAdaRefIdeal.nD Cert.AdamAdaRefIdeal.τ).loc Cert.AdamAdaRefIdeal.main_arg0)
        ∧ r.2.mem ((c.tc : Thread Cert.AdamAdaRefIdeal.nD Cert.AdamAdaRefIdeal.τ).loc Cert.AdamAdaRefIdeal.main_arg1)
          = m ((c.tc : Thread Cert.AdamAdaRefIdeal.nD Cert.AdamAdaRefIdeal.τ).loc Cert.AdamAdaRefIdeal.main_arg1)
        ∧ r.2.mem ((c.tc : Thread Cert.AdamAdaRefIdeal.nD Cert.AdamAdaRefIdeal.τ).loc Cert.AdamAdaRefIdeal.main_arg2)
          = m ((c.tc : Thread Cert.AdamAdaRefIdeal.nD Cert.AdamAdaRefIdeal.τ).loc Cert.AdamAdaRefIdeal.main_arg2)
        ∧ r.2.mem ((c.tc : Thread Cert.AdamAdaRefIdeal.nD Cert.AdamAdaRefIdeal.τ).loc Cert.AdamAdaRefIdeal.main_arg3)
          = m ((c.tc : Thread Cert.AdamAdaRefIdeal.nD Cert.AdamAdaRefIdeal.τ).loc Cert.AdamAdaRefIdeal.main_arg3)
       ) ∧ r.2.sem = fun _ => 0 :=
  (θ_run _ _ _).mono (fun r h => ⟨fun c => (h c).2.2.2, sem_eq_zero_of_no_sems rfl _⟩) (Cert.AdamAdaRefIdeal.Value.run m ρ)

end Cert.AdamAdaIdeal.AdamAdaClaim

end
-- ==== Proof.AdamConvClaim.lean ====
/-
  The value claim of the optimiser's step at the convolution's weight.
-/
module

public import proofs.«01_k».proof.Defs
public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Pointwise
public import Idealize.ShloMosaic.Lib.Claim

@[expose] public section

set_option maxRecDepth 16384

noncomputable section

namespace Cert.AdamConvIdeal.AdamConvClaim

open Cert.AdamConvIdeal Cert.AdamConvIdeal.Gen Idealize.ShloMosaic Idealize.ShloMosaic.TcCoe Idealize.ShloMosaic.StableHlo Idealize.SL.Sem
open scoped BigOperators

/-- The new first moment. -/
theorem ref_m (g m : (⟨S4x768, .f32⟩ : BufTy).Contents (Elt Ideal)) : Cert.AdamConvRefIdeal.Read.val_main_v4 (F := Ideal) g m = Value.G5 (F := Ideal) g m := by
  funext y
  rfl

/-- The new second moment. -/
theorem ref_v (g v : (⟨S4x768, .f32⟩ : BufTy).Contents (Elt Ideal)) : Cert.AdamConvRefIdeal.Read.val_main_v10 (F := Ideal) g v = Value.G6 (F := Ideal) g v := by
  funext y
  rfl

/-- The step. -/
theorem ref_delta (w g m v : (⟨S4x768, .f32⟩ : BufTy).Contents (Elt Ideal)) : Cert.AdamConvRefIdeal.Read.val_main_v23 (F := Ideal) w g m v = Value.G4 (F := Ideal) g m v w := by
  funext y
  rfl

set_option maxHeartbeats 2000000 in
/-- The value claim: the call's results are the reference's. -/
theorem algebraic : Cert.algebraic_AdamConvIdeal_AdamConvRefIdeal (hAdamConvIdeal := Cert.AdamConvIdeal.Gen.facts)
    (hAdamConvRefIdeal := Cert.AdamConvRefIdeal.Gen.facts) := by
  pair_intro
  · exact Cert.AdamConvIdeal.Value.run m g
  · refine (θ_run _ _ _).mono (fun r h c => ?_) (Cert.AdamConvRefIdeal.Value.run m' g')
    obtain ⟨a0, a1, a2, a3⟩ := hagree c
    obtain ⟨r23, r4, r10, args⟩ := h c
    refine ⟨r23.trans ?_, r4.trans ?_, r10.trans ?_, args⟩
    · refine (Cert.AdamConvRefIdeal.Read.val_main_v23_eq _ _ _ _).trans ?_
      rw [a0, a1, a2, a3]
      exact ref_delta _ _ _ _
    · refine (Cert.AdamConvRefIdeal.Read.val_main_v4_eq _ _).trans ?_
      rw [a1, a2]
      exact ref_m _ _
    · refine (Cert.AdamConvRefIdeal.Read.val_main_v10_eq _ _).trans ?_
      rw [a1, a3]
      exact ref_v _ _

/-- The reference leaves its arguments unchanged, and it has no semaphores. -/
theorem reference_frame (m : (ℓ : Loc Cert.AdamConvRefIdeal.nD Cert.AdamConvRefIdeal.τ Cert.AdamConvRefIdeal.sig) → Buf (Elt Ideal) ℓ) (ρ : Dev Cert.AdamConvRefIdeal.nD → PrngReg) :
    θ_run (Cert.AdamConvRefIdeal.defs (F := Ideal)) (onTc (τ := Cert.AdamConvRefIdeal.τ) (Cert.AdamConvRefIdeal.main (F := Ideal))) ⟨m, fun _ => 0, ρ⟩
      fun r => (∀ c : Dev Cert.AdamConvRefIdeal.nD,
        r.2.mem ((c.tc : Thread Cert.AdamConvRefIdeal.nD Cert.AdamConvRefIdeal.τ).loc Cert.AdamConvRefIdeal.main_arg0)
          = m ((c.tc : Thread Cert.AdamConvRefIdeal.nD Cert.AdamConvRefIdeal.τ).loc Cert.AdamConvRefIdeal.main_arg0)
        ∧ r.2.mem ((c.tc : Thread Cert.AdamConvRefIdeal.nD Cert.AdamConvRefIdeal.τ).loc Cert.AdamConvRefIdeal.main_arg1)
          = m ((c.tc : Thread Cert.AdamConvRefIdeal.nD Cert.AdamConvRefIdeal.τ).loc Cert.AdamConvRefIdeal.main_arg1)
        ∧ r.2.mem ((c.tc : Thread Cert.AdamConvRefIdeal.nD Cert.AdamConvRefIdeal.τ).loc Cert.AdamConvRefIdeal.main_arg2)
          = m ((c.tc : Thread Cert.AdamConvRefIdeal.nD Cert.AdamConvRefIdeal.τ).loc Cert.AdamConvRefIdeal.main_arg2)
        ∧ r.2.mem ((c.tc : Thread Cert.AdamConvRefIdeal.nD Cert.AdamConvRefIdeal.τ).loc Cert.AdamConvRefIdeal.main_arg3)
          = m ((c.tc : Thread Cert.AdamConvRefIdeal.nD Cert.AdamConvRefIdeal.τ).loc Cert.AdamConvRefIdeal.main_arg3)
       ) ∧ r.2.sem = fun _ => 0 :=
  (θ_run _ _ _).mono (fun r h => ⟨fun c => (h c).2.2.2, sem_eq_zero_of_no_sems rfl _⟩) (Cert.AdamConvRefIdeal.Value.run m ρ)

end Cert.AdamConvIdeal.AdamConvClaim

end
-- ==== Proof.AdamProjClaim.lean ====
/-
  The value claim of the optimiser's step at a projection of 256 rows.
-/
module

public import proofs.«01_k».proof.Defs
public import proofs.«01_k».proof.Proof.Gen.AdamProjIdeal.Value
public import proofs.«01_k».proof.Proof.Gen.AdamProjRefIdeal.Run
public import proofs.«01_k».proof.Proof.Gen.AdamProjRefIdeal.Read
public import Idealize.ShloMosaic.Lib.Pointwise
public import Idealize.ShloMosaic.Lib.Claim

@[expose] public section

set_option maxRecDepth 16384

noncomputable section

namespace Cert.AdamProjIdeal.AdamProjClaim

open Cert.AdamProjIdeal Cert.AdamProjIdeal.Gen Idealize.ShloMosaic Idealize.ShloMosaic.TcCoe Idealize.ShloMosaic.StableHlo Idealize.SL.Sem
open scoped BigOperators

/-- The new first moment. -/
theorem ref_m (g m : (⟨S256x1024, .f32⟩ : BufTy).Contents (Elt Ideal)) : Cert.AdamProjRefIdeal.Read.val_main_v4 (F := Ideal) g m = Value.G5 (F := Ideal) g m := by
  funext y
  rfl

/-- The new second moment. -/
theorem ref_v (g v : (⟨S256x1024, .f32⟩ : BufTy).Contents (Elt Ideal)) : Cert.AdamProjRefIdeal.Read.val_main_v10 (F := Ideal) g v = Value.G6 (F := Ideal) g v := by
  funext y
  rfl

/-- The step. -/
theorem ref_delta (w g m v : (⟨S256x1024, .f32⟩ : BufTy).Contents (Elt Ideal)) : Cert.AdamProjRefIdeal.Read.val_main_v23 (F := Ideal) w g m v = Value.G4 (F := Ideal) g m v w := by
  funext y
  rfl

set_option maxHeartbeats 2000000 in
/-- The value claim: the call's results are the reference's. -/
theorem algebraic : Cert.algebraic_AdamProjIdeal_AdamProjRefIdeal (hAdamProjIdeal := Cert.AdamProjIdeal.Gen.facts)
    (hAdamProjRefIdeal := Cert.AdamProjRefIdeal.Gen.facts) := by
  pair_intro
  · exact Cert.AdamProjIdeal.Value.run m g
  · refine (θ_run _ _ _).mono (fun r h c => ?_) (Cert.AdamProjRefIdeal.Value.run m' g')
    obtain ⟨a0, a1, a2, a3⟩ := hagree c
    obtain ⟨r23, r4, r10, args⟩ := h c
    refine ⟨r23.trans ?_, r4.trans ?_, r10.trans ?_, args⟩
    · refine (Cert.AdamProjRefIdeal.Read.val_main_v23_eq _ _ _ _).trans ?_
      rw [a0, a1, a2, a3]
      exact ref_delta _ _ _ _
    · refine (Cert.AdamProjRefIdeal.Read.val_main_v4_eq _ _).trans ?_
      rw [a1, a2]
      exact ref_m _ _
    · refine (Cert.AdamProjRefIdeal.Read.val_main_v10_eq _ _).trans ?_
      rw [a1, a3]
      exact ref_v _ _

/-- The reference leaves its arguments unchanged, and it has no semaphores. -/
theorem reference_frame (m : (ℓ : Loc Cert.AdamProjRefIdeal.nD Cert.AdamProjRefIdeal.τ Cert.AdamProjRefIdeal.sig) → Buf (Elt Ideal) ℓ) (ρ : Dev Cert.AdamProjRefIdeal.nD → PrngReg) :
    θ_run (Cert.AdamProjRefIdeal.defs (F := Ideal)) (onTc (τ := Cert.AdamProjRefIdeal.τ) (Cert.AdamProjRefIdeal.main (F := Ideal))) ⟨m, fun _ => 0, ρ⟩
      fun r => (∀ c : Dev Cert.AdamProjRefIdeal.nD,
        r.2.mem ((c.tc : Thread Cert.AdamProjRefIdeal.nD Cert.AdamProjRefIdeal.τ).loc Cert.AdamProjRefIdeal.main_arg0)
          = m ((c.tc : Thread Cert.AdamProjRefIdeal.nD Cert.AdamProjRefIdeal.τ).loc Cert.AdamProjRefIdeal.main_arg0)
        ∧ r.2.mem ((c.tc : Thread Cert.AdamProjRefIdeal.nD Cert.AdamProjRefIdeal.τ).loc Cert.AdamProjRefIdeal.main_arg1)
          = m ((c.tc : Thread Cert.AdamProjRefIdeal.nD Cert.AdamProjRefIdeal.τ).loc Cert.AdamProjRefIdeal.main_arg1)
        ∧ r.2.mem ((c.tc : Thread Cert.AdamProjRefIdeal.nD Cert.AdamProjRefIdeal.τ).loc Cert.AdamProjRefIdeal.main_arg2)
          = m ((c.tc : Thread Cert.AdamProjRefIdeal.nD Cert.AdamProjRefIdeal.τ).loc Cert.AdamProjRefIdeal.main_arg2)
        ∧ r.2.mem ((c.tc : Thread Cert.AdamProjRefIdeal.nD Cert.AdamProjRefIdeal.τ).loc Cert.AdamProjRefIdeal.main_arg3)
          = m ((c.tc : Thread Cert.AdamProjRefIdeal.nD Cert.AdamProjRefIdeal.τ).loc Cert.AdamProjRefIdeal.main_arg3)
       ) ∧ r.2.sem = fun _ => 0 :=
  (θ_run _ _ _).mono (fun r h => ⟨fun c => (h c).2.2.2, sem_eq_zero_of_no_sems rfl _⟩) (Cert.AdamProjRefIdeal.Value.run m ρ)

end Cert.AdamProjIdeal.AdamProjClaim

end
-- ==== Proof.AdamSsmClaim.lean ====
/-
  The value claim of the optimiser's step at the projection of 512 rows.
-/
module

public import proofs.«01_k».proof.Defs
public import proofs.«01_k».proof.Proof.Gen.AdamSsmIdeal.Value
public import proofs.«01_k».proof.Proof.Gen.AdamSsmRefIdeal.Run
public import proofs.«01_k».proof.Proof.Gen.AdamSsmRefIdeal.Read
public import Idealize.ShloMosaic.Lib.Pointwise
public import Idealize.ShloMosaic.Lib.Claim

@[expose] public section

set_option maxRecDepth 16384

noncomputable section

namespace Cert.AdamSsmIdeal.AdamSsmClaim

open Cert.AdamSsmIdeal Cert.AdamSsmIdeal.Gen Idealize.ShloMosaic Idealize.ShloMosaic.TcCoe Idealize.ShloMosaic.StableHlo Idealize.SL.Sem
open scoped BigOperators

/-- The new first moment. -/
theorem ref_m (g m : (⟨S512x1024, .f32⟩ : BufTy).Contents (Elt Ideal)) : Cert.AdamSsmRefIdeal.Read.val_main_v4 (F := Ideal) g m = Value.G5 (F := Ideal) g m := by
  funext y
  rfl

/-- The new second moment. -/
theorem ref_v (g v : (⟨S512x1024, .f32⟩ : BufTy).Contents (Elt Ideal)) : Cert.AdamSsmRefIdeal.Read.val_main_v10 (F := Ideal) g v = Value.G6 (F := Ideal) g v := by
  funext y
  rfl

/-- The step. -/
theorem ref_delta (w g m v : (⟨S512x1024, .f32⟩ : BufTy).Contents (Elt Ideal)) : Cert.AdamSsmRefIdeal.Read.val_main_v23 (F := Ideal) w g m v = Value.G4 (F := Ideal) g m v w := by
  funext y
  rfl

set_option maxHeartbeats 2000000 in
/-- The value claim: the call's results are the reference's. -/
theorem algebraic : Cert.algebraic_AdamSsmIdeal_AdamSsmRefIdeal (hAdamSsmIdeal := Cert.AdamSsmIdeal.Gen.facts)
    (hAdamSsmRefIdeal := Cert.AdamSsmRefIdeal.Gen.facts) := by
  pair_intro
  · exact Cert.AdamSsmIdeal.Value.run m g
  · refine (θ_run _ _ _).mono (fun r h c => ?_) (Cert.AdamSsmRefIdeal.Value.run m' g')
    obtain ⟨a0, a1, a2, a3⟩ := hagree c
    obtain ⟨r23, r4, r10, args⟩ := h c
    refine ⟨r23.trans ?_, r4.trans ?_, r10.trans ?_, args⟩
    · refine (Cert.AdamSsmRefIdeal.Read.val_main_v23_eq _ _ _ _).trans ?_
      rw [a0, a1, a2, a3]
      exact ref_delta _ _ _ _
    · refine (Cert.AdamSsmRefIdeal.Read.val_main_v4_eq _ _).trans ?_
      rw [a1, a2]
      exact ref_m _ _
    · refine (Cert.AdamSsmRefIdeal.Read.val_main_v10_eq _ _).trans ?_
      rw [a1, a3]
      exact ref_v _ _

/-- The reference leaves its arguments unchanged, and it has no semaphores. -/
theorem reference_frame (m : (ℓ : Loc Cert.AdamSsmRefIdeal.nD Cert.AdamSsmRefIdeal.τ Cert.AdamSsmRefIdeal.sig) → Buf (Elt Ideal) ℓ) (ρ : Dev Cert.AdamSsmRefIdeal.nD → PrngReg) :
    θ_run (Cert.AdamSsmRefIdeal.defs (F := Ideal)) (onTc (τ := Cert.AdamSsmRefIdeal.τ) (Cert.AdamSsmRefIdeal.main (F := Ideal))) ⟨m, fun _ => 0, ρ⟩
      fun r => (∀ c : Dev Cert.AdamSsmRefIdeal.nD,
        r.2.mem ((c.tc : Thread Cert.AdamSsmRefIdeal.nD Cert.AdamSsmRefIdeal.τ).loc Cert.AdamSsmRefIdeal.main_arg0)
          = m ((c.tc : Thread Cert.AdamSsmRefIdeal.nD Cert.AdamSsmRefIdeal.τ).loc Cert.AdamSsmRefIdeal.main_arg0)
        ∧ r.2.mem ((c.tc : Thread Cert.AdamSsmRefIdeal.nD Cert.AdamSsmRefIdeal.τ).loc Cert.AdamSsmRefIdeal.main_arg1)
          = m ((c.tc : Thread Cert.AdamSsmRefIdeal.nD Cert.AdamSsmRefIdeal.τ).loc Cert.AdamSsmRefIdeal.main_arg1)
        ∧ r.2.mem ((c.tc : Thread Cert.AdamSsmRefIdeal.nD Cert.AdamSsmRefIdeal.τ).loc Cert.AdamSsmRefIdeal.main_arg2)
          = m ((c.tc : Thread Cert.AdamSsmRefIdeal.nD Cert.AdamSsmRefIdeal.τ).loc Cert.AdamSsmRefIdeal.main_arg2)
        ∧ r.2.mem ((c.tc : Thread Cert.AdamSsmRefIdeal.nD Cert.AdamSsmRefIdeal.τ).loc Cert.AdamSsmRefIdeal.main_arg3)
          = m ((c.tc : Thread Cert.AdamSsmRefIdeal.nD Cert.AdamSsmRefIdeal.τ).loc Cert.AdamSsmRefIdeal.main_arg3)
       ) ∧ r.2.sem = fun _ => 0 :=
  (θ_run _ _ _).mono (fun r h => ⟨fun c => (h c).2.2.2, sem_eq_zero_of_no_sems rfl _⟩) (Cert.AdamSsmRefIdeal.Value.run m ρ)

end Cert.AdamSsmIdeal.AdamSsmClaim

end
-- ==== Proof.AdamSmallClaim.lean ====
/-
  The value claim of the optimiser's step at the small weights, packed.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise
public import Idealize.ShloMosaic.Lib.Claim

@[expose] public section

set_option maxRecDepth 16384

noncomputable section

namespace Cert.AdamSmallIdeal.AdamSmallClaim

open Cert.AdamSmallIdeal Cert.AdamSmallIdeal.Gen Idealize.ShloMosaic Idealize.ShloMosaic.TcCoe Idealize.ShloMosaic.StableHlo Idealize.SL.Sem
open scoped BigOperators

/-- The new first moment. -/
theorem ref_m (g m : (⟨S16x1024, .f32⟩ : BufTy).Contents (Elt Ideal)) : Cert.AdamSmallRefIdeal.Read.val_main_v4 (F := Ideal) g m = Value.G5 (F := Ideal) g m := by
  funext y
  rfl

/-- The new second moment. -/
theorem ref_v (g v : (⟨S16x1024, .f32⟩ : BufTy).Contents (Elt Ideal)) : Cert.AdamSmallRefIdeal.Read.val_main_v10 (F := Ideal) g v = Value.G6 (F := Ideal) g v := by
  funext y
  rfl

/-- The step. -/
theorem ref_delta (w g m v : (⟨S16x1024, .f32⟩ : BufTy).Contents (Elt Ideal)) : Cert.AdamSmallRefIdeal.Read.val_main_v23 (F := Ideal) w g m v = Value.G4 (F := Ideal) g m v w := by
  funext y
  rfl

set_option maxHeartbeats 2000000 in
/-- The value claim: the call's results are the reference's. -/
theorem algebraic : Cert.algebraic_AdamSmallIdeal_AdamSmallRefIdeal (hAdamSmallIdeal := Cert.AdamSmallIdeal.Gen.facts)
    (hAdamSmallRefIdeal := Cert.AdamSmallRefIdeal.Gen.facts) := by
  pair_intro
  · exact Cert.AdamSmallIdeal.Value.run m g
  · refine (θ_run _ _ _).mono (fun r h c => ?_) (Cert.AdamSmallRefIdeal.Value.run m' g')
    obtain ⟨a0, a1, a2, a3⟩ := hagree c
    obtain ⟨r23, r4, r10, args⟩ := h c
    refine ⟨r23.trans ?_, r4.trans ?_, r10.trans ?_, args⟩
    · refine (Cert.AdamSmallRefIdeal.Read.val_main_v23_eq _ _ _ _).trans ?_
      rw [a0, a1, a2, a3]
      exact ref_delta _ _ _ _
    · refine (Cert.AdamSmallRefIdeal.Read.val_main_v4_eq _ _).trans ?_
      rw [a1, a2]
      exact ref_m _ _
    · refine (Cert.AdamSmallRefIdeal.Read.val_main_v10_eq _ _).trans ?_
      rw [a1, a3]
      exact ref_v _ _

/-- The reference leaves its arguments unchanged, and it has no semaphores. -/
theorem reference_frame (m : (ℓ : Loc Cert.AdamSmallRefIdeal.nD Cert.AdamSmallRefIdeal.τ Cert.AdamSmallRefIdeal.sig) → Buf (Elt Ideal) ℓ) (ρ : Dev Cert.AdamSmallRefIdeal.nD → PrngReg) :
    θ_run (Cert.AdamSmallRefIdeal.defs (F := Ideal)) (onTc (τ := Cert.AdamSmallRefIdeal.τ) (Cert.AdamSmallRefIdeal.main (F := Ideal))) ⟨m, fun _ => 0, ρ⟩
      fun r => (∀ c : Dev Cert.AdamSmallRefIdeal.nD,
        r.2.mem ((c.tc : Thread Cert.AdamSmallRefIdeal.nD Cert.AdamSmallRefIdeal.τ).loc Cert.AdamSmallRefIdeal.main_arg0)
          = m ((c.tc : Thread Cert.AdamSmallRefIdeal.nD Cert.AdamSmallRefIdeal.τ).loc Cert.AdamSmallRefIdeal.main_arg0)
        ∧ r.2.mem ((c.tc : Thread Cert.AdamSmallRefIdeal.nD Cert.AdamSmallRefIdeal.τ).loc Cert.AdamSmallRefIdeal.main_arg1)
          = m ((c.tc : Thread Cert.AdamSmallRefIdeal.nD Cert.AdamSmallRefIdeal.τ).loc Cert.AdamSmallRefIdeal.main_arg1)
        ∧ r.2.mem ((c.tc : Thread Cert.AdamSmallRefIdeal.nD Cert.AdamSmallRefIdeal.τ).loc Cert.AdamSmallRefIdeal.main_arg2)
          = m ((c.tc : Thread Cert.AdamSmallRefIdeal.nD Cert.AdamSmallRefIdeal.τ).loc Cert.AdamSmallRefIdeal.main_arg2)
        ∧ r.2.mem ((c.tc : Thread Cert.AdamSmallRefIdeal.nD Cert.AdamSmallRefIdeal.τ).loc Cert.AdamSmallRefIdeal.main_arg3)
          = m ((c.tc : Thread Cert.AdamSmallRefIdeal.nD Cert.AdamSmallRefIdeal.τ).loc Cert.AdamSmallRefIdeal.main_arg3)
       ) ∧ r.2.sem = fun _ => 0 :=
  (θ_run _ _ _).mono (fun r h => ⟨fun c => (h c).2.2.2, sem_eq_zero_of_no_sems rfl _⟩) (Cert.AdamSmallRefIdeal.Value.run m ρ)

end Cert.AdamSmallIdeal.AdamSmallClaim

end
-- ==== Proof.SumDevClaim.lean ====
/-
  The value claim of the sum over the devices' copies.
-/
module

public import proofs.«01_k».proof.Defs
public import proofs.«01_k».proof.Proof.Gen.SumDevIdeal.Value
public import proofs.«01_k».proof.Proof.Gen.SumDevRefIdeal.Run
public import proofs.«01_k».proof.Proof.Gen.SumDevRefIdeal.Read
public import Idealize.ShloMosaic.Lib.Pointwise
public import Idealize.ShloMosaic.Lib.Claim

@[expose] public section

set_option maxRecDepth 16384

noncomputable section

namespace Cert.SumDevIdeal.SumDevClaim

open Cert.SumDevIdeal Cert.SumDevIdeal.Gen Idealize.ShloMosaic Idealize.ShloMosaic.TcCoe Idealize.ShloMosaic.StableHlo Idealize.SL.Sem
open scoped BigOperators

/-- The sum of the eight copies. -/
def total (x : Vec Ideal S8x32x1024 .f32) : Vec Ideal S32x1024 .f32 := fun y => ∑ k : Fin 8, (x (ix3 k (y 0) (y 1)) : EReal)

theorem pay_eq (x : Vec Ideal S8x32x1024 .f32) : Value.G1 x = total x := by
  funext y; idx_vars y
  refine Eq.trans ?_ (Fin.sum_univ_eight (fun k => (x (ix3 k y0 y1) : EReal))).symm
  pointwise [k0_pay1]

theorem ref_eq (x : Vec Ideal S8x32x1024 .f32) : Cert.SumDevRefIdeal.Read.val_main_v0 (F := Ideal) x = total x := by
  funext y; idx_vars y
  rw [Cert.SumDevRefIdeal.Read.val_main_v0_apply]
  refine (congrArg (· + _) (by pointwise [Cert.SumDevRefIdeal.Read.val_main_cst] : _ = (0 : EReal))).trans ((zero_add _).trans ?_)
  refine Finset.sum_congr rfl fun k _ => congrArg x ?_
  funext a; fin_cases a <;> rfl

/-- The value claim: the call's result is the reference's. -/
theorem algebraic : Cert.algebraic_SumDevIdeal_SumDevRefIdeal (hSumDevIdeal := Cert.SumDevIdeal.Gen.facts)
    (hSumDevRefIdeal := Cert.SumDevRefIdeal.Gen.facts) := by
  pair_intro
  · exact Cert.SumDevIdeal.Value.run m g
  · refine (θ_run _ _ _).mono (fun r h c => ?_) (Cert.SumDevRefIdeal.Value.run m' g')
    have a0 := hagree c
    obtain ⟨r0, args⟩ := h c
    refine ⟨r0.trans ?_, args⟩
    refine (Cert.SumDevRefIdeal.Read.val_main_v0_eq _).trans ?_
    rw [a0]
    exact (ref_eq _).trans (pay_eq _).symm

/-- The reference leaves its arguments unchanged, and it has no semaphores. -/
theorem reference_frame (m : (ℓ : Loc Cert.SumDevRefIdeal.nD Cert.SumDevRefIdeal.τ Cert.SumDevRefIdeal.sig) → Buf (Elt Ideal) ℓ) (ρ : Dev Cert.SumDevRefIdeal.nD → PrngReg) :
    θ_run (Cert.SumDevRefIdeal.defs (F := Ideal)) (onTc (τ := Cert.SumDevRefIdeal.τ) (Cert.SumDevRefIdeal.main (F := Ideal))) ⟨m, fun _ => 0, ρ⟩
      fun r => (∀ c : Dev Cert.SumDevRefIdeal.nD,
        r.2.mem ((c.tc : Thread Cert.SumDevRefIdeal.nD Cert.SumDevRefIdeal.τ).loc Cert.SumDevRefIdeal.main_arg0)
          = m ((c.tc : Thread Cert.SumDevRefIdeal.nD Cert.SumDevRefIdeal.τ).loc Cert.SumDevRefIdeal.main_arg0)
       ) ∧ r.2.sem = fun _ => 0 :=
  (θ_run _ _ _).mono (fun r h => ⟨fun c => (h c).2, sem_eq_zero_of_no_sems rfl _⟩) (Cert.SumDevRefIdeal.Value.run m ρ)

end Cert.SumDevIdeal.SumDevClaim

end
-- ==== Proof.AttnSpec.lean ====
module
public import proofs.«01_k».proof.Proof.RealLift

/-! # Attention with a sink, one query at a time

A query meets 256 keys. The softmax has one more term, the sink, which has no value. The kernel puts the sink in the place
of the first key, which is out of every query's window, and sets that key's value to zero. -/

@[expose] public section

namespace AttnSpec

open Idealize.ShloMosaic Cert.RealLift

noncomputable section

/-- The scale of the scores. -/
def SC : EReal := Ideal.ofBits .f32 0x3E000000#32

/-- A head's 64 numbers, normalised by their root mean square and weighted. -/
def nrm (f w : Fin 64 → EReal) (d : Fin 64) : EReal :=
  f d * Ideal.rsqrt (Ideal.div (∑ e, f e * f e) (Ideal.ofBits .f32 0x42800000#32) + Ideal.ofBits .f32 0x358637BD#32) * w d

/-- The score of a query with a key, and its bias. -/
def score (q k : Fin 64 → EReal) (t : EReal) : EReal := (∑ d, q d * k d) * SC + t

/-- The greatest score. -/
def top (S : Fin 256 → EReal) : EReal := Finset.univ.fold max ⊥ S

/-- A softmax whose terms include the sink. -/
def kout (S V : Fin 256 → EReal) : EReal :=
  ∑ k, Ideal.exp (S k - top S) * Ideal.div 1 (∑ j, Ideal.exp (S j - top S)) * V k

/-- A softmax with the sink apart. -/
def rout (S : Fin 256 → EReal) (t : EReal) (V : Fin 256 → EReal) : EReal :=
  ∑ k, Ideal.div (Ideal.exp (S k - max (top S) t)) ((∑ j, Ideal.exp (S j - max (top S) t)) + Ideal.exp (t - max (top S) t)) * V k

theorem exp_nonneg (x : EReal) : 0 ≤ Ideal.exp x := by
  induction x with
  | bot => exact le_refl _
  | top => exact le_top
  | coe r => rw [rexp]; exact EReal.coe_nonneg.2 (Real.exp_pos r).le

theorem exp_bot : Ideal.exp ⊥ = 0 := rfl

theorem le_top' (S : Fin 256 → EReal) (k : Fin 256) : S k ≤ top S :=
  (Finset.le_fold_max _).2 (Or.inr ⟨k, Finset.mem_univ k, le_refl _⟩)

theorem top_le (S : Fin 256 → EReal) (b : EReal) (h : ∀ k, S k ≤ b) : top S ≤ b :=
  (Finset.fold_max_le _).2 ⟨bot_le, fun k _ => h k⟩

/-- The sink in the place of the first key is the sink apart. -/
theorem kout_eq_rout (R V V' : Fin 256 → EReal) (t : EReal) (ht : t ≠ ⊥) (ht' : t ≠ ⊤) (hR : ∀ k, R k ≠ ⊤) (h0 : V 0 = 0)
    (hV : ∀ k, k ≠ 0 → R k = ⊥ ∨ V k = V' k) :
    kout (fun k => if k = 0 then t else R k) V = rout (fun k => if k = 0 then ⊥ else R k) t V' := by
  set S : Fin 256 → EReal := fun k => if k = 0 then t else R k with hS
  set S' : Fin 256 → EReal := fun k => if k = 0 then ⊥ else R k with hS'
  have hM : max (top S') t = top S := by
    apply le_antisymm
    · refine max_le (top_le _ _ fun k => ?_) ?_
      · by_cases h : k = 0
        · simp [hS', h]
        · refine le_trans (le_of_eq ?_) (le_top' S k); simp [hS, hS', h]
      · refine le_trans (le_of_eq ?_) (le_top' S 0); simp [hS]
    · refine top_le _ _ fun k => ?_
      by_cases h : k = 0
      · exact le_trans (le_of_eq (by simp [hS, h])) (le_max_right _ _)
      · exact le_trans (le_of_eq (by simp [hS, hS', h])) (le_trans (le_top' S' k) (le_max_left _ _))
  have hSt : ∀ k, S k ≠ ⊤ := fun k => by
    by_cases h : k = 0
    · simpa [hS, h] using ht'
    · simpa [hS, h] using hR k
  unfold kout rout
  rw [hM]
  have hex : ∃ k, top S = S k := by
    obtain ⟨k, -, hk⟩ := Finset.exists_max_image Finset.univ S ⟨0, Finset.mem_univ _⟩
    exact ⟨k, le_antisymm (top_le _ _ fun j => hk j (Finset.mem_univ j)) (le_top' S k)⟩
  obtain ⟨k0, hk0⟩ := hex
  have hMb : top S ≠ ⊥ := fun h => ht (le_bot_iff.1 (h ▸ le_trans (le_of_eq (by simp [hS])) (le_top' S 0)))
  have hMt : top S ≠ ⊤ := hk0 ▸ hSt k0
  generalize top S = M at hk0 hMb hMt
  lift M to ℝ using ⟨hMt, hMb⟩
  have hZ : (∑ j, Ideal.exp (S' j - (M : EReal))) + Ideal.exp (t - (M : EReal)) = ∑ j, Ideal.exp (S j - (M : EReal)) := by
    rw [Fin.sum_univ_succ (n := 255), Fin.sum_univ_succ (n := 255)]
    have e0 : Ideal.exp (S' 0 - (M : EReal)) = 0 := by simp [hS', EReal.bot_sub, exp_bot]
    have e1 : S 0 = t := by simp [hS]
    rw [e0, e1, zero_add, add_comm]
    refine congrArg (_ + ·) (Finset.sum_congr rfl fun j _ => ?_)
    simp [hS, hS', Fin.succ_ne_zero]
  rw [hZ]
  have hZ0 : ∑ j, Ideal.exp (S j - (M : EReal)) ≠ 0 := by
    have h1 : Ideal.exp (S k0 - (M : EReal)) = 1 := by
      rw [← hk0, rsub, rexp, sub_self, Real.exp_zero]; rfl
    have h2 := Finset.single_le_sum (f := fun j => Ideal.exp (S j - (M : EReal))) (fun j _ => exp_nonneg _) (Finset.mem_univ k0)
    intro h
    rw [h] at h2
    simp only [h1] at h2
    exact absurd h2 (by norm_num)
  generalize ∑ j, Ideal.exp (S j - (M : EReal)) = Z at hZ0
  refine Finset.sum_congr rfl fun k _ => ?_
  have hd : ∀ x : EReal, Ideal.div x Z = x * Ideal.div 1 Z := fun x => by
    unfold Ideal.div; rw [if_neg hZ0, if_neg hZ0, one_mul]
  rw [hd (Ideal.exp (S' k - (M : EReal)))]
  by_cases h : k = 0
  · subst h
    have e0 : Ideal.exp (S' 0 - (M : EReal)) = 0 := by simp [hS', EReal.bot_sub, exp_bot]
    rw [e0, h0]; simp
  · have e : S k = S' k := by simp [hS, hS', h]
    rw [e]
    rcases hV k h with hb | hb
    · have e0 : Ideal.exp (S' k - (M : EReal)) = 0 := by simp [hS', h, hb, EReal.bot_sub, exp_bot]
      rw [e0]; simp
    · rw [hb]

theorem c_64 : Ideal.ofBits .f32 0x42800000#32 = ((64 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num

theorem c_ninf : Ideal.ofBits .f32 0xFF800000#32 = (⊥ : EReal) := by
  simp [Ideal.ofBits, Ideal.ieee]

/-- The norm of real numbers is real. -/
theorem nrm_real' (f w : Fin 64 → ℝ) : ∃ g : Fin 64 → ℝ, nrm (fun d => (f d : EReal)) (fun d => (w d : EReal)) = fun d => (g d : EReal) := by
  refine ⟨fun d => f d * (Real.sqrt ((∑ e, f e * f e) / 64 + eps))⁻¹ * w d, ?_⟩
  funext d
  unfold nrm
  have hp : 0 < (∑ e, f e * f e) / 64 + eps := add_pos_of_nonneg_of_pos (div_nonneg (Finset.sum_nonneg fun e _ => mul_self_nonneg _) (by norm_num)) eps_pos
  simp only [rmul, rsum, c_64, c_eps]
  rw [rdiv _ _ (by norm_num), radd, rrsqrt _ hp, rmul, rmul]

/-- The norm of extended reals with real weights is real: at an infinity the reciprocal root of the mean square is zero. -/
theorem nrm_real (f : Fin 64 → EReal) (w : Fin 64 → ℝ) : ∃ g : Fin 64 → ℝ, nrm f (fun d => (w d : EReal)) = fun d => (g d : EReal) := by
  by_cases h : ∀ d, f d ≠ ⊤ ∧ f d ≠ ⊥
  · have e : f = fun d => ((f d).toReal : EReal) := funext fun d => (EReal.coe_toReal (h d).1 (h d).2).symm
    rw [e]
    exact nrm_real' _ w
  · refine ⟨fun _ => 0, funext fun d => ?_⟩
    obtain ⟨d0, h0⟩ := not_forall.1 h
    have hsq : f d0 * f d0 = ⊤ := by
      by_cases ht : f d0 = ⊤
      · rw [ht]; rfl
      · by_cases hb : f d0 = ⊥
        · rw [hb]; rfl
        · exact absurd ⟨ht, hb⟩ h0
    have hnn : ∀ e, 0 ≤ f e * f e := fun e => by
      induction f e with
      | bot => exact le_top
      | top => exact le_top
      | coe r => rw [rmul]; exact EReal.coe_nonneg.2 (mul_self_nonneg r)
    have hs : ∑ e, f e * f e = ⊤ := top_le_iff.1 (le_trans (le_of_eq hsq.symm)
      (Finset.single_le_sum (f := fun e => f e * f e) (fun e _ => hnn e) (Finset.mem_univ d0)))
    have hdiv : Ideal.div (⊤ : EReal) ((64 : ℝ) : EReal) = ⊤ := by
      unfold Ideal.div
      rw [if_neg (by norm_num), ← EReal.coe_inv]
      exact EReal.top_mul_coe_of_pos (by norm_num)
    unfold nrm
    rw [hs, c_64, c_eps, hdiv, EReal.top_add_coe]
    show f d * (0 : EReal) * _ = _
    rw [mul_zero, zero_mul]
    rfl

/-- A score of real numbers is not infinite when its bias is not. -/
theorem score_ne_top (q k : Fin 64 → ℝ) (t : EReal) (ht : t ≠ ⊤) : score (fun d => (q d : EReal)) (fun d => (k d : EReal)) t ≠ ⊤ := by
  unfold score SC
  simp only [rmul, rsum, c_eighth]
  exact EReal.add_ne_top (EReal.coe_ne_top _) ht

/-! ## The arrays -/

abbrev SP : Shape := ⟨2, ![8192, 9984]⟩
abbrev ST : Shape := ⟨4, ![2, 16, 128, 256]⟩
abbrev SN : Shape := ⟨2, ![1, 64]⟩
abbrev SO : Shape := ⟨2, ![8192, 1024]⟩

/-- A query head's column. -/
def col (h : Fin 16) (e : Fin 64) : Fin 1024 := ⟨64 * h.val + e.val, by omega⟩
/-- A key head's column. -/
def kcol (g : Fin 4) (e : Fin 64) : Fin 256 := ⟨64 * g.val + e.val, by omega⟩
/-- The key head of a query head. -/
def grp (h : Fin 16) : Fin 4 := ⟨h.val / 4, by omega⟩

variable (P : SP.Idx → EReal) (T : ST.Idx → EReal) (qw kw : SN.Idx → EReal)

/-- A query of block `b`. -/
def qry (b : Fin 64) (a : Fin 128) (h : Fin 16) (d : Fin 64) : EReal := P (ix2 ⟨128 * b.val + a.val, by omega⟩ ⟨(col h d).val, by omega⟩)

/-- A row of block `b`'s window: the block before it, and the block itself. -/
def winRow (b : Fin 64) (k : Fin 256) : Fin 8192 := if h : k.val < 128 then ⟨128 * (b.val - 1) + k.val, by omega⟩ else ⟨128 * b.val + (k.val - 128), by omega⟩

/-- A window's keys, at the column 9216, or values, at 9472. -/
def win (o : ℕ) (ho : o + 256 ≤ 9984) (b : Fin 64) (k j : Fin 256) : EReal := P (ix2 (winRow b k) ⟨o + j.val, by omega⟩)

/-- The table's row. -/
def bias (b : Fin 64) (h : Fin 16) (a : Fin 128) (k : Fin 256) : EReal := T (ix4 (if b.val = 0 then 0 else 1) h a k)

def nq (b : Fin 64) (a : Fin 128) (h : Fin 16) : Fin 64 → EReal := nrm (qry P b a h) fun d => qw (ix2 0 d)
def nk (b : Fin 64) (k : Fin 256) (g : Fin 4) : Fin 64 → EReal := nrm (fun d => win P 9216 (by decide) b k (kcol g d)) fun d => kw (ix2 0 d)

/-- The kernel's element. -/
def KO (b : Fin 64) (a : Fin 128) (h : Fin 16) (e : Fin 64) : EReal :=
  kout (fun k => score (nq P qw b a h) (fun d => if k = 0 then 0 else nk P kw b k (grp h) d) (bias T b h a k))
    (fun k => if k = 0 then 0 else win P 9472 (by decide) b k (kcol (grp h) e))

/-- No block precedes the first. -/
def none (b : Fin 64) (k : Fin 256) : Prop := b.val = 0 ∧ k.val < 128

instance (b : Fin 64) (k : Fin 256) : Decidable (none b k) := inferInstanceAs (Decidable (_ ∧ _))

/-- The reference's element. -/
def RO (b : Fin 64) (a : Fin 128) (h : Fin 16) (e : Fin 64) : EReal :=
  rout (fun k => if k = 0 then ⊥ else score (nq P qw b a h) (fun d => if none b k then 0 else nk P kw b k (grp h) d) (bias T b h a k))
    (bias T b h a 0) (fun k => if none b k then 0 else win P 9472 (by decide) b k (kcol (grp h) e))

theorem KO_eq_RO (hq : ∃ p : SN.Idx → ℝ, qw = fun i => (p i : EReal))
    (hk : ∃ p : SN.Idx → ℝ, kw = fun i => (p i : EReal)) (hT : ∀ i, T i ≠ ⊤) (hT0 : ∀ i h a, T (ix4 i h a 0) ≠ ⊥)
    (hTm : ∀ h a (k : Fin 256), k ≠ 0 → k.val < 128 → T (ix4 0 h a k) = ⊥) (b : Fin 64) (a : Fin 128) (h : Fin 16) (e : Fin 64) :
    KO P T qw kw b a h e = RO P T qw kw b a h e := by
  obtain ⟨q, rfl⟩ := hq
  obtain ⟨w, rfl⟩ := hk
  set qw : SN.Idx → EReal := fun i => (q i : EReal)
  set kw : SN.Idx → EReal := fun i => (w i : EReal)
  have hm : ∀ k, k ≠ 0 → none b k → bias T b h a k = ⊥ := fun k h0 hn => by
    unfold bias; rw [if_pos hn.1]; exact hTm h a k h0 hn.2
  have key := kout_eq_rout (fun k => score (nq P qw b a h) (nk P kw b k (grp h)) (bias T b h a k))
    (fun k => if k = 0 then 0 else win P 9472 (by decide) b k (kcol (grp h) e))
    (fun k => if none b k then 0 else win P 9472 (by decide) b k (kcol (grp h) e)) (bias T b h a 0) (hT0 _ _ _) (hT _)
    (fun k => by
      obtain ⟨g, hg⟩ := nrm_real (fun d => P (ix2 ⟨128 * b.val + a.val, by omega⟩ ⟨(col h d).val, by omega⟩)) (fun d => q (ix2 0 d))
      obtain ⟨g', hg'⟩ := nrm_real (fun d => P (ix2 (winRow b k) ⟨9216 + (kcol (grp h) d).val, by omega⟩)) (fun d => w (ix2 0 d))
      have e1 : nq P qw b a h = fun d => (g d : EReal) := hg
      have e2 : nk P kw b k (grp h) = fun d => (g' d : EReal) := hg'
      rw [e1, e2]
      exact score_ne_top g g' _ (hT _))
    (if_pos rfl)
    (fun k h0 => by
      by_cases hn : none b k
      · left
        unfold score
        rw [hm k h0 hn, EReal.add_bot]
      · right
        rw [if_neg h0, if_neg hn])
  unfold KO RO
  refine Eq.trans (congrArg (kout · _) (funext fun k => ?_)) (key.trans (congrArg (rout · _ _) (funext fun k => ?_)))
  · by_cases h0 : k = 0
    · subst h0
      simp [score]
    · simp [h0]
  · by_cases h0 : k = 0
    · simp [h0]
    · by_cases hn : none b k
      · simp only [h0, if_false, score, hm k h0 hn, EReal.add_bot]
      · simp [h0, hn]

/-- The result. -/
def out (y : SO.Idx) : EReal :=
  KO P T qw kw ⟨(y 0).val / 128, by have : (y 0).val < 8192 := (y 0).isLt; omega⟩ ⟨(y 0).val % 128, by omega⟩
    ⟨(y 1).val / 64, by have : (y 1).val < 1024 := (y 1).isLt; omega⟩ ⟨(y 1).val % 64, by omega⟩

end

end AttnSpec
-- ==== Proof.AttnBlock.lean ====
module
public import proofs.«01_k».proof.Proof.Gen.AttnIdeal.Value
public import proofs.«01_k».proof.Proof.AttnSpec
public import Idealize.ShloMosaic.Lib.Pipeline.ValueKit
public import Idealize.ShloMosaic.Lib.Pointwise
public import Idealize.ShloMosaic.Lib.WritesUnit

/-! # One block of the attention

The kernel does a block of 256 queries in two halves of 128. It puts the sixteen heads of a half one below the other, and
the four heads of the keys and of the values; four query heads share a key head. -/

@[expose] public section

set_option maxRecDepth 65536
set_option maxHeartbeats 4000000

namespace Cert.AttnIdeal.AttnBlock

open Cert.AttnIdeal Cert.AttnIdeal.Gen Idealize.ShloMosaic Idealize.ShloMosaic.TcCoe

noncomputable section

theorem slQ (h : Fin 16) : S128x1024.Slices ![0, 64 * h.val] S128x64 := by revert h; decide
theorem slK (h : Fin 4) : S256x256.Slices ![0, 64 * h.val] S256x64 := by revert h; decide
theorem slQ4 (h : Fin 4) : S2048x64.Slices ![512 * h.val, 0] S512x64 := by revert h; decide
theorem slK4 (h : Fin 4) : S1024x64.Slices ![256 * h.val, 0] S256x64 := by revert h; decide
theorem slP4 (h : Fin 4) : S2048x256.Slices ![512 * h.val, 0] S512x256 := by revert h; decide
theorem slO (h : Fin 16) : S2048x64.Slices ![128 * h.val, 0] S128x64 := by revert h; decide

/-- The heads of a half's queries, one below the other. -/
def headsQ (x : FVec Ideal S128x1024 .f32) : FVec Ideal S2048x64 .f32 :=
  concatenate S2048x64 0 (List.ofFn fun h : Fin 16 => (⟨S128x64, extractStridedSlice S128x64 ![0, 64 * h.val] x (slQ h)⟩ : (s : Shape) × (s.Idx → EReal)))
    concatenates_S128x64_S128x64_S128x64_S128x64_S128x64_S128x64_S128x64_S128x64_S128x64_S128x64_S128x64_S128x64_S128x64_S128x64_S128x64_S128x64_S2048x64_d0

/-- The heads of a window's keys or values, one below the other. -/
def headsK (p c : FVec Ideal S128x256 .f32) : FVec Ideal S1024x64 .f32 :=
  concatenate S1024x64 0 (List.ofFn fun h : Fin 4 => (⟨S256x64, extractStridedSlice S256x64 ![0, 64 * h.val]
      (concatenate S256x256 0 [⟨S128x256, p⟩, ⟨S128x256, c⟩] concatenates_S128x256_S128x256_S256x256_d0) (slK h)⟩ : (s : Shape) × (s.Idx → EReal)))
    concatenates_S256x64_S256x64_S256x64_S256x64_S1024x64_d0

def normQ (a : FVec Ideal S2048x64 .f32) (w : Vec Ideal S1x64 .f32) : FVec Ideal S2048x64 .bf16 :=
  truncf .bf16 (mulf (mulf a (broadcastTo S2048x64 (rsqrt (addf (divf (shapeCast S2048x1
    (multiReduction .add [1] S2048 (mulf a a) 0x00000000#32 reduces_S2048x64_S2048 (.inl rfl) rfl) shapeCasts_S2048_S2048x1)
    (broadcast S2048x1 (Scalar.ofBits .f32 0x42800000#32))) (broadcast S2048x1 (Scalar.ofBits .f32 0x358637BD#32)))) broadcasts_S2048x1_S2048x64))
    (broadcastTo S2048x64 w broadcasts_S1x64_S2048x64)) bitsLt_bf16_f32

def mask : IVec S1024x64 1 :=
  cmpi .eq (andi (iota .tc S1024x64 32 [0] iota_S1024x64_d0_w32) (broadcast S1024x64 255#32)) (broadcast S1024x64 0#32)

def normK (a : FVec Ideal S1024x64 .f32) (w : Vec Ideal S1x64 .f32) : FVec Ideal S1024x64 .bf16 :=
  truncf .bf16 (select mask (broadcast S1024x64 (Scalar.ofBits .f32 0x00000000#32)) (mulf (mulf a (broadcastTo S1024x64 (rsqrt (addf (divf (shapeCast S1024x1
    (multiReduction .add [1] S1024 (mulf a a) 0x00000000#32 reduces_S1024x64_S1024 (.inl rfl) rfl) shapeCasts_S1024_S1024x1)
    (broadcast S1024x1 (Scalar.ofBits .f32 0x42800000#32))) (broadcast S1024x1 (Scalar.ofBits .f32 0x358637BD#32)))) broadcasts_S1024x1_S1024x64))
    (broadcastTo S1024x64 w broadcasts_S1x64_S1024x64))) bitsLt_bf16_f32

def vals (a : FVec Ideal S1024x64 .f32) : FVec Ideal S1024x64 .bf16 :=
  truncf .bf16 (select mask (broadcast S1024x64 (Scalar.ofBits .f32 0x00000000#32)) a) bitsLt_bf16_f32

/-- The scores before their scale. -/
def dots (q : FVec Ideal S2048x64 .bf16) (k : FVec Ideal S1024x64 .bf16) : FVec Ideal S2048x256 .f32 :=
  concatenate S2048x256 0 (List.ofFn fun h : Fin 4 => (⟨S512x256, matmul dot_S512x64_S256x64_S512x256_1_1_0_0_n_n none
      (extractStridedSlice S512x64 ![512 * h.val, 0] q (slQ4 h)) (extractStridedSlice S256x64 ![256 * h.val, 0] k (slK4 h))
      (constant S512x256 .f32 0x00000000#32)⟩ : (s : Shape) × (s.Idx → EReal)))
    concatenates_S512x256_S512x256_S512x256_S512x256_S2048x256_d0

def scores (d : FVec Ideal S2048x256 .f32) (b : FVec Ideal S16x128x256 .f32) : FVec Ideal S2048x256 .f32 :=
  addf (mulf d (broadcast S2048x256 (Scalar.ofBits .f32 0x3E000000#32))) (shapeCast S2048x256 b shapeCasts_S16x128x256_S2048x256)

def exps (s : FVec Ideal S2048x256 .f32) : FVec Ideal S2048x256 .f32 :=
  exp (subf s (broadcastTo S2048x256 (shapeCast S2048x1 (multiReduction .maximumf [1] S2048 s 0xFF800000#32 reduces_S2048x256_S2048 (.inl rfl) rfl)
    shapeCasts_S2048_S2048x1) broadcasts_S2048x1_S2048x256))

def probs (e : FVec Ideal S2048x256 .f32) : FVec Ideal S2048x256 .bf16 :=
  truncf .bf16 (mulf e (broadcastTo S2048x256 (divf (broadcast S2048x1 (Scalar.ofBits .f32 0x3F800000#32)) (shapeCast S2048x1
    (multiReduction .add [1] S2048 e 0x00000000#32 reduces_S2048x256_S2048 (.inl rfl) rfl) shapeCasts_S2048_S2048x1)) broadcasts_S2048x1_S2048x256)) bitsLt_bf16_f32

def mix (p : FVec Ideal S2048x256 .bf16) (v : FVec Ideal S1024x64 .bf16) : FVec Ideal S2048x64 .f32 :=
  concatenate S2048x64 0 (List.ofFn fun h : Fin 4 => (⟨S512x64, matmul dot_S512x256_S256x64_S512x64_1_0_0_1_n_n none
      (extractStridedSlice S512x256 ![512 * h.val, 0] p (slP4 h)) (extractStridedSlice S256x64 ![256 * h.val, 0] v (slK4 h))
      (constant S512x64 .f32 0x00000000#32)⟩ : (s : Shape) × (s.Idx → EReal)))
    concatenates_S512x64_S512x64_S512x64_S512x64_S2048x64_d0

def join (o : FVec Ideal S2048x64 .f32) : FVec Ideal S128x1024 .bf16 :=
  truncf .bf16 (concatenate S128x1024 1 (List.ofFn fun h : Fin 16 => (⟨S128x64, extractStridedSlice S128x64 ![128 * h.val, 0] o (slO h)⟩ : (s : Shape) × (s.Idx → EReal)))
    concatenates_S128x64_S128x64_S128x64_S128x64_S128x64_S128x64_S128x64_S128x64_S128x64_S128x64_S128x64_S128x64_S128x64_S128x64_S128x64_S128x64_S128x1024_d1) bitsLt_bf16_f32

/-- One half: its queries, the window's keys and values in two parts, the bias and the two weights. -/
def half (q : Vec Ideal S128x1024 .bf16) (kp kc vp vc : Vec Ideal S128x256 .bf16) (b : Vec Ideal S1x16x128x256 .f32) (qw kw : Vec Ideal S1x64 .f32) :
    FVec Ideal S128x1024 .bf16 :=
  join (mix (probs (exps (scores (dots (normQ (headsQ (extf .f32 q bitsLt_bf16_f32)) qw) (normK (headsK (extf .f32 kp bitsLt_bf16_f32) (extf .f32 kc bitsLt_bf16_f32)) kw))
    (shapeCast S16x128x256 b shapeCasts_S1x16x128x256_S16x128x256)))) (vals (headsK (extf .f32 vp bitsLt_bf16_f32) (extf .f32 vc bitsLt_bf16_f32))))

theorem pay3_eq (q : Vec Ideal S128x1024 .bf16) (w : Vec Ideal S1x64 .f32) : k0_pay3 (F := Ideal) q w = normQ (headsQ (extf .f32 q bitsLt_bf16_f32)) w := rfl
theorem pay32_eq (q : Vec Ideal S128x1024 .bf16) (w : Vec Ideal S1x64 .f32) : k0_pay32 (F := Ideal) q w = normQ (headsQ (extf .f32 q bitsLt_bf16_f32)) w := rfl
theorem pay7_eq (p c : Vec Ideal S128x256 .bf16) : k0_pay7 (F := Ideal) p c = vals (headsK (extf .f32 p bitsLt_bf16_f32) (extf .f32 c bitsLt_bf16_f32)) := rfl
theorem pay8_eq (p c : FVec Ideal S128x256 .f32) (w : Vec Ideal S1x64 .f32) : k0_pay8 (F := Ideal) p c w = normK (headsK p c) w := rfl

variable (i : grid0.Coords) (x0 : Vec Ideal S256x1024 .bf16) (x1 : Vec Ideal S256x256 .bf16) (x2 : Vec Ideal S128x256 .bf16) (x3 : Vec Ideal S256x256 .bf16)
  (x4 : Vec Ideal S128x256 .bf16) (x5 : Vec Ideal S2x16x128x256 .f32) (x6 x7 : Vec Ideal S1x64 .f32)

/-- The first half's queries see the previous block's keys and the block's first 128. -/
def half0 : FVec Ideal S128x1024 .bf16 :=
  half (View.ld x0 (Rect.unit ![0, 0] ![128, 1024] inb_S256x1024_S128x1024_0_0)) x2 (View.ld x1 (Rect.unit ![0, 0] ![128, 256] inb_S256x256_S128x256_0_0))
    x4 (View.ld x3 (Rect.unit ![0, 0] ![128, 256] inb_S256x256_S128x256_0_0)) (View.ld x5 (Rect.unit (k0_off1 i) ![1, 16, 128, 256] (k0_off1_inb i))) x6 x7

/-- The second half's see the block's first 128 keys and its last. -/
def half1 : FVec Ideal S128x1024 .bf16 :=
  half (View.ld x0 (Rect.unit ![128, 0] ![128, 1024] inb_S256x1024_S128x1024_128_0)) (View.ld x1 (Rect.unit ![0, 0] ![128, 256] inb_S256x256_S128x256_0_0))
    (View.ld x1 (Rect.unit ![128, 0] ![128, 256] inb_S256x256_S128x256_128_0)) (View.ld x3 (Rect.unit ![0, 0] ![128, 256] inb_S256x256_S128x256_0_0))
    (View.ld x3 (Rect.unit ![128, 0] ![128, 256] inb_S256x256_S128x256_128_0)) (View.ld x5 (Rect.unit ![1, 0, 0, 0] ![1, 16, 128, 256] inb_S2x16x128x256_S1x16x128x256_1_0_0_0)) x6 x7

theorem inbT (r : Fin 2) : ∀ a, (![128 * r.val, 0] : Fin 2 → ℕ) a + (![128, 1024] : Fin 2 → ℕ) a ≤ S256x1024.size a := by
  intro a; fin_cases a
  · show 128 * r.val + 128 ≤ 256; omega
  · exact le_refl 1024

/-- A block of the result. -/
def out8 (v : View sig .tc .vmem S256x1024 .bf16) (f : v.ty.Contents (Elt Ideal)) : Vec Ideal S256x1024 .bf16 :=
  v.read (Elt Ideal) (v.writes (Elt Ideal) f (View.tilePieces ![128, 1024] (fun r : Fin 2 => ![128 * r.val, 0]) inbT
    (fun r => ![half0 i x0 x1 x2 x3 x4 x5 x6 x7, half1 x0 x1 x3 x5 x6 x7] r) 2 (le_refl 2)))

theorem out_A_8 (c : Dev nD) (i : grid0.Coords) (arg1 : Memref sig .tc .vmem S256x1024 .bf16) (harg1 : arg1.IsWhole) (arg2 : Memref sig .tc .vmem S256x256 .bf16) (harg2 : arg2.IsWhole) (arg3 : Memref sig .tc .vmem S128x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S2x16x128x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S256x1024 .bf16) (harg9 : arg9.IsWhole) :
    out0_A_8 c i arg1 harg1 arg2 harg2 arg3 harg3 arg4 harg4 arg5 harg5 arg6 harg6 arg7 harg7 arg8 harg8 arg9 harg9 x0 x1 x2 x3 x4 x5 x6 x7
      = out8 i x0 x1 x2 x3 x4 x5 x6 x7 VO0_8 VO0_8.junk := by
  frame_out
  rfl

end

end Cert.AttnIdeal.AttnBlock
-- ==== Proof.AttnAt.lean ====
module
public import proofs.«01_k».proof.Proof.AttnBlock

/-! # The elements of one half -/

@[expose] public section

set_option maxRecDepth 65536
set_option maxHeartbeats 4000000

namespace Cert.AttnIdeal.AttnBlock

open Cert.AttnIdeal Cert.AttnIdeal.Gen Idealize.ShloMosaic Idealize.ShloMosaic.TcCoe AttnSpec

noncomputable section

/-- A head's row for a query. -/
def row (h : Fin 16) (a : Fin 128) : Fin 2048 := ⟨128 * h.val + a.val, by omega⟩
/-- A head's row for a key. -/
def krow (g : Fin 4) (k : Fin 256) : Fin 1024 := ⟨256 * g.val + k.val, by omega⟩
/-- A window's rows: 128 and 128. -/
def cat (p c : S128x256.Idx → EReal) (k : Fin 256) (j : Fin 256) : EReal :=
  if h : k.val < 128 then p (ix2 ⟨k.val, h⟩ j) else c (ix2 ⟨k.val - 128, by omega⟩ j)

theorem headsQ_at (x : FVec Ideal S128x1024 .f32) (h : Fin 16) (a : Fin 128) (e : Fin 64) : headsQ x (ix2 (row h a) e) = x (ix2 a (col h e)) := by
  unfold headsQ
  refine (concatenate_ofFn_apply (t := S2048x64) (s₁ := S128x64) 0 (fun h : Fin 16 => extractStridedSlice S128x64 ![0, 64 * h.val] x (slQ h)) _ rfl 128 rfl
    (ix2 (row h a) e) h (by show (128 * h.val + a.val) / 128 = h.val; omega) (ix2 a e) (by show a.val = (128 * h.val + a.val) % 128; omega) ?_).trans ?_
  · intro b hb; fin_cases b
    · exact absurd rfl hb
    · rfl
  · pointwise []
    rfl

theorem cat_at (p c : FVec Ideal S128x256 .f32) (k j : Fin 256) :
    concatenate S256x256 0 [⟨S128x256, p⟩, ⟨S128x256, c⟩] concatenates_S128x256_S128x256_S256x256_d0 (ix2 k j) = cat p c k j := by
  pointwise [cat]

theorem headsK_at (p c : FVec Ideal S128x256 .f32) (g : Fin 4) (k : Fin 256) (e : Fin 64) : headsK p c (ix2 (krow g k) e) = cat p c k (kcol g e) := by
  rw [← cat_at]
  unfold headsK
  generalize concatenate S256x256 0 [⟨S128x256, p⟩, ⟨S128x256, c⟩] concatenates_S128x256_S128x256_S256x256_d0 = x
  refine (concatenate_ofFn_apply (t := S1024x64) (s₁ := S256x64) 0 (fun h : Fin 4 => extractStridedSlice S256x64 ![0, 64 * h.val] x (slK h)) _ rfl 256 rfl
    (ix2 (krow g k) e) g (by show (256 * g.val + k.val) / 256 = g.val; omega) (ix2 k e) (by show k.val = (256 * g.val + k.val) % 256; omega) ?_).trans ?_
  · intro b hb; fin_cases b
    · exact absurd rfl hb
    · rfl
  · pointwise []
    rfl

theorem normQ_at (a : FVec Ideal S2048x64 .f32) (w : Vec Ideal S1x64 .f32) (n : Fin 2048) (e : Fin 64) :
    normQ a w (ix2 n e) = nrm (fun d => a (ix2 n d)) (fun d => w (ix2 0 d)) e := by
  pointwise [normQ, nrm]

theorem mask_bit : ∀ n : Fin 1024, IntOp.cmpi .eq (IntOp.andi (BitVec.ofNat 32 n.val) 255#32) 0#32 = if n.val % 256 = 0 then 1#1 else 0#1 := by
  decide +kernel

theorem mask_at (n : Fin 1024) (e : Fin 64) : mask (ix2 n e) = if n.val % 256 = 0 then 1#1 else 0#1 := by
  pointwise [mask]
  exact mask_bit n

theorem select_if (p : Prop) [Decidable p] (a b : EReal) : Scalar.select (if p then 1#1 else 0#1) a b = if p then a else b := by
  split <;> rfl

theorem krow_zero (g : Fin 4) (k : Fin 256) : (krow g k).val % 256 = 0 ↔ k = 0 := by
  have := k.isLt
  rw [Fin.ext_iff]
  show (256 * g.val + k.val) % 256 = 0 ↔ k.val = 0
  omega

theorem normK_at (a : FVec Ideal S1024x64 .f32) (w : Vec Ideal S1x64 .f32) (g : Fin 4) (k : Fin 256) (e : Fin 64) :
    normK a w (ix2 (krow g k) e) = if k = 0 then 0 else nrm (fun d => a (ix2 (krow g k) d)) (fun d => w (ix2 0 d)) e := by
  rw [← if_congr (krow_zero g k) rfl rfl]
  generalize krow g k = n
  pointwise [normK, nrm, mask_at]
  exact select_if _ _ _

theorem vals_at (a : FVec Ideal S1024x64 .f32) (g : Fin 4) (k : Fin 256) (e : Fin 64) :
    vals a (ix2 (krow g k) e) = if k = 0 then 0 else a (ix2 (krow g k) e) := by
  rw [← if_congr (krow_zero g k) rfl rfl]
  generalize krow g k = n
  pointwise [vals, mask_at]
  exact select_if _ _ _

theorem dots_at (q : FVec Ideal S2048x64 .bf16) (k : FVec Ideal S1024x64 .bf16) (h : Fin 16) (a : Fin 128) (j : Fin 256) :
    dots q k (ix2 (row h a) j) = ∑ d : Fin 64, q (ix2 (row h a) d) * k (ix2 (krow (grp h) j) d) := by
  unfold dots
  refine (concatenate_ofFn_apply (t := S2048x256) (s₁ := S512x256) 0 (fun h : Fin 4 => matmul dot_S512x64_S256x64_S512x256_1_1_0_0_n_n none
      (extractStridedSlice S512x64 ![512 * h.val, 0] q (slQ4 h)) (extractStridedSlice S256x64 ![256 * h.val, 0] k (slK4 h))
      (constant S512x256 .f32 0x00000000#32)) _ rfl 512 rfl
    (ix2 (row h a) j) (grp h) (by show (128 * h.val + a.val) / 512 = h.val / 4; omega) (ix2 ⟨128 * (h.val % 4) + a.val, by omega⟩ j)
    (by show 128 * (h.val % 4) + a.val = (128 * h.val + a.val) % 512; omega) ?_).trans ?_
  · intro b hb; fin_cases b
    · exact absurd rfl hb
    · rfl
  · pointwise []
    refine Finset.sum_congr rfl fun d _ => ?_
    refine congrArg₂ (· * ·) (congrArg q (congrArg₂ ix2 (Fin.ext ?_) rfl)) rfl
    show 512 * (h.val / 4) + (128 * (h.val % 4) + a.val) = 128 * h.val + a.val
    omega

theorem mix_at (p : FVec Ideal S2048x256 .bf16) (v : FVec Ideal S1024x64 .bf16) (h : Fin 16) (a : Fin 128) (e : Fin 64) :
    mix p v (ix2 (row h a) e) = ∑ k : Fin 256, p (ix2 (row h a) k) * v (ix2 (krow (grp h) k) e) := by
  unfold mix
  refine (concatenate_ofFn_apply (t := S2048x64) (s₁ := S512x64) 0 (fun h : Fin 4 => matmul dot_S512x256_S256x64_S512x64_1_0_0_1_n_n none
      (extractStridedSlice S512x256 ![512 * h.val, 0] p (slP4 h)) (extractStridedSlice S256x64 ![256 * h.val, 0] v (slK4 h))
      (constant S512x64 .f32 0x00000000#32)) _ rfl 512 rfl
    (ix2 (row h a) e) (grp h) (by show (128 * h.val + a.val) / 512 = h.val / 4; omega) (ix2 ⟨128 * (h.val % 4) + a.val, by omega⟩ e)
    (by show 128 * (h.val % 4) + a.val = (128 * h.val + a.val) % 512; omega) ?_).trans ?_
  · intro b hb; fin_cases b
    · exact absurd rfl hb
    · rfl
  · pointwise []
    refine Finset.sum_congr rfl fun d _ => ?_
    refine congrArg₂ (· * ·) (congrArg p (congrArg₂ ix2 (Fin.ext ?_) rfl)) rfl
    show 512 * (h.val / 4) + (128 * (h.val % 4) + a.val) = 128 * h.val + a.val
    omega

theorem join_at (o : FVec Ideal S2048x64 .f32) (h : Fin 16) (a : Fin 128) (e : Fin 64) : join o (ix2 a (col h e)) = o (ix2 (row h a) e) := by
  unfold join
  rw [show ∀ (x : FVec Ideal S128x1024 .f32) j, truncf .bf16 x bitsLt_bf16_f32 j = x j from fun _ _ => rfl]
  refine (concatenate_ofFn_apply (t := S128x1024) (s₁ := S128x64) 1 (fun h : Fin 16 => extractStridedSlice S128x64 ![128 * h.val, 0] o (slO h)) _ rfl 64 rfl
    (ix2 a (col h e)) h (by show (64 * h.val + e.val) / 64 = h.val; omega) (ix2 a e) (by show e.val = (64 * h.val + e.val) % 64; omega) ?_).trans ?_
  · intro b hb; fin_cases b
    · rfl
    · exact absurd rfl hb
  · pointwise []
    rfl

theorem scores_at (d : FVec Ideal S2048x256 .f32) (b : Vec Ideal S1x16x128x256 .f32) (h : Fin 16) (a : Fin 128) (k : Fin 256) :
    scores d (shapeCast S16x128x256 b shapeCasts_S1x16x128x256_S16x128x256) (ix2 (row h a) k) = d (ix2 (row h a) k) * SC + b (ix4 0 h a k) := by
  have e : ∀ n : Fin 2048, scores d (shapeCast S16x128x256 b shapeCasts_S1x16x128x256_S16x128x256) (ix2 n k)
      = d (ix2 n k) * SC + b (ix4 0 ⟨n.val / 128, by have := n.isLt; omega⟩ ⟨n.val % 128, by omega⟩ k) := by
    intro n
    pointwise [scores, SC]
  rw [e]
  refine congrArg (_ + ·) (congrArg b (congrArg₂ (fun x y => ix4 0 x y k) (Fin.ext ?_) (Fin.ext ?_)))
  · show (128 * h.val + a.val) / 128 = h.val; omega
  · show (128 * h.val + a.val) % 128 = a.val; omega

theorem exps_at (s : FVec Ideal S2048x256 .f32) (n : Fin 2048) (k : Fin 256) :
    exps s (ix2 n k) = Ideal.exp (s (ix2 n k) - top fun j => s (ix2 n j)) := by
  unfold top
  rw [← c_ninf]
  pointwise [exps]

theorem probs_at (s : FVec Ideal S2048x256 .f32) (n : Fin 2048) (k : Fin 256) :
    probs s (ix2 n k) = s (ix2 n k) * Ideal.div 1 (∑ j, s (ix2 n j)) := by
  pointwise [probs]

/-- One element of a half. -/
theorem half_at (q : Vec Ideal S128x1024 .bf16) (kp kc vp vc : Vec Ideal S128x256 .bf16) (b : Vec Ideal S1x16x128x256 .f32) (qw kw : Vec Ideal S1x64 .f32)
    (h : Fin 16) (a : Fin 128) (e : Fin 64) :
    half q kp kc vp vc b qw kw (ix2 a (col h e))
      = kout (fun k => score (nrm (fun d => q (ix2 a (col h d))) fun d => qw (ix2 0 d))
          (fun d => if k = 0 then 0 else nrm (fun d => cat kp kc k (kcol (grp h) d)) (fun d => kw (ix2 0 d)) d) (b (ix4 0 h a k)))
          (fun k => if k = 0 then 0 else cat vp vc k (kcol (grp h) e)) := by
  unfold half
  rw [join_at, mix_at]
  unfold kout score
  refine Finset.sum_congr rfl fun k _ => ?_
  simp only [probs_at, exps_at, scores_at, dots_at, normQ_at, normK_at, headsQ_at, headsK_at, vals_at]
  rfl

theorem half_KO (P : SP.Idx → EReal) (T : ST.Idx → EReal) (qw kw : Vec Ideal S1x64 .f32) (b : Fin 64) (q : Vec Ideal S128x1024 .bf16)
    (kp kc vp vc : Vec Ideal S128x256 .bf16) (bm : Vec Ideal S1x16x128x256 .f32)
    (hq : ∀ (a : Fin 128) (j : Fin 1024), q (ix2 a j) = P (ix2 ⟨128 * b.val + a.val, by omega⟩ ⟨j.val, by omega⟩))
    (hkp : ∀ (a : Fin 128) (j : Fin 256), kp (ix2 a j) = P (ix2 ⟨128 * (b.val - 1) + a.val, by omega⟩ ⟨9216 + j.val, by omega⟩))
    (hkc : ∀ (a : Fin 128) (j : Fin 256), kc (ix2 a j) = P (ix2 ⟨128 * b.val + a.val, by omega⟩ ⟨9216 + j.val, by omega⟩))
    (hvp : ∀ (a : Fin 128) (j : Fin 256), vp (ix2 a j) = P (ix2 ⟨128 * (b.val - 1) + a.val, by omega⟩ ⟨9472 + j.val, by omega⟩))
    (hvc : ∀ (a : Fin 128) (j : Fin 256), vc (ix2 a j) = P (ix2 ⟨128 * b.val + a.val, by omega⟩ ⟨9472 + j.val, by omega⟩))
    (hb : ∀ (h : Fin 16) (a : Fin 128) (k : Fin 256), bm (ix4 0 h a k) = bias T b h a k) (h : Fin 16) (a : Fin 128) (e : Fin 64) :
    half q kp kc vp vc bm qw kw (ix2 a (col h e)) = KO P T qw kw b a h e := by
  have hk : ∀ k j, cat kp kc k j = win P 9216 (by decide) b k j := fun k j => by
    unfold cat win winRow
    by_cases h : k.val < 128
    · rw [dif_pos h, hkp]; simp only [h, dif_pos]
    · rw [dif_neg h, hkc]; simp only [h, dif_neg, not_false_eq_true]
  have hv : ∀ k j, cat vp vc k j = win P 9472 (by decide) b k j := fun k j => by
    unfold cat win winRow
    by_cases h : k.val < 128
    · rw [dif_pos h, hvp]; simp only [h, dif_pos]
    · rw [dif_neg h, hvc]; simp only [h, dif_neg, not_false_eq_true]
  rw [half_at]
  simp only [hk, hv, hq, hb]
  rfl

theorem out8_at (i : grid0.Coords) (x0 : Vec Ideal S256x1024 .bf16) (x1 : Vec Ideal S256x256 .bf16) (x2 : Vec Ideal S128x256 .bf16) (x3 : Vec Ideal S256x256 .bf16)
    (x4 : Vec Ideal S128x256 .bf16) (x5 : Vec Ideal S2x16x128x256 .f32) (x6 x7 : Vec Ideal S1x64 .f32) (v : View sig .tc .vmem S256x1024 .bf16)
    (f : v.ty.Contents (Elt Ideal)) (r : Fin 2) (a : Fin 128) (j : Fin 1024) :
    out8 i x0 x1 x2 x3 x4 x5 x6 x7 v f (ix2 ⟨128 * r.val + a.val, by omega⟩ j)
      = (![half0 i x0 x1 x2 x3 x4 x5 x6 x7, half1 x0 x1 x3 x5 x6 x7] r : FVec Ideal S128x1024 .bf16) (ix2 a j) := by
  unfold out8
  rw [View.read_tilePieces v f ![128, 1024] _ inbT _ 2 (le_refl 2) (ix2 ⟨128 * r.val + a.val, by omega⟩ j) r r.isLt
    (ix2 a j) (by
      intro b; fin_cases b
      · rfl
      · show j.val = 0 + j.val; omega) 0 (by
      intro q hq
      have hq' : q.val ≠ r.val := fun h => hq (Fin.ext h)
      show 128 * r.val + a.val < 128 * q.val ∨ 128 * q.val + 128 ≤ 128 * r.val + a.val
      omega)]

end

end Cert.AttnIdeal.AttnBlock
-- ==== Proof.AttnArrays.lean ====
module
public import proofs.«01_k».proof.Proof.AttnAt
public import Idealize.ShloMosaic.Lib.Claim

/-! # The attention's array after the run -/

@[expose] public section

set_option maxRecDepth 65536
set_option maxHeartbeats 4000000

namespace Cert.AttnIdeal.AttnArrays

open Cert.AttnIdeal Cert.AttnIdeal.Gen Cert.AttnIdeal.AttnBlock Idealize.ShloMosaic Idealize.ShloMosaic.TcCoe AttnSpec

noncomputable section

variable (m : (ℓ : Loc nD τ sig) → Buf (Elt Ideal) ℓ)

/-- The arguments at launch. -/
abbrev P (c : Dev nD) : Vec Ideal SP .bf16 := m ((c : Thread nD τ).loc main_arg0)
abbrev T (c : Dev nD) : Vec Ideal ST .f32 := m ((c : Thread nD τ).loc main_arg1)
abbrev QW (c : Dev nD) : Vec Ideal SN .f32 := m ((c : Thread nD τ).loc main_arg2)
abbrev KW (c : Dev nD) : Vec Ideal SN .f32 := m ((c : Thread nD τ).loc main_arg3)

theorem off1 : ∀ t : Fin cfg0.N, k0_off1 (grid0.coords t) = ![if t.val = 0 then 0 else 1, 0, 0, 0] := (by decide +kernel : ∀ t : Fin grid0.N, _)

theorem idx : ∀ t : Fin cfg0.N, win0_0.index t = ![t.val, 0] ∧ win0_1.index t = ![t.val, 36] ∧ win0_2.index t = ![2 * t.val - 1, 36]
    ∧ win0_3.index t = ![t.val, 37] ∧ win0_4.index t = ![2 * t.val - 1, 37] ∧ win0_5.index t = ![0, 0, 0, 0]
    ∧ win0_6.index t = ![0, 0] ∧ win0_7.index t = ![0, 0] ∧ win0_8.index t = ![t.val, 0] := (by decide +kernel : ∀ t : Fin grid0.N, _)

theorem lt32 (t : Fin cfg0.N) : t.val < 32 := lt_of_lt_of_eq t.isLt N_0

theorem in0 (c : Dev nD) (t : Fin cfg0.N) (a : Fin 256) (j : Fin 1024) :
    X0_0 m c t (ix2 a j) = P m c (ix2 ⟨256 * t.val + a.val, by have := lt32 t; omega⟩ ⟨j.val, by omega⟩) := by
  unfold X0_0 Pipeline.Window.fill
  rw [dif_pos (moved0_0 t (ix2 a j))]
  blk_simp [iblk, V, idx t]
  refine (congrFun (V_main_arg0 m c) _).trans (congrArg (P m c) ?_)
  blk_ext [iblk, V, idx t]

theorem in1 (c : Dev nD) (t : Fin cfg0.N) (a j : Fin 256) :
    iblk m c 1 t (ix2 a j) = P m c (ix2 ⟨256 * t.val + a.val, by have := lt32 t; omega⟩ ⟨9216 + j.val, by omega⟩) := by
  blk_simp [iblk, V, idx t]
  refine (congrFun (V_main_arg0 m c) _).trans (congrArg (P m c) ?_)
  blk_ext [iblk, V, idx t]

theorem in2 (c : Dev nD) (t : Fin cfg0.N) (a : Fin 128) (j : Fin 256) :
    iblk m c 2 t (ix2 a j) = P m c (ix2 ⟨128 * (2 * t.val - 1) + a.val, by have := lt32 t; omega⟩ ⟨9216 + j.val, by omega⟩) := by
  blk_simp [iblk, V, idx t]
  refine (congrFun (V_main_arg0 m c) _).trans (congrArg (P m c) ?_)
  blk_ext [iblk, V, idx t]

theorem in3 (c : Dev nD) (t : Fin cfg0.N) (a j : Fin 256) :
    iblk m c 3 t (ix2 a j) = P m c (ix2 ⟨256 * t.val + a.val, by have := lt32 t; omega⟩ ⟨9472 + j.val, by omega⟩) := by
  blk_simp [iblk, V, idx t]
  refine (congrFun (V_main_arg0 m c) _).trans (congrArg (P m c) ?_)
  blk_ext [iblk, V, idx t]

theorem in4 (c : Dev nD) (t : Fin cfg0.N) (a : Fin 128) (j : Fin 256) :
    iblk m c 4 t (ix2 a j) = P m c (ix2 ⟨128 * (2 * t.val - 1) + a.val, by have := lt32 t; omega⟩ ⟨9472 + j.val, by omega⟩) := by
  blk_simp [iblk, V, idx t]
  refine (congrFun (V_main_arg0 m c) _).trans (congrArg (P m c) ?_)
  blk_ext [iblk, V, idx t]

theorem in5 (c : Dev nD) (t : Fin cfg0.N) (i : Fin 2) (h : Fin 16) (a : Fin 128) (k : Fin 256) :
    iblk m c 5 t (ix4 i h a k) = T m c (ix4 i h a k) := by
  blk_simp [iblk, V, idx t]
  refine (congrFun (V_main_arg1 m c) _).trans (congrArg (T m c) ?_)
  blk_ext [iblk, V, idx t]

theorem in6 (c : Dev nD) (t : Fin cfg0.N) : iblk m c 6 t = QW m c := by
  funext y; idx_vars y
  blk_simp [iblk, V, idx t]
  refine (congrFun (V_main_arg2 m c) _).trans (congrArg (QW m c) ?_)
  blk_ext [iblk, V, idx t]

theorem in7 (c : Dev nD) (t : Fin cfg0.N) : iblk m c 7 t = KW m c := by
  funext y; idx_vars y
  blk_simp [iblk, V, idx t]
  refine (congrFun (V_main_arg3 m c) _).trans (congrArg (KW m c) ?_)
  blk_ext [iblk, V, idx t]

theorem ldQ0 (x : Vec Ideal S256x1024 .bf16) (a : Fin 128) (j : Fin 1024) :
    View.ld x (Rect.unit ![0, 0] ![128, 1024] inb_S256x1024_S128x1024_0_0) (ix2 a j) = x (ix2 ⟨a.val, by omega⟩ j) := by
  pointwise []
theorem ldQ1 (x : Vec Ideal S256x1024 .bf16) (a : Fin 128) (j : Fin 1024) :
    View.ld x (Rect.unit ![128, 0] ![128, 1024] inb_S256x1024_S128x1024_128_0) (ix2 a j) = x (ix2 ⟨128 + a.val, by omega⟩ j) := by
  pointwise []
theorem ldK0 (x : Vec Ideal S256x256 .bf16) (a : Fin 128) (j : Fin 256) :
    View.ld x (Rect.unit ![0, 0] ![128, 256] inb_S256x256_S128x256_0_0) (ix2 a j) = x (ix2 ⟨a.val, by omega⟩ j) := by
  pointwise []
theorem ldK1 (x : Vec Ideal S256x256 .bf16) (a : Fin 128) (j : Fin 256) :
    View.ld x (Rect.unit ![128, 0] ![128, 256] inb_S256x256_S128x256_128_0) (ix2 a j) = x (ix2 ⟨128 + a.val, by omega⟩ j) := by
  pointwise []
theorem ldT1 (x : Vec Ideal S2x16x128x256 .f32) (h : Fin 16) (a : Fin 128) (k : Fin 256) :
    View.ld x (Rect.unit ![1, 0, 0, 0] ![1, 16, 128, 256] inb_S2x16x128x256_S1x16x128x256_1_0_0_0) (ix4 0 h a k) = x (ix4 1 h a k) := by
  pointwise []
theorem ldT (x : Vec Ideal S2x16x128x256 .f32) (o : Fin 4 → ℕ) (i : Fin 2) (ho : o = ![i.val, 0, 0, 0]) (hb : ∀ a, o a + S1x16x128x256.size a ≤ S2x16x128x256.size a)
    (h : Fin 16) (a : Fin 128) (k : Fin 256) :
    View.ld x (Rect.unit o ![1, 16, 128, 256] hb) (ix4 0 h a k) = x (ix4 i h a k) := by
  subst ho
  refine congrArg x ?_
  funext q
  fin_cases q
  · exact Fin.ext (Nat.add_zero _)
  · exact Fin.ext (by show 0 + 1 * h.val = h.val; omega)
  · exact Fin.ext (by show 0 + 1 * a.val = a.val; omega)
  · exact Fin.ext (by show 0 + 1 * k.val = k.val; omega)

/-- The block of 128 queries of a half. -/
def blk (t : Fin cfg0.N) (r : Fin 2) : Fin 64 := ⟨2 * t.val + r.val, by have := lt32 t; omega⟩

theorem half0_KO (c : Dev nD) (t : Fin cfg0.N) (h : Fin 16) (a : Fin 128) (e : Fin 64) :
    half0 (grid0.coords t) (X0_0 m c t) (iblk m c 1 t) (iblk m c 2 t) (iblk m c 3 t) (iblk m c 4 t) (iblk m c 5 t) (iblk m c 6 t) (iblk m c 7 t) (ix2 a (col h e))
      = KO (P m c) (T m c) (QW m c) (KW m c) (blk t 0) a h e := by
  unfold half0
  rw [in6, in7]
  refine half_KO _ _ _ _ _ _ _ _ _ _ _ ?_ ?_ ?_ ?_ ?_ ?_ h a e
  · intro a j
    refine (ldQ0 _ a j).trans ((in0 m c t _ j).trans (congrArg (P m c) (congrArg₂ ix2 (Fin.ext ?_) rfl)))
    show 256 * t.val + a.val = 128 * (2 * t.val + 0) + a.val; omega
  · intro a j
    exact in2 m c t a j
  · intro a j
    refine (ldK0 _ a j).trans ((in1 m c t _ j).trans (congrArg (P m c) (congrArg₂ ix2 (Fin.ext ?_) rfl)))
    show 256 * t.val + a.val = 128 * (2 * t.val + 0) + a.val; omega
  · intro a j
    exact in4 m c t a j
  · intro a j
    refine (ldK0 _ a j).trans ((in3 m c t _ j).trans (congrArg (P m c) (congrArg₂ ix2 (Fin.ext ?_) rfl)))
    show 256 * t.val + a.val = 128 * (2 * t.val + 0) + a.val; omega
  · intro h a k
    have hi : (if (blk t 0).val = 0 then (0 : Fin 2) else 1).val = if t.val = 0 then 0 else 1 := by
      show (if 2 * t.val + 0 = 0 then (0 : Fin 2) else 1).val = _
      by_cases h0 : t.val = 0
      · rw [if_pos h0, if_pos (by omega)]; rfl
      · rw [if_neg h0, if_neg (by omega)]; rfl
    refine (ldT _ _ (if (blk t 0).val = 0 then 0 else 1) ?_ _ h a k).trans (in5 m c t _ h a k)
    rw [off1 t, hi]

theorem half1_KO (c : Dev nD) (t : Fin cfg0.N) (h : Fin 16) (a : Fin 128) (e : Fin 64) :
    half1 (X0_0 m c t) (iblk m c 1 t) (iblk m c 3 t) (iblk m c 5 t) (iblk m c 6 t) (iblk m c 7 t) (ix2 a (col h e))
      = KO (P m c) (T m c) (QW m c) (KW m c) (blk t 1) a h e := by
  unfold half1
  rw [in6, in7]
  refine half_KO _ _ _ _ _ _ _ _ _ _ _ ?_ ?_ ?_ ?_ ?_ ?_ h a e
  · intro a j
    refine (ldQ1 _ a j).trans ((in0 m c t _ j).trans (congrArg (P m c) (congrArg₂ ix2 (Fin.ext ?_) rfl)))
    show 256 * t.val + (128 + a.val) = 128 * (2 * t.val + 1) + a.val; omega
  · intro a j
    refine (ldK0 _ a j).trans ((in1 m c t _ j).trans (congrArg (P m c) (congrArg₂ ix2 (Fin.ext ?_) rfl)))
    show 256 * t.val + a.val = 128 * (2 * t.val + 1 - 1) + a.val; omega
  · intro a j
    refine (ldK1 _ a j).trans ((in1 m c t _ j).trans (congrArg (P m c) (congrArg₂ ix2 (Fin.ext ?_) rfl)))
    show 256 * t.val + (128 + a.val) = 128 * (2 * t.val + 1) + a.val; omega
  · intro a j
    refine (ldK0 _ a j).trans ((in3 m c t _ j).trans (congrArg (P m c) (congrArg₂ ix2 (Fin.ext ?_) rfl)))
    show 256 * t.val + a.val = 128 * (2 * t.val + 1 - 1) + a.val; omega
  · intro a j
    refine (ldK1 _ a j).trans ((in3 m c t _ j).trans (congrArg (P m c) (congrArg₂ ix2 (Fin.ext ?_) rfl)))
    show 256 * t.val + (128 + a.val) = 128 * (2 * t.val + 1) + a.val; omega
  · intro h a k
    refine (ldT1 _ h a k).trans ((in5 m c t 1 h a k).trans ?_)
    unfold bias
    rw [if_neg (by show 2 * t.val + 1 ≠ 0; omega)]

theorem halves_KO (c : Dev nD) (t : Fin cfg0.N) (r : Fin 2) (h : Fin 16) (a : Fin 128) (e : Fin 64) :
    (![half0 (grid0.coords t) (X0_0 m c t) (iblk m c 1 t) (iblk m c 2 t) (iblk m c 3 t) (iblk m c 4 t) (iblk m c 5 t) (iblk m c 6 t) (iblk m c 7 t),
      half1 (X0_0 m c t) (iblk m c 1 t) (iblk m c 3 t) (iblk m c 5 t) (iblk m c 6 t) (iblk m c 7 t)] r : FVec Ideal S128x1024 .bf16) (ix2 a (col h e))
      = KO (P m c) (T m c) (QW m c) (KW m c) (blk t r) a h e := by
  fin_cases r
  · exact half0_KO m c t h a e
  · exact half1_KO m c t h a e

/-- A half's row in its block. -/
def rowOf (r : Fin 2) (a : Fin 128) : Fin 256 := ⟨128 * r.val + a.val, by omega⟩

theorem rowOf_split (n : Fin 256) : ∃ r a, n = rowOf r a :=
  ⟨⟨n.val / 128, by omega⟩, ⟨n.val % 128, by omega⟩, Fin.ext (by show n.val = 128 * (n.val / 128) + n.val % 128; omega)⟩

theorem col_split (n : Fin 1024) : ∃ h d, n = col h d :=
  ⟨⟨n.val / 64, by omega⟩, ⟨n.val % 64, by omega⟩, Fin.ext (by show n.val = 64 * (n.val / 64) + n.val % 64; omega)⟩

/-- The result at a head's column. -/
theorem out_at (P : SP.Idx → EReal) (T : ST.Idx → EReal) (qw kw : SN.Idx → EReal) (b : Fin 64) (a : Fin 128) (h : Fin 16) (d : Fin 64) (n : Fin 8192)
    (hn : n.val = 128 * b.val + a.val) : out P T qw kw (ix2 n (col h d)) = KO P T qw kw b a h d := by
  unfold out
  have e1 : (⟨n.val / 128, by omega⟩ : Fin 64) = b := Fin.ext (by dsimp only; omega)
  have e2 : (⟨n.val % 128, by omega⟩ : Fin 128) = a := Fin.ext (by dsimp only; omega)
  have e3 : (⟨(64 * h.val + d.val) / 64, by omega⟩ : Fin 16) = h := Fin.ext (by dsimp only; omega)
  have e4 : (⟨(64 * h.val + d.val) % 64, by omega⟩ : Fin 64) = d := Fin.ext (by dsimp only; omega)
  exact (congrArg₂ (fun b' a' => KO P T qw kw b' a' _ _) e1 e2).trans (congrArg₂ (fun h' d' => KO P T qw kw b a h' d') e3 e4)

theorem final8 (c : Dev nD) : (dats m 0 c).arrAt 8 cfg0.N = out (P m c) (T m c) (QW m c) (KW m c) := by
  refine (dats m 0 c).arrAt_eq_of_covers 8 _ (by decide +kernel) fun t hf y => ?_
  blk_simp
  rw [after0_8]
  have e : outsAt0 m c t
      = out8 (grid0.coords t) (X0_0 m c t) (iblk m c 1 t) (iblk m c 2 t) (iblk m c 3 t) (iblk m c 4 t) (iblk m c 5 t) (iblk m c 6 t) (iblk m c 7 t) VO0_8 VO0_8.junk := by
    dsimp only [outsAt0]; rw [out_A_8]
  rw [e]
  idx_vars y
  have ht := lt32 t
  obtain ⟨r, a, rfl⟩ := rowOf_split y0
  obtain ⟨h, d, rfl⟩ := col_split y1
  refine (out8_at _ _ _ _ _ _ _ _ _ _ _ r a (col h d)).trans ((halves_KO m c t r h a d).trans ?_)
  refine Eq.trans ?_ (congrArg (out (P m c) (T m c) (QW m c) (KW m c)) (?_ : ix2 ⟨256 * t.val + (rowOf r a).val, by omega⟩ (col h d) = _))
  · exact (out_at _ _ _ _ (blk t r) a h d _ (by show 256 * t.val + (128 * r.val + a.val) = 128 * (2 * t.val + r.val) + a.val; omega)).symm
  · blk_ext [idx t]

end

end Cert.AttnIdeal.AttnArrays
-- ==== Proof.AttnRef.lean ====
module
public import proofs.«01_k».proof.Proof.AttnSpec
public import proofs.«01_k».proof.Proof.Gen.AttnRefIdeal.Run
public import proofs.«01_k».proof.Proof.Gen.AttnRefIdeal.Read
public import Idealize.ShloMosaic.Lib.Pointwise
public import Idealize.ShloMosaic.Lib.KernelVsHost

/-! # The elements of the reference's attention -/

@[expose] public section

set_option maxRecDepth 65536
set_option maxHeartbeats 4000000

namespace Cert.AttnRefIdeal.AttnRef

open Cert.AttnRefIdeal Cert.AttnRefIdeal.Gen Cert.AttnRefIdeal.Read Idealize.ShloMosaic AttnSpec

noncomputable section

variable (P : Vec Ideal SP .bf16) (T : Vec Ideal ST .f32) (qw kw : Vec Ideal SN .f32)

/-- A query head of a key head. -/
def hd (g u : Fin 4) : Fin 16 := ⟨4 * g.val + u.val, by omega⟩

/-- A token of a block. -/
def tok (b : Fin 64) (a : Fin 128) : Fin 8192 := ⟨128 * b.val + a.val, by omega⟩

theorem v6_at (n : Fin 8192) (h : Fin 16) (d : Fin 64) : val_main_v6 (F := Ideal) P (ix3 n h d) = P (ix2 n ⟨(col h d).val, by omega⟩) := by
  unfold val_main_v6 val_main_v1 val_main_v0
  pointwise []
  refine congrArg P (congrArg₂ ix2 (Fin.ext ?_) (Fin.ext ?_))
  all_goals (dsimp only [col]; try omega)

theorem v19_at (n : Fin 8192) (h : Fin 16) (d : Fin 64) :
    val_main_v19 (F := Ideal) P qw (ix3 n h d) = nrm (fun d => P (ix2 n ⟨(col h d).val, by omega⟩)) (fun d => qw (ix2 0 d)) d := by
  unfold val_main_v19 val_main_v18 val_main_v17 val_main_v16 val_main_v15 val_main_v14 val_main_v13 val_main_v12 val_main_cst_1 val_main_v11 val_main_v10
    val_main_cst_0 val_main_v9 val_main_v8 val_main_cst val_main_v7
  have e := v6_at P
  generalize val_main_v6 (F := Ideal) P = x at e
  pointwise [nrm, e]

theorem v20_at (n : Fin 8192) (g : Fin 4) (d : Fin 64) : val_main_v20 (F := Ideal) P (ix3 n g d) = P (ix2 n ⟨9216 + (kcol g d).val, by omega⟩) := by
  unfold val_main_v20 val_main_v3 val_main_v2
  pointwise []
  refine congrArg P (congrArg₂ ix2 (Fin.ext ?_) (Fin.ext ?_))
  all_goals (dsimp only [kcol]; try omega)

theorem v41_at (n : Fin 8192) (g : Fin 4) (d : Fin 64) : val_main_v41 (F := Ideal) P (ix3 n g d) = P (ix2 n ⟨9472 + (kcol g d).val, by omega⟩) := by
  unfold val_main_v41 val_main_v5 val_main_v4
  pointwise []
  refine congrArg P (congrArg₂ ix2 (Fin.ext ?_) (Fin.ext ?_))
  all_goals (dsimp only [kcol]; try omega)

theorem v33_at (n : Fin 8192) (g : Fin 4) (d : Fin 64) :
    val_main_v33 (F := Ideal) P kw (ix3 n g d) = nrm (fun d => P (ix2 n ⟨9216 + (kcol g d).val, by omega⟩)) (fun d => kw (ix2 0 d)) d := by
  unfold val_main_v33 val_main_v32 val_main_v31 val_main_v30 val_main_v29 val_main_v28 val_main_v27 val_main_v26 val_main_cst_4 val_main_v25 val_main_v24
    val_main_cst_3 val_main_v23 val_main_v22 val_main_cst_2 val_main_v21
  have e := v20_at P
  generalize val_main_v20 (F := Ideal) P = x at e
  pointwise [nrm, e]

theorem v34_at (b : Fin 64) (a : Fin 128) (g u : Fin 4) (d : Fin 64) :
    val_main_v34 (F := Ideal) P qw (ix5 b a g u d) = nq P qw b a (hd g u) d := by
  unfold val_main_v34
  have e := v19_at P qw
  generalize val_main_v19 (F := Ideal) P qw = x at e
  pointwise []
  refine Eq.trans (congrArg x (?_ : _ = ix3 (tok b a) (hd g u) d)) (e _ _ _)
  refine congrArg₂ (fun p q => ix3 p q d) (Fin.ext ?_) (Fin.ext ?_)
  all_goals (dsimp only [tok, hd]; omega)

theorem v35_at (b : Fin 64) (a : Fin 128) (g : Fin 4) (d : Fin 64) :
    val_main_v35 (F := Ideal) P kw (ix4 b a g d) = val_main_v33 (F := Ideal) P kw (ix3 (tok b a) g d) := by
  unfold val_main_v35
  generalize val_main_v33 (F := Ideal) P kw = x
  pointwise []
  refine congrArg (fun p => x (ix3 p g d)) (Fin.ext ?_)
  dsimp only [tok]; omega

theorem v42_at (b : Fin 64) (a : Fin 128) (g : Fin 4) (d : Fin 64) :
    val_main_v42 (F := Ideal) P (ix4 b a g d) = val_main_v41 (F := Ideal) P (ix3 (tok b a) g d) := by
  unfold val_main_v42
  generalize val_main_v41 (F := Ideal) P = x
  pointwise []
  refine congrArg (fun p => x (ix3 p g d)) (Fin.ext ?_)
  dsimp only [tok]; omega

/-- Position `k` of the two blocks a query sees, where nothing lies before the first block. -/
theorem window (f : Fin 64 → Fin 128 → EReal) (G : Fin 8192 → EReal) (e : ∀ b a, f b a = G (tok b a)) (b : Fin 64) (k : Fin 256) :
    (if hk : k.val < 128 then if hb : b.val < 1 then 0 else f ⟨b.val - 1, by omega⟩ ⟨k.val, hk⟩ else f b ⟨k.val - 128, by omega⟩)
      = if AttnSpec.none b k then 0 else G (winRow b k) := by
  by_cases hk : k.val < 128
  · rw [dif_pos hk]
    by_cases hb : b.val < 1
    · rw [dif_pos hb, if_pos (show AttnSpec.none b k from ⟨by omega, hk⟩)]
    · rw [dif_neg hb, if_neg (fun h : AttnSpec.none b k => hb (by have := h.1; omega)), e]
      exact congrArg G (by unfold winRow; rw [dif_pos hk]; rfl)
  · rw [dif_neg hk, if_neg (fun h : AttnSpec.none b k => hk h.2), e]
    exact congrArg G (by unfold winRow; rw [dif_neg hk]; rfl)

theorem v40_at (b : Fin 64) (k : Fin 256) (g : Fin 4) (d : Fin 64) :
    val_main_v40 (F := Ideal) P kw (ix4 b k g d) = if none b k then 0 else nk P kw b k g d := by
  unfold val_main_v40 val_main_v39 val_main_v38 val_main_v37 val_main_cst_5
  have e := fun b a g d => (v35_at P kw b a g d).trans (v33_at P kw (tok b a) g d)
  generalize val_main_v35 (F := Ideal) P kw = x at e
  pointwise []
  exact window (fun b a => x (ix4 b a g d))
    (fun n => nrm (fun d => P (ix2 n ⟨9216 + (kcol g d).val, by have := (kcol g d).isLt; omega⟩)) (fun d => kw (ix2 0 d)) d) (fun b a => e b a g d) b k

theorem v47_at (b : Fin 64) (k : Fin 256) (g : Fin 4) (d : Fin 64) :
    val_main_v47 (F := Ideal) P (ix4 b k g d) = if none b k then 0 else win P 9472 (by decide) b k (kcol g d) := by
  unfold val_main_v47 val_main_v46 val_main_v45 val_main_v44 val_main_cst_6
  have e := fun b a g d => (v42_at P b a g d).trans (v41_at P (tok b a) g d)
  generalize val_main_v42 (F := Ideal) P = x at e
  pointwise []
  exact window (fun b a => x (ix4 b a g d)) (fun n => P (ix2 n ⟨9472 + (kcol g d).val, by have := (kcol g d).isLt; omega⟩)) (fun b a => e b a g d) b k

theorem v52_at (b : Fin 64) (g u : Fin 4) (a : Fin 128) (k : Fin 256) :
    val_main_v52 (F := Ideal) T (ix5 b g u a k) = bias T b (hd g u) a k := by
  unfold val_main_v52 val_main_v51 val_main_v50 val_main_v49 val_main_v48
  pointwise []
  have key : ∀ h : Fin 16, h = hd g u →
      (if hb : b.val < 1 then T (ix4 ⟨b.val, by omega⟩ h a k) else T (ix4 1 h a k)) = bias T b (hd g u) a k := by
    rintro _ rfl
    unfold bias
    by_cases hb : b.val < 1
    · rw [dif_pos hb, if_pos (by omega)]
      exact congrArg (fun i => T (ix4 i (hd g u) a k)) (Fin.ext (by show b.val = 0; omega))
    · rw [dif_neg hb, if_neg (by omega)]
  exact key ⟨g.val * 4 + u.val, by omega⟩ (Fin.ext (by show g.val * 4 + u.val = 4 * g.val + u.val; omega))

theorem first_bit : ∀ k : Fin 256, IntOp.cmpi .eq (BitVec.ofNat 32 k.val) 0#32 = if k = 0 then 1#1 else 0#1 := by decide +kernel

theorem select_if (p : Prop) [Decidable p] (a b : EReal) : Scalar.select (if p then 1#1 else 0#1) a b = if p then a else b := by
  split <;> rfl

theorem v63_at (b : Fin 64) (g u : Fin 4) (a : Fin 128) (k : Fin 256) :
    val_main_v63 (F := Ideal) P T qw kw (ix5 b g u a k) = if k = 0 then ⊥ else
      score (nq P qw b a (hd g u)) (fun d => if none b k then 0 else nk P kw b k g d) (bias T b (hd g u) a k) := by
  unfold val_main_v63 val_main_call0_v2 val_main_call0_v1 val_main_call0_v0 val_main_cst_8 val_main_v62 val_main_v61 val_main_v60 val_main_c val_main_v59 val_main_v58
    val_main_v57 val_main_cst_7 val_main_v56 val_main_v55 val_main_v54 val_main_v53
  have e1 := v52_at T
  have e2 := v40_at P kw
  have e3 := v34_at P qw
  generalize val_main_v52 (F := Ideal) T = x1 at e1
  generalize val_main_v40 (F := Ideal) P kw = x2 at e2
  generalize val_main_v34 (F := Ideal) P qw = x3 at e3
  pointwise [e1, e2, e3]
  rw [first_bit]
  unfold score SC
  refine (select_if _ _ _).trans ?_
  refine congrArg₂ (fun p q => if k = 0 then p else q) c_ninf (congrArg (fun p => p * _ + _) (Finset.sum_congr rfl fun d _ => mul_comm _ _))

theorem v64_at (b : Fin 64) (g u : Fin 4) (a : Fin 128) (z : Fin 1) : val_main_v64 (F := Ideal) T (ix5 b g u a z) = bias T b (hd g u) a 0 := by
  unfold val_main_v64
  have e1 := v52_at T
  generalize val_main_v52 (F := Ideal) T = x1 at e1
  pointwise [e1]

theorem v65_at (b : Fin 64) (g u : Fin 4) (a : Fin 128) :
    val_main_v65 (F := Ideal) P T qw kw (ix4 b g u a) = top fun k => val_main_v63 (F := Ideal) P T qw kw (ix5 b g u a k) := by
  unfold val_main_v65 val_main_cst_9 top
  generalize val_main_v63 (F := Ideal) P T qw kw = x
  rw [← c_ninf]
  pointwise []

end

end Cert.AttnRefIdeal.AttnRef
-- ==== Proof.AttnRefOut.lean ====
module
public import proofs.«01_k».proof.Proof.AttnRef

/-! # The reference's attention -/

@[expose] public section

set_option maxRecDepth 65536
set_option maxHeartbeats 4000000

namespace Cert.AttnRefIdeal.AttnRef

open Cert.AttnRefIdeal Cert.AttnRefIdeal.Gen Cert.AttnRefIdeal.Read Idealize.ShloMosaic AttnSpec

noncomputable section

variable (P : Vec Ideal SP .bf16) (T : Vec Ideal ST .f32) (qw kw : Vec Ideal SN .f32)

/-- The scores of a query. -/
def sc (b : Fin 64) (g u : Fin 4) (a : Fin 128) (k : Fin 256) : EReal := if k = 0 then ⊥ else
  score (nq P qw b a (hd g u)) (fun d => if none b k then 0 else nk P kw b k g d) (bias T b (hd g u) a k)

/-- The greatest of the scores and the sink. -/
def mx (b : Fin 64) (g u : Fin 4) (a : Fin 128) : EReal := max (top (sc P T qw kw b g u a)) (bias T b (hd g u) a 0)

theorem v63_sc (b : Fin 64) (g u : Fin 4) (a : Fin 128) (k : Fin 256) :
    val_main_v63 (F := Ideal) P T qw kw (ix5 b g u a k) = sc P T qw kw b g u a k := v63_at P T qw kw b g u a k

theorem v65_sc (b : Fin 64) (g u : Fin 4) (a : Fin 128) : val_main_v65 (F := Ideal) P T qw kw (ix4 b g u a) = top (sc P T qw kw b g u a) := by
  rw [v65_at]
  exact congrArg top (funext fun k => v63_sc P T qw kw b g u a k)

theorem v66_at (b : Fin 64) (g u : Fin 4) (a : Fin 128) (z : Fin 1) :
    val_main_v66 (F := Ideal) P T qw kw (ix5 b g u a z) = val_main_v65 (F := Ideal) P T qw kw (ix4 b g u a) := by
  unfold val_main_v66
  generalize val_main_v65 (F := Ideal) P T qw kw = x2
  pointwise []

theorem v67_at (b : Fin 64) (g u : Fin 4) (a : Fin 128) (z : Fin 1) : val_main_v67 (F := Ideal) P T qw kw (ix5 b g u a z) = mx P T qw kw b g u a := by
  have h1 : val_main_v66 (F := Ideal) P T qw kw (ix5 b g u a z) = top (sc P T qw kw b g u a) := (v66_at P T qw kw b g u a z).trans (v65_sc P T qw kw b g u a)
  have h2 : val_main_v64 (F := Ideal) T (ix5 b g u a z) = bias T b (hd g u) a 0 := v64_at T b g u a z
  refine (val_main_v67_apply (F := Ideal) P T qw kw (ix5 b g u a z)).trans ?_
  rw [h1, h2]
  exact Ideal.maximumf_def _ _

theorem v68_at (b : Fin 64) (g u : Fin 4) (a : Fin 128) (k : Fin 256) :
    val_main_v68 (F := Ideal) P T qw kw (ix5 b g u a k) = val_main_v67 (F := Ideal) P T qw kw (ix5 b g u a 0) := by
  unfold val_main_v68
  generalize val_main_v67 (F := Ideal) P T qw kw = x
  pointwise []

theorem v70_at (b : Fin 64) (g u : Fin 4) (a : Fin 128) (k : Fin 256) :
    val_main_v70 (F := Ideal) P T qw kw (ix5 b g u a k) = Ideal.exp (sc P T qw kw b g u a k - mx P T qw kw b g u a) := by
  have h1 := v63_sc P T qw kw b g u a k
  have h2 := (v68_at P T qw kw b g u a k).trans (v67_at P T qw kw b g u a 0)
  refine (val_main_v70_apply (F := Ideal) P T qw kw _).trans ?_
  rw [val_main_v69_apply (F := Ideal) P T qw kw _, h1, h2]
  generalize sc P T qw kw b g u a k = s
  generalize mx P T qw kw b g u a = t
  rfl

theorem v71_at (b : Fin 64) (g u : Fin 4) (a : Fin 128) :
    val_main_v71 (F := Ideal) P T qw kw (ix4 b g u a) = (∑ k, Ideal.exp (sc P T qw kw b g u a k - mx P T qw kw b g u a)) := by
  refine Eq.trans ?_ (Finset.sum_congr rfl fun k _ => v70_at P T qw kw b g u a k)
  unfold val_main_v71 val_main_cst_10
  generalize val_main_v70 (F := Ideal) P T qw kw = x
  pointwise []

theorem v72_at (b : Fin 64) (g u : Fin 4) (a : Fin 128) (z : Fin 1) :
    val_main_v72 (F := Ideal) P T qw kw (ix5 b g u a z) = val_main_v71 (F := Ideal) P T qw kw (ix4 b g u a) := by
  unfold val_main_v72
  generalize val_main_v71 (F := Ideal) P T qw kw = x
  pointwise []

theorem v75_at (b : Fin 64) (g u : Fin 4) (a : Fin 128) (z : Fin 1) :
    val_main_v75 (F := Ideal) P T qw kw (ix5 b g u a z) = (∑ k, Ideal.exp (sc P T qw kw b g u a k - mx P T qw kw b g u a))
      + Ideal.exp (bias T b (hd g u) a 0 - mx P T qw kw b g u a) := by
  have h1 := (v72_at P T qw kw b g u a z).trans (v71_at P T qw kw b g u a)
  have h2 := v67_at P T qw kw b g u a z
  have h3 : val_main_v64 (F := Ideal) T (ix5 b g u a z) = bias T b (hd g u) a 0 := v64_at T b g u a z
  refine (val_main_v75_apply (F := Ideal) P T qw kw _).trans ?_
  rw [val_main_v74_apply (F := Ideal) P T qw kw _, val_main_v73_apply (F := Ideal) P T qw kw _, h1, h2, h3]
  generalize (∑ k, Ideal.exp (sc P T qw kw b g u a k - mx P T qw kw b g u a)) = s
  generalize mx P T qw kw b g u a = t
  generalize bias T b (hd g u) a 0 = r
  rfl

theorem v76_at (b : Fin 64) (g u : Fin 4) (a : Fin 128) (k : Fin 256) :
    val_main_v76 (F := Ideal) P T qw kw (ix5 b g u a k) = val_main_v75 (F := Ideal) P T qw kw (ix5 b g u a 0) := by
  unfold val_main_v76
  generalize val_main_v75 (F := Ideal) P T qw kw = x
  pointwise []

/-- The weight of a key. -/
theorem v78_at (b : Fin 64) (g u : Fin 4) (a : Fin 128) (k : Fin 256) :
    val_main_v78 (F := Ideal) P T qw kw (ix5 b g u a k) = Ideal.div (Ideal.exp (sc P T qw kw b g u a k - mx P T qw kw b g u a))
      ((∑ k, Ideal.exp (sc P T qw kw b g u a k - mx P T qw kw b g u a)) + Ideal.exp (bias T b (hd g u) a 0 - mx P T qw kw b g u a)) := by
  have h1 := v70_at P T qw kw b g u a k
  have h2 := (v76_at P T qw kw b g u a k).trans (v75_at P T qw kw b g u a 0)
  refine (val_main_v78_apply (F := Ideal) P T qw kw _).trans ?_
  rw [val_main_v77_apply (F := Ideal) P T qw kw _, h1, h2]
  generalize (∑ k, Ideal.exp (sc P T qw kw b g u a k - mx P T qw kw b g u a)) + Ideal.exp (bias T b (hd g u) a 0 - mx P T qw kw b g u a) = s
  generalize Ideal.exp (sc P T qw kw b g u a k - mx P T qw kw b g u a) = t
  rfl

theorem v79_at (b : Fin 64) (k : Fin 256) (g : Fin 4) (d : Fin 64) :
    val_main_v79 (F := Ideal) P (ix4 b k g d) = if AttnSpec.none b k then 0 else win P 9472 (by decide) b k (kcol g d) :=
  (val_main_v79_apply (F := Ideal) P _).trans (v47_at P b k g d)

theorem v80_at (b : Fin 64) (g u : Fin 4) (a : Fin 128) (d : Fin 64) :
    val_main_v80 (F := Ideal) P T qw kw (ix5 b g d u a)
      = ∑ k : Fin 256, (val_main_v79 (F := Ideal) P (ix4 b k g d) : EReal) * val_main_v78 (F := Ideal) P T qw kw (ix5 b g u a k) := by
  unfold val_main_v80
  generalize val_main_v79 (F := Ideal) P = x
  generalize val_main_v78 (F := Ideal) P T qw kw = y
  pointwise []

theorem v81_raw (b : Fin 64) (g u : Fin 4) (a : Fin 128) (d : Fin 64) :
    val_main_v81 (F := Ideal) P T qw kw (ix5 b a g u d) = val_main_v80 (F := Ideal) P T qw kw (ix5 b g d u a) := by
  unfold val_main_v81
  generalize val_main_v80 (F := Ideal) P T qw kw = x
  pointwise []

theorem v81_at (b : Fin 64) (g u : Fin 4) (a : Fin 128) (d : Fin 64) :
    val_main_v81 (F := Ideal) P T qw kw (ix5 b a g u d) = rout (sc P T qw kw b g u a) (bias T b (hd g u) a 0)
      (fun k => if AttnSpec.none b k then 0 else win P 9472 (by decide) b k (kcol g d)) := by
  rw [v81_raw, v80_at]
  unfold rout
  refine Finset.sum_congr rfl fun k _ => ?_
  rw [v79_at, v78_at, mul_comm]
  rfl

theorem v83_at (b : Fin 64) (g u : Fin 4) (a : Fin 128) (d : Fin 64) :
    val_main_v83 (F := Ideal) P T qw kw (ix2 (tok b a) (col (hd g u) d)) = RO P T qw kw b a (hd g u) d := by
  have hg : grp (hd g u) = g := Fin.ext (by show (4 * g.val + u.val) / 4 = g.val; omega)
  have e : RO P T qw kw b a (hd g u) d = val_main_v81 (F := Ideal) P T qw kw (ix5 b a g u d) := by
    rw [v81_at]; unfold RO; rw [hg]; rfl
  rw [e]
  unfold val_main_v83 val_main_v82
  generalize val_main_v81 (F := Ideal) P T qw kw = x
  show shapeCast S8192x1024 x shapeCasts_S64x128x4x4x64_S8192x1024 _ = _
  refine shapeCast_apply x _ _ (ix5 b a g u d) ?_
  rw [Shape.rowMajor_val_two, Shape.rowMajor_val_five]
  show (((b.val * 128 + a.val) * 4 + g.val) * 4 + u.val) * 64 + d.val = (128 * b.val + a.val) * 1024 + (64 * (4 * g.val + u.val) + d.val)
  omega

end

end Cert.AttnRefIdeal.AttnRef
-- ==== Proof.AttnClaim.lean ====
/-
  The value claim of the attention: on norm weights with no infinity, and a table that masks the keys before the first
  token and no sink, the call's result is the reference's.
-/
module

public import proofs.«01_k».proof.Defs
public import proofs.«01_k».proof.Proof.AttnArrays
public import proofs.«01_k».proof.Proof.AttnRefOut
public import proofs.«01_k».proof.Proof.TailPre
public import proofs.«01_k».proof.Proof.RealLift
public import proofs.«01_k».proof.Proof.Gen.AttnIdeal.Value
public import proofs.«01_k».proof.Proof.Gen.Pre_attn_masked

@[expose] public section

set_option maxRecDepth 65536

noncomputable section

namespace Cert.AttnRefIdeal.AttnRef

open Cert.AttnRefIdeal Cert.AttnRefIdeal.Gen Cert.AttnRefIdeal.Read Idealize.ShloMosaic AttnSpec
open Cert.AttnIdeal.AttnArrays (out_at col_split)

theorem tok_split (n : Fin 8192) : ∃ b a, n = tok b a :=
  ⟨⟨n.val / 128, by omega⟩, ⟨n.val % 128, by omega⟩, Fin.ext (by show n.val = 128 * (n.val / 128) + n.val % 128; omega)⟩

theorem hd_split (h : Fin 16) : ∃ g u, h = hd g u :=
  ⟨⟨h.val / 4, by omega⟩, ⟨h.val % 4, by omega⟩, Fin.ext (by show h.val = 4 * (h.val / 4) + h.val % 4; omega)⟩

/-- The reference's result. -/
theorem ref_out (P : Vec Ideal SP .bf16) (T : Vec Ideal ST .f32) (qw kw : Vec Ideal SN .f32)
    (hq : ∃ p : SN.Idx → ℝ, qw = fun i => (p i : EReal))
    (hk : ∃ p : SN.Idx → ℝ, kw = fun i => (p i : EReal)) (hT : ∀ i, T i ≠ (⊤ : EReal)) (hT0 : ∀ i h a, T (ix4 i h a 0) ≠ (⊥ : EReal))
    (hTm : ∀ h a (k : Fin 256), k ≠ 0 → k.val < 128 → T (ix4 0 h a k) = (⊥ : EReal)) :
    val_main_v83 (F := Ideal) P T qw kw = out P T qw kw := by
  funext y; idx_vars y
  obtain ⟨b, a, rfl⟩ := tok_split y0
  obtain ⟨h, d, rfl⟩ := col_split y1
  obtain ⟨g, u, rfl⟩ := hd_split h
  exact (v83_at P T qw kw b g u a d).trans ((KO_eq_RO P T qw kw hq hk hT hT0 hTm b a (hd g u) d).symm.trans
    (out_at P T qw kw b a (hd g u) d (tok b a) rfl).symm)

end Cert.AttnRefIdeal.AttnRef

namespace Cert.AttnIdeal.AttnClaim

open Idealize.ShloMosaic Idealize.ShloMosaic.StableHlo Idealize.SL.Sem Cert.AttnIdeal Cert.AttnIdeal.Gen Cert.AttnIdeal.AttnArrays AttnSpec
open Cert.RealLift
open Cert.KernelIdeal.TailPre (lt_of_cmp)
open Cert.AttnRefIdeal.AttnRef (ref_out)

theorem gt_of_cmp {φ : FTy} {a b : Ideal φ} (h : FloatOps.cmpf .ogt a b = 1) : (b : EReal) < a := by
  rw [Ideal.cmpf_def] at h
  by_contra hn
  simp [Ideal.cmp, hn] at h

theorem eq_of_cmp {φ : FTy} {a b : Ideal φ} (h : FloatOps.cmpf .oeq a b = 1) : (a : EReal) = b := by
  rw [Ideal.cmpf_def] at h
  by_contra hn
  simp [Ideal.cmp, hn] at h

/-- What the precondition says of the arguments of device `c`. -/
theorem holds [hp : Cert.Pre_attn_masked.Facts] {m : (ℓ : Loc nD τ sig) → Buf (Elt Ideal) ℓ} (h : Cert.Pre_AttnIdeal_attn_masked m) (c : Dev nD) :
    (∃ p : SN.Idx → ℝ, QW m c = fun i => (p i : EReal))
    ∧ (∃ p : SN.Idx → ℝ, KW m c = fun i => (p i : EReal)) ∧ (∀ i, T m c i ≠ (⊤ : EReal)) ∧ (∀ i h a, T m c (ix4 i h a 0) ≠ (⊥ : EReal))
    ∧ ∀ h a (k : Fin 256), k ≠ 0 → k.val < 128 → T m c (ix4 0 h a k) = (⊥ : EReal) := by
  obtain ⟨h1, h2, h3, h4, h5⟩ := h c
  refine ⟨⟨_, eq_lift_of_lt_top (φ := .f32) _ fun i => lt_of_lt_of_eq (lt_of_cmp (congrFun h1 i)) c_inf⟩,
    ⟨_, eq_lift_of_lt_top (φ := .f32) _ fun i => lt_of_lt_of_eq (lt_of_cmp (congrFun h2 i)) c_inf⟩,
    fun i => ne_of_lt (lt_of_lt_of_eq (lt_of_cmp (congrFun h3 i)) c_inf), fun i h a => ?_, fun h a k h0k hk => ?_⟩
  · refine ne_of_gt (lt_of_eq_of_lt c_ninf.symm ((gt_of_cmp (congrFun h4 (ix3 i h a))).trans_eq ?_))
    refine (shapeCast_apply _ _ _ (ix4 i h a (0 : Fin 1)) ?_).trans ?_
    · rw [Shape.rowMajor_val_three, Shape.rowMajor_val_four]
      show ((i.val * 16 + h.val) * 128 + a.val) * 1 + 0 = (i.val * 16 + h.val) * 128 + a.val
      omega
    · show extractStridedSlice _ _ (T m c) _ _ = _
      generalize T m c = x
      pointwise []
  · have h0v : k.val ≠ 0 := fun e => h0k (Fin.ext e)
    refine Eq.trans (Eq.symm ?_) ((eq_of_cmp (congrFun h5 (ix3 h a ⟨k.val - 1, by omega⟩))).trans c_ninf)
    refine (shapeCast_apply _ _ _ (ix4 (0 : Fin 1) h a (⟨k.val - 1, by omega⟩ : Fin 127)) ?_).trans ?_
    · rw [Shape.rowMajor_val_three, Shape.rowMajor_val_four]
      show ((0 * 16 + h.val) * 128 + a.val) * 127 + (k.val - 1) = (h.val * 128 + a.val) * 127 + (k.val - 1)
      omega
    · have e : ∀ j : Fin 256, j = k → T m c (ix4 0 h a j) = T m c (ix4 0 h a k) := by rintro _ rfl; rfl
      refine Eq.trans ?_ (e ⟨1 + (k.val - 1), by omega⟩ (Fin.ext (by show 1 + (k.val - 1) = k.val; omega)))
      show extractStridedSlice _ _ (T m c) _ _ = _
      generalize T m c = x
      pointwise []

set_option maxHeartbeats 2000000 in
/-- The value claim of the attention: the call's result is the reference's. -/
theorem algebraic : Cert.algebraic_AttnIdeal_AttnRefIdeal_pre_attn_masked (hAttnIdeal := Cert.AttnIdeal.Gen.facts)
    (hAttnRefIdeal := Cert.AttnRefIdeal.Gen.facts) (hPre_attn_masked := Cert.Pre_attn_masked.Gen.facts) := by
  pair_intro
  · exact Cert.AttnIdeal.Value.run_blocks m g
  · refine (θ_run _ _ _).mono (fun r h c => ?_) (Cert.AttnRefIdeal.Value.run m' g')
    obtain ⟨hq, hk, hT, hT0, hTm⟩ := holds (hp := Cert.Pre_attn_masked.Gen.facts) hpre c
    obtain ⟨a0, a1, a2, a3⟩ := hagree c
    obtain ⟨r83, args⟩ := h c
    refine ⟨r83.trans ?_, args⟩
    refine (Cert.AttnRefIdeal.Read.val_main_v83_eq m' c).trans ?_
    rw [a0, a1, a2, a3]
    exact (ref_out _ _ _ _ hq hk hT hT0 hTm).trans (final8 m c).symm

/-- The reference leaves its arguments unchanged, and it has no semaphores. -/
theorem reference_frame (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩
      fun r => (∀ c : Dev Cert.AttnRefIdeal.nD,
        r.2.mem ((c.tc : Thread Cert.AttnRefIdeal.nD Cert.AttnRefIdeal.τ).loc Cert.AttnRefIdeal.main_arg0)
          = m ((c.tc : Thread Cert.AttnRefIdeal.nD Cert.AttnRefIdeal.τ).loc Cert.AttnRefIdeal.main_arg0)
        ∧ r.2.mem ((c.tc : Thread Cert.AttnRefIdeal.nD Cert.AttnRefIdeal.τ).loc Cert.AttnRefIdeal.main_arg1)
          = m ((c.tc : Thread Cert.AttnRefIdeal.nD Cert.AttnRefIdeal.τ).loc Cert.AttnRefIdeal.main_arg1)
        ∧ r.2.mem ((c.tc : Thread Cert.AttnRefIdeal.nD Cert.AttnRefIdeal.τ).loc Cert.AttnRefIdeal.main_arg2)
          = m ((c.tc : Thread Cert.AttnRefIdeal.nD Cert.AttnRefIdeal.τ).loc Cert.AttnRefIdeal.main_arg2)
        ∧ r.2.mem ((c.tc : Thread Cert.AttnRefIdeal.nD Cert.AttnRefIdeal.τ).loc Cert.AttnRefIdeal.main_arg3)
          = m ((c.tc : Thread Cert.AttnRefIdeal.nD Cert.AttnRefIdeal.τ).loc Cert.AttnRefIdeal.main_arg3)
       ) ∧ r.2.sem = fun _ => 0 :=
  (θ_run _ _ _).mono (fun r h => ⟨fun c => (h c).2, sem_eq_zero_of_no_sems rfl _⟩) (Cert.AttnRefIdeal.Value.run m ρ)

end Cert.AttnIdeal.AttnClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.TailClaim
public import proofs.«01_k».proof.Proof.Gen.Dproj
public import proofs.«01_k».proof.Proof.Gen.Dproj.Skeleton
public import proofs.«01_k».proof.Proof.Gen.Dproj.Launch
public import proofs.«01_k».proof.Proof.Gen.Dproj.Points
public import proofs.«01_k».proof.Proof.Gen.Dproj.Frame
public import proofs.«01_k».proof.Proof.Gen.DprojIdeal
public import proofs.«01_k».proof.Proof.Gen.DprojIdeal.Skeleton
public import proofs.«01_k».proof.Proof.Gen.DprojIdeal.Launch
public import proofs.«01_k».proof.Proof.Gen.DprojIdeal.Points
public import proofs.«01_k».proof.Proof.Gen.DprojIdeal.Frame
public import proofs.«01_k».proof.Proof.Gen.DprojIdeal.Value
public import proofs.«01_k».proof.Proof.Gen.DprojRefIdeal
public import proofs.«01_k».proof.Proof.Gen.DprojRefIdeal.Run
public import proofs.«01_k».proof.Proof.Gen.DprojRefIdeal.Read
public import proofs.«01_k».proof.Proof.Gen.Dw1024
public import proofs.«01_k».proof.Proof.Gen.Dw1024.Skeleton
public import proofs.«01_k».proof.Proof.Gen.Dw1024.Launch
public import proofs.«01_k».proof.Proof.Gen.Dw1024.Points
public import proofs.«01_k».proof.Proof.Gen.Dw1024.Frame
public import proofs.«01_k».proof.Proof.Gen.Dw1024Ideal
public import proofs.«01_k».proof.Proof.Gen.Dw1024Ideal.Skeleton
public import proofs.«01_k».proof.Proof.Gen.Dw1024Ideal.Launch
public import proofs.«01_k».proof.Proof.Gen.Dw1024Ideal.Points
public import proofs.«01_k».proof.Proof.Gen.Dw1024Ideal.Frame
public import proofs.«01_k».proof.Proof.Gen.Dw1024Ideal.Value
public import proofs.«01_k».proof.Proof.Gen.Dw1024RefIdeal
public import proofs.«01_k».proof.Proof.Gen.Dw1024RefIdeal.Run
public import proofs.«01_k».proof.Proof.Gen.Dw1024RefIdeal.Read
public import proofs.«01_k».proof.Proof.Gen.DwSsm
public import proofs.«01_k».proof.Proof.Gen.DwSsm.Skeleton
public import proofs.«01_k».proof.Proof.Gen.DwSsm.Launch
public import proofs.«01_k».proof.Proof.Gen.DwSsm.Points
public import proofs.«01_k».proof.Proof.Gen.DwSsm.Frame
public import proofs.«01_k».proof.Proof.Gen.DwSsmIdeal
public import proofs.«01_k».proof.Proof.Gen.DwSsmIdeal.Skeleton
public import proofs.«01_k».proof.Proof.Gen.DwSsmIdeal.Launch
public import proofs.«01_k».proof.Proof.Gen.DwSsmIdeal.Points
public import proofs.«01_k».proof.Proof.Gen.DwSsmIdeal.Frame
public import proofs.«01_k».proof.Proof.Gen.DwSsmIdeal.Value
public import proofs.«01_k».proof.Proof.Gen.DwSsmRefIdeal
public import proofs.«01_k».proof.Proof.Gen.DwSsmRefIdeal.Run
public import proofs.«01_k».proof.Proof.Gen.DwSsmRefIdeal.Read
public import proofs.«01_k».proof.Proof.Gen.Dw5120
public import proofs.«01_k».proof.Proof.Gen.Dw5120.Skeleton
public import proofs.«01_k».proof.Proof.Gen.Dw5120.Launch
public import proofs.«01_k».proof.Proof.Gen.Dw5120.Points
public import proofs.«01_k».proof.Proof.Gen.Dw5120.Frame
public import proofs.«01_k».proof.Proof.Gen.Dw5120Ideal
public import proofs.«01_k».proof.Proof.Gen.Dw5120Ideal.Skeleton
public import proofs.«01_k».proof.Proof.Gen.Dw5120Ideal.Launch
public import proofs.«01_k».proof.Proof.Gen.Dw5120Ideal.Points
public import proofs.«01_k».proof.Proof.Gen.Dw5120Ideal.Frame
public import proofs.«01_k».proof.Proof.Gen.Dw5120Ideal.Value
public import proofs.«01_k».proof.Proof.Gen.Dw5120RefIdeal
public import proofs.«01_k».proof.Proof.Gen.Dw5120RefIdeal.Run
public import proofs.«01_k».proof.Proof.Gen.Dw5120RefIdeal.Read
public import proofs.«01_k».proof.Proof.Gen.Dw3072
public import proofs.«01_k».proof.Proof.Gen.Dw3072.Skeleton
public import proofs.«01_k».proof.Proof.Gen.Dw3072.Launch
public import proofs.«01_k».proof.Proof.Gen.Dw3072.Points
public import proofs.«01_k».proof.Proof.Gen.Dw3072.Frame
public import proofs.«01_k».proof.Proof.Gen.Dw3072Ideal
public import proofs.«01_k».proof.Proof.Gen.Dw3072Ideal.Skeleton
public import proofs.«01_k».proof.Proof.Gen.Dw3072Ideal.Launch
public import proofs.«01_k».proof.Proof.Gen.Dw3072Ideal.Points
public import proofs.«01_k».proof.Proof.Gen.Dw3072Ideal.Frame
public import proofs.«01_k».proof.Proof.Gen.Dw3072Ideal.Value
public import proofs.«01_k».proof.Proof.Gen.Dw3072RefIdeal
public import proofs.«01_k».proof.Proof.Gen.Dw3072RefIdeal.Run
public import proofs.«01_k».proof.Proof.Gen.Dw3072RefIdeal.Read
public import proofs.«01_k».proof.Proof.Gen.Dw512
public import proofs.«01_k».proof.Proof.Gen.Dw512.Skeleton
public import proofs.«01_k».proof.Proof.Gen.Dw512.Launch
public import proofs.«01_k».proof.Proof.Gen.Dw512.Points
public import proofs.«01_k».proof.Proof.Gen.Dw512.Frame
public import proofs.«01_k».proof.Proof.Gen.Dw512Ideal
public import proofs.«01_k».proof.Proof.Gen.Dw512Ideal.Skeleton
public import proofs.«01_k».proof.Proof.Gen.Dw512Ideal.Launch
public import proofs.«01_k».proof.Proof.Gen.Dw512Ideal.Points
public import proofs.«01_k».proof.Proof.Gen.Dw512Ideal.Frame
public import proofs.«01_k».proof.Proof.Gen.Dw512Ideal.Value
public import proofs.«01_k».proof.Proof.Gen.Dw512RefIdeal
public import proofs.«01_k».proof.Proof.Gen.Dw512RefIdeal.Run
public import proofs.«01_k».proof.Proof.Gen.Dw512RefIdeal.Read
public import proofs.«01_k».proof.Proof.Gen.Dw128
public import proofs.«01_k».proof.Proof.Gen.Dw128.Skeleton
public import proofs.«01_k».proof.Proof.Gen.Dw128.Launch
public import proofs.«01_k».proof.Proof.Gen.Dw128.Points
public import proofs.«01_k».proof.Proof.Gen.Dw128.Frame
public import proofs.«01_k».proof.Proof.Gen.Dw128Ideal
public import proofs.«01_k».proof.Proof.Gen.Dw128Ideal.Skeleton
public import proofs.«01_k».proof.Proof.Gen.Dw128Ideal.Launch
public import proofs.«01_k».proof.Proof.Gen.Dw128Ideal.Points
public import proofs.«01_k».proof.Proof.Gen.Dw128Ideal.Frame
public import proofs.«01_k».proof.Proof.Gen.Dw128Ideal.Value
public import proofs.«01_k».proof.Proof.Gen.Dw128RefIdeal
public import proofs.«01_k».proof.Proof.Gen.Dw128RefIdeal.Run
public import proofs.«01_k».proof.Proof.Gen.Dw128RefIdeal.Read
public import proofs.«01_k».proof.Proof.Gen.Pre_dproj_finite
public import proofs.«01_k».proof.Proof.DprojClaim
public import proofs.«01_k».proof.Proof.Dw1024Grad
public import proofs.«01_k».proof.Proof.DwSsmGrad
public import proofs.«01_k».proof.Proof.Dw5120Grad
public import proofs.«01_k».proof.Proof.Dw3072Grad
public import proofs.«01_k».proof.Proof.Dw512Grad
public import proofs.«01_k».proof.Proof.Dw128Grad
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormRefIdeal
public import proofs.«01_k».proof.Proof.Gen.NormRefIdeal.Run
public import proofs.«01_k».proof.Proof.Gen.NormRefIdeal.Read
public import proofs.«01_k».proof.Proof.NormFrame
public import proofs.«01_k».proof.Proof.NormIdealFrame
public import proofs.«01_k».proof.Proof.NormClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import proofs.«01_k».proof.Proof.ConvClaim
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.AdaGrad
public import proofs.«01_k».proof.Proof.Gen.AdaGrad.Skeleton
public import proofs.«01_k».proof.Proof.Gen.AdaGrad.Launch
public import proofs.«01_k».proof.Proof.Gen.AdaGrad.Points
public import proofs.«01_k».proof.Proof.Gen.AdaGrad.Frame
public import proofs.«01_k».proof.Proof.Gen.AdaGradIdeal
public import proofs.«01_k».proof.Proof.Gen.AdaGradIdeal.Skeleton
public import proofs.«01_k».proof.Proof.Gen.AdaGradIdeal.Launch
public import proofs.«01_k».proof.Proof.Gen.AdaGradIdeal.Points
public import proofs.«01_k».proof.Proof.Gen.AdaGradIdeal.Frame
public import proofs.«01_k».proof.Proof.Gen.AdaGradIdeal.Value
public import proofs.«01_k».proof.Proof.Gen.AdaGradRefIdeal
public import proofs.«01_k».proof.Proof.Gen.AdaGradRefIdeal.Run
public import proofs.«01_k».proof.Proof.Gen.AdaGradRefIdeal.Read
public import proofs.«01_k».proof.Proof.Gen.AdaMod
public import proofs.«01_k».proof.Proof.Gen.AdaMod.Skeleton
public import proofs.«01_k».proof.Proof.Gen.AdaMod.Launch
public import proofs.«01_k».proof.Proof.Gen.AdaMod.Points
public import proofs.«01_k».proof.Proof.Gen.AdaMod.Frame
public import proofs.«01_k».proof.Proof.Gen.AdaModIdeal
public import proofs.«01_k».proof.Proof.Gen.AdaModIdeal.Skeleton
public import proofs.«01_k».proof.Proof.Gen.AdaModIdeal.Launch
public import proofs.«01_k».proof.Proof.Gen.AdaModIdeal.Points
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.AdaModRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamProjRefIdeal.Read
public import proofs.«01_k».proof.Proof.Gen.AdamSsm
public import proofs.«01_k».proof.Proof.Gen.AdamSsm.Skeleton
public import proofs.«01_k».proof.Proof.Gen.AdamSsm.Launch
public import proofs.«01_k».proof.Proof.Gen.AdamSsm.Points
public import proofs.«01_k».proof.Proof.Gen.AdamSsm.Frame
public import proofs.«01_k».proof.Proof.Gen.AdamSsmIdeal
public import proofs.«01_k».proof.Proof.Gen.AdamSsmIdeal.Skeleton
public import proofs.«01_k».proof.Proof.Gen.AdamSsmIdeal.Launch
public import proofs.«01_k».proof.Proof.Gen.AdamSsmIdeal.Points
public import proofs.«01_k».proof.Proof.Gen.AdamSsmIdeal.Frame
public import proofs.«01_k».proof.Proof.Gen.AdamSsmIdeal.Value
public import proofs.«01_k».proof.Proof.Gen.AdamSsmRefIdeal
public import proofs.«01_k».proof.Proof.Gen.AdamSsmRefIdeal.Run
public import proofs.«01_k».proof.Proof.Gen.AdamSsmRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.SumDevIdeal.Value
public import proofs.«01_k».proof.Proof.Gen.SumDevRefIdeal
public import proofs.«01_k».proof.Proof.Gen.SumDevRefIdeal.Run
public import proofs.«01_k».proof.Proof.Gen.SumDevRefIdeal.Read
public import proofs.«01_k».proof.Proof.ConvFwdClaim
public import proofs.«01_k».proof.Proof.AdaGradClaim
public import proofs.«01_k».proof.Proof.AdaModClaim
public import proofs.«01_k».proof.Proof.AdamAdaClaim
public import proofs.«01_k».proof.Proof.AdamConvClaim
public import proofs.«01_k».proof.Proof.AdamProjClaim
public import proofs.«01_k».proof.Proof.AdamSsmClaim
public import proofs.«01_k».proof.Proof.AdamSmallClaim
public import proofs.«01_k».proof.Proof.SumDevClaim
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_masked
public import proofs.«01_k».proof.Proof.AttnClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Dproj.Gen.facts, Cert.DprojIdeal.Gen.facts, Cert.DprojRefIdeal.Gen.facts, Cert.Dw1024.Gen.facts, Cert.Dw1024Ideal.Gen.facts, Cert.Dw1024RefIdeal.Gen.facts, Cert.DwSsm.Gen.facts, Cert.DwSsmIdeal.Gen.facts, Cert.DwSsmRefIdeal.Gen.facts, Cert.Dw5120.Gen.facts, Cert.Dw5120Ideal.Gen.facts, Cert.Dw5120RefIdeal.Gen.facts, Cert.Dw3072.Gen.facts, Cert.Dw3072Ideal.Gen.facts, Cert.Dw3072RefIdeal.Gen.facts, Cert.Dw512.Gen.facts, Cert.Dw512Ideal.Gen.facts, Cert.Dw512RefIdeal.Gen.facts, Cert.Dw128.Gen.facts, Cert.Dw128Ideal.Gen.facts, Cert.Dw128RefIdeal.Gen.facts, Cert.Norm.Gen.facts, Cert.NormIdeal.Gen.facts, Cert.NormRefIdeal.Gen.facts, Cert.Conv.Gen.facts, Cert.ConvIdeal.Gen.facts, Cert.ConvRefIdeal.Gen.facts, Cert.ConvFwd.Gen.facts, Cert.ConvFwdIdeal.Gen.facts, Cert.ConvFwdRefIdeal.Gen.facts, Cert.AdaGrad.Gen.facts, Cert.AdaGradIdeal.Gen.facts, Cert.AdaGradRefIdeal.Gen.facts, Cert.AdaMod.Gen.facts, Cert.AdaModIdeal.Gen.facts, Cert.AdaModRefIdeal.Gen.facts, Cert.AdamAda.Gen.facts, Cert.AdamAdaIdeal.Gen.facts, Cert.AdamAdaRefIdeal.Gen.facts, Cert.AdamConv.Gen.facts, Cert.AdamConvIdeal.Gen.facts, Cert.AdamConvRefIdeal.Gen.facts, Cert.AdamProj.Gen.facts, Cert.AdamProjIdeal.Gen.facts, Cert.AdamProjRefIdeal.Gen.facts, Cert.AdamSsm.Gen.facts, Cert.AdamSsmIdeal.Gen.facts, Cert.AdamSsmRefIdeal.Gen.facts, Cert.AdamSmall.Gen.facts, Cert.AdamSmallIdeal.Gen.facts, Cert.AdamSmallRefIdeal.Gen.facts, Cert.SumDev.Gen.facts, Cert.SumDevIdeal.Gen.facts, Cert.SumDevRefIdeal.Gen.facts, Cert.Attn.Gen.facts, Cert.AttnIdeal.Gen.facts, Cert.AttnRefIdeal.Gen.facts, Cert.Pre_finite.Gen.facts, Cert.Pre_dproj_finite.Gen.facts, Cert.Pre_conv_finite.Gen.facts, Cert.Pre_attn_masked.Gen.facts,
  fun m ρ _ => Cert.Kernel.Gen.frame m ρ,
  fun m ρ _ => Cert.KernelIdeal.Gen.frame m ρ,
  fun m ρ _ => Cert.KernelIdeal.Gen.frame m ρ,
  fun m ρ _ => Cert.KernelIdeal.TailClaim.reference_frame m ρ,
  fun m ρ _ => Cert.KernelIdeal.TailClaim.reference_frame m ρ,
  fun m ρ _ => Cert.Dproj.Gen.frame m ρ,
  fun m ρ _ => Cert.DprojIdeal.Gen.frame m ρ,
  fun m ρ _ => Cert.DprojIdeal.Gen.frame m ρ,
  fun m ρ _ => Cert.DprojIdeal.DprojClaim.reference_frame m ρ,
  fun m ρ _ => Cert.DprojIdeal.DprojClaim.reference_frame m ρ,
  fun m ρ _ => Cert.Dw1024.Gen.frame m ρ,
  fun m ρ _ => Cert.Dw1024Ideal.Gen.frame m ρ,
  fun m ρ _ => Cert.Dw1024Ideal.Grad.reference_frame m ρ,
  fun m ρ _ => Cert.DwSsm.Gen.frame m ρ,
  fun m ρ _ => Cert.DwSsmIdeal.Gen.frame m ρ,
  fun m ρ _ => Cert.DwSsmIdeal.Grad.reference_frame m ρ,
  fun m ρ _ => Cert.Dw5120.Gen.frame m ρ,
  fun m ρ _ => Cert.Dw5120Ideal.Gen.frame m ρ,
  fun m ρ _ => Cert.Dw5120Ideal.Grad.reference_frame m ρ,
  fun m ρ _ => Cert.Dw3072.Gen.frame m ρ,
  fun m ρ _ => Cert.Dw3072Ideal.Gen.frame m ρ,
  fun m ρ _ => Cert.Dw3072Ideal.Grad.reference_frame m ρ,
  fun m ρ _ => Cert.Dw512.Gen.frame m ρ,
  fun m ρ _ => Cert.Dw512Ideal.Gen.frame m ρ,
  fun m ρ _ => Cert.Dw512Ideal.Grad.reference_frame m ρ,
  fun m ρ _ => Cert.Dw128.Gen.frame m ρ,
  fun m ρ _ => Cert.Dw128Ideal.Gen.frame m ρ,
  fun m ρ _ => Cert.Dw128Ideal.Grad.reference_frame m ρ,
  fun m ρ _ => Cert.Norm.Gen.frame m ρ,
  fun m ρ _ => Cert.NormIdeal.Gen.frame m ρ,
  fun m ρ _ => Cert.NormIdeal.NormClaim.reference_frame m ρ,
  fun m ρ _ => Cert.Conv.Gen.frame m ρ,
  fun m ρ _ => Cert.ConvIdeal.Gen.frame m ρ,
  fun m ρ _ => Cert.ConvIdeal.Gen.frame m ρ,
  fun m ρ _ => Cert.ConvIdeal.ConvClaim.reference_frame m ρ,
  fun m ρ _ => Cert.ConvIdeal.ConvClaim.reference_frame m ρ,
  fun m ρ _ => Cert.ConvFwd.Gen.frame m ρ,
  fun m ρ _ => Cert.ConvFwdIdeal.Gen.frame m ρ,
  fun m ρ _ => Cert.ConvFwdIdeal.ConvFwdClaim.reference_frame m ρ,
  fun m ρ _ => Cert.AdaGrad.Gen.frame m ρ,
  fun m ρ _ => Cert.AdaGradIdeal.Gen.frame m ρ,
  fun m ρ _ => Cert.AdaGradIdeal.AdaGradClaim.reference_frame m ρ,
  fun m ρ _ => Cert.AdaMod.Gen.frame m ρ,
  fun m ρ _ => Cert.AdaModIdeal.Gen.frame m ρ,
  fun m ρ _ => Cert.AdaModIdeal.AdaModClaim.reference_frame m ρ,
  fun m ρ _ => Cert.AdamAda.Gen.frame m ρ,
  fun m ρ _ => Cert.AdamAdaIdeal.Gen.frame m ρ,
  fun m ρ _ => Cert.AdamAdaIdeal.AdamAdaClaim.reference_frame m ρ,
  fun m ρ _ => Cert.AdamConv.Gen.frame m ρ,
  fun m ρ _ => Cert.AdamConvIdeal.Gen.frame m ρ,
  fun m ρ _ => Cert.AdamConvIdeal.AdamConvClaim.reference_frame m ρ,
  fun m ρ _ => Cert.AdamProj.Gen.frame m ρ,
  fun m ρ _ => Cert.AdamProjIdeal.Gen.frame m ρ,
  fun m ρ _ => Cert.AdamProjIdeal.AdamProjClaim.reference_frame m ρ,
  fun m ρ _ => Cert.AdamSsm.Gen.frame m ρ,
  fun m ρ _ => Cert.AdamSsmIdeal.Gen.frame m ρ,
  fun m ρ _ => Cert.AdamSsmIdeal.AdamSsmClaim.reference_frame m ρ,
  fun m ρ _ => Cert.AdamSmall.Gen.frame m ρ,
  fun m ρ _ => Cert.AdamSmallIdeal.Gen.frame m ρ,
  fun m ρ _ => Cert.AdamSmallIdeal.AdamSmallClaim.reference_frame m ρ,
  fun m ρ _ => Cert.SumDev.Gen.frame m ρ,
  fun m ρ _ => Cert.SumDevIdeal.Gen.frame m ρ,
  fun m ρ _ => Cert.SumDevIdeal.SumDevClaim.reference_frame m ρ,
  fun m ρ _ => Cert.Attn.Gen.frame m ρ,
  fun m ρ _ => Cert.AttnIdeal.Gen.frame m ρ,
  fun m ρ _ => Cert.AttnIdeal.Gen.frame m ρ,
  fun m ρ _ => Cert.AttnIdeal.AttnClaim.reference_frame m ρ,
  fun m ρ _ => Cert.AttnIdeal.AttnClaim.reference_frame m ρ,
  trivial,
  Cert.KernelIdeal.TailClaim.algebraic,
  trivial,
  Cert.DprojIdeal.DprojClaim.algebraic,
  trivial,
  Cert.Dw1024Ideal.Grad.algebraic,
  trivial,
  Cert.DwSsmIdeal.Grad.algebraic,
  trivial,
  Cert.Dw5120Ideal.Grad.algebraic,
  trivial,
  Cert.Dw3072Ideal.Grad.algebraic,
  trivial,
  Cert.Dw512Ideal.Grad.algebraic,
  trivial,
  Cert.Dw128Ideal.Grad.algebraic,
  trivial,
  Cert.NormIdeal.NormClaim.algebraic,
  trivial,
  Cert.ConvIdeal.ConvClaim.algebraic,
  trivial,
  Cert.ConvFwdIdeal.ConvFwdClaim.algebraic,
  trivial,
  Cert.AdaGradIdeal.AdaGradClaim.algebraic,
  trivial,
  Cert.AdaModIdeal.AdaModClaim.algebraic,
  trivial,
  Cert.AdamAdaIdeal.AdamAdaClaim.algebraic,
  trivial,
  Cert.AdamConvIdeal.AdamConvClaim.algebraic,
  trivial,
  Cert.AdamProjIdeal.AdamProjClaim.algebraic,
  trivial,
  Cert.AdamSsmIdeal.AdamSsmClaim.algebraic,
  trivial,
  Cert.AdamSmallIdeal.AdamSmallClaim.algebraic,
  trivial,
  Cert.SumDevIdeal.SumDevClaim.algebraic,
  trivial,
  Cert.AttnIdeal.AttnClaim.algebraic⟩

end Cert.Proof

end
